-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v195) = v0 c
          ∧ r.2.mem ((c.tc : Thread Cert.ReferenceIdeal.nD Cert.ReferenceIdeal.τ).loc Cert.ReferenceIdeal.main_v197) = v1 c
          ∧ r.2.mem ((c.tc : Thread Cert.ReferenceIdeal.nD Cert.ReferenceIdeal.τ).loc Cert.ReferenceIdeal.main_v199) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S9x2048x1024 : Shape := ⟨3, ![9, 2048, 1024]⟩
abbrev S_ : Shape := ⟨0, ![]⟩

class Facts : Prop where
  bitsLt_bf16_f32 : FTy.bits .bf16 < FTy.bits .f32
  bcast_S_S9x2048x1024 : S_.BroadcastsInDim S9x2048x1024 (![] : Fin 0 → Fin S9x2048x1024.rank)

variable [Facts]

def fn {F : FTy → Type} [FloatOps F] (main_arg0 : FVec F S9x2048x1024 .bf16) (main_arg1 : FVec F S9x2048x1024 .bf16) (main_arg2 : FVec F S9x2048x1024 .bf16) (main_arg3 : FVec F S9x2048x1024 .bf16) : IVec S9x2048x1024 1 :=
  let main_v0 : FVec F S9x2048x1024 .f32 := (extf .f32 · bitsLt_bf16_f32) main_arg0
  let main_v1 : FVec F S9x2048x1024 .f32 := Host.absf main_v0
  let main_cst : FVec F S_ .f32 := constant S_ .f32 0x7F7F0000#32
  let main_v2 : FVec F S9x2048x1024 .f32 := broadcastInDim S9x2048x1024 ![] bcast_S_S9x2048x1024 main_cst
  let main_v3 : IVec S9x2048x1024 1 := cmpf .ole main_v1 main_v2
  let main_v4 : FVec F S9x2048x1024 .f32 := (extf .f32 · bitsLt_bf16_f32) main_arg1
  let main_v5 : FVec F S9x2048x1024 .f32 := Host.absf main_v4
  let main_cst_0 : FVec F S_ .f32 := constant S_ .f32 0x7F7F0000#32
  let main_v6 : FVec F S9x2048x1024 .f32 := broadcastInDim S9x2048x1024 ![] bcast_S_S9x2048x1024 main_cst_0
  let main_v7 : IVec S9x2048x1024 1 := cmpf .ole main_v5 main_v6
  let main_v8 : IVec S9x2048x1024 1 := andi main_v3 main_v7
  let main_v9 : FVec F S9x2048x1024 .f32 := (extf .f32 · bitsLt_bf16_f32) main_arg2
  let main_v10 : FVec F S9x2048x1024 .f32 := Host.absf main_v9
  let main_cst_1 : FVec F S_ .f32 := constant S_ .f32 0x7F7F0000#32
  let main_v11 : FVec F S9x2048x1024 .f32 := broadcastInDim S9x2048x1024 ![] bcast_S_S9x2048x1024 main_cst_1
  let main_v12 : IVec S9x2048x1024 1 := cmpf .ole main_v10 main_v11
  let main_v13 : IVec S9x2048x1024 1 := andi main_v8 main_v12
  let main_v14 : FVec F S9x2048x1024 .f32 := (extf .f32 · bitsLt_bf16_f32) main_arg3
  let main_v15 : FVec F S9x2048x1024 .f32 := Host.absf main_v14
  let main_cst_2 : FVec F S_ .f32 := constant S_ .f32 0x7F7F0000#32
  let main_v16 : FVec F S9x2048x1024 .f32 := broadcastInDim S9x2048x1024 ![] bcast_S_S9x2048x1024 main_cst_2
  let main_v17 : IVec S9x2048x1024 1 := cmpf .ole main_v15 main_v16
  let main_v18 : IVec S9x2048x1024 1 := andi main_v13 main_v17
  main_v18
-- ==== Kernel.lean ====
abbrev S9x2048x1024 : Shape := ⟨3, ![9, 2048, 1024]⟩
abbrev S9x8 : Shape := ⟨2, ![9, 8]⟩
abbrev S1x2048x128 : Shape := ⟨3, ![1, 2048, 128]⟩
abbrev S2048x128 : Shape := ⟨2, ![2048, 128]⟩
abbrev S128x1024 : Shape := ⟨2, ![128, 1024]⟩
abbrev S128x2048 : Shape := ⟨2, ![128, 2048]⟩
abbrev S2080x128 : Shape := ⟨2, ![2080, 128]⟩
abbrev S2x5x256x256 : Shape := ⟨4, ![2, 5, 256, 256]⟩
abbrev S128 : Shape := ⟨1, ![128]⟩
abbrev S1x128 : Shape := ⟨2, ![1, 128]⟩
abbrev S1 : Shape := ⟨1, ![1]⟩
abbrev S1x1 : Shape := ⟨2, ![1, 1]⟩
abbrev S1x256 : Shape := ⟨2, ![1, 256]⟩
abbrev S32x128 : Shape := ⟨2, ![32, 128]⟩
abbrev S1x1024x128 : Shape := ⟨3, ![1, 1024, 128]⟩
abbrev S1024x128 : Shape := ⟨2, ![1024, 128]⟩
abbrev S256x256 : Shape := ⟨2, ![256, 256]⟩
abbrev S1x256x128 : Shape := ⟨3, ![1, 256, 128]⟩
abbrev S256x128 : Shape := ⟨2, ![256, 128]⟩
abbrev S1x1x256x256 : Shape := ⟨4, ![1, 1, 256, 256]⟩
abbrev S32x8x256 : Shape := ⟨3, ![32, 8, 256]⟩
abbrev S8x256 : Shape := ⟨2, ![8, 256]⟩
abbrev S256 : Shape := ⟨1, ![256]⟩
abbrev S128x128 : Shape := ⟨2, ![128, 128]⟩
abbrev S1x1x128x256 : Shape := ⟨4, ![1, 1, 128, 256]⟩
abbrev S128x256 : Shape := ⟨2, ![128, 256]⟩

abbrev nBuf : Space → Nat
  | .hbm => 15
  | .vmem => 35
  | .smem => 4
  | _ => 0

abbrev bufTy : (tb : Table) → Fin (tcTables nBuf tb) → BufTy
  | .hbm, ⟨0, _⟩ => ⟨S9x2048x1024, .bf16⟩
  | .hbm, ⟨1, _⟩ => ⟨S9x2048x1024, .bf16⟩
  | .hbm, ⟨2, _⟩ => ⟨S9x2048x1024, .bf16⟩
  | .hbm, ⟨3, _⟩ => ⟨S9x2048x1024, .bf16⟩
  | .hbm, ⟨4, _⟩ => ⟨S9x2048x1024, .bf16⟩
  | .hbm, ⟨5, _⟩ => ⟨S9x2048x1024, .bf16⟩
  | .hbm, ⟨6, _⟩ => ⟨S9x2048x1024, .bf16⟩
  | .hbm, ⟨7, _⟩ => ⟨S9x2048x1024, .fp8e4m3⟩
  | .hbm, ⟨8, _⟩ => ⟨S9x2048x1024, .fp8e4m3⟩
  | .hbm, ⟨9, _⟩ => ⟨S9x2048x1024, .fp8e4m3⟩
  | .hbm, ⟨10, _⟩ => ⟨S9x2048x1024, .fp8e5m2⟩
  | .hbm, ⟨11, _⟩ => ⟨S9x8, .f32⟩
  | .hbm, ⟨12, _⟩ => ⟨S9x8, .f32⟩
  | .hbm, ⟨13, _⟩ => ⟨S9x8, .f32⟩
  | .hbm, ⟨14, _⟩ => ⟨S9x8, .f32⟩
  | .local _ .vmem, ⟨0, _⟩ => ⟨S1x2048x128, .bf16⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x128, .bf16⟩
  | .local _ .vmem, ⟨7, _⟩ => ⟨S1x2048x128, .bf16⟩
  | .local _ .vmem, ⟨8, _⟩ => ⟨S1x2048x128, .bf16⟩
  | .local _ .vmem, ⟨9, _⟩ => ⟨S1x2048x128, .bf16⟩
  | .local _ .vmem, ⟨10, _⟩ => ⟨S1x2048x128, .bf16⟩
  | .local _ .vmem, ⟨11, _⟩ => ⟨S1x2048x128, .bf16⟩
  | .local _ .vmem, ⟨12, _⟩ => ⟨S1x2048x128, .bf16⟩
  | .local _ .vmem, ⟨13, _⟩ => ⟨S1x2048x128, .bf16⟩
  | .local _ .vmem, ⟨14, _⟩ => ⟨S1x2048x128, .fp8e4m3⟩
  | .local _ .vmem, ⟨15, _⟩ => ⟨S1x2048x128, .fp8e4m3⟩
  | .local _ .vmem, ⟨16, _⟩ => ⟨S1x2048x128, .fp8e4m3⟩
  | .local _ .vmem, ⟨17, _⟩ => ⟨S1x2048x128, .fp8e4m3⟩
  | .local _ .vmem, ⟨18, _⟩ => ⟨S1x2048x128, .fp8e4m3⟩
  | .local _ .vmem, ⟨19, _⟩ => ⟨S1x2048x128, .fp8e4m3⟩
  | .local _ .vmem, ⟨20, _⟩ => ⟨S1x2048x128, .fp8e5m2⟩
  | .local _ .vmem, ⟨21, _⟩ => ⟨S1x2048x128, .fp8e5m2⟩
  | .local _ .vmem, ⟨22, _⟩ => ⟨S2048x128, .bf16⟩
  | .local _ .vmem, ⟨23, _⟩ => ⟨S128x1024, .bf16⟩
  | .local _ .vmem, ⟨24, _⟩ => ⟨S128x1024, .fp8e4m3⟩
  | .local _ .vmem, ⟨25, _⟩ => ⟨S128x2048, .bf16⟩
  | .local _ .vmem, ⟨26, _⟩ => ⟨S2080x128, .f32⟩
  | .local _ .vmem, ⟨27, _⟩ => ⟨S2080x128, .f32⟩
  | .local _ .vmem, ⟨28, _⟩ => ⟨S2x5x256x256, .f32⟩
  | .local _ .vmem, ⟨29, _⟩ => ⟨S2x5x256x256, .fp8e4m3⟩
  | .local _ .vmem, ⟨30, _⟩ => ⟨S2080x128, .f32⟩
  | .local _ .vmem, ⟨31, _⟩ => ⟨S2048x128, .fp8e4m3⟩
  | .local _ .vmem, ⟨32, _⟩ => ⟨S2048x128, .fp8e4m3⟩
  | .local _ .vmem, ⟨33, _⟩ => ⟨S128x2048, .bf16⟩
  | .local _ .vmem, ⟨34, _⟩ => ⟨S128x2048, .fp8e4m3⟩
  | .local _ .smem, ⟨0, _⟩ => ⟨S9x8, .f32⟩
  | .local _ .smem, ⟨1, _⟩ => ⟨S9x8, .f32⟩
  | .local _ .smem, ⟨2, _⟩ => ⟨S9x8, .f32⟩
  | .local _ .smem, ⟨3, _⟩ => ⟨S9x8, .f32⟩
  | _, _ => ⟨S9x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev main_v0_5 : Ref sig .tc := ⟨.hbm, 9, rfl⟩
abbrev main_v0_6 : Ref sig .tc := ⟨.hbm, 10, rfl⟩
abbrev main_v0_7 : Ref sig .tc := ⟨.hbm, 11, rfl⟩
abbrev main_v0_8 : Ref sig .tc := ⟨.hbm, 12, rfl⟩
abbrev main_v0_9 : Ref sig .tc := ⟨.hbm, 13, rfl⟩
abbrev main_v0_10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_scratch6 : Ref sig .tc := ⟨.vmem, 28, rfl⟩
abbrev cc0_scratch7 : Ref sig .tc := ⟨.vmem, 29, rfl⟩
abbrev cc0_scratch8 : Ref sig .tc := ⟨.vmem, 30, rfl⟩
abbrev cc0_scratch9 : Ref sig .tc := ⟨.vmem, 31, rfl⟩
abbrev cc0_scratch10 : Ref sig .tc := ⟨.vmem, 32, rfl⟩
abbrev cc0_scratch11 : Ref sig .tc := ⟨.vmem, 33, rfl⟩
abbrev cc0_scratch12 : Ref sig .tc := ⟨.vmem, 34, rfl⟩
abbrev cc0_stg11_0 : Ref sig .tc := ⟨.smem, 0, rfl⟩
abbrev cc0_stg12_0 : Ref sig .tc := ⟨.smem, 1, rfl⟩
abbrev cc0_stg13_0 : Ref sig .tc := ⟨.smem, 2, rfl⟩
abbrev cc0_stg14_0 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem14_0 : DmaSem sig := 25

abbrev nD : Nat := 1
abbrev τ : Topo := Topo.v7x

variable {F : FTy → Type} [FloatOps F]

abbrev grid0 : Pipeline.Grid := ⟨2, ![9, 8], ![false, false]⟩

def k0_off1 (i : grid0.Coords) : Fin 2 → Nat :=
  let arg0 : BitVec 32 := BitVec.ofNat 32 (i 0).val
  let v254 : Index := Scalar.indexCast arg0
  let arg1 : BitVec 32 := BitVec.ofNat 32 (i 1).val
  let v255 : Index := Scalar.indexCast arg1
  ![v254.toNat, v255.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2048x128 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2048x128 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2048x128 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2048x128 .fp8e5m2 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .smem S9x8 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .smem S9x8 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .smem S9x8 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .smem S9x8 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]
-- ==== ReferenceIdeal.lean ====
abbrev S9x2048x1024 : Shape := ⟨3, ![9, 2048, 1024]⟩
abbrev S9x2048x8x128 : Shape := ⟨4, ![9, 2048, 8, 128]⟩
abbrev S_ : Shape := ⟨0, ![]⟩
abbrev S9x8 : Shape := ⟨2, ![9, 8]⟩
abbrev S254 : Shape := ⟨1, ![254]⟩
abbrev S9x8x1 : Shape := ⟨3, ![9, 8, 1]⟩
abbrev S1x1x254 : Shape := ⟨3, ![1, 1, 254]⟩
abbrev S9x8x254 : Shape := ⟨3, ![9, 8, 254]⟩
abbrev S9x1x8x1 : Shape := ⟨4, ![9, 1, 8, 1]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S9x8x2048x2048 : Shape := ⟨4, ![9, 8, 2048, 2048]⟩
abbrev S9x8x1x1 : Shape := ⟨4, ![9, 8, 1, 1]⟩
abbrev S1x1x2048x2048 : Shape := ⟨4, ![1, 1, 2048, 2048]⟩
abbrev S9x8x2048 : Shape := ⟨3, ![9, 8, 2048]⟩
abbrev S9x8x2048x1 : Shape := ⟨4, ![9, 8, 2048, 1]⟩
abbrev S9x8x2048x128 : Shape := ⟨4, ![9, 8, 2048, 128]⟩
abbrev S9x8x128x2048 : Shape := ⟨4, ![9, 8, 128, 2048]⟩

abbrev nBuf : Space → Nat
  | .hbm => 309
  | .vmem => 0
  | .smem => 0
  | _ => 0

abbrev hbmTy0_0 (i : Nat) : BufTy := match i % 128 with
  | 0 => ⟨S9x2048x1024, .bf16⟩
  | 1 => ⟨S9x2048x1024, .bf16⟩
  | 2 => ⟨S9x2048x1024, .bf16⟩
  | 3 => ⟨S9x2048x1024, .bf16⟩
  | 4 => ⟨S9x2048x8x128, .bf16⟩
  | 5 => ⟨S9x2048x8x128, .f32⟩
  | 6 => ⟨S9x2048x8x128, .f32⟩
  | 7 => ⟨S_, .f32⟩
  | 8 => ⟨S9x8, .f32⟩
  | 9 => ⟨S_, .f32⟩
  | 10 => ⟨S9x8, .f32⟩
  | 11 => ⟨S9x8, .f32⟩
  | 12 => ⟨S254, .i32⟩
  | 13 => ⟨S_, .i32⟩
  | 14 => ⟨S254, .i32⟩
  | 15 => ⟨S254, .i32⟩
  | 16 => ⟨S254, .f32⟩
  | 17 => ⟨S_, .f32⟩
  | 18 => ⟨S254, .f32⟩
  | 19 => ⟨S254, .f32⟩
  | 20 => ⟨S9x8x1, .f32⟩
  | 21 => ⟨S1x1x254, .f32⟩
  | 22 => ⟨S9x8x254, .f32⟩
  | 23 => ⟨S9x8x254, .f32⟩
  | 24 => ⟨S9x8x254, .i1⟩
  | 25 => ⟨S_, .f32⟩
  | 26 => ⟨S_, .f32⟩
  | 27 => ⟨S9x8x254, .f32⟩
  | 28 => ⟨S9x8x254, .f32⟩
  | 29 => ⟨S9x8x254, .f32⟩
  | 30 => ⟨S_, .f32⟩
  | 31 => ⟨S9x8, .f32⟩
  | 32 => ⟨S9x8, .i1⟩
  | 33 => ⟨S_, .f32⟩
  | 34 => ⟨S9x8, .f32⟩
  | 35 => ⟨S_, .f32⟩
  | 36 => ⟨S_, .f32⟩
  | 37 => ⟨S9x8, .f32⟩
  | 38 => ⟨S9x8, .f32⟩
  | 39 => ⟨S_, .f32⟩
  | 40 => ⟨S9x8, .f32⟩
  | 41 => ⟨S9x8, .f32⟩
  | 42 => ⟨S9x1x8x1, .f32⟩
  | 43 => ⟨S9x2048x8x128, .f32⟩
  | 44 => ⟨S9x2048x8x128, .f32⟩
  | 45 => ⟨S_, .f32⟩
  | 46 => ⟨S_, .f32⟩
  | 47 => ⟨S_, .f32⟩
  | 48 => ⟨S9x2048x8x128, .f32⟩
  | 49 => ⟨S9x2048x8x128, .f32⟩
  | 50 => ⟨S_, .f32⟩
  | 51 => ⟨S9x2048x8x128, .f32⟩
  | 52 => ⟨S9x2048x8x128, .f32⟩
  | 53 => ⟨S9x2048x8x128, .bf16⟩
  | 54 => ⟨S9x2048x8x128, .f32⟩
  | 55 => ⟨S9x2048x8x128, .f32⟩
  | 56 => ⟨S_, .f32⟩
  | 57 => ⟨S9x8, .f32⟩
  | 58 => ⟨S_, .f32⟩
  | 59 => ⟨S9x8, .f32⟩
  | 60 => ⟨S9x8, .f32⟩
  | 61 => ⟨S254, .i32⟩
  | 62 => ⟨S_, .i32⟩
  | 63 => ⟨S254, .i32⟩
  | 64 => ⟨S254, .i32⟩
  | 65 => ⟨S254, .f32⟩
  | 66 => ⟨S_, .f32⟩
  | 67 => ⟨S254, .f32⟩
  | 68 => ⟨S254, .f32⟩
  | 69 => ⟨S9x8x1, .f32⟩
  | 70 => ⟨S1x1x254, .f32⟩
  | 71 => ⟨S9x8x254, .f32⟩
  | 72 => ⟨S9x8x254, .f32⟩
  | 73 => ⟨S9x8x254, .i1⟩
  | 74 => ⟨S_, .f32⟩
  | 75 => ⟨S_, .f32⟩
  | 76 => ⟨S9x8x254, .f32⟩
  | 77 => ⟨S9x8x254, .f32⟩
  | 78 => ⟨S9x8x254, .f32⟩
  | 79 => ⟨S_, .f32⟩
  | 80 => ⟨S9x8, .f32⟩
  | 81 => ⟨S9x8, .i1⟩
  | 82 => ⟨S_, .f32⟩
  | 83 => ⟨S9x8, .f32⟩
  | 84 => ⟨S_, .f32⟩
  | 85 => ⟨S_, .f32⟩
  | 86 => ⟨S9x8, .f32⟩
  | 87 => ⟨S9x8, .f32⟩
  | 88 => ⟨S_, .f32⟩
  | 89 => ⟨S9x8, .f32⟩
  | 90 => ⟨S9x8, .f32⟩
  | 91 => ⟨S9x1x8x1, .f32⟩
  | 92 => ⟨S9x2048x8x128, .f32⟩
  | 93 => ⟨S9x2048x8x128, .f32⟩
  | 94 => ⟨S_, .f32⟩
  | 95 => ⟨S_, .f32⟩
  | 96 => ⟨S_, .f32⟩
  | 97 => ⟨S9x2048x8x128, .f32⟩
  | 98 => ⟨S9x2048x8x128, .f32⟩
  | 99 => ⟨S_, .f32⟩
  | 100 => ⟨S9x2048x8x128, .f32⟩
  | 101 => ⟨S9x2048x8x128, .f32⟩
  | 102 => ⟨S9x2048x8x128, .bf16⟩
  | 103 => ⟨S9x2048x8x128, .f32⟩
  | 104 => ⟨S9x2048x8x128, .f32⟩
  | 105 => ⟨S_, .f32⟩
  | 106 => ⟨S9x8, .f32⟩
  | 107 => ⟨S_, .f32⟩
  | 108 => ⟨S9x8, .f32⟩
  | 109 => ⟨S9x8, .f32⟩
  | 110 => ⟨S254, .i32⟩
  | 111 => ⟨S_, .i32⟩
  | 112 => ⟨S254, .i32⟩
  | 113 => ⟨S254, .i32⟩
  | 114 => ⟨S254, .f32⟩
  | 115 => ⟨S_, .f32⟩
  | 116 => ⟨S254, .f32⟩
  | 117 => ⟨S254, .f32⟩
  | 118 => ⟨S9x8x1, .f32⟩
  | 119 => ⟨S1x1x254, .f32⟩
  | 120 => ⟨S9x8x254, .f32⟩
  | 121 => ⟨S9x8x254, .f32⟩
  | 122 => ⟨S9x8x254, .i1⟩
  | 123 => ⟨S_, .f32⟩
  | 124 => ⟨S_, .f32⟩
  | 125 => ⟨S9x8x254, .f32⟩
  | 126 => ⟨S9x8x254, .f32⟩
  | 127 => ⟨S9x8x254, .f32⟩
  | _ => ⟨S9x2048x1024, .bf16⟩

abbrev hbmTy0_1 (i : Nat) : BufTy := match i % 128 with
  | 0 => ⟨S_, .f32⟩
  | 1 => ⟨S9x8, .f32⟩
  | 2 => ⟨S9x8, .i1⟩
  | 3 => ⟨S_, .f32⟩
  | 4 => ⟨S9x8, .f32⟩
  | 5 => ⟨S_, .f32⟩
  | 6 => ⟨S_, .f32⟩
  | 7 => ⟨S9x8, .f32⟩
  | 8 => ⟨S9x8, .f32⟩
  | 9 => ⟨S_, .f32⟩
  | 10 => ⟨S9x8, .f32⟩
  | 11 => ⟨S9x8, .f32⟩
  | 12 => ⟨S9x1x8x1, .f32⟩
  | 13 => ⟨S9x2048x8x128, .f32⟩
  | 14 => ⟨S9x2048x8x128, .f32⟩
  | 15 => ⟨S_, .f32⟩
  | 16 => ⟨S_, .f32⟩
  | 17 => ⟨S_, .f32⟩
  | 18 => ⟨S9x2048x8x128, .f32⟩
  | 19 => ⟨S9x2048x8x128, .f32⟩
  | 20 => ⟨S_, .f32⟩
  | 21 => ⟨S9x2048x8x128, .f32⟩
  | 22 => ⟨S9x2048x8x128, .f32⟩
  | 23 => ⟨S9x2048x8x128, .bf16⟩
  | 24 => ⟨S9x2048x8x128, .f32⟩
  | 25 => ⟨S9x2048x8x128, .f32⟩
  | 26 => ⟨S_, .f32⟩
  | 27 => ⟨S9x8, .f32⟩
  | 28 => ⟨S_, .f32⟩
  | 29 => ⟨S9x8, .f32⟩
  | 30 => ⟨S9x8, .f32⟩
  | 31 => ⟨S254, .i32⟩
  | 32 => ⟨S_, .i32⟩
  | 33 => ⟨S254, .i32⟩
  | 34 => ⟨S254, .i32⟩
  | 35 => ⟨S254, .f32⟩
  | 36 => ⟨S_, .f32⟩
  | 37 => ⟨S254, .f32⟩
  | 38 => ⟨S254, .f32⟩
  | 39 => ⟨S9x8x1, .f32⟩
  | 40 => ⟨S1x1x254, .f32⟩
  | 41 => ⟨S9x8x254, .f32⟩
  | 42 => ⟨S9x8x254, .f32⟩
  | 43 => ⟨S9x8x254, .i1⟩
  | 44 => ⟨S_, .f32⟩
  | 45 => ⟨S_, .f32⟩
  | 46 => ⟨S9x8x254, .f32⟩
  | 47 => ⟨S9x8x254, .f32⟩
  | 48 => ⟨S9x8x254, .f32⟩
  | 49 => ⟨S_, .f32⟩
  | 50 => ⟨S9x8, .f32⟩
  | 51 => ⟨S9x8, .i1⟩
  | 52 => ⟨S_, .f32⟩
  | 53 => ⟨S9x8, .f32⟩
  | 54 => ⟨S_, .f32⟩
  | 55 => ⟨S_, .f32⟩
  | 56 => ⟨S9x8, .f32⟩
  | 57 => ⟨S9x8, .f32⟩
  | 58 => ⟨S_, .f32⟩
  | 59 => ⟨S9x8, .f32⟩
  | 60 => ⟨S9x8, .f32⟩
  | 61 => ⟨S9x1x8x1, .f32⟩
  | 62 => ⟨S9x2048x8x128, .f32⟩
  | 63 => ⟨S9x2048x8x128, .f32⟩
  | 64 => ⟨S_, .f32⟩
  | 65 => ⟨S_, .f32⟩
  | 66 => ⟨S_, .f32⟩
  | 67 => ⟨S9x2048x8x128, .f32⟩
  | 68 => ⟨S9x2048x8x128, .f32⟩
  | 69 => ⟨S_, .f32⟩
  | 70 => ⟨S9x2048x8x128, .f32⟩
  | 71 => ⟨S9x2048x8x128, .f32⟩
  | 72 => ⟨S2048, .i32⟩
  | 73 => ⟨S2048x1, .i32⟩
  | 74 => ⟨S2048, .i32⟩
  | 75 => ⟨S1x2048, .i32⟩
  | 76 => ⟨S2048x2048, .i32⟩
  | 77 => ⟨S2048x2048, .i32⟩
  | 78 => ⟨S2048x2048, .i1⟩
  | 79 => ⟨S_, .i32⟩
  | 80 => ⟨S2048x1, .i32⟩
  | 81 => ⟨S2048x1, .i32⟩
  | 82 => ⟨S2048x2048, .i32⟩
  | 83 => ⟨S2048x2048, .i32⟩
  | 84 => ⟨S2048x2048, .i1⟩
  | 85 => ⟨S2048x2048, .i1⟩
  | 86 => ⟨S9x8x2048x2048, .f32⟩
  | 87 => ⟨S_, .f32⟩
  | 88 => ⟨S9x8, .f32⟩
  | 89 => ⟨S9x8, .f32⟩
  | 90 => ⟨S9x8, .f32⟩
  | 91 => ⟨S9x8x1x1, .f32⟩
  | 92 => ⟨S9x8x2048x2048, .f32⟩
  | 93 => ⟨S9x8x2048x2048, .f32⟩
  | 94 => ⟨S1x1x2048x2048, .i1⟩
  | 95 => ⟨S_, .f32⟩
  | 96 => ⟨S_, .f32⟩
  | 97 => ⟨S9x8x2048x2048, .i1⟩
  | 98 => ⟨S9x8x2048x2048, .f32⟩
  | 99 => ⟨S9x8x2048x2048, .f32⟩
  | 100 => ⟨S_, .f32⟩
  | 101 => ⟨S9x8x2048, .f32⟩
  | 102 => ⟨S9x8x2048x1, .f32⟩
  | 103 => ⟨S9x8x2048x2048, .f32⟩
  | 104 => ⟨S9x8x2048x2048, .f32⟩
  | 105 => ⟨S9x8x2048x2048, .f32⟩
  | 106 => ⟨S_, .f32⟩
  | 107 => ⟨S9x8x2048, .f32⟩
  | 108 => ⟨S9x8x2048x1, .f32⟩
  | 109 => ⟨S9x8x2048x1, .f32⟩
  | 110 => ⟨S9x8x2048x1, .f32⟩
  | 111 => ⟨S9x8x2048x2048, .f32⟩
  | 112 => ⟨S9x8x2048x2048, .f32⟩
  | 113 => ⟨S9x8x2048x2048, .f32⟩
  | 114 => ⟨S_, .f32⟩
  | 115 => ⟨S9x8x2048x2048, .f32⟩
  | 116 => ⟨S9x8x2048x2048, .f32⟩
  | 117 => ⟨S_, .f32⟩
  | 118 => ⟨S_, .f32⟩
  | 119 => ⟨S_, .f32⟩
  | 120 => ⟨S9x8x2048x2048, .f32⟩
  | 121 => ⟨S9x8x2048x2048, .f32⟩
  | 122 => ⟨S_, .f32⟩
  | 123 => ⟨S9x8x2048x2048, .f32⟩
  | 124 => ⟨S9x8x2048x2048, .f32⟩
  | 125 => ⟨S9x8x2048x128, .f32⟩
  | 126 => ⟨S_, .f32⟩
  | 127 => ⟨S9x8, .f32⟩
  | _ => ⟨S9x2048x1024, .bf16⟩

abbrev hbmTy0_2 (i : Nat) : BufTy := match i % 128 with
  | 0 => ⟨S9x8, .f32⟩
  | 1 => ⟨S9x8x1x1, .f32⟩
  | 2 => ⟨S9x8x2048x128, .f32⟩
  | 3 => ⟨S9x8x2048x128, .f32⟩
  | 4 => ⟨S9x8x2048x128, .f32⟩
  | 5 => ⟨S9x8x1x1, .f32⟩
  | 6 => ⟨S9x8x2048x128, .f32⟩
  | 7 => ⟨S9x8x2048x128, .f32⟩
  | 8 => ⟨S9x8x2048x128, .f32⟩
  | 9 => ⟨S_, .f32⟩
  | 10 => ⟨S9x8x2048, .f32⟩
  | 11 => ⟨S9x8x2048x1, .f32⟩
  | 12 => ⟨S9x8x2048x2048, .f32⟩
  | 13 => ⟨S9x8, .f32⟩
  | 14 => ⟨S9x8x1x1, .f32⟩
  | 15 => ⟨S9x8x2048x2048, .f32⟩
  | 16 => ⟨S9x8x2048x2048, .f32⟩
  | 17 => ⟨S9x8x2048x2048, .f32⟩
  | 18 => ⟨S9x8x2048x2048, .f32⟩
  | 19 => ⟨S9x8x2048x2048, .f32⟩
  | 20 => ⟨S9x8x2048x2048, .bf16⟩
  | 21 => ⟨S9x8x2048x2048, .f32⟩
  | 22 => ⟨S9x8x128x2048, .f32⟩
  | 23 => ⟨S9x2048x8x128, .f32⟩
  | 24 => ⟨S_, .f32⟩
  | 25 => ⟨S9x8, .f32⟩
  | 26 => ⟨S9x8, .f32⟩
  | 27 => ⟨S9x1x8x1, .f32⟩
  | 28 => ⟨S9x2048x8x128, .f32⟩
  | 29 => ⟨S9x2048x8x128, .f32⟩
  | 30 => ⟨S9x8x2048x2048, .f32⟩
  | 31 => ⟨S9x8x128x2048, .f32⟩
  | 32 => ⟨S9x2048x8x128, .f32⟩
  | 33 => ⟨S_, .f32⟩
  | 34 => ⟨S9x8, .f32⟩
  | 35 => ⟨S9x8, .f32⟩
  | 36 => ⟨S9x1x8x1, .f32⟩
  | 37 => ⟨S9x2048x8x128, .f32⟩
  | 38 => ⟨S9x2048x8x128, .f32⟩
  | 39 => ⟨S9x8x128x2048, .f32⟩
  | 40 => ⟨S9x2048x8x128, .f32⟩
  | 41 => ⟨S_, .f32⟩
  | 42 => ⟨S9x8, .f32⟩
  | 43 => ⟨S9x8, .f32⟩
  | 44 => ⟨S9x1x8x1, .f32⟩
  | 45 => ⟨S9x2048x8x128, .f32⟩
  | 46 => ⟨S9x2048x8x128, .f32⟩
  | 47 => ⟨S9x2048x8x128, .bf16⟩
  | 48 => ⟨S9x2048x1024, .bf16⟩
  | 49 => ⟨S9x2048x8x128, .bf16⟩
  | 50 => ⟨S9x2048x1024, .bf16⟩
  | 51 => ⟨S9x2048x8x128, .bf16⟩
  | 52 => ⟨S9x2048x1024, .bf16⟩
  | _ => ⟨S9x2048x1024, .bf16⟩

abbrev hbmTy (i : Nat) : BufTy := match i / 128 with
  | 0 => hbmTy0_0 i
  | 1 => hbmTy0_1 i
  | 2 => hbmTy0_2 i
  | _ => ⟨S9x2048x1024, .bf16⟩

abbrev bufTy : (tb : Table) → Fin (tcTables nBuf tb) → BufTy
  | .hbm, ⟨i, _⟩ => hbmTy i
  | _, _ => ⟨S9x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_cst_5 : Ref sig .tc := ⟨.hbm, 35, rfl⟩
abbrev main_call1_v0 : Ref sig .tc := ⟨.hbm, 36, rfl⟩
abbrev main_call1_v1 : Ref sig .tc := ⟨.hbm, 37, rfl⟩
abbrev main_v21 : Ref sig .tc := ⟨.hbm, 38, rfl⟩
abbrev main_cst_6 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_7 : Ref sig .tc := ⟨.hbm, 45, rfl⟩
abbrev main_cst_8 : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_call2_v3 : Ref sig .tc := ⟨.hbm, 50, rfl⟩
abbrev main_call2_v4 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_9 : Ref sig .tc := ⟨.hbm, 56, rfl⟩
abbrev main_v31 : Ref sig .tc := ⟨.hbm, 57, rfl⟩
abbrev main_cst_10 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_c_11 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_12 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_13 : Ref sig .tc := ⟨.hbm, 74, rfl⟩
abbrev main_call3_v0 : Ref sig .tc := ⟨.hbm, 75, rfl⟩
abbrev main_call3_v1 : Ref sig .tc := ⟨.hbm, 76, rfl⟩
abbrev main_call3_v2 : Ref sig .tc := ⟨.hbm, 77, rfl⟩
abbrev main_v45 : Ref sig .tc := ⟨.hbm, 78, rfl⟩
abbrev main_cst_14 : Ref sig .tc := ⟨.hbm, 79, rfl⟩
abbrev main_v46 : Ref sig .tc := ⟨.hbm, 80, rfl⟩
abbrev main_v47 : Ref sig .tc := ⟨.hbm, 81, rfl⟩
abbrev main_cst_15 : Ref sig .tc := ⟨.hbm, 82, rfl⟩
abbrev main_v48 : Ref sig .tc := ⟨.hbm, 83, rfl⟩
abbrev main_cst_16 : Ref sig .tc := ⟨.hbm, 84, rfl⟩
abbrev main_call4_v0 : Ref sig .tc := ⟨.hbm, 85, rfl⟩
abbrev main_call4_v1 : Ref sig .tc := ⟨.hbm, 86, rfl⟩
abbrev main_v49 : Ref sig .tc := ⟨.hbm, 87, rfl⟩
abbrev main_cst_17 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_cst_18 : Ref sig .tc := ⟨.hbm, 94, rfl⟩
abbrev main_cst_19 : Ref sig .tc := ⟨.hbm, 95, rfl⟩
abbrev main_call5_v0 : Ref sig .tc := ⟨.hbm, 96, rfl⟩
abbrev main_call5_v1 : Ref sig .tc := ⟨.hbm, 97, rfl⟩
abbrev main_call5_v2 : Ref sig .tc := ⟨.hbm, 98, rfl⟩
abbrev main_call5_v3 : Ref sig .tc := ⟨.hbm, 99, rfl⟩
abbrev main_call5_v4 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_cst_20 : Ref sig .tc := ⟨.hbm, 105, rfl⟩
abbrev main_v59 : Ref sig .tc := ⟨.hbm, 106, rfl⟩
abbrev main_cst_21 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_c_22 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_cst_23 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_cst_24 : Ref sig .tc := ⟨.hbm, 123, rfl⟩
abbrev main_call6_v0 : Ref sig .tc := ⟨.hbm, 124, rfl⟩
abbrev main_call6_v1 : Ref sig .tc := ⟨.hbm, 125, rfl⟩
abbrev main_call6_v2 : Ref sig .tc := ⟨.hbm, 126, rfl⟩
abbrev main_v73 : Ref sig .tc := ⟨.hbm, 127, rfl⟩
abbrev main_cst_25 : Ref sig .tc := ⟨.hbm, 128, rfl⟩
abbrev main_v74 : Ref sig .tc := ⟨.hbm, 129, rfl⟩
abbrev main_v75 : Ref sig .tc := ⟨.hbm, 130, rfl⟩
abbrev main_cst_26 : Ref sig .tc := ⟨.hbm, 131, rfl⟩
abbrev main_v76 : Ref sig .tc := ⟨.hbm, 132, rfl⟩
abbrev main_cst_27 : Ref sig .tc := ⟨.hbm, 133, rfl⟩
abbrev main_call7_v0 : Ref sig .tc := ⟨.hbm, 134, rfl⟩
abbrev main_call7_v1 : Ref sig .tc := ⟨.hbm, 135, rfl⟩
abbrev main_v77 : Ref sig .tc := ⟨.hbm, 136, rfl⟩
abbrev main_cst_28 : Ref sig .tc := ⟨.hbm, 137, rfl⟩
abbrev main_v78 : Ref sig .tc := ⟨.hbm, 138, rfl⟩
abbrev main_v79 : Ref sig .tc := ⟨.hbm, 139, rfl⟩
abbrev main_v80 : Ref sig .tc := ⟨.hbm, 140, rfl⟩
abbrev main_v81 : Ref sig .tc := ⟨.hbm, 141, rfl⟩
abbrev main_v82 : Ref sig .tc := ⟨.hbm, 142, rfl⟩
abbrev main_cst_29 : Ref sig .tc := ⟨.hbm, 143, rfl⟩
abbrev main_cst_30 : Ref sig .tc := ⟨.hbm, 144, rfl⟩
abbrev main_call8_v0 : Ref sig .tc := ⟨.hbm, 145, rfl⟩
abbrev main_call8_v1 : Ref sig .tc := ⟨.hbm, 146, rfl⟩
abbrev main_call8_v2 : Ref sig .tc := ⟨.hbm, 147, rfl⟩
abbrev main_call8_v3 : Ref sig .tc := ⟨.hbm, 148, rfl⟩
abbrev main_call8_v4 : Ref sig .tc := ⟨.hbm, 149, rfl⟩
abbrev main_v83 : Ref sig .tc := ⟨.hbm, 150, rfl⟩
abbrev main_v84 : Ref sig .tc := ⟨.hbm, 151, rfl⟩
abbrev main_v85 : Ref sig .tc := ⟨.hbm, 152, rfl⟩
abbrev main_v86 : Ref sig .tc := ⟨.hbm, 153, rfl⟩
abbrev main_cst_31 : Ref sig .tc := ⟨.hbm, 154, rfl⟩
abbrev main_v87 : Ref sig .tc := ⟨.hbm, 155, rfl⟩
abbrev main_cst_32 : Ref sig .tc := ⟨.hbm, 156, rfl⟩
abbrev main_v88 : Ref sig .tc := ⟨.hbm, 157, rfl⟩
abbrev main_v89 : Ref sig .tc := ⟨.hbm, 158, rfl⟩
abbrev main_v90 : Ref sig .tc := ⟨.hbm, 159, rfl⟩
abbrev main_c_33 : Ref sig .tc := ⟨.hbm, 160, rfl⟩
abbrev main_v91 : Ref sig .tc := ⟨.hbm, 161, rfl⟩
abbrev main_v92 : Ref sig .tc := ⟨.hbm, 162, rfl⟩
abbrev main_v93 : Ref sig .tc := ⟨.hbm, 163, rfl⟩
abbrev main_cst_34 : Ref sig .tc := ⟨.hbm, 164, rfl⟩
abbrev main_v94 : Ref sig .tc := ⟨.hbm, 165, rfl⟩
abbrev main_v95 : Ref sig .tc := ⟨.hbm, 166, rfl⟩
abbrev main_v96 : Ref sig .tc := ⟨.hbm, 167, rfl⟩
abbrev main_v97 : Ref sig .tc := ⟨.hbm, 168, rfl⟩
abbrev main_v98 : Ref sig .tc := ⟨.hbm, 169, rfl⟩
abbrev main_v99 : Ref sig .tc := ⟨.hbm, 170, rfl⟩
abbrev main_v100 : Ref sig .tc := ⟨.hbm, 171, rfl⟩
abbrev main_cst_35 : Ref sig .tc := ⟨.hbm, 172, rfl⟩
abbrev main_call9_v0 : Ref sig .tc := ⟨.hbm, 173, rfl⟩
abbrev main_call9_v1 : Ref sig .tc := ⟨.hbm, 174, rfl⟩
abbrev main_call9_v2 : Ref sig .tc := ⟨.hbm, 175, rfl⟩
abbrev main_v101 : Ref sig .tc := ⟨.hbm, 176, rfl⟩
abbrev main_cst_36 : Ref sig .tc := ⟨.hbm, 177, rfl⟩
abbrev main_v102 : Ref sig .tc := ⟨.hbm, 178, rfl⟩
abbrev main_v103 : Ref sig .tc := ⟨.hbm, 179, rfl⟩
abbrev main_cst_37 : Ref sig .tc := ⟨.hbm, 180, rfl⟩
abbrev main_v104 : Ref sig .tc := ⟨.hbm, 181, rfl⟩
abbrev main_cst_38 : Ref sig .tc := ⟨.hbm, 182, rfl⟩
abbrev main_call10_v0 : Ref sig .tc := ⟨.hbm, 183, rfl⟩
abbrev main_call10_v1 : Ref sig .tc := ⟨.hbm, 184, rfl⟩
abbrev main_v105 : Ref sig .tc := ⟨.hbm, 185, rfl⟩
abbrev main_cst_39 : Ref sig .tc := ⟨.hbm, 186, rfl⟩
abbrev main_v106 : Ref sig .tc := ⟨.hbm, 187, rfl⟩
abbrev main_v107 : Ref sig .tc := ⟨.hbm, 188, rfl⟩
abbrev main_v108 : Ref sig .tc := ⟨.hbm, 189, rfl⟩
abbrev main_v109 : Ref sig .tc := ⟨.hbm, 190, rfl⟩
abbrev main_v110 : Ref sig .tc := ⟨.hbm, 191, rfl⟩
abbrev main_cst_40 : Ref sig .tc := ⟨.hbm, 192, rfl⟩
abbrev main_cst_41 : Ref sig .tc := ⟨.hbm, 193, rfl⟩
abbrev main_call11_v0 : Ref sig .tc := ⟨.hbm, 194, rfl⟩
abbrev main_call11_v1 : Ref sig .tc := ⟨.hbm, 195, rfl⟩
abbrev main_call11_v2 : Ref sig .tc := ⟨.hbm, 196, rfl⟩
abbrev main_call11_v3 : Ref sig .tc := ⟨.hbm, 197, rfl⟩
abbrev main_call11_v4 : Ref sig .tc := ⟨.hbm, 198, rfl⟩
abbrev main_v111 : Ref sig .tc := ⟨.hbm, 199, rfl⟩
abbrev main_v112 : Ref sig .tc := ⟨.hbm, 200, rfl⟩
abbrev main_v113 : Ref sig .tc := ⟨.hbm, 201, rfl⟩
abbrev main_v114 : Ref sig .tc := ⟨.hbm, 202, rfl⟩
abbrev main_v115 : Ref sig .tc := ⟨.hbm, 203, rfl⟩
abbrev main_v116 : Ref sig .tc := ⟨.hbm, 204, rfl⟩
abbrev main_v117 : Ref sig .tc := ⟨.hbm, 205, rfl⟩
abbrev main_v118 : Ref sig .tc := ⟨.hbm, 206, rfl⟩
abbrev main_c_42 : Ref sig .tc := ⟨.hbm, 207, rfl⟩
abbrev main_v119 : Ref sig .tc := ⟨.hbm, 208, rfl⟩
abbrev main_v120 : Ref sig .tc := ⟨.hbm, 209, rfl⟩
abbrev main_v121 : Ref sig .tc := ⟨.hbm, 210, rfl⟩
abbrev main_v122 : Ref sig .tc := ⟨.hbm, 211, rfl⟩
abbrev main_v123 : Ref sig .tc := ⟨.hbm, 212, rfl⟩
abbrev main_v124 : Ref sig .tc := ⟨.hbm, 213, rfl⟩
abbrev main_v125 : Ref sig .tc := ⟨.hbm, 214, rfl⟩
abbrev main_cst_43 : Ref sig .tc := ⟨.hbm, 215, rfl⟩
abbrev main_v126 : Ref sig .tc := ⟨.hbm, 216, rfl⟩
abbrev main_v127 : Ref sig .tc := ⟨.hbm, 217, rfl⟩
abbrev main_v128 : Ref sig .tc := ⟨.hbm, 218, rfl⟩
abbrev main_v129 : Ref sig .tc := ⟨.hbm, 219, rfl⟩
abbrev main_v130 : Ref sig .tc := ⟨.hbm, 220, rfl⟩
abbrev main_v131 : Ref sig .tc := ⟨.hbm, 221, rfl⟩
abbrev main_v132 : Ref sig .tc := ⟨.hbm, 222, rfl⟩
abbrev main_cst_44 : Ref sig .tc := ⟨.hbm, 223, rfl⟩
abbrev main_call12_v0 : Ref sig .tc := ⟨.hbm, 224, rfl⟩
abbrev main_call12_v1 : Ref sig .tc := ⟨.hbm, 225, rfl⟩
abbrev main_call12_v2 : Ref sig .tc := ⟨.hbm, 226, rfl⟩
abbrev main_v133 : Ref sig .tc := ⟨.hbm, 227, rfl⟩
abbrev main_cst_45 : Ref sig .tc := ⟨.hbm, 228, rfl⟩
abbrev main_v134 : Ref sig .tc := ⟨.hbm, 229, rfl⟩
abbrev main_v135 : Ref sig .tc := ⟨.hbm, 230, rfl⟩
abbrev main_v136 : Ref sig .tc := ⟨.hbm, 231, rfl⟩
abbrev main_v137 : Ref sig .tc := ⟨.hbm, 232, rfl⟩
abbrev main_v138 : Ref sig .tc := ⟨.hbm, 233, rfl⟩
abbrev main_cst_46 : Ref sig .tc := ⟨.hbm, 234, rfl⟩
abbrev main_v139 : Ref sig .tc := ⟨.hbm, 235, rfl⟩
abbrev main_v140 : Ref sig .tc := ⟨.hbm, 236, rfl⟩
abbrev main_v141 : Ref sig .tc := ⟨.hbm, 237, rfl⟩
abbrev main_v142 : Ref sig .tc := ⟨.hbm, 238, rfl⟩
abbrev main_v143 : Ref sig .tc := ⟨.hbm, 239, rfl⟩
abbrev main_v144 : Ref sig .tc := ⟨.hbm, 240, rfl⟩
abbrev main_v145 : Ref sig .tc := ⟨.hbm, 241, rfl⟩
abbrev main_cst_47 : Ref sig .tc := ⟨.hbm, 242, rfl⟩
abbrev main_v146 : Ref sig .tc := ⟨.hbm, 243, rfl⟩
abbrev main_v147 : Ref sig .tc := ⟨.hbm, 244, rfl⟩
abbrev main_cst_48 : Ref sig .tc := ⟨.hbm, 245, rfl⟩
abbrev main_cst_49 : Ref sig .tc := ⟨.hbm, 246, rfl⟩
abbrev main_call13_v0 : Ref sig .tc := ⟨.hbm, 247, rfl⟩
abbrev main_call13_v1 : Ref sig .tc := ⟨.hbm, 248, rfl⟩
abbrev main_call13_v2 : Ref sig .tc := ⟨.hbm, 249, rfl⟩
abbrev main_call13_v3 : Ref sig .tc := ⟨.hbm, 250, rfl⟩
abbrev main_call13_v4 : Ref sig .tc := ⟨.hbm, 251, rfl⟩
abbrev main_v148 : Ref sig .tc := ⟨.hbm, 252, rfl⟩
abbrev main_v149 : Ref sig .tc := ⟨.hbm, 253, rfl⟩
abbrev main_cst_50 : Ref sig .tc := ⟨.hbm, 254, rfl⟩
abbrev main_v150 : Ref sig .tc := ⟨.hbm, 255, rfl⟩
abbrev main_v151 : Ref sig .tc := ⟨.hbm, 256, rfl⟩
abbrev main_v152 : Ref sig .tc := ⟨.hbm, 257, rfl⟩
abbrev main_v153 : Ref sig .tc := ⟨.hbm, 258, rfl⟩
abbrev main_v154 : Ref sig .tc := ⟨.hbm, 259, rfl⟩
abbrev main_v155 : Ref sig .tc := ⟨.hbm, 260, rfl⟩
abbrev main_v156 : Ref sig .tc := ⟨.hbm, 261, rfl⟩
abbrev main_v157 : Ref sig .tc := ⟨.hbm, 262, rfl⟩
abbrev main_v158 : Ref sig .tc := ⟨.hbm, 263, rfl⟩
abbrev main_v159 : Ref sig .tc := ⟨.hbm, 264, rfl⟩
abbrev main_cst_51 : Ref sig .tc := ⟨.hbm, 265, rfl⟩
abbrev main_v160 : Ref sig .tc := ⟨.hbm, 266, rfl⟩
abbrev main_v161 : Ref sig .tc := ⟨.hbm, 267, rfl⟩
abbrev main_v162 : Ref sig .tc := ⟨.hbm, 268, rfl⟩
abbrev main_v163 : Ref sig .tc := ⟨.hbm, 269, rfl⟩
abbrev main_v164 : Ref sig .tc := ⟨.hbm, 270, rfl⟩
abbrev main_v165 : Ref sig .tc := ⟨.hbm, 271, rfl⟩
abbrev main_v166 : Ref sig .tc := ⟨.hbm, 272, rfl⟩
abbrev main_v167 : Ref sig .tc := ⟨.hbm, 273, rfl⟩
abbrev main_v168 : Ref sig .tc := ⟨.hbm, 274, rfl⟩
abbrev main_v169 : Ref sig .tc := ⟨.hbm, 275, rfl⟩
abbrev main_v170 : Ref sig .tc := ⟨.hbm, 276, rfl⟩
abbrev main_v171 : Ref sig .tc := ⟨.hbm, 277, rfl⟩
abbrev main_v172 : Ref sig .tc := ⟨.hbm, 278, rfl⟩
abbrev main_v173 : Ref sig .tc := ⟨.hbm, 279, rfl⟩
abbrev main_cst_52 : Ref sig .tc := ⟨.hbm, 280, rfl⟩
abbrev main_v174 : Ref sig .tc := ⟨.hbm, 281, rfl⟩
abbrev main_v175 : Ref sig .tc := ⟨.hbm, 282, rfl⟩
abbrev main_v176 : Ref sig .tc := ⟨.hbm, 283, rfl⟩
abbrev main_v177 : Ref sig .tc := ⟨.hbm, 284, rfl⟩
abbrev main_v178 : Ref sig .tc := ⟨.hbm, 285, rfl⟩
abbrev main_v179 : Ref sig .tc := ⟨.hbm, 286, rfl⟩
abbrev main_v180 : Ref sig .tc := ⟨.hbm, 287, rfl⟩
abbrev main_v181 : Ref sig .tc := ⟨.hbm, 288, rfl⟩
abbrev main_cst_53 : Ref sig .tc := ⟨.hbm, 289, rfl⟩
abbrev main_v182 : Ref sig .tc := ⟨.hbm, 290, rfl⟩
abbrev main_v183 : Ref sig .tc := ⟨.hbm, 291, rfl⟩
abbrev main_v184 : Ref sig .tc := ⟨.hbm, 292, rfl⟩
abbrev main_v185 : Ref sig .tc := ⟨.hbm, 293, rfl⟩
abbrev main_v186 : Ref sig .tc := ⟨.hbm, 294, rfl⟩
abbrev main_v187 : Ref sig .tc := ⟨.hbm, 295, rfl⟩
abbrev main_v188 : Ref sig .tc := ⟨.hbm, 296, rfl⟩
abbrev main_cst_54 : Ref sig .tc := ⟨.hbm, 297, rfl⟩
abbrev main_v189 : Ref sig .tc := ⟨.hbm, 298, rfl⟩
abbrev main_v190 : Ref sig .tc := ⟨.hbm, 299, rfl⟩
abbrev main_v191 : Ref sig .tc := ⟨.hbm, 300, rfl⟩
abbrev main_v192 : Ref sig .tc := ⟨.hbm, 301, rfl⟩
abbrev main_v193 : Ref sig .tc := ⟨.hbm, 302, rfl⟩
abbrev main_v194 : Ref sig .tc := ⟨.hbm, 303, rfl⟩
abbrev main_v195 : Ref sig .tc := ⟨.hbm, 304, rfl⟩
abbrev main_v196 : Ref sig .tc := ⟨.hbm, 305, rfl⟩
abbrev main_v197 : Ref sig .tc := ⟨.hbm, 306, rfl⟩
abbrev main_v198 : Ref sig .tc := ⟨.hbm, 307, rfl⟩
abbrev main_v199 : Ref sig .tc := ⟨.hbm, 308, rfl⟩

abbrev nD : Nat := 1
abbrev τ : Topo := Topo.v7x

variable {F : FTy → Type} [FloatOps F]
-- ==== Proof.Model.lean ====
module
public import Mathlib.Data.EReal.Operations
public import Mathlib.Analysis.SpecialFunctions.Log.Basic

@[expose] public section

/-!
# The attention gradients of one (batch, head) pair, over the reals

Codes are functions of two natural numbers (row, feature), zero past the arrays' ends.
`Pr` holds the four code arrays, the factor of the scores inside the exponential and the three factors of the results.
The functions named `u…` are the values of the kernel's vectors, entry by entry.
-/

namespace Cert.KernelIdeal.Attn

open Finset

/-- The window: key `k` is visible to query `q`. -/
abbrev vis (k q : ℕ) : Prop := k ≤ q ∧ q < k + 1000

/-- A real function of two indices as an extended-real one. -/
def up (f : ℕ → ℕ → ℝ) : ℕ → ℕ → EReal := fun a b => ((f a b : ℝ) : EReal)

/-- A real function of one index as an extended-real one. -/
def up1 (f : ℕ → ℝ) : ℕ → EReal := fun a => ((f a : ℝ) : EReal)

/-- The codes of one (batch, head), the factor `c` of the scores and the factors of dq, dk and dv. -/
structure Pr where
  /-- key codes -/
  K : ℕ → ℕ → ℝ
  /-- value codes -/
  V : ℕ → ℕ → ℝ
  /-- query codes -/
  Q : ℕ → ℕ → ℝ
  /-- output-gradient codes -/
  D : ℕ → ℕ → ℝ
  /-- factor of the scores -/
  c : ℝ
  /-- factor of dq -/
  s1 : ℝ
  /-- factor of dk -/
  s2 : ℝ
  /-- factor of dv -/
  s3 : ℝ

namespace Pr

noncomputable section

variable (p : Pr)

/-- The unscaled score of key `k` and query `q`. -/
def S (k q : ℕ) : ℝ := ∑ d ∈ range 128, p.K k d * p.Q q d
/-- The partition sum of query `q`. -/
def Z (q : ℕ) : ℝ := ∑ k ∈ range 2048, if vis k q then Real.exp (p.S k q * p.c) else 0
/-- 256 times the softmax probability. -/
def P (k q : ℕ) : ℝ := if vis k q then 256 * Real.exp (p.S k q * p.c) / p.Z q else 0
/-- The probability's code. -/
def P8 (k q : ℕ) : ℝ := min 448 (max 0 (p.P k q))
/-- The unscaled output. -/
def OT (d q : ℕ) : ℝ := ∑ k ∈ range 2048, p.V k d * p.P8 k q
/-- The unscaled row sum of output gradient times output. -/
def Df (q : ℕ) : ℝ := (∑ d ∈ range 128, p.D q d * p.OT d q) * (1 / 256)
/-- The unscaled gradient of the probabilities. -/
def DP (k q : ℕ) : ℝ := ∑ d ∈ range 128, p.V k d * p.D q d
/-- The unscaled gradient of the scores. -/
def DS (k q : ℕ) : ℝ := p.P k q * (p.DP k q - p.Df q)
/-- The query gradient. -/
def DQ (q d : ℕ) : ℝ := (∑ k ∈ range 2048, p.K k d * p.DS k q) * p.s1
/-- What the query tile starting at `q0` adds to the key gradient. -/
def KT (q0 k d : ℕ) : ℝ := ∑ b ∈ range 256, p.DS k (q0 + b) * p.Q (q0 + b) d
/-- What the query tile starting at `q0` adds to the value gradient. -/
def VT (q0 k d : ℕ) : ℝ := ∑ b ∈ range 256, p.P8 k (q0 + b) * p.D (q0 + b) d

/-- The (key, query) tiles in the order of the kernel. -/
def tiles : List (ℕ × ℕ) :=
  [(0, 0), (0, 256), (256, 256), (0, 512), (256, 512), (512, 512), (0, 768), (256, 768), (512, 768), (768, 768),
   (25, 1024), (281, 1024), (537, 1024), (793, 1024), (1049, 1024),
   (281, 1280), (537, 1280), (793, 1280), (1049, 1280), (1305, 1280),
   (537, 1536), (793, 1536), (1049, 1536), (1305, 1536), (1561, 1536),
   (793, 1792), (1049, 1792), (1305, 1792), (1561, 1792), (1817, 1792)]

/-- The `n`-th tile's key start and query start. -/
def tk (n : ℕ) : ℕ := (tiles.getD n (0, 0)).1
/-- The `n`-th tile's query start. -/
def tq (n : ℕ) : ℕ := (tiles.getD n (0, 0)).2

/-- What the first `n` tiles leave in an accumulator, tile `q0` adding `X q0` to the rows of its keys. -/
def acc (X : ℕ → ℕ → ℕ → ℝ) : ℕ → ℕ → ℕ → ℝ
  | 0, _, _ => 0
  | n + 1, k, d => acc X n k d + if tk n ≤ k ∧ k < tk n + 256 then X (tq n) k d else 0

/-- The key gradient. -/
def DK (k d : ℕ) : ℝ := acc p.KT 30 k d * p.s2
/-- The value gradient. -/
def DV (k d : ℕ) : ℝ := acc p.VT 30 k d * p.s3

/-- Masked scores. -/
def uMS (k q : ℕ) : EReal := if vis k q then ((p.S k q : ℝ) : EReal) else ⊥
/-- Masked scores times the factor. -/
def uMc (k q : ℕ) : EReal := if vis k q then ((p.S k q * p.c : ℝ) : EReal) else ⊥
/-- The greatest masked score among one residue's rows of a tile. -/
def tm (t a q : ℕ) : EReal := (univ : Finset (Fin 32)).fold max ⊥ (fun x => p.uMS (t + (8 * x.val + a)) q)
/-- The greatest masked score among one residue's rows of several tiles. -/
def uM8 (ls : List ℕ) (a q : ℕ) : EReal := ls.foldr (fun t s => max (p.tm t a q) s) ⊥
/-- The greatest masked score among several tiles. -/
def uMr (ls : List ℕ) (q : ℕ) : EReal := (univ : Finset (Fin 8)).fold max ⊥ (fun a => p.uM8 ls a.val q)
/-- Its real value times the factor. -/
def mu (ls : List ℕ) (q : ℕ) : ℝ := (p.uMr ls q).toReal * p.c
/-- The argument of the exponential. -/
def uT (ls : List ℕ) (k q : ℕ) : EReal := if vis k q then ((p.S k q * p.c - p.mu ls q : ℝ) : EReal) else ⊥
/-- The shifted exponential. -/
def E (ls : List ℕ) (k q : ℕ) : ℝ := if vis k q then Real.exp (p.S k q * p.c - p.mu ls q) else 0
/-- Sums of shifted exponentials over one residue's rows of several tiles. -/
def L8 (ls l : List ℕ) (a q : ℕ) : ℝ := (l.map fun t => ∑ x ∈ range 32, p.E ls (t + (8 * x + a)) q).sum
/-- Sums of shifted exponentials over several tiles. -/
def L (ls l : List ℕ) (q : ℕ) : ℝ := ∑ a ∈ range 8, p.L8 ls l a q
/-- The factor that turns a shifted exponential into 256 times a probability. -/
def Fc (ls : List ℕ) (q : ℕ) : ℝ := 256 * Real.exp (p.mu ls q) / p.Z q
/-- The output summed over several half tiles. -/
def O (hs : List ℕ) (d q : ℕ) : ℝ := (hs.map fun u => ∑ b ∈ range 128, p.V (u + b) d * p.P8 (u + b) q).sum
/-- The query gradient summed over several tiles, not yet scaled. -/
def G (ls : List ℕ) (d q : ℕ) : ℝ := (ls.map fun t => ∑ b ∈ range 256, p.K (t + b) d * p.DS (t + b) q).sum

/-- The tiles `ls` of `w` rows each hold every key visible to the 256 queries from `q0`, each once. -/
def Rows (w : ℕ) (ls : List ℕ) (q0 : ℕ) : Prop :=
  ∀ q, q0 ≤ q → q < q0 + 256 → ∀ g : ℕ → ℝ, (∀ k, ¬ vis k q → g k = 0) →
    (ls.map fun t => ∑ a ∈ range w, g (t + a)).sum = ∑ k ∈ range 2048, g k

end

end Pr

end Cert.KernelIdeal.Attn

end
-- ==== Proof.Tile.lean ====
/-
  Windows of matrices: vectors whose entry is a function of its global coordinates, and what each
  pure operation of the kernel makes of them, ideally.
-/
module

public import proofs.«01_k».proof.Proof.Model
public import proofs.«01_k».proof.Proof.Gen.KernelIdeal
public import Idealize.ShloMosaic.Lib.Pointwise
public import Idealize.ShloMosaic.Lib.ValueIdx
public import Idealize.ShloMosaic.Lib.Pipeline.ValueKit.Tiles

@[expose] public section

noncomputable section

namespace Cert.KernelIdeal.Attn

open Idealize.ShloMosaic Cert.KernelIdeal Cert.KernelIdeal.Gen
open scoped BigOperators

/-- The `m × n` window at row `r`, column `c` of `F`. -/
def W2 (m n r c : ℕ) (F : ℕ → ℕ → EReal) : (⟨2, ![m, n]⟩ : Shape).Idx → EReal :=
  fun i => F (r + (i 0).val) (c + (i 1).val)
/-- The same behind one unit axis. -/
def W3 (m n r c : ℕ) (F : ℕ → ℕ → EReal) : (⟨3, ![1, m, n]⟩ : Shape).Idx → EReal :=
  fun i => F (r + (i 1).val) (c + (i 2).val)
/-- The same behind two unit axes. -/
def W4 (m n r c : ℕ) (F : ℕ → ℕ → EReal) : (⟨4, ![1, 1, m, n]⟩ : Shape).Idx → EReal :=
  fun i => F (r + (i 2).val) (c + (i 3).val)
/-- A vector of `n` entries starting at `c`. -/
def W1 (n c : ℕ) (F : ℕ → EReal) : (⟨1, ![n]⟩ : Shape).Idx → EReal := fun i => F (c + (i 0).val)
/-- A row of `n` entries starting at column `c`, on `m` rows. -/
def WR (m n c : ℕ) (g : ℕ → EReal) : (⟨2, ![m, n]⟩ : Shape).Idx → EReal := fun i => g (c + (i 1).val)
/-- One value everywhere. -/
def kc (s : Shape) (x : EReal) : s.Idx → EReal := fun _ => x

section Ext
variable {m n r c : ℕ} {F G : ℕ → ℕ → EReal}
theorem W2_ext (h : ∀ a b, a < m → b < n → F (r + a) (c + b) = G (r + a) (c + b)) : W2 m n r c F = W2 m n r c G :=
  funext fun i => h _ _ (i 0).isLt (i 1).isLt
theorem W2_shift {r' c' : ℕ} (h : ∀ a b, a < m → b < n → F (r + a) (c + b) = G (r' + a) (c' + b)) :
    W2 m n r c F = W2 m n r' c' G := funext fun i => h _ _ (i 0).isLt (i 1).isLt
end Ext

/-! ## Changes of shape -/
section Casts
variable (m n r c : ℕ) (F : ℕ → ℕ → EReal)

theorem cast43 (h) : shapeCast (s := ⟨4, ![1, 1, m, n]⟩) (⟨2, ![m, n]⟩ : Shape) (W4 m n r c F) h = W2 m n r c F := by
  funext i
  exact shapeCast_apply (W4 m n r c F) h i (ix4 0 0 (i 0) (i 1)) (by
    rw [Shape.rowMajor_val_four, Shape.rowMajor_val_two]; simp)
theorem cast24 (h) : shapeCast (s := ⟨2, ![m, n]⟩) (⟨4, ![1, 1, m, n]⟩ : Shape) (W2 m n r c F) h = W4 m n r c F := by
  funext i
  have h0 : (i 0).val < 1 := (i 0).isLt
  have h1 : (i 1).val < 1 := (i 1).isLt
  exact shapeCast_apply (W2 m n r c F) h i (ix2 (i 2) (i 3)) (by
    rw [Shape.rowMajor_val_four, Shape.rowMajor_val_two]
    simp [show (i 0).val = 0 by omega, show (i 1).val = 0 by omega])
theorem cast32 (h) : shapeCast (s := ⟨3, ![1, m, n]⟩) (⟨2, ![m, n]⟩ : Shape) (W3 m n r c F) h = W2 m n r c F := by
  funext i
  exact shapeCast_apply (W3 m n r c F) h i (ix3 0 (i 0) (i 1)) (by
    rw [Shape.rowMajor_val_three, Shape.rowMajor_val_two]; simp)
theorem cast23 (h) : shapeCast (s := ⟨2, ![m, n]⟩) (⟨3, ![1, m, n]⟩ : Shape) (W2 m n r c F) h = W3 m n r c F := by
  funext i
  have h0 : (i 0).val < 1 := (i 0).isLt
  exact shapeCast_apply (W2 m n r c F) h i (ix2 (i 1) (i 2)) (by
    rw [Shape.rowMajor_val_three, Shape.rowMajor_val_two]
    simp [show (i 0).val = 0 by omega])
theorem cast22 (h) : shapeCast (s := ⟨2, ![m, n]⟩) (⟨2, ![m, n]⟩ : Shape) (W2 m n r c F) h = W2 m n r c F :=
  shapeCast_self _ _
theorem cast12 (G : ℕ → EReal) (h) : shapeCast (s := ⟨1, ![n]⟩) (⟨2, ![1, n]⟩ : Shape) (W1 n c G) h
    = WR 1 n c G := by
  funext i
  have h0 : (i 0).val < 1 := (i 0).isLt
  exact shapeCast_apply (W1 n c G) h i (ix1 (i 1)) (by
    rw [Shape.rowMajor_val_one, Shape.rowMajor_val_two]
    simp [show (i 0).val = 0 by omega])
theorem tr2 (h) : transpose (s := ⟨2, ![m, n]⟩) (⟨2, ![n, m]⟩ : Shape) [1, 0] (W2 m n r c F) h
    = W2 n m c r (fun a b => F b a) := by
  funext i
  exact transpose_apply _ (W2 m n r c F) h i (ix2 (i 1) (i 0)) (by
    intro b; match b with | ⟨0, _⟩ => rfl | ⟨1, _⟩ => rfl)
theorem bcast_row (G : ℕ → EReal) (h) : broadcastTo (s := ⟨2, ![1, n]⟩) (⟨2, ![m, n]⟩ : Shape) (WR 1 n c G) h
    = WR m n c G := by
  funext i
  refine broadcastTo_apply (WR 1 n c G) h i (ix2 0 (i 1)) ?_
  intro a; match a with
  | ⟨0, _⟩ => rfl
  | ⟨1, _⟩ =>
    have : (i 1).val < n := (i 1).isLt
    show (i 1).val = if n = 1 then 0 else (i 1).val
    split_ifs with h1
    · omega
    · rfl
theorem bcast_kc {s t : Shape} (x : EReal) (h) : broadcastTo (s := s) t (kc s x) h = kc t x := by
  funext i; unfold broadcastTo; rfl
theorem cast_kc {s t : Shape} (x : EReal) (h) : shapeCast (s := s) t (kc s x) h = kc t x := by
  funext i; unfold shapeCast; rfl
end Casts

end Cert.KernelIdeal.Attn
-- ==== Proof.Ops.lean ====
/-
  What each pure operation of the kernel makes of the windows of `Tile`, ideally.
-/
module

public import proofs.«01_k».proof.Proof.Tile
public import proofs.«01_k».proof.Proof.Gen.KernelIdeal.Skeleton

@[expose] public section

noncomputable section

namespace Cert.KernelIdeal.Attn

open Idealize.ShloMosaic Cert.KernelIdeal Cert.KernelIdeal.Gen
open scoped BigOperators
open Finset (range)

/-! ## Extended reals -/

theorem coe_sum {ι : Type*} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

theorem coe_mul (x y : ℝ) : ((x : EReal) * (y : EReal)) = ((x * y : ℝ) : EReal) := (EReal.coe_mul x y).symm
theorem coe_add (x y : ℝ) : ((x : EReal) + (y : EReal)) = ((x + y : ℝ) : EReal) := (EReal.coe_add x y).symm
theorem coe_sub (x y : ℝ) : ((x : EReal) - (y : EReal)) = ((x - y : ℝ) : EReal) := (EReal.coe_sub x y).symm

theorem bits_zero : Ideal.ofBits .f32 0x00000000#32 = 0 := by simp [Ideal.ofBits, Ideal.ieee]
theorem bits_bot : Ideal.ofBits .f32 0xFF800000#32 = ⊥ := by simp [Ideal.ofBits, Ideal.ieee]
theorem bits_256 : Ideal.ofBits .f32 0x43800000#32 = ((256 : ℝ) : EReal) := by
  simp [Ideal.ofBits, Ideal.ieee]; rw [← EReal.coe_mul]; norm_num
theorem bits_inv256 : Ideal.ofBits .f32 0x3B800000#32 = ((1 / 256 : ℝ) : EReal) := by
  simp [Ideal.ofBits, Ideal.ieee]; rw [← EReal.coe_mul]; norm_num
theorem bits_448 : Ideal.ofBits .f32 0x43E00000#32 = ((448 : ℝ) : EReal) := by
  simp [Ideal.ofBits, Ideal.ieee]; rw [← EReal.coe_mul]; norm_num

theorem kc_zero (s : Shape) : broadcast s (Scalar.ofBits (F := Ideal) .f32 0x00000000#32) = kc s ((0 : ℝ) : EReal) :=
  funext fun _ => bits_zero
theorem kc_bot (s : Shape) : broadcast s (Scalar.ofBits (F := Ideal) .f32 0xFF800000#32) = kc s ⊥ := funext fun _ => bits_bot
theorem kc_256 (s : Shape) : broadcast s (Scalar.ofBits (F := Ideal) .f32 0x43800000#32) = kc s ((256 : ℝ) : EReal) :=
  funext fun _ => bits_256
theorem kc_inv256 (s : Shape) : broadcast s (Scalar.ofBits (F := Ideal) .f32 0x3B800000#32) = kc s ((1 / 256 : ℝ) : EReal) :=
  funext fun _ => bits_inv256
theorem kc_448 (s : Shape) : broadcast s (Scalar.ofBits (F := Ideal) .f32 0x43E00000#32) = kc s ((448 : ℝ) : EReal) :=
  funext fun _ => bits_448

/-! ## Changes of format -/

theorem trunc_id {s : Shape} {φ ψ : FTy} (x : FVec Ideal s φ) (h) : (truncf ψ x h : FVec Ideal s ψ) = x := rfl
theorem ext_id {s : Shape} {φ ψ : FTy} (x : FVec Ideal s φ) (h) : (extf ψ x h : FVec Ideal s ψ) = x := rfl

/-! ## Products -/

section Dots
variable {φ ψ : FTy} {r s t : ℕ} {A B : ℕ → ℕ → ℝ}

theorem dot_nt : matmul (F := Ideal) (φ₁ := φ) (φ₂ := ψ) dot_S256x128_S256x128_S256x256_1_1_0_0_n_n none
    (W2 256 128 r 0 (up A)) (W2 256 128 s 0 (up B)) (constant (F := Ideal) S256x256 .f32 0x00000000#32)
    = W2 256 256 r s (up fun a b => ∑ d ∈ range 128, A a d * B b d) := by
  funext i
  pointwise [W2, up]
  rw [Finset.sum_range, coe_sum]
  simp [EReal.coe_mul]

theorem dot_o : matmul (F := Ideal) (φ₁ := φ) (φ₂ := ψ) dot_S128x128_S128x256_S128x256_1_0_0_1_n_n none
    (W2 128 128 0 r (up A)) (W2 128 256 r s (up B)) (constant (F := Ideal) S128x256 .f32 0x00000000#32)
    = W2 128 256 0 s (up fun d q => ∑ b ∈ range 128, A d (r + b) * B (r + b) q) := by
  funext i
  pointwise [W2, up]
  rw [Finset.sum_range, coe_sum]
  simp [EReal.coe_mul]

theorem dot_kd : matmul (F := Ideal) (φ₁ := φ) (φ₂ := ψ) dot_S256x256_S256x128_S256x128_1_0_0_1_n_n none
    (W2 256 256 r s (up A)) (W2 256 128 s 0 (up B)) (constant (F := Ideal) S256x128 .f32 0x00000000#32)
    = W2 256 128 r 0 (up fun k d => ∑ b ∈ range 256, A k (s + b) * B (s + b) d) := by
  funext i
  pointwise [W2, up]
  rw [Finset.sum_range, coe_sum]
  simp [EReal.coe_mul]

theorem dot_dq : matmul (F := Ideal) (φ₁ := φ) (φ₂ := ψ) dot_S128x256_S256x256_S128x256_1_0_0_1_n_n none
    (W2 128 256 0 r (up A)) (W2 256 256 r s (up B)) (constant (F := Ideal) S128x256 .f32 0x00000000#32)
    = W2 128 256 0 s (up fun d q => ∑ b ∈ range 256, A d (r + b) * B (r + b) q) := by
  funext i
  pointwise [W2, up]
  rw [Finset.sum_range, coe_sum]
  simp [EReal.coe_mul]

end Dots

/-! ## Reductions -/

section Red
variable (p : Pr) {r t q0 : ℕ} {F : ℕ → ℕ → EReal}

theorem cast8 (h) (x : Fin 32) (a : Fin 8) (q : Fin 256) :
    shapeCast (s := S256x256) S32x8x256 (W2 256 256 t q0 F) h (ix3 x a q) = F (t + (8 * x.val + a.val)) (q0 + q.val) := by
  refine shapeCast_apply (W2 256 256 t q0 F) h (ix3 x a q) (ix2 ⟨8 * x.val + a.val, by omega⟩ q) ?_
  rw [Shape.rowMajor_val_three, Shape.rowMajor_val_two]
  simp; omega

theorem max8 (h hr h1 h2) : multiReduction (F := Ideal) (φ := .f32) .maximumf [0] S8x256
    (shapeCast (s := S256x256) S32x8x256 (W2 256 256 t q0 p.uMS) h) 0xFF800000#32 hr h1 h2 = W2 8 256 0 q0 (p.uM8 [t]) := by
  funext i
  rw [multiReduction_maximumf_eq_fold]
  pointwise [W2]
  rw [show (4286578688#32) = (0xFF800000#32 : BitVec 32) from rfl, bits_bot]
  simp [Pr.uM8, Pr.tm, Nat.mul_comm]

theorem add8 (ls : List ℕ) (h hr h1 h2) : multiReduction (F := Ideal) (φ := .f32) .add [0] S8x256
    (shapeCast (s := S256x256) S32x8x256 (W2 256 256 t q0 (up (p.E ls))) h) 0x00000000#32 hr h1 h2 = W2 8 256 0 q0 (up (p.L8 ls [t])) := by
  funext i
  pointwise [W2]
  simp [up, Pr.L8, Finset.sum_range, coe_sum, Nat.mul_comm]

theorem red8 (ls : List ℕ) (hr h1 h2) : multiReduction (F := Ideal) (φ := .f32) .maximumf [0] S256
    (W2 8 256 0 q0 (p.uM8 ls)) 0xFF800000#32 hr h1 h2 = W1 256 q0 (p.uMr ls) := by
  funext i
  rw [multiReduction_maximumf_eq_fold]
  pointwise [W2]
  rw [show (4286578688#32) = (0xFF800000#32 : BitVec 32) from rfl, bits_bot]
  rfl

theorem sum8 {f : ℕ → ℕ → ℝ} (hr h1 h2) : multiReduction (F := Ideal) (φ := .f32) .add [0] S256
    (W2 8 256 0 q0 (up f)) 0x00000000#32 hr h1 h2 = W1 256 q0 (up1 fun q => ∑ a ∈ range 8, f a q) := by
  funext i
  pointwise [W2, up, up1, W1]
  rw [Finset.sum_range, coe_sum]

theorem sum128 {f : ℕ → ℕ → ℝ} (hr h1 h2) : multiReduction (F := Ideal) (φ := .f32) .add [0] S256
    (W2 128 256 0 q0 (up f)) 0x00000000#32 hr h1 h2 = W1 256 q0 (up1 fun q => ∑ d ∈ range 128, f d q) := by
  funext i
  pointwise [W2, up, up1, W1]
  rw [Finset.sum_range, coe_sum]

end Red

/-! ## Entry by entry -/

section Elem
variable (p : Pr) {m n r c k0 q0 : ℕ}

theorem vis_dec (k q : ℕ) : vis k q ∨ ¬ vis k q := Classical.em _

theorem fold_ne_top {n : ℕ} {f : Fin n → EReal} (h : ∀ x, f x ≠ ⊤) : (Finset.univ : Finset (Fin n)).fold max ⊥ f ≠ ⊤ := by
  have := (Finset.fold_max_lt (s := (Finset.univ : Finset (Fin n))) (f := f) (b := ⊥) ⊤).2
    ⟨bot_lt_top, fun x _ => lt_top_iff_ne_top.2 (h x)⟩
  exact this.ne
theorem fold_ne_bot {n : ℕ} {f : Fin n → EReal} (x : Fin n) (h : f x ≠ ⊥) : (Finset.univ : Finset (Fin n)).fold max ⊥ f ≠ ⊥ := by
  have := (Finset.lt_fold_max (s := (Finset.univ : Finset (Fin n))) (f := f) (b := ⊥) ⊥).2
    (.inr ⟨x, Finset.mem_univ _, bot_lt_iff_ne_bot.2 h⟩)
  exact this.ne'

theorem uM8_ne_top (ls : List ℕ) (a q : ℕ) : p.uM8 ls a q ≠ ⊤ := by
  induction ls with
  | nil => simp [Pr.uM8]
  | cons t ls ih =>
    have h1 : p.tm t a q ≠ ⊤ := fold_ne_top fun x => by unfold Pr.uMS; split_ifs <;> simp
    have : max (p.tm t a q) (p.uM8 ls a q) < ⊤ := max_lt (lt_top_iff_ne_top.2 h1) (lt_top_iff_ne_top.2 ih)
    exact this.ne

theorem uM8_ne_bot (ls : List ℕ) (t x a q : ℕ) (ht : t ∈ ls) (hx : x < 32) (hv : vis (t + (8 * x + a)) q) : p.uM8 ls a q ≠ ⊥ := by
  induction ls with
  | nil => simp at ht
  | cons t' ls ih =>
    show max (p.tm t' a q) (p.uM8 ls a q) ≠ ⊥
    rcases List.mem_cons.1 ht with rfl | h
    · have : p.tm t a q ≠ ⊥ := fold_ne_bot ⟨x, hx⟩ (by simp [Pr.uMS, hv])
      exact (lt_max_of_lt_left (bot_lt_iff_ne_bot.2 this)).ne'
    · exact (lt_max_of_lt_right (bot_lt_iff_ne_bot.2 (ih h))).ne'

/-- Some tile holds a visible key of every query of the block. -/
theorem Rows.exists {ls : List ℕ} (H : Pr.Rows 256 ls q0) (hq0 : q0 + 256 ≤ 2048) (q : ℕ) (h1 : q0 ≤ q) (h2 : q < q0 + 256) :
    ∃ t ∈ ls, ∃ a < 256, vis (t + a) q := by
  by_contra hn
  have := H q h1 h2 (fun k => if vis k q then 1 else 0) (fun k hk => if_neg hk)
  have e : (ls.map fun t => ∑ a ∈ range 256, (if vis (t + a) q then (1 : ℝ) else 0)) = ls.map fun _ => 0 := by
    refine List.map_congr_left fun t ht => Finset.sum_eq_zero fun a ha => if_neg ?_
    intro hv; exact hn ⟨t, ht, a, Finset.mem_range.1 ha, hv⟩
  rw [e] at this
  have h0 : (0 : ℝ) = ∑ k ∈ range 2048, (if vis k q then (1 : ℝ) else 0) := by simpa using this
  have : (1 : ℝ) ≤ ∑ k ∈ range 2048, (if vis k q then (1 : ℝ) else 0) := by
    have := Finset.single_le_sum (s := range 2048) (f := fun k => if vis k q then (1 : ℝ) else 0)
      (fun k _ => by split_ifs <;> norm_num) (Finset.mem_range.2 (show q < 2048 by omega))
    simpa [vis] using this
  linarith

theorem uMr_real {ls : List ℕ} (H : Pr.Rows 256 ls q0) (hq0 : q0 + 256 ≤ 2048) (q : ℕ) (h1 : q0 ≤ q) (h2 : q < q0 + 256) :
    p.uMr ls q = ((p.uMr ls q).toReal : EReal) := by
  refine (EReal.coe_toReal (fold_ne_top fun a => uM8_ne_top p ls a q) ?_).symm
  obtain ⟨t, ht, a, ha, hv⟩ := Rows.exists H hq0 q h1 h2
  refine fold_ne_bot ⟨a % 8, Nat.mod_lt _ (by norm_num)⟩ (uM8_ne_bot p ls t (a / 8) (a % 8) q ht (by omega) ?_)
  rw [Nat.div_add_mod]; exact hv

theorem Z_pos (q : ℕ) (hq : q < 2048) : 0 < p.Z q := by
  refine Finset.sum_pos' (fun k _ => by split_ifs; exacts [(Real.exp_pos _).le, le_rfl]) ⟨q, Finset.mem_range.2 hq, ?_⟩
  rw [if_pos ⟨le_rfl, by omega⟩]; exact Real.exp_pos _

/-- The sums of the shifted exponentials over all the tiles of the block. -/
theorem L_eq {ls : List ℕ} (H : Pr.Rows 256 ls q0) (q : ℕ) (h1 : q0 ≤ q) (h2 : q < q0 + 256) :
    p.L ls ls q = p.Z q * Real.exp (-p.mu ls q) := by
  have e : p.L ls ls q = (ls.map fun t => ∑ a ∈ range 256, p.E ls (t + a) q).sum := by
    unfold Pr.L Pr.L8
    have key : ∀ g : ℕ → ℝ, ∑ a ∈ range 8, ∑ x ∈ range 32, g (8 * x + a) = ∑ a ∈ range 256, g a := by
      intro g
      rw [Finset.sum_comm]
      have : ∀ N, ∑ x ∈ range N, ∑ a ∈ range 8, g (8 * x + a) = ∑ a ∈ range (8 * N), g a := by
        intro N
        induction N with
        | zero => simp
        | succ N ih => rw [Finset.sum_range_succ, ih, Nat.mul_succ, Finset.sum_range_add]
      exact this 32
    generalize hl : p.E ls = e
    clear hl H
    induction ls with
    | nil => simp
    | cons t l ih =>
      simp only [List.map_cons, List.sum_cons, Finset.sum_add_distrib, ih]
      rw [key fun a => e (t + a) q]
  rw [e, H q h1 h2 (fun k => p.E ls k q) (fun k hk => if_neg hk), Pr.Z, Finset.sum_mul]
  refine Finset.sum_congr rfl fun k _ => ?_
  unfold Pr.E
  split_ifs
  · rw [sub_eq_add_neg, Real.exp_add]
  · simp

theorem max_app (l1 l2 : List ℕ) : maximumf (F := Ideal) (φ := .f32) (W2 8 256 0 q0 (p.uM8 l1)) (W2 8 256 0 q0 (p.uM8 l2))
    = W2 8 256 0 q0 (p.uM8 (l1 ++ l2)) := by
  have : ∀ a q, max (p.uM8 l1 a q) (p.uM8 l2 a q) = p.uM8 (l1 ++ l2) a q := by
    intro a q
    induction l1 with
    | nil => simp [Pr.uM8]
    | cons t l ih =>
      show max (max _ (p.uM8 l a q)) _ = max _ (p.uM8 (l ++ l2) a q)
      rw [max_assoc, ih]
  exact funext fun i => this _ _

theorem mul_m {ls : List ℕ} (H : Pr.Rows 256 ls q0) (hq0 : q0 + 256 ≤ 2048) :
    mulf (F := Ideal) (φ := .f32) (WR 1 256 q0 (p.uMr ls)) (kc S1x256 ((p.c : ℝ) : EReal)) = WR 1 256 q0 (up1 (p.mu ls)) := by
  funext i
  show p.uMr ls (q0 + (i 1).val) * ((p.c : ℝ) : EReal) = _
  rw [uMr_real p H hq0 _ (Nat.le_add_right _ _) (Nat.add_lt_add_left (i 1).isLt _), coe_mul]; rfl

theorem mul_ms (hc : 0 < p.c) : mulf (F := Ideal) (φ := .f32) (W2 256 256 k0 q0 p.uMS) (kc S256x256 ((p.c : ℝ) : EReal))
    = W2 256 256 k0 q0 p.uMc := by
  funext i
  show p.uMS _ _ * ((p.c : ℝ) : EReal) = p.uMc _ _
  unfold Pr.uMS Pr.uMc
  split_ifs
  · exact coe_mul _ _
  · exact EReal.bot_mul_coe_of_pos hc

theorem sub_t (ls : List ℕ) : subf (F := Ideal) (φ := .f32) (W2 256 256 k0 q0 p.uMc) (WR 256 256 q0 (up1 (p.mu ls)))
    = W2 256 256 k0 q0 (p.uT ls) := by
  funext i
  show p.uMc _ _ - ((p.mu ls _ : ℝ) : EReal) = p.uT ls _ _
  unfold Pr.uT Pr.uMc
  split_ifs
  · exact coe_sub _ _
  · exact EReal.bot_sub _

theorem exp_e (ls : List ℕ) : exp (F := Ideal) (φ := .f32) (W2 256 256 k0 q0 (p.uT ls)) = W2 256 256 k0 q0 (up (p.E ls)) := by
  funext i
  show Ideal.exp (p.uT ls _ _) = ((p.E ls _ _ : ℝ) : EReal)
  unfold Pr.uT Pr.E
  split_ifs <;> rfl

theorem add_l8 (ls l1 l2 : List ℕ) : addf (F := Ideal) (φ := .f32) (W2 8 256 0 q0 (up (p.L8 ls l1))) (W2 8 256 0 q0 (up (p.L8 ls l2)))
    = W2 8 256 0 q0 (up (p.L8 ls (l1 ++ l2))) := by
  funext i
  show ((p.L8 ls l1 _ _ : ℝ) : EReal) + ((p.L8 ls l2 _ _ : ℝ) : EReal) = ((p.L8 ls (l1 ++ l2) _ _ : ℝ) : EReal)
  rw [coe_add]; simp [Pr.L8]

theorem sum_l8 (ls l : List ℕ) (hr h1 h2) : multiReduction (F := Ideal) (φ := .f32) .add [0] S256
    (W2 8 256 0 q0 (up (p.L8 ls l))) 0x00000000#32 hr h1 h2 = W1 256 q0 (up1 (p.L ls l)) := sum8 hr h1 h2

theorem fac {ls : List ℕ} (H : Pr.Rows 256 ls q0) (hq0 : q0 + 256 ≤ 2048) :
    mulf (F := Ideal) (φ := .f32) (kc S1x256 ((256 : ℝ) : EReal)) (exp (F := Ideal) (φ := .f32)
      (subf (F := Ideal) (φ := .f32) (WR 1 256 q0 (up1 (p.mu ls)))
        (addf (F := Ideal) (φ := .f32) (log (F := Ideal) (φ := .f32) (WR 1 256 q0 (up1 (p.L ls ls)))) (WR 1 256 q0 (up1 (p.mu ls))))))
    = WR 1 256 q0 (up1 (p.Fc ls)) := by
  funext i
  have hi := (i 1).isLt
  set q := q0 + (i 1).val with hq
  have hlt : q < q0 + 256 := Nat.add_lt_add_left hi _
  have hZ := Z_pos p q (by omega)
  have hL := L_eq p H q (Nat.le_add_right _ _) hlt
  have hpos : 0 < p.L ls ls q := by rw [hL]; exact mul_pos hZ (Real.exp_pos _)
  show ((256 : ℝ) : EReal) * Ideal.exp (((p.mu ls q : ℝ) : EReal) - (Ideal.log ((p.L ls ls q : ℝ) : EReal) + ((p.mu ls q : ℝ) : EReal)))
    = ((p.Fc ls q : ℝ) : EReal)
  have hlog : Ideal.log ((p.L ls ls q : ℝ) : EReal) = ((Real.log (p.L ls ls q) : ℝ) : EReal) := by
    show (if p.L ls ls q ≤ 0 then (⊥ : EReal) else ((Real.log (p.L ls ls q) : ℝ) : EReal)) = _
    rw [if_neg (not_le.2 hpos)]
  rw [hlog, coe_add, coe_sub]
  show ((256 : ℝ) : EReal) * ((Real.exp _ : ℝ) : EReal) = _
  rw [coe_mul, show p.mu ls q - (Real.log (p.L ls ls q) + p.mu ls q) = -Real.log (p.L ls ls q) by ring, Real.exp_neg,
    Real.exp_log hpos, hL, Real.exp_neg, Pr.Fc]
  congr 1
  field_simp

theorem mul_p {ls : List ℕ} (hq0 : q0 + 256 ≤ 2048) :
    mulf (F := Ideal) (φ := .f32) (W2 256 256 k0 q0 (up (p.E ls))) (WR 256 256 q0 (up1 (p.Fc ls))) = W2 256 256 k0 q0 (up p.P) := by
  funext i
  show ((p.E ls (k0 + (i 0).val) (q0 + (i 1).val) : ℝ) : EReal) * ((p.Fc ls (q0 + (i 1).val) : ℝ) : EReal) = ((p.P (k0 + (i 0).val) (q0 + (i 1).val) : ℝ) : EReal)
  rw [coe_mul]
  unfold Pr.E Pr.Fc Pr.P
  congr 1
  split_ifs
  · rw [sub_eq_add_neg, Real.exp_add, Real.exp_neg]
    field_simp
  · simp

theorem clip_p : (minimumf (F := Ideal) (φ := .f32) (kc S256x256 ((448 : ℝ) : EReal))
    (maximumf (F := Ideal) (φ := .f32) (kc S256x256 ((0 : ℝ) : EReal)) (W2 256 256 k0 q0 (up p.P)))) = W2 256 256 k0 q0 (up p.P8) := by
  funext i
  show min ((448 : ℝ) : EReal) (max ((0 : ℝ) : EReal) ((p.P _ _ : ℝ) : EReal)) = ((p.P8 _ _ : ℝ) : EReal)
  rw [Pr.P8, EReal.coe_strictMono.monotone.map_min, EReal.coe_strictMono.monotone.map_max]

theorem dot_s {φ ψ : FTy} : matmul (F := Ideal) (φ₁ := φ) (φ₂ := ψ) dot_S256x128_S256x128_S256x256_1_1_0_0_n_n none
    (W2 256 128 k0 0 (up p.K)) (W2 256 128 q0 0 (up p.Q)) (constant (F := Ideal) S256x256 .f32 0x00000000#32)
    = W2 256 256 k0 q0 (up p.S) := dot_nt
theorem dot_dp {φ ψ : FTy} : matmul (F := Ideal) (φ₁ := φ) (φ₂ := ψ) dot_S256x128_S256x128_S256x256_1_1_0_0_n_n none
    (W2 256 128 k0 0 (up p.V)) (W2 256 128 q0 0 (up p.D)) (constant (F := Ideal) S256x256 .f32 0x00000000#32)
    = W2 256 256 k0 q0 (up p.DP) := dot_nt
theorem dot_ot {φ ψ : FTy} : matmul (F := Ideal) (φ₁ := φ) (φ₂ := ψ) dot_S128x128_S128x256_S128x256_1_0_0_1_n_n none
    (W2 128 128 0 k0 (up fun d k => p.V k d)) (W2 128 256 k0 q0 (up p.P8)) (constant (F := Ideal) S128x256 .f32 0x00000000#32)
    = W2 128 256 0 q0 (up (p.O [k0])) := by
  rw [dot_o]; refine congrArg _ (congrArg up ?_); funext d q; simp [Pr.O]
theorem add_o (l1 l2 : List ℕ) : addf (F := Ideal) (φ := .f32) (W2 128 256 0 q0 (up (p.O l1))) (W2 128 256 0 q0 (up (p.O l2)))
    = W2 128 256 0 q0 (up (p.O (l1 ++ l2))) := by
  funext i
  show ((p.O l1 _ _ : ℝ) : EReal) + ((p.O l2 _ _ : ℝ) : EReal) = ((p.O (l1 ++ l2) _ _ : ℝ) : EReal)
  rw [coe_add]; simp [Pr.O]
theorem dot_g {φ ψ : FTy} : matmul (F := Ideal) (φ₁ := φ) (φ₂ := ψ) dot_S128x256_S256x256_S128x256_1_0_0_1_n_n none
    (W2 128 256 0 k0 (up fun d k => p.K k d)) (W2 256 256 k0 q0 (up p.DS)) (constant (F := Ideal) S128x256 .f32 0x00000000#32)
    = W2 128 256 0 q0 (up (p.G [k0])) := by
  rw [dot_dq]; refine congrArg _ (congrArg up ?_); funext d q; simp [Pr.G]
theorem add_g (l1 l2 : List ℕ) : addf (F := Ideal) (φ := .f32) (W2 128 256 0 q0 (up (p.G l1))) (W2 128 256 0 q0 (up (p.G l2)))
    = W2 128 256 0 q0 (up (p.G (l1 ++ l2))) := by
  funext i
  show ((p.G l1 _ _ : ℝ) : EReal) + ((p.G l2 _ _ : ℝ) : EReal) = ((p.G (l1 ++ l2) _ _ : ℝ) : EReal)
  rw [coe_add]; simp [Pr.G]
theorem dot_kt {φ ψ : FTy} : matmul (F := Ideal) (φ₁ := φ) (φ₂ := ψ) dot_S256x256_S256x128_S256x128_1_0_0_1_n_n none
    (W2 256 256 k0 q0 (up p.DS)) (W2 256 128 q0 0 (up p.Q)) (constant (F := Ideal) S256x128 .f32 0x00000000#32)
    = W2 256 128 k0 0 (up (p.KT q0)) := dot_kd
theorem dot_vt {φ ψ : FTy} : matmul (F := Ideal) (φ₁ := φ) (φ₂ := ψ) dot_S256x256_S256x128_S256x128_1_0_0_1_n_n none
    (W2 256 256 k0 q0 (up p.P8)) (W2 256 128 q0 0 (up p.D)) (constant (F := Ideal) S256x128 .f32 0x00000000#32)
    = W2 256 128 k0 0 (up (p.VT q0)) := dot_kd

theorem mul_do (hs : List ℕ) : mulf (F := Ideal) (φ := .f32) (W2 128 256 0 q0 (up fun d q => p.D q d)) (W2 128 256 0 q0 (up (p.O hs)))
    = W2 128 256 0 q0 (up fun d q => p.D q d * p.O hs d q) := funext fun _ => coe_mul _ _

theorem P8_off {k q : ℕ} (h : ¬ vis k q) : p.P8 k q = 0 := by simp [Pr.P8, Pr.P, h]
theorem DS_off {k q : ℕ} (h : ¬ vis k q) : p.DS k q = 0 := by simp [Pr.DS, Pr.P, h]

theorem mul_delta {hs : List ℕ} (H : Pr.Rows 128 hs q0) :
    mulf (F := Ideal) (φ := .f32) (WR 1 256 q0 (up1 fun q => ∑ d ∈ range 128, p.D q d * p.O hs d q)) (kc S1x256 ((1 / 256 : ℝ) : EReal))
    = WR 1 256 q0 (up1 p.Df) := by
  funext i
  show ((∑ d ∈ range 128, p.D (q0 + (i 1).val) d * p.O hs d (q0 + (i 1).val) : ℝ) : EReal) * ((1 / 256 : ℝ) : EReal)
    = ((p.Df (q0 + (i 1).val) : ℝ) : EReal)
  rw [coe_mul, Pr.Df]
  refine congrArg _ (congrArg (· * (1 / 256 : ℝ)) (Finset.sum_congr rfl fun d _ => congrArg _ ?_))
  exact H _ (Nat.le_add_right _ _) (Nat.add_lt_add_left (i 1).isLt _) (fun k => p.V k d * p.P8 k _)
    (fun k hk => by simp [P8_off p hk])

theorem sub_dp : subf (F := Ideal) (φ := .f32) (W2 256 256 k0 q0 (up p.DP)) (WR 256 256 q0 (up1 p.Df))
    = W2 256 256 k0 q0 (up fun k q => p.DP k q - p.Df q) := funext fun _ => coe_sub _ _
theorem mul_ds : mulf (F := Ideal) (φ := .f32) (W2 256 256 k0 q0 (up p.P)) (W2 256 256 k0 q0 (up fun k q => p.DP k q - p.Df q))
    = W2 256 256 k0 q0 (up p.DS) := funext fun _ => coe_mul _ _

theorem mul_dq {ls : List ℕ} (H : Pr.Rows 256 ls q0) :
    mulf (F := Ideal) (φ := .f32) (W2 128 256 0 q0 (up (p.G ls))) (kc S128x256 ((p.s1 : ℝ) : EReal))
    = W2 128 256 0 q0 (up fun d q => p.DQ q d) := by
  funext i
  show ((p.G ls (0 + (i 0).val) (q0 + (i 1).val) : ℝ) : EReal) * ((p.s1 : ℝ) : EReal) = ((p.DQ _ _ : ℝ) : EReal)
  rw [coe_mul, Pr.DQ]
  refine congrArg _ (congrArg (· * p.s1) ?_)
  exact H _ (Nat.le_add_right _ _) (Nat.add_lt_add_left (i 1).isLt _) (fun k => p.K k _ * p.DS k _)
    (fun k hk => by simp [DS_off p hk])

theorem acc_step (X : ℕ → ℕ → ℕ → ℝ) (n : ℕ) (hk : Pr.tk n = k0) (hq : Pr.tq n = q0) :
    addf (F := Ideal) (φ := .f32) (W2 256 128 k0 0 (up (Pr.acc X n))) (W2 256 128 k0 0 (up (X q0)))
    = W2 256 128 k0 0 (up (Pr.acc X (n + 1))) := by
  funext i
  show ((Pr.acc X n _ _ : ℝ) : EReal) + ((X q0 _ _ : ℝ) : EReal) = ((Pr.acc X (n + 1) _ _ : ℝ) : EReal)
  rw [coe_add, Pr.acc, hk, hq, if_pos ⟨Nat.le_add_right _ _, Nat.add_lt_add_left (i 0).isLt _⟩]

theorem mul_dk : mulf (F := Ideal) (φ := .f32) (W2 2048 128 0 0 (up (Pr.acc p.KT 30))) (kc S2048x128 ((p.s2 : ℝ) : EReal))
    = W2 2048 128 0 0 (up p.DK) := funext fun _ => coe_mul _ _
theorem mul_dv : mulf (F := Ideal) (φ := .f32) (W2 2048 128 0 0 (up (Pr.acc p.VT 30))) (kc S2048x128 ((p.s3 : ℝ) : EReal))
    = W2 2048 128 0 0 (up p.DV) := funext fun _ => coe_mul _ _

/-! ## Masks -/

/-- Every key of the tile is visible to every query. -/
theorem full (h1 : k0 + 255 ≤ q0) (h2 : q0 + 255 < k0 + 1000) : W2 256 256 k0 q0 (up p.S) = W2 256 256 k0 q0 p.uMS :=
  W2_ext fun a b ha hb => by
    show ((p.S _ _ : ℝ) : EReal) = p.uMS _ _
    rw [Pr.uMS, if_pos ⟨by omega, by omega⟩]

theorem diff_toInt (a b : ℕ) (ha : a < 256) (hb : b < 256) : (BitVec.ofNat 32 a - BitVec.ofNat 32 b).toInt = (a : ℤ) - b := by
  rw [BitVec.toInt_sub, BitVec.toInt_ofNat', BitVec.toInt_ofNat']
  rw [Int.bmod_eq_of_le (n := (a : ℤ)) (by omega) (by omega), Int.bmod_eq_of_le (n := (b : ℤ)) (by omega) (by omega)]
  exact Int.bmod_eq_of_le (by omega) (by omega)

theorem pay50_at (i : S256x256.Idx) : k0_pay50 i = BitVec.ofNat 32 (i 0).val - BitVec.ofNat 32 (i 1).val := by
  show iota .tc S256x256 32 [0] iota_S256x256_d0_w32 i - iota .tc S256x256 32 [1] iota_S256x256_d1_w32 i = _
  rw [iota_single_apply, iota_single_apply]

theorem mask_le (n : BitVec 32) (hn : n.toInt = (q0 : ℤ) - k0) (h2 : q0 + 255 < k0 + 1000) :
    select (cmpi .sle k0_pay50 (broadcast S256x256 n)) (W2 256 256 k0 q0 (up p.S)) (kc S256x256 ⊥) = W2 256 256 k0 q0 p.uMS := by
  funext i
  have ha : (i 0).val < 256 := (i 0).isLt
  have hb : (i 1).val < 256 := (i 1).isLt
  show Scalar.select (IntOp.cmpi .sle (k0_pay50 i) n) ((p.S _ _ : ℝ) : EReal) ⊥ = p.uMS (k0 + (i 0).val) (q0 + (i 1).val)
  rw [pay50_at]
  have e : IntOp.cmpi .sle (BitVec.ofNat 32 (i 0).val - BitVec.ofNat 32 (i 1).val) n
      = BitVec.ofBool (decide (vis (k0 + (i 0).val) (q0 + (i 1).val))) := by
    show BitVec.ofBool (BitVec.sle _ _) = _
    rw [BitVec.sle_eq_decide, diff_toInt _ _ ha hb, hn]
    congr 1
    exact decide_eq_decide.2 ⟨fun h => ⟨by omega, by omega⟩, fun h => by have := h.1; omega⟩
  rw [e, Pr.uMS]
  by_cases hv : vis (k0 + (i 0).val) (q0 + (i 1).val) <;> simp [hv, Scalar.select]

theorem mask_gt (n : BitVec 32) (hn : n.toInt = (q0 : ℤ) - k0 - 1000) (h2 : k0 + 255 ≤ q0) :
    select (cmpi .sgt k0_pay50 (broadcast S256x256 n)) (W2 256 256 k0 q0 (up p.S)) (kc S256x256 ⊥) = W2 256 256 k0 q0 p.uMS := by
  funext i
  have ha : (i 0).val < 256 := (i 0).isLt
  have hb : (i 1).val < 256 := (i 1).isLt
  show Scalar.select (IntOp.cmpi .sgt (k0_pay50 i) n) ((p.S _ _ : ℝ) : EReal) ⊥ = p.uMS (k0 + (i 0).val) (q0 + (i 1).val)
  rw [pay50_at]
  have e : IntOp.cmpi .sgt (BitVec.ofNat 32 (i 0).val - BitVec.ofNat 32 (i 1).val) n
      = BitVec.ofBool (decide (vis (k0 + (i 0).val) (q0 + (i 1).val))) := by
    show BitVec.ofBool (BitVec.slt _ _) = _
    rw [BitVec.slt_eq_decide, diff_toInt _ _ ha hb, hn]
    congr 1
    exact decide_eq_decide.2 ⟨fun h => ⟨by omega, by omega⟩, fun h => by have := h.2; omega⟩
  rw [e, Pr.uMS]
  by_cases hv : vis (k0 + (i 0).val) (q0 + (i 1).val) <;> simp [hv, Scalar.select]

end Elem
end Cert.KernelIdeal.Attn
-- ==== Proof.Reads.lean ====
/-
  What a load reads of the stores before it, on windows; and that each query block's tiles hold its visible keys.
-/
module

public import proofs.«01_k».proof.Proof.Ops

@[expose] public section

noncomputable section

namespace Cert.KernelIdeal.Attn

open Idealize.ShloMosaic Cert.KernelIdeal Cert.KernelIdeal.Gen
open scoped BigOperators
open Finset (range)

theorem tiles_sum (w a : ℕ) (g : ℕ → ℝ) (n : ℕ) :
    (((List.range n).map fun t => a + w * t).map fun t => ∑ x ∈ range w, g (t + x)).sum = ∑ k ∈ range (w * n), g (a + k) := by
  induction n with
  | zero => simp
  | succ n ih =>
    rw [List.range_succ, List.map_append, List.map_append, List.sum_append, ih, Nat.mul_succ, Finset.sum_range_add]
    simp [Nat.add_assoc]

theorem rows_of {w a n q0 : ℕ} {ls : List ℕ} (hl : ls = (List.range n).map fun t => a + w * t) (ha : a ≤ q0 - 999)
    (hn : q0 + 256 ≤ a + w * n) (hq0 : q0 + 256 ≤ 2048) : Pr.Rows w ls q0 := by
  intro q h1 h2 g hg
  rw [hl, tiles_sum]
  have e1 : ∀ M, q + 1 ≤ M → ∑ k ∈ range M, g k = ∑ k ∈ range (q + 1), g k := by
    intro M hM
    refine (Finset.sum_subset (fun x hx => ?_) fun x _ hx => hg x fun hv => hx ?_).symm
    · simp only [Finset.mem_range] at hx ⊢; omega
    · simp only [Finset.mem_range]; have := hv.1; omega
  have e2 : ∑ k ∈ range a, g k = 0 := Finset.sum_eq_zero fun k hk => hg k fun hv => by
    have := Finset.mem_range.1 hk; have := hv.2; omega
  have e3 := Finset.sum_range_add g a (w * n)
  rw [e2, zero_add] at e3
  rw [← e3, e1 _ (by omega), e1 2048 (by omega)]

/-! ## Loads -/

section Reads
variable {sig : RefSig} {κ : Kind} {sp : Space} {e : EltTy}

theorem read2 {M N m n r c r' c' a b : ℕ} {G : ℕ → ℕ → Elt Ideal e}
    (v : View sig κ sp (⟨2, ![M, N]⟩ : Shape) e) (L : List (View.Piece (Elt Ideal) (⟨2, ![M, N]⟩ : Shape) e))
    (hL : View.canon L = fun i => G (r + (i 0).val) (c + (i 1).val)) (inb) (hr : r' = r + a) (hc : c' = c + b) :
    v.readCov L (Rect.unit (s := ⟨2, ![M, N]⟩) ![a, b] ![m, n] inb).toLoadRect = fun i => G (r' + (i 0).val) (c' + (i 1).val) := by
  rw [View.readCov_eq_canon', hL]
  subst hr hc
  funext i
  show G (r + (a + 1 * (i 0).val)) (c + (b + 1 * (i 1).val)) = _
  congr 1
  · omega
  · omega

theorem read3 {M N m n r c r' c' a b : ℕ} {G : ℕ → ℕ → Elt Ideal e}
    (v : View sig κ sp (⟨3, ![1, M, N]⟩ : Shape) e) (L : List (View.Piece (Elt Ideal) (⟨3, ![1, M, N]⟩ : Shape) e))
    (hL : View.canon L = fun i => G (r + (i 1).val) (c + (i 2).val)) (inb) (hr : r' = r + a) (hc : c' = c + b) :
    v.readCov L (Rect.unit (s := ⟨3, ![1, M, N]⟩) ![0, a, b] ![1, m, n] inb).toLoadRect = fun i => G (r' + (i 1).val) (c' + (i 2).val) := by
  rw [View.readCov_eq_canon', hL]
  subst hr hc
  funext i
  show G (r + (a + 1 * (i 1).val)) (c + (b + 1 * (i 2).val)) = _
  congr 1
  · omega
  · omega

theorem skip4 {s t s' t' u w m n m' n' : ℕ} (v : View sig κ sp S2x5x256x256 e) (L : List (View.Piece (Elt Ideal) S2x5x256x256 e))
    (inb inb' x) (h : s ≠ s' ∨ t ≠ t') :
    v.readCov (⟨Rect.unit (s := S2x5x256x256) ![s, t, 0, 0] ![1, 1, m', n'] inb, x⟩ :: L)
      (Rect.unit (s := S2x5x256x256) ![s', t', u, w] ![1, 1, m, n] inb').toLoadRect
    = v.readCov L (Rect.unit (s := S2x5x256x256) ![s', t', u, w] ![1, 1, m, n] inb').toLoadRect := by
  rw [View.readCov_eq_canon', View.readCov_eq_canon']
  funext j
  refine View.canon_cons_of_not_mem _ _ ?_
  rw [Rect.mem_set_unit]
  intro hm
  have h0 := hm 0
  have h1 := hm 1
  have j0 : (j 0).val < 1 := (j 0).isLt
  have j1 : (j 1).val < 1 := (j 1).isLt
  have a0 : s ≤ s' + 1 * (j 0).val ∧ s' + 1 * (j 0).val < s + 1 := h0
  have a1 : t ≤ t' + 1 * (j 1).val ∧ t' + 1 * (j 1).val < t + 1 := h1
  omega

theorem half4 {s t u r r' c : ℕ} {G : ℕ → ℕ → Elt Ideal e} (v : View sig κ sp S2x5x256x256 e)
    (L : List (View.Piece (Elt Ideal) S2x5x256x256 e)) (inb inb' x)
    (hx : x = fun i => G (r + (i 2).val) (c + (i 3).val)) (hr : r' = r + u) (hu : u + 128 ≤ 256) :
    v.readCov (⟨Rect.unit (s := S2x5x256x256) ![s, t, 0, 0] S1x1x256x256.size inb, x⟩ :: L)
      (Rect.unit (s := S2x5x256x256) ![s, t, u, 0] S1x1x128x256.size inb').toLoadRect
    = fun i => G (r' + (i 2).val) (c + (i 3).val) := by
  rw [View.readCov_eq_canon']
  subst hr hx
  funext j
  have j0 : (j 0).val < 1 := (j 0).isLt
  have j1 : (j 1).val < 1 := (j 1).isLt
  have j2 : (j 2).val < 128 := (j 2).isLt
  have e : (Rect.unit (s := S2x5x256x256) ![s, t, u, 0] S1x1x128x256.size inb').toLoadRect.idx j
      = (Rect.unit (s := S2x5x256x256) ![s, t, 0, 0] S1x1x256x256.size inb).emb (ix4 0 0 ⟨u + (j 2).val, by omega⟩ (j 3)) := by
    funext a
    apply Fin.ext
    match a with
    | ⟨0, _⟩ => show s + 1 * (j 0).val = s + 1 * 0; omega
    | ⟨1, _⟩ => show t + 1 * (j 1).val = t + 1 * 0; omega
    | ⟨2, _⟩ => show u + 1 * (j 2).val = 0 + 1 * (u + (j 2).val); omega
    | ⟨3, _⟩ => rfl
  rw [e, View.canon_cons_emb]
  congr 1
  show r + (u + (j 2).val) = r + u + (j 2).val
  omega

/-- A load of rows of a block without its unit axis. -/
theorem along {M m N r c r' k0 : ℕ} {G : ℕ → ℕ → Elt Ideal e}
    (v : View sig κ sp (⟨3, ![1, M, N]⟩ : Shape) e) (L : List (View.Piece (Elt Ideal) (⟨3, ![1, M, N]⟩ : Shape) e))
    (hL : View.canon L = fun i => G (r + (i 1).val) (c + (i 2).val)) (inb inb' h0 hs hw)
    (h) (hr : r' = r + k0) :
    LoadRect.valAlong (lr := (Rect.unit (s := ⟨2, ![M, N]⟩) ![k0, 0] ![m, N] inb').toLoadRect) h
      (v.readCov L ((Rect.unit (s := ⟨3, ![1, M, N]⟩) ![0, 0, 0] ![1, M, N] inb).withinL
        ((Rect.unit (s := ⟨2, ![M, N]⟩) ![k0, 0] ![m, N] inb').toLoadRect.consLift ![1, M, N] h0 hs) hw))
    = fun i => G (r' + (i 0).val) (c + (i 1).val) := by
  rw [View.readCov_eq_canon', hL]
  subst hr
  funext i
  have hx : Shape.reshapeEquiv h i = Fin.cons ⟨0, Nat.one_pos⟩ i := Shape.reshapeEquiv_cons_one (d := ![m, N]) _ _
  show (fun j => (fun i : (⟨3, ![1, M, N]⟩ : Shape).Idx => G (r + (i 1).val) (c + (i 2).val)) (LoadRect.idx _ j)) (Shape.reshapeEquiv h i) = _
  rw [hx]
  show G (r + ((0 + k0) + 1 * (i 0).val)) (c + ((0 + 0) + 1 * (i 1).val)) = _
  congr 1
  · omega
  · omega

theorem put2 {k0 n : ℕ} (X : ℕ → ℕ → ℕ → ℝ) (L : List (View.Piece (Elt Ideal) S2080x128 .f32))
    (hL : View.canon L = W2 2080 128 0 0 (up (Pr.acc X n))) (inb x) (hx : x = W2 256 128 k0 0 (up (Pr.acc X (n + 1)))) (hk : Pr.tk n = k0) :
    View.canon ((⟨Rect.unit (s := S2080x128) ![k0, 0] S256x128.size inb, x⟩ : View.Piece (Elt Ideal) S2080x128 .f32) :: L)
      = W2 2080 128 0 0 (up (Pr.acc X (n + 1))) := by
  funext y
  by_cases hy : k0 ≤ (y 0).val ∧ (y 0).val < k0 + 256
  · have e : y = (Rect.unit (s := S2080x128) ![k0, 0] S256x128.size inb).emb (ix2 ⟨(y 0).val - k0, by omega⟩ (y 1)) := by
      funext a
      apply Fin.ext
      match a with
      | ⟨0, _⟩ => show (y 0).val = k0 + 1 * ((y 0).val - k0); omega
      | ⟨1, _⟩ => show (y 1).val = 0 + 1 * (y 1).val; omega
    conv_lhs => rw [e]
    rw [View.canon_cons_emb, hx]
    show up (Pr.acc X (n + 1)) (k0 + ((y 0).val - k0)) (0 + (y 1).val) = up (Pr.acc X (n + 1)) (0 + (y 0).val) (0 + (y 1).val)
    congr 1; omega
  · rw [View.canon_cons_of_not_mem, hL]
    · show ((Pr.acc X n (0 + (y 0).val) _ : ℝ) : EReal) = ((Pr.acc X (n + 1) (0 + (y 0).val) _ : ℝ) : EReal)
      rw [Pr.acc, hk, if_neg (by rwa [Nat.zero_add]), add_zero]
    · rw [Rect.mem_set_unit]
      intro hm
      have h0 : k0 ≤ (y 0).val ∧ (y 0).val < k0 + 256 := hm 0
      exact hy h0

end Reads
end Cert.KernelIdeal.Attn
-- ==== Proof.Own.WordRuns.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Own

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c))⟩) h

/-! ## The kernel body on any staging memrefs: a subtype the run finds -/

/-- Each window's current staging memref at point `t`, spelled as the pipeline passes it (`bodyAt0`), and its wholeness. -/
abbrev ms0_0 (t : Fin cfg0.N) : Memref sig .tc .vmem S1x2048x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2048x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2048x128 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2048x128 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x2048x128 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x2048x128 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x2048x128 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x2048x128 .fp8e5m2 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .smem S9x8 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .smem S9x8 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .smem S9x8 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .smem S9x8 .f32 := win0_14.stage (cfg0.slots t 14)
abbrev hs0_14 (t : Fin cfg0.N) : (ms0_14 t).IsWhole := hstage0_14 ((cfg0.slots t 14).cast nbuf0_14)
/-- The scratch operands: whole scoped buffers of the kernel's own, passed beside the windows. -/
abbrev scM0_0 : Memref sig .tc .vmem S2048x128 .bf16 := Memref.whole cc0_scratch0
abbrev scM0_1 : Memref sig .tc .vmem S128x1024 .bf16 := Memref.whole cc0_scratch1
abbrev scM0_2 : Memref sig .tc .vmem S128x1024 .fp8e4m3 := Memref.whole cc0_scratch2
abbrev scM0_3 : Memref sig .tc .vmem S128x2048 .bf16 := Memref.whole cc0_scratch3
abbrev scM0_4 : Memref sig .tc .vmem S2080x128 .f32 := Memref.whole cc0_scratch4
abbrev scM0_5 : Memref sig .tc .vmem S2080x128 .f32 := Memref.whole cc0_scratch5
abbrev scM0_6 : Memref sig .tc .vmem S2x5x256x256 .f32 := Memref.whole cc0_scratch6
abbrev scM0_7 : Memref sig .tc .vmem S2x5x256x256 .fp8e4m3 := Memref.whole cc0_scratch7
abbrev scM0_8 : Memref sig .tc .vmem S2080x128 .f32 := Memref.whole cc0_scratch8
abbrev scM0_9 : Memref sig .tc .vmem S2048x128 .fp8e4m3 := Memref.whole cc0_scratch9
abbrev scM0_10 : Memref sig .tc .vmem S2048x128 .fp8e4m3 := Memref.whole cc0_scratch10
abbrev scM0_11 : Memref sig .tc .vmem S128x2048 .bf16 := Memref.whole cc0_scratch11
abbrev scM0_12 : Memref sig .tc .vmem S128x2048 .fp8e4m3 := Memref.whole cc0_scratch12

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d) ∗ (∃ d, owns (c : Thread nD τ) scM0_11 fullShare d) ∗ (∃ d, owns (c : Thread nD τ) scM0_12 fullShare d)) ∗ (∃ r, prngReg c r)) := by
  unfold Pipeline.ΦA; rw [scopedRest0_eq]; simp only [scM0_0, scM0_1, scM0_2, scM0_3, scM0_4, scM0_5, scM0_6, scM0_7, scM0_8, scM0_9, scM0_10, scM0_11, scM0_12, owns_whole]; try rfl

end Cert.Kernel.Own

end
-- ==== Proof.Own.WordRunA.lean ====
module

public import proofs.«01_k».proof.Proof.Own.WordRuns

@[expose] public section

-- membership in a rectangle of production extents (`View.cover_of_tiled`): the elaborator's structural look
-- recurses once per coordinate of the long axes
set_option maxRecDepth 16384

noncomputable section

namespace Cert.Kernel.Own

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 5716000 in set_option sl_exec.squeezeSlice true in
/-- The body's triple: on whole staging memrefs — the inputs' at their contents,
    the FORGOTTEN outputs' (4, 5, 6, 7, 8, 9, 10, 11, 12, 13, 14) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x2048x128 .bf16) (harg6 : arg6.IsWhole) (arg7 : Memref sig .tc .vmem S1x2048x128 .bf16) (harg7 : arg7.IsWhole) (arg8 : Memref sig .tc .vmem S1x2048x128 .bf16) (harg8 : arg8.IsWhole) (arg9 : Memref sig .tc .vmem S1x2048x128 .fp8e4m3) (harg9 : arg9.IsWhole) (arg10 : Memref sig .tc .vmem S1x2048x128 .fp8e4m3) (harg10 : arg10.IsWhole) (arg11 : Memref sig .tc .vmem S1x2048x128 .fp8e4m3) (harg11 : arg11.IsWhole) (arg12 : Memref sig .tc .vmem S1x2048x128 .fp8e5m2) (harg12 : arg12.IsWhole) (arg13 : Memref sig .tc .smem S9x8 .f32) (harg13 : arg13.IsWhole) (arg14 : Memref sig .tc .smem S9x8 .f32) (harg14 : arg14.IsWhole) (arg15 : Memref sig .tc .smem S9x8 .f32) (harg15 : arg15.IsWhole) (arg16 : Memref sig .tc .smem S9x8 .f32) (harg16 : arg16.IsWhole) (arg17 : Memref sig .tc .vmem S2048x128 .bf16) (harg17 : arg17.IsWhole) (arg18 : Memref sig .tc .vmem S128x1024 .bf16) (harg18 : arg18.IsWhole) (arg19 : Memref sig .tc .vmem S128x1024 .fp8e4m3) (harg19 : arg19.IsWhole) (arg20 : Memref sig .tc .vmem S128x2048 .bf16) (harg20 : arg20.IsWhole) (arg21 : Memref sig .tc .vmem S2080x128 .f32) (harg21 : arg21.IsWhole) (arg22 : Memref sig .tc .vmem S2080x128 .f32) (harg22 : arg22.IsWhole) (arg23 : Memref sig .tc .vmem S2x5x256x256 .f32) (harg23 : arg23.IsWhole) (arg24 : Memref sig .tc .vmem S2x5x256x256 .fp8e4m3) (harg24 : arg24.IsWhole) (arg25 : Memref sig .tc .vmem S2080x128 .f32) (harg25 : arg25.IsWhole) (arg26 : Memref sig .tc .vmem S2048x128 .fp8e4m3) (harg26 : arg26.IsWhole) (arg27 : Memref sig .tc .vmem S2048x128 .fp8e4m3) (harg27 : arg27.IsWhole) (arg28 : Memref sig .tc .vmem S128x2048 .bf16) (harg28 : arg28.IsWhole) (arg29 : Memref sig .tc .vmem S128x2048 .fp8e4m3) (harg29 : arg29.IsWhole)
    (x0 : Vec F S1x2048x128 .bf16) (x1 : Vec F S1x2048x128 .bf16) (x2 : Vec F S1x2048x128 .bf16) (x3 : Vec F S1x2048x128 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)) -∗ K ⟨⟩))
          ⊢ wp frame (wpE (defs₀ (F := F)) Variants.none c none) E (cc0_swa_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K := by
    intro E K
    simp only [cc0_swa_bwd_eq_skeleton]; unfold cc0_swa_bwd_skel
    simp only [k0_part93_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, ⟨%ds10, %fs10, -, HS10⟩, ⟨%ds11, %fs11, -, HS11⟩, ⟨%ds12, %fs12, -, HS12⟩, Hk⟩
    obtain rfl := harg2.eq_unread hf0; obtain rfl := harg3.eq_unread hf1; obtain rfl := harg4.eq_unread hf2; obtain rfl := harg5.eq_unread hf3
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    isplitl [HS8]
    · iexists _, _; isplitr; swap; · iexact HS8
      ipureintro; rfl
    isplitl [HS9]
    · iexists _, _; isplitr; swap; · iexact HS9
      ipureintro; rfl
    isplitl [HS10]
    · iexists _, _; isplitr; swap; · iexact HS10
      ipureintro; rfl
    isplitl [HS11]
    · iexists _, _; isplitr; swap; · iexact HS11
      ipureintro; rfl
    iexists _, _; isplitr; swap; · iexact HS12
    ipureintro; rfl

end Cert.Kernel.Own

end
-- ==== Proof.Own.WordFrame.lean ====
module

public import proofs.«01_k».proof.Proof.Own.WordRunA
public import Idealize.ShloMosaic.Lib.Claim

@[expose] public section

-- membership in a rectangle of production extents (`View.cover_of_tiled`): the elaborator's structural look
-- recurses once per coordinate of the long axes
set_option maxRecDepth 16384

noncomputable section

namespace Cert.Kernel.Own

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (4, 5, 6, 7, 8, 9, 10, 11, 12, 13, 14): nothing reads what the kernel leaves in them, so nothing
    of it is named (Lib/Pipeline/Dat.lean `Dat.toRForget`). -/
def forgets0 : Fin 15 → Bool := fun w => w.val == 4 || w.val == 5 || w.val == 6 || w.val == 7 || w.val == 8 || w.val == 9 || w.val == 10 || w.val == 11 || w.val == 12 || w.val == 13 || w.val == 14

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d))

set_option maxHeartbeats 2800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  iintro ⟨⟨⟨HS0, HS1, HS2, HS3, HS4, HS5, HS6, HS7, HS8, HS9, HS10, HS11, HS12⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t)) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  isplitl [HS12]; · iexact HS12
  iintro ⟨H0, H1, H2, H3, H4, H5, H6, H7, H8, H9, H10, H11, H12, H13, H14, HS0, HS1, HS2, HS3, HS4, HS5, HS6, HS7, HS8, HS9, HS10, HS11, HS12⟩
  isplitl [HS0 HS1 HS2 HS3 HS4 HS5 HS6 HS7 HS8 HS9 HS10 HS11 HS12 Hg]
  · isplitl [HS0 HS1 HS2 HS3 HS4 HS5 HS6 HS7 HS8 HS9 HS10 HS11 HS12]
    · isplitl [HS0]
      · iexact HS0
      isplitl [HS1]
      · iexact HS1
      isplitl [HS2]
      · iexact HS2
      isplitl [HS3]
      · iexact HS3
      isplitl [HS4]
      · iexact HS4
      isplitl [HS5]
      · iexact HS5
      isplitl [HS6]
      · iexact HS6
      isplitl [HS7]
      · iexact HS7
      isplitl [HS8]
      · iexact HS8
      isplitl [HS9]
      · iexact HS9
      isplitl [HS10]
      · iexact HS10
      isplitl [HS11]
      · iexact HS11
      iexact HS12
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 4, 5, 6, 7, 8, 9, 10, 11, 12, 13, 14) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel.Own

end
-- ==== Proof.Own.IdealRuns.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Own

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c))⟩) h

/-! ## The kernel body on any staging memrefs: a subtype the run finds -/

/-- One staging buffer of output window 4, through which its contents are stated (`View.read_writes_of_cover`: the
    choice does not matter). -/
abbrev VO0_4 : View sig .tc .vmem S1x2048x128 .bf16 := (Memref.whole cc0_stg4_0 : Memref sig .tc .vmem S1x2048x128 .bf16).view
/-- One staging buffer of output window 5, through which its contents are stated (`View.read_writes_of_cover`: the
    choice does not matter). -/
abbrev VO0_5 : View sig .tc .vmem S1x2048x128 .bf16 := (Memref.whole cc0_stg5_0 : Memref sig .tc .vmem S1x2048x128 .bf16).view
/-- One staging buffer of output window 6, through which its contents are stated (`View.read_writes_of_cover`: the
    choice does not matter). -/
abbrev VO0_6 : View sig .tc .vmem S1x2048x128 .bf16 := (Memref.whole cc0_stg6_0 : Memref sig .tc .vmem S1x2048x128 .bf16).view
/-- Each window's current staging memref at point `t`, spelled as the pipeline passes it (`bodyAt0`), and its wholeness. -/
abbrev ms0_0 (t : Fin cfg0.N) : Memref sig .tc .vmem S1x2048x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2048x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2048x128 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2048x128 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x2048x128 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x2048x128 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x2048x128 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x2048x128 .fp8e5m2 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .smem S9x8 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .smem S9x8 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .smem S9x8 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .smem S9x8 .f32 := win0_14.stage (cfg0.slots t 14)
abbrev hs0_14 (t : Fin cfg0.N) : (ms0_14 t).IsWhole := hstage0_14 ((cfg0.slots t 14).cast nbuf0_14)
/-- The scratch operands: whole scoped buffers of the kernel's own, passed beside the windows. -/
abbrev scM0_0 : Memref sig .tc .vmem S2048x128 .bf16 := Memref.whole cc0_scratch0
abbrev scM0_1 : Memref sig .tc .vmem S128x1024 .bf16 := Memref.whole cc0_scratch1
abbrev scM0_2 : Memref sig .tc .vmem S128x1024 .fp8e4m3 := Memref.whole cc0_scratch2
abbrev scM0_3 : Memref sig .tc .vmem S128x2048 .bf16 := Memref.whole cc0_scratch3
abbrev scM0_4 : Memref sig .tc .vmem S2080x128 .f32 := Memref.whole cc0_scratch4
abbrev scM0_5 : Memref sig .tc .vmem S2080x128 .f32 := Memref.whole cc0_scratch5
abbrev scM0_6 : Memref sig .tc .vmem S2x5x256x256 .f32 := Memref.whole cc0_scratch6
abbrev scM0_7 : Memref sig .tc .vmem S2x5x256x256 .fp8e4m3 := Memref.whole cc0_scratch7
abbrev scM0_8 : Memref sig .tc .vmem S2080x128 .f32 := Memref.whole cc0_scratch8
abbrev scM0_9 : Memref sig .tc .vmem S2048x128 .fp8e4m3 := Memref.whole cc0_scratch9
abbrev scM0_10 : Memref sig .tc .vmem S2048x128 .fp8e4m3 := Memref.whole cc0_scratch10
abbrev scM0_11 : Memref sig .tc .vmem S128x2048 .bf16 := Memref.whole cc0_scratch11
abbrev scM0_12 : Memref sig .tc .vmem S128x2048 .fp8e4m3 := Memref.whole cc0_scratch12

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d) ∗ (∃ d, owns (c : Thread nD τ) scM0_11 fullShare d) ∗ (∃ d, owns (c : Thread nD τ) scM0_12 fullShare d)) ∗ (∃ r, prngReg c r)) := by
  unfold Pipeline.ΦA; rw [scopedRest0_eq]; simp only [scM0_0, scM0_1, scM0_2, scM0_3, scM0_4, scM0_5, scM0_6, scM0_7, scM0_8, scM0_9, scM0_10, scM0_11, scM0_12, owns_whole]; try rfl

end Cert.KernelIdeal.Own

end
-- ==== Proof.Own.IdealRunA.lean ====
module

public import proofs.«01_k».proof.Proof.Own.IdealRuns

@[expose] public section

-- membership in a rectangle of production extents (`View.cover_of_tiled`): the elaborator's structural look
-- recurses once per coordinate of the long axes
set_option maxRecDepth 16384

noncomputable section

namespace Cert.KernelIdeal.Own

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 5716000 in set_option sl_exec.squeezeSlice true in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean); the pieces are
    the witness that run finds (assigned when `iexact` hands the buffer to the continuation). Here also the FORGOTTEN outputs' (7, 8, 9, 10, 11, 12, 13, 14) at anything, handed back at some contents nothing names. -/
noncomputable def kernelRun0_A (c : Dev nD) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x2048x128 .bf16) (harg6 : arg6.IsWhole) (arg7 : Memref sig .tc .vmem S1x2048x128 .bf16) (harg7 : arg7.IsWhole) (arg8 : Memref sig .tc .vmem S1x2048x128 .bf16) (harg8 : arg8.IsWhole) (arg9 : Memref sig .tc .vmem S1x2048x128 .fp8e4m3) (harg9 : arg9.IsWhole) (arg10 : Memref sig .tc .vmem S1x2048x128 .fp8e4m3) (harg10 : arg10.IsWhole) (arg11 : Memref sig .tc .vmem S1x2048x128 .fp8e4m3) (harg11 : arg11.IsWhole) (arg12 : Memref sig .tc .vmem S1x2048x128 .fp8e5m2) (harg12 : arg12.IsWhole) (arg13 : Memref sig .tc .smem S9x8 .f32) (harg13 : arg13.IsWhole) (arg14 : Memref sig .tc .smem S9x8 .f32) (harg14 : arg14.IsWhole) (arg15 : Memref sig .tc .smem S9x8 .f32) (harg15 : arg15.IsWhole) (arg16 : Memref sig .tc .smem S9x8 .f32) (harg16 : arg16.IsWhole) (arg17 : Memref sig .tc .vmem S2048x128 .bf16) (harg17 : arg17.IsWhole) (arg18 : Memref sig .tc .vmem S128x1024 .bf16) (harg18 : arg18.IsWhole) (arg19 : Memref sig .tc .vmem S128x1024 .fp8e4m3) (harg19 : arg19.IsWhole) (arg20 : Memref sig .tc .vmem S128x2048 .bf16) (harg20 : arg20.IsWhole) (arg21 : Memref sig .tc .vmem S2080x128 .f32) (harg21 : arg21.IsWhole) (arg22 : Memref sig .tc .vmem S2080x128 .f32) (harg22 : arg22.IsWhole) (arg23 : Memref sig .tc .vmem S2x5x256x256 .f32) (harg23 : arg23.IsWhole) (arg24 : Memref sig .tc .vmem S2x5x256x256 .fp8e4m3) (harg24 : arg24.IsWhole) (arg25 : Memref sig .tc .vmem S2080x128 .f32) (harg25 : arg25.IsWhole) (arg26 : Memref sig .tc .vmem S2048x128 .fp8e4m3) (harg26 : arg26.IsWhole) (arg27 : Memref sig .tc .vmem S2048x128 .fp8e4m3) (harg27 : arg27.IsWhole) (arg28 : Memref sig .tc .vmem S128x2048 .bf16) (harg28 : arg28.IsWhole) (arg29 : Memref sig .tc .vmem S128x2048 .fp8e4m3) (harg29 : arg29.IsWhole)
    (x0 : Vec F S1x2048x128 .bf16) (x1 : Vec F S1x2048x128 .bf16) (x2 : Vec F S1x2048x128 .bf16) (x3 : Vec F S1x2048x128 .bf16) :
    Σ' (L4 : List (View.Piece (Elt F) S1x2048x128 .bf16)), Σ' (L5 : List (View.Piece (Elt F) S1x2048x128 .bf16)), Σ' (L6 : List (View.Piece (Elt F) S1x2048x128 .bf16)), Σ' (LT0 : List (View.Piece (Elt F) S2048x128 .bf16)), Σ' (LT1 : List (View.Piece (Elt F) S128x1024 .bf16)), Σ' (LT2 : List (View.Piece (Elt F) S128x1024 .fp8e4m3)), Σ' (LT3 : List (View.Piece (Elt F) S128x2048 .bf16)), Σ' (LT4 : List (View.Piece (Elt F) S2080x128 .f32)), Σ' (LT5 : List (View.Piece (Elt F) S2080x128 .f32)), Σ' (LT6 : List (View.Piece (Elt F) S2x5x256x256 .f32)), Σ' (LT7 : List (View.Piece (Elt F) S2x5x256x256 .fp8e4m3)), Σ' (LT8 : List (View.Piece (Elt F) S2080x128 .f32)), Σ' (LT9 : List (View.Piece (Elt F) S2048x128 .fp8e4m3)), Σ' (LT10 : List (View.Piece (Elt F) S2048x128 .fp8e4m3)), Σ' (LT11 : List (View.Piece (Elt F) S128x2048 .bf16)), { LT12 : List (View.Piece (Elt F) S128x2048 .fp8e4m3) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ f, arg17.view.loc (c : Thread nD τ) ↦[arg17.view.set]{fullShare} arg17.view.writes (Elt F) f LT0) ∗ (∃ f, arg18.view.loc (c : Thread nD τ) ↦[arg18.view.set]{fullShare} arg18.view.writes (Elt F) f LT1) ∗ (∃ f, arg19.view.loc (c : Thread nD τ) ↦[arg19.view.set]{fullShare} arg19.view.writes (Elt F) f LT2) ∗ (∃ f, arg20.view.loc (c : Thread nD τ) ↦[arg20.view.set]{fullShare} arg20.view.writes (Elt F) f LT3) ∗ (∃ f, arg21.view.loc (c : Thread nD τ) ↦[arg21.view.set]{fullShare} arg21.view.writes (Elt F) f LT4) ∗ (∃ f, arg22.view.loc (c : Thread nD τ) ↦[arg22.view.set]{fullShare} arg22.view.writes (Elt F) f LT5) ∗ (∃ f, arg23.view.loc (c : Thread nD τ) ↦[arg23.view.set]{fullShare} arg23.view.writes (Elt F) f LT6) ∗ (∃ f, arg24.view.loc (c : Thread nD τ) ↦[arg24.view.set]{fullShare} arg24.view.writes (Elt F) f LT7) ∗ (∃ f, arg25.view.loc (c : Thread nD τ) ↦[arg25.view.set]{fullShare} arg25.view.writes (Elt F) f LT8) ∗ (∃ f, arg26.view.loc (c : Thread nD τ) ↦[arg26.view.set]{fullShare} arg26.view.writes (Elt F) f LT9) ∗ (∃ f, arg27.view.loc (c : Thread nD τ) ↦[arg27.view.set]{fullShare} arg27.view.writes (Elt F) f LT10) ∗ (∃ f, arg28.view.loc (c : Thread nD τ) ↦[arg28.view.set]{fullShare} arg28.view.writes (Elt F) f LT11) ∗ (∃ f, arg29.view.loc (c : Thread nD τ) ↦[arg29.view.set]{fullShare} arg29.view.writes (Elt F) f LT12)) -∗ K ⟨⟩))
          ⊢ wp frame (wpE (defs₀ (F := F)) Variants.none c none) E (cc0_swa_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K } := by
  refine ⟨?_, ?_, ?_, ?_, ?_, ?_, ?_, ?_, ?_, ?_, ?_, ?_, ?_, ?_, ?_, ?_, fun E K => ?run⟩
  case run =>
    simp only [cc0_swa_bwd_eq_skeleton]; unfold cc0_swa_bwd_skel
    simp only [k0_part93_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, ⟨%ds10, %fs10, -, HS10⟩, ⟨%ds11, %fs11, -, HS11⟩, ⟨%ds12, %fs12, -, HS12⟩, Hk⟩
    obtain rfl := harg2.eq_unread hf0; obtain rfl := harg3.eq_unread hf1; obtain rfl := harg4.eq_unread hf2; obtain rfl := harg5.eq_unread hf3
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    isplitl [HS8]; · iexists _; iexact HS8
    isplitl [HS9]; · iexists _; iexact HS9
    isplitl [HS10]; · iexists _; iexact HS10
    isplitl [HS11]; · iexists _; iexact HS11
    iexists _; iexact HS12

end Cert.KernelIdeal.Own

end
-- ==== Proof.Own.IdealFrame.lean ====
module

public import proofs.«01_k».proof.Proof.Own.IdealRunA
public import Idealize.ShloMosaic.Lib.Claim

@[expose] public section

-- membership in a rectangle of production extents (`View.cover_of_tiled`): the elaborator's structural look
-- recurses once per coordinate of the long axes
set_option maxRecDepth 16384

noncomputable section

namespace Cert.KernelIdeal.Own

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 4 tile its block (8 stores of `S1x256x128`, checked by the kernel's evaluation: Lib/Ring.lean `Piece.tiledL`, linear in the pieces, through a loop's `@[irreducible]` trip theorem too), so they cover it. -/
theorem cover0_A_4 (c : Dev nD) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x2048x128 .bf16) (harg6 : arg6.IsWhole) (arg7 : Memref sig .tc .vmem S1x2048x128 .bf16) (harg7 : arg7.IsWhole) (arg8 : Memref sig .tc .vmem S1x2048x128 .bf16) (harg8 : arg8.IsWhole) (arg9 : Memref sig .tc .vmem S1x2048x128 .fp8e4m3) (harg9 : arg9.IsWhole) (arg10 : Memref sig .tc .vmem S1x2048x128 .fp8e4m3) (harg10 : arg10.IsWhole) (arg11 : Memref sig .tc .vmem S1x2048x128 .fp8e4m3) (harg11 : arg11.IsWhole) (arg12 : Memref sig .tc .vmem S1x2048x128 .fp8e5m2) (harg12 : arg12.IsWhole) (arg13 : Memref sig .tc .smem S9x8 .f32) (harg13 : arg13.IsWhole) (arg14 : Memref sig .tc .smem S9x8 .f32) (harg14 : arg14.IsWhole) (arg15 : Memref sig .tc .smem S9x8 .f32) (harg15 : arg15.IsWhole) (arg16 : Memref sig .tc .smem S9x8 .f32) (harg16 : arg16.IsWhole) (arg17 : Memref sig .tc .vmem S2048x128 .bf16) (harg17 : arg17.IsWhole) (arg18 : Memref sig .tc .vmem S128x1024 .bf16) (harg18 : arg18.IsWhole) (arg19 : Memref sig .tc .vmem S128x1024 .fp8e4m3) (harg19 : arg19.IsWhole) (arg20 : Memref sig .tc .vmem S128x2048 .bf16) (harg20 : arg20.IsWhole) (arg21 : Memref sig .tc .vmem S2080x128 .f32) (harg21 : arg21.IsWhole) (arg22 : Memref sig .tc .vmem S2080x128 .f32) (harg22 : arg22.IsWhole) (arg23 : Memref sig .tc .vmem S2x5x256x256 .f32) (harg23 : arg23.IsWhole) (arg24 : Memref sig .tc .vmem S2x5x256x256 .fp8e4m3) (harg24 : arg24.IsWhole) (arg25 : Memref sig .tc .vmem S2080x128 .f32) (harg25 : arg25.IsWhole) (arg26 : Memref sig .tc .vmem S2048x128 .fp8e4m3) (harg26 : arg26.IsWhole) (arg27 : Memref sig .tc .vmem S2048x128 .fp8e4m3) (harg27 : arg27.IsWhole) (arg28 : Memref sig .tc .vmem S128x2048 .bf16) (harg28 : arg28.IsWhole) (arg29 : Memref sig .tc .vmem S128x2048 .fp8e4m3) (harg29 : arg29.IsWhole)
    (x0 : Vec F S1x2048x128 .bf16) (x1 : Vec F S1x2048x128 .bf16) (x2 : Vec F S1x2048x128 .bf16) (x3 : Vec F S1x2048x128 .bf16) (y : S1x2048x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3).1 S1x256x128.size (by sl_kernel_rfl) y

/-- What the run leaves in output 4's staging buffer: its pieces read back over junk. -/
def out0_A_4 (c : Dev nD) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x2048x128 .bf16) (harg6 : arg6.IsWhole) (arg7 : Memref sig .tc .vmem S1x2048x128 .bf16) (harg7 : arg7.IsWhole) (arg8 : Memref sig .tc .vmem S1x2048x128 .bf16) (harg8 : arg8.IsWhole) (arg9 : Memref sig .tc .vmem S1x2048x128 .fp8e4m3) (harg9 : arg9.IsWhole) (arg10 : Memref sig .tc .vmem S1x2048x128 .fp8e4m3) (harg10 : arg10.IsWhole) (arg11 : Memref sig .tc .vmem S1x2048x128 .fp8e4m3) (harg11 : arg11.IsWhole) (arg12 : Memref sig .tc .vmem S1x2048x128 .fp8e5m2) (harg12 : arg12.IsWhole) (arg13 : Memref sig .tc .smem S9x8 .f32) (harg13 : arg13.IsWhole) (arg14 : Memref sig .tc .smem S9x8 .f32) (harg14 : arg14.IsWhole) (arg15 : Memref sig .tc .smem S9x8 .f32) (harg15 : arg15.IsWhole) (arg16 : Memref sig .tc .smem S9x8 .f32) (harg16 : arg16.IsWhole) (arg17 : Memref sig .tc .vmem S2048x128 .bf16) (harg17 : arg17.IsWhole) (arg18 : Memref sig .tc .vmem S128x1024 .bf16) (harg18 : arg18.IsWhole) (arg19 : Memref sig .tc .vmem S128x1024 .fp8e4m3) (harg19 : arg19.IsWhole) (arg20 : Memref sig .tc .vmem S128x2048 .bf16) (harg20 : arg20.IsWhole) (arg21 : Memref sig .tc .vmem S2080x128 .f32) (harg21 : arg21.IsWhole) (arg22 : Memref sig .tc .vmem S2080x128 .f32) (harg22 : arg22.IsWhole) (arg23 : Memref sig .tc .vmem S2x5x256x256 .f32) (harg23 : arg23.IsWhole) (arg24 : Memref sig .tc .vmem S2x5x256x256 .fp8e4m3) (harg24 : arg24.IsWhole) (arg25 : Memref sig .tc .vmem S2080x128 .f32) (harg25 : arg25.IsWhole) (arg26 : Memref sig .tc .vmem S2048x128 .fp8e4m3) (harg26 : arg26.IsWhole) (arg27 : Memref sig .tc .vmem S2048x128 .fp8e4m3) (harg27 : arg27.IsWhole) (arg28 : Memref sig .tc .vmem S128x2048 .bf16) (harg28 : arg28.IsWhole) (arg29 : Memref sig .tc .vmem S128x2048 .fp8e4m3) (harg29 : arg29.IsWhole)
    (x0 : Vec F S1x2048x128 .bf16) (x1 : Vec F S1x2048x128 .bf16) (x2 : Vec F S1x2048x128 .bf16) (x3 : Vec F S1x2048x128 .bf16) : Vec F S1x2048x128 .bf16 :=
  VO0_4.read (Elt F) (VO0_4.writes (Elt F) VO0_4.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3).1)

/-- The run's pieces for output 5 tile its block (1 store of `S1x2048x128`, checked by the kernel's evaluation: Lib/Ring.lean `Piece.tiledL`, linear in the pieces, through a loop's `@[irreducible]` trip theorem too), so they cover it. -/
theorem cover0_A_5 (c : Dev nD) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x2048x128 .bf16) (harg6 : arg6.IsWhole) (arg7 : Memref sig .tc .vmem S1x2048x128 .bf16) (harg7 : arg7.IsWhole) (arg8 : Memref sig .tc .vmem S1x2048x128 .bf16) (harg8 : arg8.IsWhole) (arg9 : Memref sig .tc .vmem S1x2048x128 .fp8e4m3) (harg9 : arg9.IsWhole) (arg10 : Memref sig .tc .vmem S1x2048x128 .fp8e4m3) (harg10 : arg10.IsWhole) (arg11 : Memref sig .tc .vmem S1x2048x128 .fp8e4m3) (harg11 : arg11.IsWhole) (arg12 : Memref sig .tc .vmem S1x2048x128 .fp8e5m2) (harg12 : arg12.IsWhole) (arg13 : Memref sig .tc .smem S9x8 .f32) (harg13 : arg13.IsWhole) (arg14 : Memref sig .tc .smem S9x8 .f32) (harg14 : arg14.IsWhole) (arg15 : Memref sig .tc .smem S9x8 .f32) (harg15 : arg15.IsWhole) (arg16 : Memref sig .tc .smem S9x8 .f32) (harg16 : arg16.IsWhole) (arg17 : Memref sig .tc .vmem S2048x128 .bf16) (harg17 : arg17.IsWhole) (arg18 : Memref sig .tc .vmem S128x1024 .bf16) (harg18 : arg18.IsWhole) (arg19 : Memref sig .tc .vmem S128x1024 .fp8e4m3) (harg19 : arg19.IsWhole) (arg20 : Memref sig .tc .vmem S128x2048 .bf16) (harg20 : arg20.IsWhole) (arg21 : Memref sig .tc .vmem S2080x128 .f32) (harg21 : arg21.IsWhole) (arg22 : Memref sig .tc .vmem S2080x128 .f32) (harg22 : arg22.IsWhole) (arg23 : Memref sig .tc .vmem S2x5x256x256 .f32) (harg23 : arg23.IsWhole) (arg24 : Memref sig .tc .vmem S2x5x256x256 .fp8e4m3) (harg24 : arg24.IsWhole) (arg25 : Memref sig .tc .vmem S2080x128 .f32) (harg25 : arg25.IsWhole) (arg26 : Memref sig .tc .vmem S2048x128 .fp8e4m3) (harg26 : arg26.IsWhole) (arg27 : Memref sig .tc .vmem S2048x128 .fp8e4m3) (harg27 : arg27.IsWhole) (arg28 : Memref sig .tc .vmem S128x2048 .bf16) (harg28 : arg28.IsWhole) (arg29 : Memref sig .tc .vmem S128x2048 .fp8e4m3) (harg29 : arg29.IsWhole)
    (x0 : Vec F S1x2048x128 .bf16) (x1 : Vec F S1x2048x128 .bf16) (x2 : Vec F S1x2048x128 .bf16) (x3 : Vec F S1x2048x128 .bf16) (y : S1x2048x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3).2.1 S1x2048x128.size (by sl_kernel_rfl) y

/-- What the run leaves in output 5's staging buffer: its pieces read back over junk. -/
def out0_A_5 (c : Dev nD) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x2048x128 .bf16) (harg6 : arg6.IsWhole) (arg7 : Memref sig .tc .vmem S1x2048x128 .bf16) (harg7 : arg7.IsWhole) (arg8 : Memref sig .tc .vmem S1x2048x128 .bf16) (harg8 : arg8.IsWhole) (arg9 : Memref sig .tc .vmem S1x2048x128 .fp8e4m3) (harg9 : arg9.IsWhole) (arg10 : Memref sig .tc .vmem S1x2048x128 .fp8e4m3) (harg10 : arg10.IsWhole) (arg11 : Memref sig .tc .vmem S1x2048x128 .fp8e4m3) (harg11 : arg11.IsWhole) (arg12 : Memref sig .tc .vmem S1x2048x128 .fp8e5m2) (harg12 : arg12.IsWhole) (arg13 : Memref sig .tc .smem S9x8 .f32) (harg13 : arg13.IsWhole) (arg14 : Memref sig .tc .smem S9x8 .f32) (harg14 : arg14.IsWhole) (arg15 : Memref sig .tc .smem S9x8 .f32) (harg15 : arg15.IsWhole) (arg16 : Memref sig .tc .smem S9x8 .f32) (harg16 : arg16.IsWhole) (arg17 : Memref sig .tc .vmem S2048x128 .bf16) (harg17 : arg17.IsWhole) (arg18 : Memref sig .tc .vmem S128x1024 .bf16) (harg18 : arg18.IsWhole) (arg19 : Memref sig .tc .vmem S128x1024 .fp8e4m3) (harg19 : arg19.IsWhole) (arg20 : Memref sig .tc .vmem S128x2048 .bf16) (harg20 : arg20.IsWhole) (arg21 : Memref sig .tc .vmem S2080x128 .f32) (harg21 : arg21.IsWhole) (arg22 : Memref sig .tc .vmem S2080x128 .f32) (harg22 : arg22.IsWhole) (arg23 : Memref sig .tc .vmem S2x5x256x256 .f32) (harg23 : arg23.IsWhole) (arg24 : Memref sig .tc .vmem S2x5x256x256 .fp8e4m3) (harg24 : arg24.IsWhole) (arg25 : Memref sig .tc .vmem S2080x128 .f32) (harg25 : arg25.IsWhole) (arg26 : Memref sig .tc .vmem S2048x128 .fp8e4m3) (harg26 : arg26.IsWhole) (arg27 : Memref sig .tc .vmem S2048x128 .fp8e4m3) (harg27 : arg27.IsWhole) (arg28 : Memref sig .tc .vmem S128x2048 .bf16) (harg28 : arg28.IsWhole) (arg29 : Memref sig .tc .vmem S128x2048 .fp8e4m3) (harg29 : arg29.IsWhole)
    (x0 : Vec F S1x2048x128 .bf16) (x1 : Vec F S1x2048x128 .bf16) (x2 : Vec F S1x2048x128 .bf16) (x3 : Vec F S1x2048x128 .bf16) : Vec F S1x2048x128 .bf16 :=
  VO0_5.read (Elt F) (VO0_5.writes (Elt F) VO0_5.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3).2.1)

/-- The run's pieces for output 6 tile its block (1 store of `S1x2048x128`, checked by the kernel's evaluation: Lib/Ring.lean `Piece.tiledL`, linear in the pieces, through a loop's `@[irreducible]` trip theorem too), so they cover it. -/
theorem cover0_A_6 (c : Dev nD) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x2048x128 .bf16) (harg6 : arg6.IsWhole) (arg7 : Memref sig .tc .vmem S1x2048x128 .bf16) (harg7 : arg7.IsWhole) (arg8 : Memref sig .tc .vmem S1x2048x128 .bf16) (harg8 : arg8.IsWhole) (arg9 : Memref sig .tc .vmem S1x2048x128 .fp8e4m3) (harg9 : arg9.IsWhole) (arg10 : Memref sig .tc .vmem S1x2048x128 .fp8e4m3) (harg10 : arg10.IsWhole) (arg11 : Memref sig .tc .vmem S1x2048x128 .fp8e4m3) (harg11 : arg11.IsWhole) (arg12 : Memref sig .tc .vmem S1x2048x128 .fp8e5m2) (harg12 : arg12.IsWhole) (arg13 : Memref sig .tc .smem S9x8 .f32) (harg13 : arg13.IsWhole) (arg14 : Memref sig .tc .smem S9x8 .f32) (harg14 : arg14.IsWhole) (arg15 : Memref sig .tc .smem S9x8 .f32) (harg15 : arg15.IsWhole) (arg16 : Memref sig .tc .smem S9x8 .f32) (harg16 : arg16.IsWhole) (arg17 : Memref sig .tc .vmem S2048x128 .bf16) (harg17 : arg17.IsWhole) (arg18 : Memref sig .tc .vmem S128x1024 .bf16) (harg18 : arg18.IsWhole) (arg19 : Memref sig .tc .vmem S128x1024 .fp8e4m3) (harg19 : arg19.IsWhole) (arg20 : Memref sig .tc .vmem S128x2048 .bf16) (harg20 : arg20.IsWhole) (arg21 : Memref sig .tc .vmem S2080x128 .f32) (harg21 : arg21.IsWhole) (arg22 : Memref sig .tc .vmem S2080x128 .f32) (harg22 : arg22.IsWhole) (arg23 : Memref sig .tc .vmem S2x5x256x256 .f32) (harg23 : arg23.IsWhole) (arg24 : Memref sig .tc .vmem S2x5x256x256 .fp8e4m3) (harg24 : arg24.IsWhole) (arg25 : Memref sig .tc .vmem S2080x128 .f32) (harg25 : arg25.IsWhole) (arg26 : Memref sig .tc .vmem S2048x128 .fp8e4m3) (harg26 : arg26.IsWhole) (arg27 : Memref sig .tc .vmem S2048x128 .fp8e4m3) (harg27 : arg27.IsWhole) (arg28 : Memref sig .tc .vmem S128x2048 .bf16) (harg28 : arg28.IsWhole) (arg29 : Memref sig .tc .vmem S128x2048 .fp8e4m3) (harg29 : arg29.IsWhole)
    (x0 : Vec F S1x2048x128 .bf16) (x1 : Vec F S1x2048x128 .bf16) (x2 : Vec F S1x2048x128 .bf16) (x3 : Vec F S1x2048x128 .bf16) (y : S1x2048x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3).2.2.1 S1x2048x128.size (by sl_kernel_rfl) y

/-- What the run leaves in output 6's staging buffer: its pieces read back over junk. -/
def out0_A_6 (c : Dev nD) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x2048x128 .bf16) (harg6 : arg6.IsWhole) (arg7 : Memref sig .tc .vmem S1x2048x128 .bf16) (harg7 : arg7.IsWhole) (arg8 : Memref sig .tc .vmem S1x2048x128 .bf16) (harg8 : arg8.IsWhole) (arg9 : Memref sig .tc .vmem S1x2048x128 .fp8e4m3) (harg9 : arg9.IsWhole) (arg10 : Memref sig .tc .vmem S1x2048x128 .fp8e4m3) (harg10 : arg10.IsWhole) (arg11 : Memref sig .tc .vmem S1x2048x128 .fp8e4m3) (harg11 : arg11.IsWhole) (arg12 : Memref sig .tc .vmem S1x2048x128 .fp8e5m2) (harg12 : arg12.IsWhole) (arg13 : Memref sig .tc .smem S9x8 .f32) (harg13 : arg13.IsWhole) (arg14 : Memref sig .tc .smem S9x8 .f32) (harg14 : arg14.IsWhole) (arg15 : Memref sig .tc .smem S9x8 .f32) (harg15 : arg15.IsWhole) (arg16 : Memref sig .tc .smem S9x8 .f32) (harg16 : arg16.IsWhole) (arg17 : Memref sig .tc .vmem S2048x128 .bf16) (harg17 : arg17.IsWhole) (arg18 : Memref sig .tc .vmem S128x1024 .bf16) (harg18 : arg18.IsWhole) (arg19 : Memref sig .tc .vmem S128x1024 .fp8e4m3) (harg19 : arg19.IsWhole) (arg20 : Memref sig .tc .vmem S128x2048 .bf16) (harg20 : arg20.IsWhole) (arg21 : Memref sig .tc .vmem S2080x128 .f32) (harg21 : arg21.IsWhole) (arg22 : Memref sig .tc .vmem S2080x128 .f32) (harg22 : arg22.IsWhole) (arg23 : Memref sig .tc .vmem S2x5x256x256 .f32) (harg23 : arg23.IsWhole) (arg24 : Memref sig .tc .vmem S2x5x256x256 .fp8e4m3) (harg24 : arg24.IsWhole) (arg25 : Memref sig .tc .vmem S2080x128 .f32) (harg25 : arg25.IsWhole) (arg26 : Memref sig .tc .vmem S2048x128 .fp8e4m3) (harg26 : arg26.IsWhole) (arg27 : Memref sig .tc .vmem S2048x128 .fp8e4m3) (harg27 : arg27.IsWhole) (arg28 : Memref sig .tc .vmem S128x2048 .bf16) (harg28 : arg28.IsWhole) (arg29 : Memref sig .tc .vmem S128x2048 .fp8e4m3) (harg29 : arg29.IsWhole)
    (x0 : Vec F S1x2048x128 .bf16) (x1 : Vec F S1x2048x128 .bf16) (x2 : Vec F S1x2048x128 .bf16) (x3 : Vec F S1x2048x128 .bf16) : Vec F S1x2048x128 .bf16 :=
  VO0_6.read (Elt F) (VO0_6.writes (Elt F) VO0_6.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3).2.2.1)

/-! ## What the outputs hold after each point -/

/-- What the outputs' staging buffers hold after the body at point `t` (as a tuple, in window order): the run's contents at
    the point's memrefs and input blocks. -/
def outsAt0 (c : Dev nD) (t : Fin cfg0.N) : Vec F S1x2048x128 .bf16 × Vec F S1x2048x128 .bf16 × Vec F S1x2048x128 .bf16 :=
  (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) (iblk m c 0 t) (iblk m c 1 t) (iblk m c 2 t) (iblk m c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) (iblk m c 0 t) (iblk m c 1 t) (iblk m c 2 t) (iblk m c 3 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) (iblk m c 0 t) (iblk m c 1 t) (iblk m c 2 t) (iblk m c 3 t))

/-! ## The pipeline's proof data -/

/-- The output windows this certificate FORGETS (7, 8, 9, 10, 11, 12, 13, 14): nothing reads what the kernel leaves in them, so nothing
    of it is named (Lib/Pipeline/Dat.lean `Dat.toRForget`). -/
def forgets0 : Fin 15 → Bool := fun w => w.val == 7 || w.val == 8 || w.val == 9 || w.val == 10 || w.val == 11 || w.val == 12 || w.val == 13 || w.val == 14
theorem forgets0_4 : forgets0 (4 : Fin 15) = false := by decide
theorem forgets0_5 : forgets0 (5 : Fin 15) = false := by decide
theorem forgets0_6 : forgets0 (6 : Fin 15) = false := by decide

/-- The proof data of the one pipeline on core `c`: the arrays as the region finds them (`V`); after the body at
    point `t` each input's buffer at its block and the NAMED outputs' at `outsAt0` (the forgotten at `Dat.unnamed`); the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t).1
    | ⟨5, _⟩ => (outsAt0 m c t).2.1
    | ⟨6, _⟩ => (outsAt0 m c t).2.2
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t).1 := by dsimp only [dats]
theorem after0_5 (c : Dev nD) (t : Fin cfg0.N) : (dats m 0 c).after 5 t = (outsAt0 m c t).2.1 := by dsimp only [dats]
theorem after0_6 (c : Dev nD) (t : Fin cfg0.N) : (dats m 0 c).after 6 t = (outsAt0 m c t).2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d))

set_option maxHeartbeats 2800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA0_eq]
  unfold outsAt0
  unfold out0_A_4 out0_A_5 out0_A_6; (try dsimp only)
  iintro ⟨⟨⟨HS0, HS1, HS2, HS3, HS4, HS5, HS6, HS7, HS8, HS9, HS10, HS11, HS12⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t)).2.2.2.2.2.2.2.2.2.2.2.2.2.2.2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  isplitl [HS12]; · iexact HS12
  iintro ⟨H0, H1, H2, H3, ⟨%e4, H4⟩, ⟨%e5, H5⟩, ⟨%e6, H6⟩, H7, H8, H9, H10, H11, H12, H13, H14, ⟨%fT0, HS0⟩, ⟨%fT1, HS1⟩, ⟨%fT2, HS2⟩, ⟨%fT3, HS3⟩, ⟨%fT4, HS4⟩, ⟨%fT5, HS5⟩, ⟨%fT6, HS6⟩, ⟨%fT7, HS7⟩, ⟨%fT8, HS8⟩, ⟨%fT9, HS9⟩, ⟨%fT10, HS10⟩, ⟨%fT11, HS11⟩, ⟨%fT12, HS12⟩⟩
  isplitl [HS0 HS1 HS2 HS3 HS4 HS5 HS6 HS7 HS8 HS9 HS10 HS11 HS12 Hg]
  · isplitl [HS0 HS1 HS2 HS3 HS4 HS5 HS6 HS7 HS8 HS9 HS10 HS11 HS12]
    · isplitl [HS0]
      · iexists _; unfold owns; iexists _; isplitr
        swap; · iexact HS0
        ipureintro; rfl
      isplitl [HS1]
      · iexists _; unfold owns; iexists _; isplitr
        swap; · iexact HS1
        ipureintro; rfl
      isplitl [HS2]
      · iexists _; unfold owns; iexists _; isplitr
        swap; · iexact HS2
        ipureintro; rfl
      isplitl [HS3]
      · iexists _; unfold owns; iexists _; isplitr
        swap; · iexact HS3
        ipureintro; rfl
      isplitl [HS4]
      · iexists _; unfold owns; iexists _; isplitr
        swap; · iexact HS4
        ipureintro; rfl
      isplitl [HS5]
      · iexists _; unfold owns; iexists _; isplitr
        swap; · iexact HS5
        ipureintro; rfl
      isplitl [HS6]
      · iexists _; unfold owns; iexists _; isplitr
        swap; · iexact HS6
        ipureintro; rfl
      isplitl [HS7]
      · iexists _; unfold owns; iexists _; isplitr
        swap; · iexact HS7
        ipureintro; rfl
      isplitl [HS8]
      · iexists _; unfold owns; iexists _; isplitr
        swap; · iexact HS8
        ipureintro; rfl
      isplitl [HS9]
      · iexists _; unfold owns; iexists _; isplitr
        swap; · iexact HS9
        ipureintro; rfl
      isplitl [HS10]
      · iexists _; unfold owns; iexists _; isplitr
        swap; · iexact HS10
        ipureintro; rfl
      isplitl [HS11]
      · iexists _; unfold owns; iexists _; isplitr
        swap; · iexact HS11
        ipureintro; rfl
      iexists _; unfold owns; iexists _; isplitr
      swap; · iexact HS12
      ipureintro; rfl
    iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover0_A_4 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H5]
  · unfold owns; iexists _; isplitr
    swap; · iexact H5
    ipureintro; exact View.read_writes_of_cover _ _ _ _ _ (cover0_A_5 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H6]
  · unfold owns; iexists _; isplitr
    swap; · iexact H6
    ipureintro; exact View.read_writes_of_cover _ _ _ _ _ (cover0_A_6 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 7, 8, 9, 10, 11, 12, 13, 14) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (fun c => (dats m 0 c).toRForget forgets0) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Own

end
-- ==== Proof.Own.IdealValue.lean ====
module

public import proofs.«01_k».proof.Proof.Own.IdealFrame
public import Idealize.ShloMosaic.Lib.Pipeline.Value

@[expose] public section

noncomputable section

namespace Cert.KernelIdeal.Own.Value

open Cert.KernelIdeal Cert.KernelIdeal.Gen Cert.KernelIdeal.Own Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 4's array: the run's contents for that window after the body (`Gen.outsAt0`: its component 0), read through the window's block. -/
theorem flushed4 (c : Dev nD) (t : Fin cfg0.N) :
    (dats m 0 c).flushed 4 t = (cfg0.win 4).cut (grid0.coords t) ((outsAt0 m c t).1) := by
  show (cfg0.win 4).cut (grid0.coords t) ((dats m 0 c).after 4 t) = _
  rw [after0_4]

/-- … so at a point where case A runs, what its write-back would write is that case's NAMED TERM for the window (`Gen.out0_A_4`: the pieces
    its run found, read back) at the point's memrefs and input blocks, and for an output the case reads back what the point before left (`Gen.outsAt0` at `t - 1`) — the kernel's one case, `Gen.outsAt0` by definition. -/
theorem flushed4_A (c : Dev nD) (t : Fin cfg0.N) :
    (dats m 0 c).flushed 4 t = (cfg0.win 4).cut (grid0.coords t) (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) (iblk m c 0 t) (iblk m c 1 t) (iblk m c 2 t) (iblk m c 3 t)) := by
  simp only [flushed4, outsAt0]

/-- The index map sends distinct grid points to distinct block indices (decided over the 72 points). -/
theorem idx_inj4 : ∀ t t' : Fin cfg0.N, win0_4.index t = win0_4.index t' → t = t' :=
  (by decide +kernel : ∀ t t' : Fin grid0.N, win0_4.index t = win0_4.index t' → t = t')

/-- So two flushing points' blocks share no array index (Lib/Pipeline/Cells.lean `Window.disjoint_blk`). -/
theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)

/-- BLOCK `t` OF THE FINAL ARRAY, read back through the window, is what point `t` wrote back (`flushed4`), for every
    point that writes back: no other point's block meets it. -/
theorem blocks4 (c : Dev nD) (t : Fin cfg0.N) (hf : (cfg0.win 4).flush t = true) :
    ((cfg0.win 4).blk t).view.read (Elt F) ((dats m 0 c).arrAt 4 cfg0.N) = (dats m 0 c).flushed 4 t :=
  (dats m 0 c).read_blk_arrAt_eq_flushed 4 disjoint4 cfg0.N t t.isLt hf

/-- An index that no flushing point's block covers keeps output window 4's array contents at region entry. -/
theorem entry4 (c : Dev nD) (i : S9x2048x1024.Idx) (h : ∀ t : Fin cfg0.N, (cfg0.win 4).flush t = true → i ∉ ((cfg0.win 4).blk t).view.set) :
    (dats m 0 c).arrAt 4 cfg0.N i = V m c (Pipeline.arrRef spec0 4) i := by
  rw [(dats m 0 c).arrAt_apply_of_forall_not_mem 4 cfg0.N i (fun t _ hf => h t hf), A_eq]

/-- WHAT POINT `t` WRITES BACK to output window 5's array: the run's contents for that window after the body (`Gen.outsAt0`: its component 1), read through the window's block. -/
theorem flushed5 (c : Dev nD) (t : Fin cfg0.N) :
    (dats m 0 c).flushed 5 t = (cfg0.win 5).cut (grid0.coords t) ((outsAt0 m c t).2.1) := by
  show (cfg0.win 5).cut (grid0.coords t) ((dats m 0 c).after 5 t) = _
  rw [after0_5]

/-- … so at a point where case A runs, what its write-back would write is that case's NAMED TERM for the window (`Gen.out0_A_5`: the pieces
    its run found, read back) at the point's memrefs and input blocks, and for an output the case reads back what the point before left (`Gen.outsAt0` at `t - 1`) — the kernel's one case, `Gen.outsAt0` by definition. -/
theorem flushed5_A (c : Dev nD) (t : Fin cfg0.N) :
    (dats m 0 c).flushed 5 t = (cfg0.win 5).cut (grid0.coords t) (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) (iblk m c 0 t) (iblk m c 1 t) (iblk m c 2 t) (iblk m c 3 t)) := by
  simp only [flushed5, outsAt0]

/-- The index map sends distinct grid points to distinct block indices (decided over the 72 points). -/
theorem idx_inj5 : ∀ t t' : Fin cfg0.N, win0_5.index t = win0_5.index t' → t = t' :=
  (by decide +kernel : ∀ t t' : Fin grid0.N, win0_5.index t = win0_5.index t' → t = t')

/-- So two flushing points' blocks share no array index (Lib/Pipeline/Cells.lean `Window.disjoint_blk`). -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- BLOCK `t` OF THE FINAL ARRAY, read back through the window, is what point `t` wrote back (`flushed5`), for every
    point that writes back: no other point's block meets it. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- An index that no flushing point's block covers keeps output window 5's array contents at region entry. -/
theorem entry5 (c : Dev nD) (i : S9x2048x1024.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- WHAT POINT `t` WRITES BACK to output window 6's array: the run's contents for that window after the body (`Gen.outsAt0`: its component 2), read through the window's block. -/
theorem flushed6 (c : Dev nD) (t : Fin cfg0.N) :
    (dats m 0 c).flushed 6 t = (cfg0.win 6).cut (grid0.coords t) ((outsAt0 m c t).2.2) := by
  show (cfg0.win 6).cut (grid0.coords t) ((dats m 0 c).after 6 t) = _
  rw [after0_6]

/-- … so at a point where case A runs, what its write-back would write is that case's NAMED TERM for the window (`Gen.out0_A_6`: the pieces
    its run found, read back) at the point's memrefs and input blocks, and for an output the case reads back what the point before left (`Gen.outsAt0` at `t - 1`) — the kernel's one case, `Gen.outsAt0` by definition. -/
theorem flushed6_A (c : Dev nD) (t : Fin cfg0.N) :
    (dats m 0 c).flushed 6 t = (cfg0.win 6).cut (grid0.coords t) (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) (iblk m c 0 t) (iblk m c 1 t) (iblk m c 2 t) (iblk m c 3 t)) := by
  simp only [flushed6, outsAt0]

/-- The index map sends distinct grid points to distinct block indices (decided over the 72 points). -/
theorem idx_inj6 : ∀ t t' : Fin cfg0.N, win0_6.index t = win0_6.index t' → t = t' :=
  (by decide +kernel : ∀ t t' : Fin grid0.N, win0_6.index t = win0_6.index t' → t = t')

/-- So two flushing points' blocks share no array index (Lib/Pipeline/Cells.lean `Window.disjoint_blk`). -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- An index that no flushing point's block covers keeps output window 6's array contents at region entry. -/
theorem entry6 (c : Dev nD) (i : S9x2048x1024.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- A NAMED output window's array after the frame run: `(dats m 0 c).arrAt w N`, read off the run's relational post (`h`:
    the proof data with the windows `Gen.forgets0` forgotten) at any window `w` it does not forget (`hw`), by
    Lib/Pipeline/Cells.lean `Dat.toRForget_arrAt_iff`. -/
theorem finalR_out0 (r : PUnit × MemSt nD τ sig (Elt F)) (h : Pipeline.RDat.FramePost (cfgs 0) (fun c => (dats m 0 c).toRForget forgets0) (V m) r) (c : Dev nD) (w : Fin 15) (hw : forgets0 w = false) :
    r.2.mem ((cfg0.spec w).arr.view.loc (c : Thread nD τ)) = (dats m 0 c).arrAt w cfg0.N :=
  ((dats m 0 c).toRForget_arrAt_iff hw _ _).mp ((h c).1 w)

/-- After the frame run, output window 4's array is `(dats m 0 c).arrAt 4 N`. -/
theorem post4 (r : PUnit × MemSt nD τ sig (Elt F)) (h : Pipeline.RDat.FramePost (cfgs 0) (fun c => (dats m 0 c).toRForget forgets0) (V m) r) (c : Dev nD) :
    r.2.mem ((c : Thread nD τ).loc main_v0_0) = (dats m 0 c).arrAt 4 cfg0.N :=
  finalR_out0 m r h c 4 forgets0_4

/-- After the frame run, output window 5's array is `(dats m 0 c).arrAt 5 N`. -/
theorem post5 (r : PUnit × MemSt nD τ sig (Elt F)) (h : Pipeline.RDat.FramePost (cfgs 0) (fun c => (dats m 0 c).toRForget forgets0) (V m) r) (c : Dev nD) :
    r.2.mem ((c : Thread nD τ).loc main_v0_1) = (dats m 0 c).arrAt 5 cfg0.N :=
  finalR_out0 m r h c 5 forgets0_5

/-- After the frame run, output window 6's array is `(dats m 0 c).arrAt 6 N`. -/
theorem post6 (r : PUnit × MemSt nD τ sig (Elt F)) (h : Pipeline.RDat.FramePost (cfgs 0) (fun c => (dats m 0 c).toRForget forgets0) (V m) r) (c : Dev nD) :
    r.2.mem ((c : Thread nD τ).loc main_v0_2) = (dats m 0 c).arrAt 6 cfg0.N :=
  finalR_out0 m r h c 6 forgets0_6

/-- After the frame run, argument `main_arg0` is as launched: input window 0 stages it and never writes it back. -/
theorem kept_main_arg0 (r : PUnit × MemSt nD τ sig (Elt F)) (h : Pipeline.RDat.FramePost (cfgs 0) (fun c => (dats m 0 c).toRForget forgets0) (V m) r) (c : Dev nD) :
    r.2.mem ((c : Thread nD τ).loc main_arg0) = m ((c : Thread nD τ).loc main_arg0) :=
  (Pipeline.RDat.FramePost.arr_in h c 0 rfl).trans ((A_eq m c 0).trans (V_main_arg0 m c))

/-- After the frame run, argument `main_arg1` is as launched: input window 1 stages it and never writes it back. -/
theorem kept_main_arg1 (r : PUnit × MemSt nD τ sig (Elt F)) (h : Pipeline.RDat.FramePost (cfgs 0) (fun c => (dats m 0 c).toRForget forgets0) (V m) r) (c : Dev nD) :
    r.2.mem ((c : Thread nD τ).loc main_arg1) = m ((c : Thread nD τ).loc main_arg1) :=
  (Pipeline.RDat.FramePost.arr_in h c 1 rfl).trans ((A_eq m c 1).trans (V_main_arg1 m c))

/-- After the frame run, argument `main_arg2` is as launched: input window 2 stages it and never writes it back. -/
theorem kept_main_arg2 (r : PUnit × MemSt nD τ sig (Elt F)) (h : Pipeline.RDat.FramePost (cfgs 0) (fun c => (dats m 0 c).toRForget forgets0) (V m) r) (c : Dev nD) :
    r.2.mem ((c : Thread nD τ).loc main_arg2) = m ((c : Thread nD τ).loc main_arg2) :=
  (Pipeline.RDat.FramePost.arr_in h c 2 rfl).trans ((A_eq m c 2).trans (V_main_arg2 m c))

/-- After the frame run, argument `main_arg3` is as launched: input window 3 stages it and never writes it back. -/
theorem kept_main_arg3 (r : PUnit × MemSt nD τ sig (Elt F)) (h : Pipeline.RDat.FramePost (cfgs 0) (fun c => (dats m 0 c).toRForget forgets0) (V m) r) (c : Dev nD) :
    r.2.mem ((c : Thread nD τ).loc main_arg3) = m ((c : Thread nD τ).loc main_arg3) :=
  (Pipeline.RDat.FramePost.arr_in h c 3 rfl).trans ((A_eq m c 3).trans (V_main_arg3 m c))

/-- The frame run with each output array the frame names after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 4 cfg0.N
      ∧ r.2.mem ((c : Thread nD τ).loc main_v0_1) = (dats m 0 c).arrAt 5 cfg0.N
      ∧ r.2.mem ((c : Thread nD τ).loc main_v0_2) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post4 m r h c,
      post5 m r h c,
      post6 m r h c,
      kept_main_arg0 m r h c,
      kept_main_arg1 m r h c,
      kept_main_arg2 m r h c,
      kept_main_arg3 m r h c⟩)
    (run_main m ρ)

end Cert.KernelIdeal.Own.Value

end
-- ==== Proof.Scale.lean ====
/-
  The power-of-two scale of one block: how many powers of two lie below the scaled greatest magnitude,
  and the words that spell the scale and its inverse.
-/
module

public import proofs.«01_k».proof.Proof.Ops

@[expose] public section

noncomputable section

namespace Cert.KernelIdeal.Attn

open Idealize.ShloMosaic
open scoped BigOperators Classical
open Finset (range)

/-- The greatest magnitude of a 2048 × 128 block. -/
def amx (f : ℕ → ℕ → ℝ) : ℝ :=
  (range 2048 ×ˢ range 128).sup' ⟨(0, 0), by simp⟩ fun z => |f z.1 z.2|

/-- The power of two a float's exponent field `j` spells. -/
def pw (j : ℕ) : ℝ := (2 : ℝ) ^ ((j : ℤ) - 127)

/-- The greatest exponent field whose power of two is at most `y`. -/
def cnt (y : ℝ) : ℕ := Nat.findGreatest (fun j => pw j ≤ y) 254

/-- The scale: the next power of two, 1 for a block of zeros. -/
def scl (y : ℝ) : ℝ := if y = 0 then 1 else pw (cnt y + 1)

/-- A block's codes: clipped to `±M` after division by the scale. -/
def code (M y : ℝ) (f : ℕ → ℕ → ℝ) : ℕ → ℕ → ℝ := fun a b => min M (max (-M) (f a b * (scl y)⁻¹))

theorem amx_nonneg (f : ℕ → ℕ → ℝ) : 0 ≤ amx f := by
  refine le_trans (abs_nonneg (f 0 0)) ?_
  exact Finset.le_sup' (fun z : ℕ × ℕ => |f z.1 z.2|) (b := (0, 0)) (by simp)

theorem amx_le {f : ℕ → ℕ → ℝ} {B : ℝ} (h : ∀ a b, a < 2048 → b < 128 → |f a b| ≤ B) : amx f ≤ B := by
  refine Finset.sup'_le _ _ ?_
  intro z hz
  rw [Finset.mem_product, Finset.mem_range, Finset.mem_range] at hz
  exact h _ _ hz.1 hz.2

/-- An extended real bounded by exactly the bounds of the magnitudes is the greatest magnitude. -/
theorem eq_amx {f : ℕ → ℕ → ℝ} {e : EReal}
    (h : ∀ x : EReal, e ≤ x ↔ ∀ a b, a < 2048 → b < 128 → ((|f a b| : ℝ) : EReal) ≤ x) : e = ((amx f : ℝ) : EReal) := by
  apply le_antisymm
  · rw [h]
    intro a b ha hb
    rw [EReal.coe_le_coe_iff]
    exact Finset.le_sup' (fun z : ℕ × ℕ => |f z.1 z.2|) (b := (a, b)) (by simp [ha, hb])
  · obtain ⟨z, hz, hm⟩ := Finset.exists_mem_eq_sup' (s := range 2048 ×ˢ range 128) ⟨(0, 0), by simp⟩ (fun z : ℕ × ℕ => |f z.1 z.2|)
    rw [Finset.mem_product, Finset.mem_range, Finset.mem_range] at hz
    have := (h e).1 le_rfl z.1 z.2 hz.1 hz.2
    unfold amx
    rw [hm]
    exact this

theorem pw_pos (j : ℕ) : 0 < pw j := by unfold pw; positivity
theorem pw_mono {i j : ℕ} (h : i ≤ j) : pw i ≤ pw j := zpow_le_zpow_right₀ (by norm_num) (by omega)
theorem pw_lt {i j : ℕ} (h : i < j) : pw i < pw j := zpow_lt_zpow_right₀ (by norm_num) (by omega)

theorem cnt_iff {y : ℝ} {j : ℕ} (h1 : 1 ≤ j) (h2 : j ≤ 254) : pw j ≤ y ↔ j ≤ cnt y := by
  constructor
  · exact fun h => Nat.le_findGreatest h2 h
  · intro h
    have h0 : cnt y ≠ 0 := by omega
    exact le_trans (pw_mono h) (Nat.findGreatest_of_ne_zero (P := fun j => pw j ≤ y) (n := 254) rfl h0)

theorem cnt_le {y : ℝ} (h : y < pw 247) : cnt y ≤ 246 := by
  by_contra hc
  exact absurd ((cnt_iff (y := y) (j := 247) (by norm_num) (by norm_num)).2 (by omega)) (not_le.2 h)

theorem scl_pos (y : ℝ) : 0 < scl y := by
  unfold scl; split_ifs
  · norm_num
  · exact pw_pos _

theorem scl_inv {y : ℝ} (h : y < pw 247) : (scl y)⁻¹ = if y = 0 then 1 else pw (253 - cnt y) := by
  have := cnt_le h
  unfold scl
  split_ifs
  · norm_num
  · unfold pw
    rw [← zpow_neg]
    congr 1
    omega

theorem code_zero {M y : ℝ} (hM : 0 ≤ M) {f : ℕ → ℕ → ℝ} {a b : ℕ} (h : f a b = 0) : code M y f a b = 0 := by
  simp [code, h, hM]

/-! ## The words -/

theorem field_ex : ∀ j : Fin 255, 0 < j.val →
    ((BitVec.ofNat 32 j.val <<< 23).extractLsb' 31 1 == 1#1) = false
      ∧ ((BitVec.ofNat 32 j.val <<< 23).extractLsb' 23 8).toNat = j.val
      ∧ ((BitVec.ofNat 32 j.val <<< 23).extractLsb' 0 23).toNat = 0 := by decide +kernel

theorem ieee_pw {w : BitVec 32} {j : ℕ} (h1 : 1 ≤ j) (h2 : j ≤ 254) (a : (w.extractLsb' 31 1 == 1#1) = false)
    (b : (w.extractLsb' 23 8).toNat = j) (d : (w.extractLsb' 0 23).toNat = 0) : Ideal.ofBits .f32 w = ((pw j : ℝ) : EReal) := by
  have e : Ideal.ofBits .f32 w = Ideal.ieee 8 23 w := rfl
  rw [e]
  unfold Ideal.ieee
  simp only [show (8 + 23 : ℕ) = 31 from rfl]
  rw [a, b, d, if_neg (by omega), if_neg (by omega)]
  congr 1
  unfold pw
  rw [show ((j : ℤ) - 127) = 23 + ((j : ℤ) - (2 ^ (8 - 1) - 1) - (23 : ℕ)) by push_cast; ring,
    zpow_add₀ (by norm_num : (2 : ℝ) ≠ 0)]
  norm_num

theorem bits_field {j : ℕ} (h1 : 1 ≤ j) (h2 : j ≤ 254) : Ideal.ofBits .f32 (BitVec.ofNat 32 j <<< 23) = ((pw j : ℝ) : EReal) :=
  ieee_pw h1 h2 (field_ex ⟨j, by omega⟩ h1).1 (field_ex ⟨j, by omega⟩ h1).2.1 (field_ex ⟨j, by omega⟩ h1).2.2

theorem bits_field_top : Ideal.ofBits .f32 (BitVec.ofNat 32 255 <<< 23) = ⊤ := by
  simp [Ideal.ofBits, Ideal.ieee]

/-- The exponent as a word. -/
def ew (y : ℝ) : BitVec 32 := if y = 0 then 0#32 else BitVec.ofNat 32 (cnt y) - 126#32

theorem ew_scale {y : ℝ} (h : y < pw 247) : Ideal.ofBits .f32 ((ew y + 127#32) <<< 23) = ((scl y : ℝ) : EReal) := by
  have hc := cnt_le h
  have hw : ew y + 127#32 = BitVec.ofNat 32 (if y = 0 then 127 else cnt y + 1) := by
    unfold ew
    split_ifs
    · rfl
    · apply BitVec.eq_of_toNat_eq
      simp
      omega
  rw [hw, bits_field (by split_ifs <;> omega) (by split_ifs <;> omega)]
  congr 1
  unfold scl
  split_ifs
  · simp [pw]
  · rfl

theorem ew_inv {y : ℝ} (h : y < pw 247) : Ideal.ofBits .f32 ((127#32 - ew y) <<< 23) = (((scl y)⁻¹ : ℝ) : EReal) := by
  have hc := cnt_le h
  have hw : 127#32 - ew y = BitVec.ofNat 32 (if y = 0 then 127 else 253 - cnt y) := by
    unfold ew
    split_ifs
    · rfl
    · apply BitVec.eq_of_toNat_eq
      simp
      omega
  rw [hw, bits_field (by split_ifs <;> omega) (by split_ifs <;> omega), scl_inv h]
  congr 1
  split_ifs
  · simp [pw]
  · rfl

/-! ## The constants -/

/-- The factor of an e4m3 block, nearly 1/448. -/
def κ4 : ℝ := 9586981 * (2 : ℝ) ^ (-32 : ℤ)
/-- The factor of an e5m2 block, nearly 1/57344. -/
def κ5 : ℝ := 9586981 * (2 : ℝ) ^ (-39 : ℤ)
/-- The softmax scale, nearly 1/√128. -/
def sm : ℝ := 11863283 * (2 : ℝ) ^ (-27 : ℤ)

theorem bits_κ4 : Ideal.ofBits .f32 0x3B124925#32 = ((κ4 : ℝ) : EReal) := by
  simp [Ideal.ofBits, Ideal.ieee, κ4]
theorem bits_κ5 : Ideal.ofBits .f32 0x37924925#32 = ((κ5 : ℝ) : EReal) := by
  simp [Ideal.ofBits, Ideal.ieee, κ5]
theorem bits_sm : Ideal.ofBits .f32 0x3DB504F3#32 = ((sm : ℝ) : EReal) := by
  simp [Ideal.ofBits, Ideal.ieee, sm]
theorem bits_n448 : Ideal.ofBits .f32 0xC3E00000#32 = ((-448 : ℝ) : EReal) := by
  simp [Ideal.ofBits, Ideal.ieee]; rw [← EReal.coe_mul]; norm_num
theorem bits_57344 : Ideal.ofBits .f32 0x47600000#32 = ((57344 : ℝ) : EReal) := by
  simp [Ideal.ofBits, Ideal.ieee]; rw [← EReal.coe_mul]; norm_num
theorem bits_n57344 : Ideal.ofBits .f32 0xC7600000#32 = ((-57344 : ℝ) : EReal) := by
  simp [Ideal.ofBits, Ideal.ieee]; rw [← EReal.coe_mul]; norm_num
theorem sm_pos : 0 < sm := by unfold sm; positivity

/-- The magnitudes of a block of bf16 entries are below 2^128. -/
def Fin16 (f : ℕ → ℕ → ℝ) : Prop := ∀ a b, |f a b| ≤ (2 : ℝ) ^ (128 : ℤ)

theorem lt247_4 {f : ℕ → ℕ → ℝ} (h : Fin16 f) : amx f * κ4 < pw 247 := by
  have h1 : amx f ≤ (2 : ℝ) ^ (128 : ℤ) := amx_le fun a b _ _ => h a b
  have h2 : κ4 < (2 : ℝ) ^ (-8 : ℤ) := by unfold κ4; norm_num
  have h3 : 0 < κ4 := by unfold κ4; positivity
  calc amx f * κ4 ≤ (2 : ℝ) ^ (128 : ℤ) * κ4 := mul_le_mul_of_nonneg_right h1 h3.le
    _ < (2 : ℝ) ^ (128 : ℤ) * (2 : ℝ) ^ (-8 : ℤ) := mul_lt_mul_of_pos_left h2 (by positivity)
    _ = pw 247 := by unfold pw; rw [← zpow_add₀ (by norm_num : (2 : ℝ) ≠ 0)]; norm_num

theorem lt247_5 {f : ℕ → ℕ → ℝ} (h : Fin16 f) : amx f * κ5 < pw 247 := by
  have h1 : κ5 ≤ κ4 := by unfold κ4 κ5; norm_num
  exact lt_of_le_of_lt (mul_le_mul_of_nonneg_left h1 (amx_nonneg f)) (lt247_4 h)

theorem y_nonneg4 (f : ℕ → ℕ → ℝ) : 0 ≤ amx f * κ4 := mul_nonneg (amx_nonneg f) (by unfold κ4; positivity)
theorem y_nonneg5 (f : ℕ → ℕ → ℝ) : 0 ≤ amx f * κ5 := mul_nonneg (amx_nonneg f) (by unfold κ5; positivity)

/-- The codes and factors of one (batch, head), from its four blocks. -/
def prOf (fq fk fv fd : ℕ → ℕ → ℝ) : Pr where
  K := code 448 (amx fk * κ4) fk
  V := code 448 (amx fv * κ4) fv
  Q := code 448 (amx fq * κ4) fq
  D := code 57344 (amx fd * κ5) fd
  c := (scl (amx fq * κ4) * sm) * scl (amx fk * κ4)
  s1 := (scl (amx fk * κ4) * sm) * ((scl (amx fd * κ5) * scl (amx fv * κ4)) * (1 / 256))
  s2 := (scl (amx fq * κ4) * sm) * ((scl (amx fd * κ5) * scl (amx fv * κ4)) * (1 / 256))
  s3 := scl (amx fd * κ5) * (1 / 256)

end Cert.KernelIdeal.Attn

end
-- ==== Proof.RefQuant.lean ====
/-
  The reference's codes and scales of one (batch, head): the scale of `Scale.lean` at the scaled greatest magnitude,
  its inverse, and the block divided by it and clipped.
-/
module

public import proofs.«01_k».proof.Proof.Scale
public import proofs.«01_k».proof.Proof.Gen.ReferenceIdeal.Read

@[expose] public section

noncomputable section

namespace Cert.ReferenceIdeal.Quant

open Idealize.ShloMosaic Cert.ReferenceIdeal Cert.ReferenceIdeal.Gen Cert.ReferenceIdeal.Read Cert.KernelIdeal.Attn
open Idealize.ShloMosaic.StableHlo
open scoped BigOperators
open Finset (range)

/-- One argument of the entry point. -/
abbrev Arg := (⟨S9x2048x1024, .bf16⟩ : BufTy).Contents (Elt Ideal)

/-- The rows of batch `b` and head `h`, over the reals, zero past the ends. -/
def blk (x : Arg) (b : Fin 9) (h : Fin 8) : ℕ → ℕ → ℝ := fun q d =>
  if hh : q < 2048 ∧ d < 128 then EReal.toReal (x (ix3 b ⟨q, hh.1⟩ ⟨h.val * 128 + d, by have := h.isLt; omega⟩)) else 0

/-- Every entry is a real number. -/
def Real1 (x : Arg) : Prop := ∀ i, (x i : EReal) = ((EReal.toReal (x i) : ℝ) : EReal)

theorem ext1 {n0 : ℕ} {i : (⟨1, ![n0]⟩ : Shape).Idx} {a : Fin n0} (h0 : i 0 = a) : i = ix1 a := by
  funext c
  match c with
  | ⟨0, _⟩ => exact h0
theorem ext2 {n0 n1 : ℕ} {i : (⟨2, ![n0, n1]⟩ : Shape).Idx} {a : Fin n0} {b : Fin n1} (h0 : i 0 = a) (h1 : i 1 = b) : i = ix2 a b := by
  funext c
  match c with
  | ⟨0, _⟩ => exact h0
  | ⟨1, _⟩ => exact h1
theorem ext3 {n0 n1 n2 : ℕ} {i : (⟨3, ![n0, n1, n2]⟩ : Shape).Idx} {a : Fin n0} {b : Fin n1} {c : Fin n2}
    (h0 : i 0 = a) (h1 : i 1 = b) (h2 : i 2 = c) : i = ix3 a b c := by
  funext e
  match e with
  | ⟨0, _⟩ => exact h0
  | ⟨1, _⟩ => exact h1
  | ⟨2, _⟩ => exact h2
theorem ext4 {n0 n1 n2 n3 : ℕ} {i : (⟨4, ![n0, n1, n2, n3]⟩ : Shape).Idx} {a : Fin n0} {b : Fin n1} {c : Fin n2} {d : Fin n3}
    (h0 : i 0 = a) (h1 : i 1 = b) (h2 : i 2 = c) (h3 : i 3 = d) : i = ix4 a b c d := by
  funext e
  match e with
  | ⟨0, _⟩ => exact h0
  | ⟨1, _⟩ => exact h1
  | ⟨2, _⟩ => exact h2
  | ⟨3, _⟩ => exact h3

variable {x : Arg} (R : Real1 x) (b : Fin 9) (h : Fin 8)

include R in
theorem v1_at (q : Fin 2048) (d : Fin 128) :
    val_main_v1 (F := Ideal) x (ix4 b q h d) = ((blk x b h q.val d.val : ℝ) : EReal) := by
  show val_main_v0 (F := Ideal) x (ix4 b q h d) = _
  rw [val_main_v0_apply]
  unfold blk
  rw [dif_pos ⟨q.isLt, d.isLt⟩]
  have e : idx_main_v0 (ix4 b q h d) = ix3 b ⟨q.val, q.isLt⟩ ⟨h.val * 128 + d.val, by have := h.isLt; omega⟩ := by
    have := b.isLt; have := q.isLt; have := h.isLt; have := d.isLt
    funext a
    match a with
    | ⟨0, _⟩ => exact Fin.ext (by show (((b.val * 2048 + q.val) * 8 + h.val) * 128 + d.val) / 2097152 = b.val; omega)
    | ⟨1, _⟩ => exact Fin.ext (by show (((b.val * 2048 + q.val) * 8 + h.val) * 128 + d.val) / 1024 % 2048 = q.val; omega)
    | ⟨2, _⟩ => exact Fin.ext (by show (((b.val * 2048 + q.val) * 8 + h.val) * 128 + d.val) % 1024 = h.val * 128 + d.val; omega)
  rw [e]
  exact R _

include R in
theorem v2_at (q : Fin 2048) (d : Fin 128) :
    val_main_v2 (F := Ideal) x (ix4 b q h d) = ((|blk x b h q.val d.val| : ℝ) : EReal) := by
  show max (val_main_v1 (F := Ideal) x (ix4 b q h d)) (-(val_main_v1 (F := Ideal) x (ix4 b q h d))) = _
  rw [v1_at R, ← EReal.coe_neg, ← EReal.coe_strictMono.monotone.map_max]
  rfl

include R in
/-- The greatest magnitude of the (batch, head). -/
theorem v3_at : val_main_v3 (F := Ideal) x (ix2 b h) = ((amx (blk x b h) : ℝ) : EReal) := by
  refine eq_amx fun z => ?_
  unfold val_main_v3
  rw [Host.reduce_eq_fold]
  show Finset.fold max _ _ _ ≤ z ↔ _
  rw [Finset.fold_max_le]
  have hd : ∀ i : S9x2048x8x128.Idx, reducesTo_S9x2048x8x128_S9x8_d1_3.drop i = ix2 b h ↔ i 0 = b ∧ i 2 = h := by
    intro i
    have h0 := Shape.ReducesTo.drop_apply_val reducesTo_S9x2048x8x128_S9x8_d1_3 i 0
    have h1 := Shape.ReducesTo.drop_apply_val reducesTo_S9x2048x8x128_S9x8_d1_3 i 1
    constructor
    · intro e
      rw [e] at h0 h1
      exact ⟨Fin.ext h0.symm, Fin.ext h1.symm⟩
    · rintro ⟨e0, e1⟩
      funext c
      match c with
      | ⟨0, _⟩ => exact Fin.ext (h0.trans (congrArg Fin.val e0))
      | ⟨1, _⟩ => exact Fin.ext (h1.trans (congrArg Fin.val e1))
  constructor
  · intro H a d ha hd'
    have := H.2 (ix4 b ⟨a, ha⟩ h ⟨d, hd'⟩) (Finset.mem_filter.2 ⟨Finset.mem_univ _, (hd _).2 ⟨rfl, rfl⟩⟩)
    rw [v2_at R] at this
    exact this
  · intro H
    refine ⟨?_, ?_⟩
    · show Ideal.ofBits .f32 0xFF800000#32 ≤ z
      rw [bits_bot]; exact bot_le
    · intro i hi
      have e := (hd i).1 (Finset.mem_filter.1 hi).2
      obtain ⟨q, d, rfl⟩ : ∃ (q : Fin 2048) (d : Fin 128), i = ix4 b q h d := ⟨i 1, i 3, ext4 e.1 rfl e.2 rfl⟩
      exact le_of_eq_of_le (v2_at R b h q d) (H _ _ q.isLt d.isLt)

/-- The powers of two the scale is chosen from. -/
theorem v11_at (n : Fin 254) : val_main_v11 (F := Ideal) (ix1 n) = ((pw (n.val + 1) : ℝ) : EReal) := by
  have h2 : Ideal.ofBits .f32 0x40000000#32 = ((2 : ℝ) : EReal) := by
    simp [Ideal.ofBits, Ideal.ieee]; rw [← EReal.coe_mul]; norm_num
  have hn : ∀ n : Fin 254, (4294967170#32 + BitVec.ofNat 32 n.val).toInt = (n.val : ℤ) - 126 := by decide +kernel
  show Ideal.pow (val_main_v10 (F := Ideal) (ix1 n)) ((((4294967170#32 + BitVec.ofNat 32 n.val).toInt : ℝ)) : EReal) = _
  rw [val_main_v10_apply]
  show Ideal.pow (Ideal.ofBits .f32 0x40000000#32) _ = _
  rw [h2, hn]
  show ((Real.rpow 2 (((n.val : ℤ) - 126 : ℤ) : ℝ) : ℝ) : EReal) = _
  congr 1
  rw [Real.rpow_eq_pow, Real.rpow_intCast]
  unfold pw
  congr 1
  push_cast
  ring

/-- The least of the powers of two above `y`. -/
theorem min_fold {y : ℝ} (hy : y < pw 247) :
    (Finset.univ : Finset (Fin 254)).fold min ⊤ (fun n => if y < pw (n.val + 1) then ((pw (n.val + 1) : ℝ) : EReal) else ⊤)
      = ((pw (cnt y + 1) : ℝ) : EReal) := by
  have hc := cnt_le hy
  apply le_antisymm
  · refine (Finset.fold_min_le _).2 (.inr ⟨⟨cnt y, by omega⟩, Finset.mem_univ _, ?_⟩)
    rw [if_pos]
    by_contra hn
    have := (cnt_iff (y := y) (j := cnt y + 1) (by omega) (by omega)).1 (not_lt.1 hn)
    omega
  · rw [Finset.le_fold_min]
    refine ⟨le_top, fun n _ => ?_⟩
    split_ifs with hn
    · rw [EReal.coe_le_coe_iff]
      refine pw_mono ?_
      by_contra hlt
      have := (cnt_iff (y := y) (j := n.val + 1) (by omega) (by have := n.isLt; omega)).2 (by omega)
      exact absurd hn (not_lt.2 this)
    · exact le_top

/-- The same of the reference's reduction. -/
theorem min_pow {y : ℝ} (hy : y < pw 247) (z : FVec Ideal S9x8x254 .f32)
    (hz : ∀ n : Fin 254, (z (ix3 b h n) : EReal) = if y < pw (n.val + 1) then ((pw (n.val + 1) : ℝ) : EReal) else ⊤) :
    Host.reduce (FloatOps.minimumf (F := Ideal) (φ := .f32)) z (val_main_cst_4 (F := Ideal)) reducesTo_S9x8x254_S9x8_d2 h_S_ (ix2 b h)
      = ((pw (cnt y + 1) : ℝ) : EReal) := by
  have hr : S9x8x254.Reduces [2] S9x8 := by decide
  rw [Host.reduce_eq_fold_single _ _ _ reducesTo_S9x8x254_S9x8_d2 hr]
  have e : (z ∘ hr.lift (ix2 b h)) = fun n : Fin 254 => if y < pw (n.val + 1) then ((pw (n.val + 1) : ℝ) : EReal) else ⊤ := by
    funext n
    refine Eq.trans ?_ (hz n)
    exact congrArg z (ext3 rfl rfl rfl)
  rw [e]
  have hb : val_main_cst_4 (F := Ideal) (Shape.Idx.first h_S_) = (⊤ : EReal) := bits_field_top
  rw [hb]
  exact min_fold hy

/-- The scale from the greatest magnitudes `a` and the scaled ones `w`, as the reference writes it. -/
def scaleOf (a w : FVec Ideal S9x8 .f32) : FVec Ideal S9x8 .f32 :=
  select (cmpf .oeq a (val_main_v18 (F := Ideal))) (val_main_call1_v1 (F := Ideal))
    (Host.reduce FloatOps.minimumf
      (select (cmpf .ogt (val_main_v14 (F := Ideal))
          (broadcastInDim S9x8x254 ![0, 1, 2] bcast_S9x8x1_S9x8x254_0_1_2 (broadcastInDim S9x8x1 ![0, 1] bcast_S9x8_S9x8x1_0_1 w)))
        (val_main_call0_v1 (F := Ideal)) (val_main_call0_v2 (F := Ideal)))
      (val_main_cst_4 (F := Ideal)) reducesTo_S9x8x254_S9x8_d2 h_S_)

theorem v21_eq (x : Arg) : val_main_v21 (F := Ideal) x = scaleOf (val_main_v3 x) (val_main_v5 x) := rfl
theorem v49_eq (x : Arg) : val_main_v49 (F := Ideal) x = scaleOf (val_main_v3 x) (val_main_v5 x) := rfl
theorem v77_eq (x : Arg) : val_main_v77 (F := Ideal) x = scaleOf (val_main_v3 x) (val_main_v5 x) := rfl
theorem v105_eq (x : Arg) : val_main_v105 (F := Ideal) x = scaleOf (val_main_v3 x) (val_main_v89 x) := rfl

theorem bc_at (w : FVec Ideal S9x8 .f32) (n : Fin 254) :
    broadcastInDim S9x8x254 ![0, 1, 2] bcast_S9x8x1_S9x8x254_0_1_2 (broadcastInDim S9x8x1 ![0, 1] bcast_S9x8_S9x8x1_0_1 w) (ix3 b h n) = w (ix2 b h) := by
  rw [broadcastInDim_apply _ bcast_S9x8x1_S9x8x254_0_1_2 _ (ix3 b h n) (ix3 b h 0) (fun a => by match a with | ⟨0, _⟩ => rfl | ⟨1, _⟩ => rfl | ⟨2, _⟩ => rfl)]
  exact broadcastInDim_apply _ bcast_S9x8_S9x8x1_0_1 _ (ix3 b h 0) (ix2 b h) (fun a => by match a with | ⟨0, _⟩ => rfl | ⟨1, _⟩ => rfl)

theorem scaleOf_at (a w : FVec Ideal S9x8 .f32) {m y κ : ℝ} (hκ : 0 < κ) (hm : y = m * κ) (hy : y < pw 247)
    (ha : a (ix2 b h) = ((m : ℝ) : EReal)) (hw : w (ix2 b h) = ((y : ℝ) : EReal)) :
    scaleOf a w (ix2 b h) = ((scl y : ℝ) : EReal) := by
  have h1 : Ideal.ofBits .f32 0x3F800000#32 = ((1 : ℝ) : EReal) := by
    simp [Ideal.ofBits, Ideal.ieee]; rw [← EReal.coe_mul]; norm_num
  show Scalar.select (BitVec.ofBool (decide ((a (ix2 b h) : EReal) = val_main_v18 (F := Ideal) (ix2 b h)))) (val_main_call1_v1 (F := Ideal) (ix2 b h)) _ = _
  rw [val_main_v18_apply, val_main_call1_v1_apply]
  show Scalar.select (BitVec.ofBool (decide ((a (ix2 b h) : EReal) = Ideal.ofBits .f32 0x00000000#32))) (Ideal.ofBits .f32 0x3F800000#32) _ = _
  rw [ha, bits_zero, h1, min_pow b h hy]
  · unfold scl
    have : (((m : ℝ) : EReal) = 0) ↔ y = 0 := by
      rw [EReal.coe_eq_zero, hm]
      constructor
      · rintro rfl; simp
      · intro e; exact (mul_eq_zero.1 e).resolve_right hκ.ne'
    by_cases h0 : y = 0
    · simp [Scalar.select, this, h0]
    · simp [Scalar.select, this, h0]
  · intro n
    show Scalar.select (BitVec.ofBool (decide ((broadcastInDim S9x8x254 ![0, 1, 2] bcast_S9x8x1_S9x8x254_0_1_2 (broadcastInDim S9x8x1 ![0, 1] bcast_S9x8_S9x8x1_0_1 w) (ix3 b h n) : EReal) < val_main_v14 (F := Ideal) (ix3 b h n)))) (val_main_call0_v1 (F := Ideal) (ix3 b h n)) (val_main_call0_v2 (F := Ideal) (ix3 b h n)) = _
    rw [bc_at, hw, val_main_v14_apply, val_main_v13_apply, val_main_call0_v1_apply, val_main_call0_v2_apply]
    rw [show idx_main_v13 (idx_main_v14 (ix3 b h n)) = ix1 n from ext1 rfl, show idx_main_call0_v1 (ix3 b h n) = ix1 n from ext1 rfl, v11_at]
    show Scalar.select (BitVec.ofBool (decide _)) _ (Ideal.ofBits .f32 (BitVec.ofNat 32 255 <<< 23)) = _
    rw [bits_field_top]
    by_cases hn : y < pw (n.val + 1)
    · simp [Scalar.select, hn]
    · simp [Scalar.select, hn]

theorem scaled4 (x : Arg) (i : S9x8.Idx) : val_main_v5 (F := Ideal) x i = (val_main_v3 (F := Ideal) x i : EReal) * Ideal.ofBits .f32 0x3B124925#32 := by
  rw [val_main_v5_apply, val_main_v4_apply]
  rfl
theorem scaled5 (x : Arg) (i : S9x8.Idx) : val_main_v89 (F := Ideal) x i = (val_main_v3 (F := Ideal) x i : EReal) * Ideal.ofBits .f32 0x37924925#32 := by
  rw [val_main_v89_apply, val_main_v88_apply, show val_main_v87 (F := Ideal) x = val_main_v3 x from rfl]
  rfl

theorem κ4_pos : 0 < κ4 := by unfold κ4; positivity
theorem κ5_pos : 0 < κ5 := by unfold κ5; positivity

section
variable (F : Fin16 (blk x b h))
include R F

theorem s4 : scaleOf (val_main_v3 x) (val_main_v5 x) (ix2 b h) = ((scl (amx (blk x b h) * κ4) : ℝ) : EReal) := by
  refine scaleOf_at b h _ _ κ4_pos rfl (lt247_4 F) (v3_at R b h) ?_
  rw [scaled4, v3_at R, bits_κ4, coe_mul]

theorem s5 : scaleOf (val_main_v3 x) (val_main_v89 x) (ix2 b h) = ((scl (amx (blk x b h) * κ5) : ℝ) : EReal) := by
  refine scaleOf_at b h _ _ κ5_pos rfl (lt247_5 F) (v3_at R b h) ?_
  rw [scaled5, v3_at R, bits_κ5, coe_mul]

theorem v21_at : val_main_v21 (F := Ideal) x (ix2 b h) = ((scl (amx (blk x b h) * κ4) : ℝ) : EReal) := by rw [v21_eq, s4 R b h F]
theorem v49_at : val_main_v49 (F := Ideal) x (ix2 b h) = ((scl (amx (blk x b h) * κ4) : ℝ) : EReal) := by rw [v49_eq, s4 R b h F]
theorem v77_at : val_main_v77 (F := Ideal) x (ix2 b h) = ((scl (amx (blk x b h) * κ4) : ℝ) : EReal) := by rw [v77_eq, s4 R b h F]
theorem v105_at : val_main_v105 (F := Ideal) x (ix2 b h) = ((scl (amx (blk x b h) * κ5) : ℝ) : EReal) := by rw [v105_eq, s5 R b h F]

end

/-- One over a positive real. -/
theorem div_one {s : ℝ} (hs : 0 < s) : Ideal.div (Ideal.ofBits .f32 0x3F800000#32) (s : EReal) = ((s⁻¹ : ℝ) : EReal) := by
  have h1 : Ideal.ofBits .f32 0x3F800000#32 = ((1 : ℝ) : EReal) := by
    simp [Ideal.ofBits, Ideal.ieee]; rw [← EReal.coe_mul]; norm_num
  unfold Ideal.div
  rw [h1, if_neg (by simpa using hs.ne'), ← EReal.coe_inv, coe_mul, one_mul]

/-- Clipping, over the reals. -/
theorem clip {M u : ℝ} : min ((M : ℝ) : EReal) (max ((-M : ℝ) : EReal) (u : EReal)) = ((min M (max (-M) u) : ℝ) : EReal) := by
  rw [← EReal.coe_strictMono.monotone.map_max, ← EReal.coe_strictMono.monotone.map_min]

theorem clip4 (x : Arg) (i : S9x2048x8x128.Idx) : val_main_v27 (F := Ideal) x i = min (Ideal.ofBits .f32 0x43E00000#32) (max (Ideal.ofBits .f32 0xC3E00000#32)
    ((val_main_v1 (F := Ideal) x i : EReal) * Ideal.div (Ideal.ofBits .f32 0x3F800000#32) (val_main_v21 (F := Ideal) x (idx_main_v24 (idx_main_v25 i))))) := by
  rw [val_main_v27_apply, val_main_call2_v4_apply, val_main_call2_v2_apply, val_main_call2_v1_apply, val_main_v26_apply,
    val_main_v25_apply, val_main_v24_apply, val_main_v23_apply, val_main_v22_apply]
  rfl

theorem clip5 (x : Arg) (i : S9x2048x8x128.Idx) : val_main_v111 (F := Ideal) x i = min (Ideal.ofBits .f32 0x47600000#32) (max (Ideal.ofBits .f32 0xC7600000#32)
    ((val_main_v1 (F := Ideal) x i : EReal) * Ideal.div (Ideal.ofBits .f32 0x3F800000#32) (val_main_v105 (F := Ideal) x (idx_main_v108 (idx_main_v109 i))))) := by
  rw [val_main_v111_apply, val_main_call11_v4_apply, val_main_call11_v2_apply, val_main_call11_v1_apply, val_main_v110_apply,
    val_main_v109_apply, val_main_v108_apply, val_main_v107_apply, val_main_v106_apply, show val_main_v85 (F := Ideal) x = val_main_v1 x from rfl]
  rfl

section
variable (F : Fin16 (blk x b h))
include R F

theorem v27_at (q : Fin 2048) (d : Fin 128) :
    val_main_v27 (F := Ideal) x (ix4 b q h d) = ((code 448 (amx (blk x b h) * κ4) (blk x b h) q.val d.val : ℝ) : EReal) := by
  rw [clip4, v1_at R, show idx_main_v24 (idx_main_v25 (ix4 b q h d)) = ix2 b h from ext2 rfl rfl, v21_at R b h F,
    div_one (scl_pos _), bits_448, bits_n448, coe_mul, clip]
  rfl

theorem v55_at (q : Fin 2048) (d : Fin 128) :
    val_main_v55 (F := Ideal) x (ix4 b q h d) = ((code 448 (amx (blk x b h) * κ4) (blk x b h) q.val d.val : ℝ) : EReal) := by
  rw [show val_main_v55 (F := Ideal) x = val_main_v27 x from rfl, v27_at R b h F]
theorem v83_at (q : Fin 2048) (d : Fin 128) :
    val_main_v83 (F := Ideal) x (ix4 b q h d) = ((code 448 (amx (blk x b h) * κ4) (blk x b h) q.val d.val : ℝ) : EReal) := by
  rw [show val_main_v83 (F := Ideal) x = val_main_v27 x from rfl, v27_at R b h F]
theorem v111_at (q : Fin 2048) (d : Fin 128) :
    val_main_v111 (F := Ideal) x (ix4 b q h d) = ((code 57344 (amx (blk x b h) * κ5) (blk x b h) q.val d.val : ℝ) : EReal) := by
  rw [clip5, v1_at R, show idx_main_v108 (idx_main_v109 (ix4 b q h d)) = ix2 b h from ext2 rfl rfl, v105_at R b h F,
    div_one (scl_pos _), bits_57344, bits_n57344, coe_mul, clip]
  rfl

end

end Cert.ReferenceIdeal.Quant

end
-- ==== Proof.RefValue.lean ====
/-
  The reference's three gradients of one (batch, head) are the model's: the row maximum cancels in the softmax, and the
  powers of two of the scales move out of the sums.
-/
module

public import proofs.«01_k».proof.Proof.RefQuant

@[expose] public section

noncomputable section

namespace Cert.ReferenceIdeal.Quant

open Idealize.ShloMosaic Cert.ReferenceIdeal Cert.ReferenceIdeal.Gen Cert.ReferenceIdeal.Read Cert.KernelIdeal.Attn
open Idealize.ShloMosaic.StableHlo
open scoped BigOperators
open Finset (range)

/-- The model of batch `b` and head `h` of the four arguments. -/
def pr (x0 x1 x2 x3 : Arg) (b : Fin 9) (h : Fin 8) : Pr := prOf (blk x0 b h) (blk x1 b h) (blk x2 b h) (blk x3 b h)

/-- A sum over a range whose terms are real numbers. -/
theorem sum_at {n : ℕ} {g : Fin n → EReal} (f : ℕ → ℝ) (hg : ∀ k : Fin n, g k = ((f k.val : ℝ) : EReal)) :
    ∑ k : Fin n, g k = ((∑ k ∈ range n, f k : ℝ) : EReal) := by
  rw [Finset.sum_range, coe_sum]
  exact Finset.sum_congr rfl fun k _ => hg k

/-- The mask. -/
theorem v124_at (q k : Fin 2048) : val_main_v124 (F := Ideal) (ix2 q k) = BitVec.ofBool (decide (vis k.val q.val)) := by
  rw [val_main_v124_apply, val_main_v118_apply, val_main_v123_apply, val_main_v116_apply, val_main_v117_apply,
    val_main_v121_apply, val_main_v122_apply, val_main_v115_apply, val_main_v120_apply, val_main_v113_apply,
    val_main_v119_apply, val_main_v114_apply, val_main_v112_apply]
  show IntOp.andi (IntOp.cmpi .sle (BitVec.ofNat 32 k.val) (BitVec.ofNat 32 q.val))
    (IntOp.cmpi .sgt (BitVec.ofNat 32 k.val) (BitVec.ofNat 32 q.val - 1000#32)) = _
  have hq := q.isLt
  have hk := k.isLt
  have tq : (BitVec.ofNat 32 q.val).toInt = (q.val : ℤ) := by
    rw [BitVec.toInt_ofNat', Int.bmod_eq_of_le (n := (q.val : ℤ)) (by omega) (by omega)]
  have tk : (BitVec.ofNat 32 k.val).toInt = (k.val : ℤ) := by
    rw [BitVec.toInt_ofNat', Int.bmod_eq_of_le (n := (k.val : ℤ)) (by omega) (by omega)]
  have t1 : (1000#32 : BitVec 32).toInt = 1000 := by decide
  have td : (BitVec.ofNat 32 q.val - 1000#32).toInt = (q.val : ℤ) - 1000 := by
    rw [BitVec.toInt_sub, tq, t1, Int.bmod_eq_of_le (n := (q.val : ℤ) - 1000) (by omega) (by omega)]
  have e1 : IntOp.cmpi .sle (BitVec.ofNat 32 k.val) (BitVec.ofNat 32 q.val) = BitVec.ofBool (decide (k.val ≤ q.val)) := by
    show BitVec.ofBool (BitVec.sle _ _) = _
    rw [BitVec.sle_eq_decide, tq, tk]
    simp
  have e2 : IntOp.cmpi .sgt (BitVec.ofNat 32 k.val) (BitVec.ofNat 32 q.val - 1000#32) = BitVec.ofBool (decide (q.val < k.val + 1000)) := by
    show BitVec.ofBool (BitVec.slt _ _) = _
    rw [BitVec.slt_eq_decide, tk, td]
    congr 1
    exact decide_eq_decide.2 (by omega)
  rw [e1, e2]
  show BitVec.ofBool _ &&& BitVec.ofBool _ = _
  by_cases h1 : k.val ≤ q.val <;> by_cases h2 : q.val < k.val + 1000 <;> simp [h1, h2]

theorem log_at {z : ℝ} (hz : 0 < z) : Ideal.log ((z : ℝ) : EReal) = ((Real.log z : ℝ) : EReal) := by
  show (if z ≤ 0 then (⊥ : EReal) else ((Real.log z : ℝ) : EReal)) = _
  rw [if_neg (not_le.2 hz)]

structure Ok (x0 x1 x2 x3 : Arg) (b : Fin 9) (h : Fin 8) : Prop where
  r0 : Real1 x0
  r1 : Real1 x1
  r2 : Real1 x2
  r3 : Real1 x3
  f0 : Fin16 (blk x0 b h)
  f1 : Fin16 (blk x1 b h)
  f2 : Fin16 (blk x2 b h)
  f3 : Fin16 (blk x3 b h)

variable {x0 x1 x2 x3 : Arg} {b : Fin 9} {h : Fin 8} (A : Ok x0 x1 x2 x3 b h)

/-- The scale of the first three arguments' blocks. -/
abbrev sc4 (x : Arg) (b : Fin 9) (h : Fin 8) : ℝ := scl (amx (blk x b h) * κ4)
/-- The scale of the fourth's. -/
abbrev sc5 (x : Arg) (b : Fin 9) (h : Fin 8) : ℝ := scl (amx (blk x b h) * κ5)

local notation "p" => pr x0 x1 x2 x3 b h

include A

theorem v125_at (q k : Fin 2048) : val_main_v125 (F := Ideal) x0 x1 (ix4 b h q k) = (((p).S k.val q.val : ℝ) : EReal) := by
  rw [val_main_v125_apply]
  refine sum_at (fun d => (p).K k.val d * (p).Q q.val d) fun d => ?_
  rw [show lidx_main_v125 (ix4 b h q k) d = ix4 b q h d from ext4 rfl rfl rfl rfl,
    show ridx_main_v125 (ix4 b h q k) d = ix4 b k h d from ext4 rfl rfl rfl rfl,
    v27_at A.r0 b h A.f0, v55_at A.r1 b h A.f1, coe_mul, mul_comm]
  rfl

theorem v133_at (q k : Fin 2048) : val_main_v133 (F := Ideal) x0 x1 (ix4 b h q k)
    = if vis k.val q.val then (((p).S k.val q.val * (p).c : ℝ) : EReal) else ⊥ := by
  rw [val_main_v133_apply, val_main_call12_v1_apply, val_main_v132_apply, val_main_v131_apply, v125_at A,
    val_main_v130_apply, val_main_v129_apply, val_main_v128_apply, val_main_v127_apply, val_main_v126_apply, val_main_call12_v2_apply,
    show idx_main_v132 (idx_main_call12_v1 (ix4 b h q k)) = ix2 q k from ext2 rfl rfl, v124_at,
    show idx_main_v129 (idx_main_v130 (ix4 b h q k)) = ix2 b h from ext2 rfl rfl, v21_at A.r0 b h A.f0, v49_at A.r1 b h A.f1]
  show Scalar.select _ ((((p).S k.val q.val : ℝ) : EReal) * (((_ : ℝ) : EReal) * Ideal.ofBits .f32 0x3DB504F3#32 * ((_ : ℝ) : EReal))) (Ideal.ofBits .f32 0xFF800000#32) = _
  rw [bits_sm, bits_bot, coe_mul, coe_mul, coe_mul]
  by_cases hv : vis k.val q.val
  · rw [if_pos hv]; simp [Scalar.select, hv]; rfl
  · rw [if_neg hv]; simp [Scalar.select, hv]

/-- The row maximum is a real number. -/
theorem v134_at (q : Fin 2048) : ∃ m : ℝ, val_main_v134 (F := Ideal) x0 x1 (ix3 b h q) = ((m : ℝ) : EReal) := by
  have hr : S9x8x2048x2048.Reduces [3] S9x8x2048 := by decide
  have e : (val_main_v133 (F := Ideal) x0 x1 ∘ hr.lift (ix3 b h q)) = fun k : Fin 2048 =>
      if vis k.val q.val then (((p).S k.val q.val * (p).c : ℝ) : EReal) else ⊥ := by
    funext k
    refine Eq.trans ?_ (v133_at A q k)
    exact congrArg (val_main_v133 (F := Ideal) x0 x1) (ext4 rfl rfl rfl rfl)
  have hb : val_main_cst_45 (F := Ideal) (Shape.Idx.first h_S_) = (⊥ : EReal) := bits_bot
  have key : val_main_v134 (F := Ideal) x0 x1 (ix3 b h q) = (Finset.univ : Finset (Fin 2048)).fold max ⊥ (fun k =>
      if vis k.val q.val then (((p).S k.val q.val * (p).c : ℝ) : EReal) else ⊥) := by
    unfold val_main_v134
    rw [Host.reduce_eq_fold_single _ _ _ reducesTo_S9x8x2048x2048_S9x8x2048_d3 hr, e, hb]
    rfl
  rw [key]
  refine ⟨_, (EReal.coe_toReal (fold_ne_top fun k => ?_) (fold_ne_bot q ?_)).symm⟩
  · split_ifs
    · exact EReal.coe_ne_top _
    · exact bot_ne_top
  · rw [if_pos ⟨le_rfl, by omega⟩]
    exact EReal.coe_ne_bot _

theorem v143_at (q k : Fin 2048) : val_main_v143 (F := Ideal) x0 x1 (ix4 b h q k) = ((Real.log ((p).Z q.val) : ℝ) : EReal) := by
  obtain ⟨m, hm⟩ := v134_at A q
  have hZ := Z_pos (p) q.val q.isLt
  have h138 : ∀ k : Fin 2048, val_main_v138 (F := Ideal) x0 x1 (ix4 b h q k)
      = (((if vis k.val q.val then Real.exp ((p).S k.val q.val * (p).c) else 0) * Real.exp (-m) : ℝ) : EReal) := by
    intro k
    rw [val_main_v138_apply, val_main_v137_apply, v133_at A, val_main_v136_apply, val_main_v135_apply,
      show idx_main_v135 (idx_main_v136 (ix4 b h q k)) = ix3 b h q from ext3 rfl rfl rfl, hm]
    by_cases hv : vis k.val q.val
    · rw [if_pos hv, if_pos hv, ← Real.exp_add, ← sub_eq_add_neg]
      show Ideal.exp ((((p).S k.val q.val * (p).c : ℝ) : EReal) - (m : EReal)) = _
      rw [coe_sub]; rfl
    · rw [if_neg hv, if_neg hv, zero_mul]
      show Ideal.exp ((⊥ : EReal) - (m : EReal)) = _
      rw [EReal.bot_sub]; rfl
  have h139 : val_main_v139 (F := Ideal) x0 x1 (ix3 b h q) = (((p).Z q.val * Real.exp (-m) : ℝ) : EReal) := by
    rw [val_main_v139_apply]
    have : (val_main_cst_46 (F := Ideal)) (Shape.Idx.first h_S_) = (0 : EReal) := bits_zero
    rw [this, zero_add, Pr.Z, Finset.sum_mul]
    refine sum_at _ fun k => ?_
    rw [show idx_main_v139 (ix3 b h q) k = ix4 b h q k from ext4 rfl rfl rfl rfl, h138]
  rw [val_main_v143_apply, val_main_v142_apply, val_main_v141_apply, val_main_v140_apply, val_main_v135_apply,
    show idx_main_v135 (idx_main_v143 (ix4 b h q k)) = ix3 b h q from ext3 rfl rfl rfl,
    show idx_main_v140 (idx_main_v143 (ix4 b h q k)) = ix3 b h q from ext3 rfl rfl rfl, hm, h139]
  show Ideal.log (((p).Z q.val * Real.exp (-m) : ℝ) : EReal) + ((m : ℝ) : EReal) = _
  rw [log_at (mul_pos hZ (Real.exp_pos _)), Real.log_mul hZ.ne' (Real.exp_ne_zero _), Real.log_exp, coe_add, neg_add_cancel_right]

/-- The softmax probabilities. -/
theorem v145_at (q k : Fin 2048) : val_main_v145 (F := Ideal) x0 x1 (ix4 b h q k) = (((p).P k.val q.val / 256 : ℝ) : EReal) := by
  have hZ := Z_pos (p) q.val q.isLt
  rw [val_main_v145_apply, val_main_v144_apply, v133_at A, v143_at A]
  unfold Pr.P
  by_cases hv : vis k.val q.val
  · rw [if_pos hv, if_pos hv]
    show Ideal.exp ((((p).S k.val q.val * (p).c : ℝ) : EReal) - ((Real.log ((p).Z q.val) : ℝ) : EReal)) = _
    rw [coe_sub]
    show ((Real.exp _ : ℝ) : EReal) = _
    rw [Real.exp_sub, Real.exp_log hZ]
    congr 1
    ring
  · rw [if_neg hv, if_neg hv, zero_div]
    show Ideal.exp ((⊥ : EReal) - ((Real.log ((p).Z q.val) : ℝ) : EReal)) = _
    rw [EReal.bot_sub]; rfl

/-- Their codes. -/
theorem v148_at (q k : Fin 2048) : val_main_v148 (F := Ideal) x0 x1 (ix4 b h q k) = (((p).P8 k.val q.val : ℝ) : EReal) := by
  rw [val_main_v148_apply, val_main_call13_v4_apply, val_main_call13_v2_apply, val_main_call13_v1_apply, val_main_v147_apply,
    v145_at A, val_main_v146_apply]
  show min (Ideal.ofBits .f32 0x43E00000#32) (max (Ideal.ofBits .f32 0x00000000#32) (_ * Ideal.ofBits .f32 0x43800000#32)) = _
  rw [bits_448, bits_zero, bits_256, coe_mul, div_mul_cancel₀ _ (by norm_num), ← EReal.coe_zero,
    ← EReal.coe_strictMono.monotone.map_max, ← EReal.coe_strictMono.monotone.map_min]
  rfl

theorem v149_at (q : Fin 2048) (d : Fin 128) : val_main_v149 (F := Ideal) x0 x1 x2 (ix4 b h q d) = (((p).OT d.val q.val : ℝ) : EReal) := by
  rw [val_main_v149_apply]
  refine sum_at (fun k => (p).V k d.val * (p).P8 k q.val) fun k => ?_
  rw [show lidx_main_v149 (ix4 b h q d) k = ix4 b h q k from ext4 rfl rfl rfl rfl,
    show ridx_main_v149 (ix4 b h q d) k = ix4 b k h d from ext4 rfl rfl rfl rfl,
    v148_at A, v83_at A.r2 b h A.f2, coe_mul, mul_comm]
  rfl

/-- The row sums of output gradient times output. -/
theorem v160_at (q : Fin 2048) : val_main_v160 (F := Ideal) x0 x1 x2 x3 (ix3 b h q)
    = (((p).Df q.val * (sc5 x3 b h * sc4 x2 b h) : ℝ) : EReal) := by
  rw [val_main_v160_apply]
  have : (val_main_cst_51 (F := Ideal)) (Shape.Idx.first h_S_) = (0 : EReal) := bits_zero
  rw [this, zero_add, Pr.Df, Finset.sum_mul, Finset.sum_mul]
  refine sum_at _ fun d => ?_
  rw [show idx_main_v160 (ix3 b h q) d = ix4 b h q d from ext4 rfl rfl rfl rfl, val_main_v159_apply, val_main_v158_apply,
    val_main_v155_apply, val_main_v157_apply, val_main_v156_apply, val_main_v154_apply, v149_at A, val_main_v153_apply,
    val_main_v152_apply, val_main_v151_apply, val_main_v150_apply,
    show idx_main_v155 (ix4 b h q d) = ix4 b q h d from ext4 rfl rfl rfl rfl,
    show idx_main_v156 (idx_main_v157 (ix4 b h q d)) = ix2 b h from ext2 rfl rfl,
    show idx_main_v152 (idx_main_v153 (ix4 b h q d)) = ix2 b h from ext2 rfl rfl,
    v111_at A.r3 b h A.f3, v105_at A.r3 b h A.f3, v77_at A.r2 b h A.f2]
  show (((_ : ℝ) : EReal) * ((_ : ℝ) : EReal)) * ((((p).OT d.val q.val : ℝ) : EReal) * (Ideal.ofBits .f32 0x3B800000#32 * ((_ : ℝ) : EReal))) = _
  rw [bits_inv256, coe_mul, coe_mul, coe_mul, coe_mul]
  congr 1
  show (p).D q.val d.val * _ * _ = _
  ring

/-- The gradients of the scores. -/
theorem v169_at (q k : Fin 2048) : val_main_v169 (F := Ideal) x0 x1 x2 x3 (ix4 b h q k)
    = (((p).DS k.val q.val * ((sc5 x3 b h * sc4 x2 b h) * (1 / 256)) : ℝ) : EReal) := by
  have h162 : val_main_v162 (F := Ideal) x2 x3 (ix4 b h q k) = (((p).DP k.val q.val : ℝ) : EReal) := by
    rw [val_main_v162_apply]
    refine sum_at (fun d => (p).V k.val d * (p).D q.val d) fun d => ?_
    rw [show lidx_main_v162 (ix4 b h q k) d = ix4 b q h d from ext4 rfl rfl rfl rfl,
      show ridx_main_v162 (ix4 b h q k) d = ix4 b k h d from ext4 rfl rfl rfl rfl,
      v111_at A.r3 b h A.f3, v83_at A.r2 b h A.f2, coe_mul, mul_comm]
    rfl
  rw [val_main_v169_apply, v145_at A, val_main_v168_apply, val_main_v166_apply, h162, val_main_v165_apply, val_main_v164_apply,
    val_main_v163_apply, val_main_v167_apply, val_main_v161_apply,
    show idx_main_v164 (idx_main_v165 (ix4 b h q k)) = ix2 b h from ext2 rfl rfl,
    show idx_main_v161 (idx_main_v167 (ix4 b h q k)) = ix3 b h q from ext3 rfl rfl rfl,
    v105_at A.r3 b h A.f3, v77_at A.r2 b h A.f2, v160_at A]
  show ((_ : ℝ) : EReal) * (((((p).DP k.val q.val : ℝ) : EReal) * (((_ : ℝ) : EReal) * ((_ : ℝ) : EReal))) - ((_ : ℝ) : EReal)) = _
  rw [coe_mul, coe_mul, coe_sub, coe_mul]
  congr 1
  unfold Pr.DS
  ring

/-- The query gradient. -/
theorem v178_at (q : Fin 2048) (d : Fin 128) : val_main_v178 (F := Ideal) x0 x1 x2 x3 (ix4 b q h d) = (((p).DQ q.val d.val : ℝ) : EReal) := by
  have h172 : val_main_v172 (F := Ideal) x0 x1 x2 x3 (ix4 b h d q)
      = ((∑ k ∈ range 2048, (p).K k d.val * ((p).DS k q.val * ((sc5 x3 b h * sc4 x2 b h) * (1 / 256))) : ℝ) : EReal) := by
    rw [val_main_v172_apply]
    refine sum_at _ fun k => ?_
    rw [show lidx_main_v172 (ix4 b h d q) k = ix4 b k h d from ext4 rfl rfl rfl rfl,
      show ridx_main_v172 (ix4 b h d q) k = ix4 b h q k from ext4 rfl rfl rfl rfl,
      v55_at A.r1 b h A.f1, val_main_v171_apply, val_main_v170_apply, v169_at A]
    exact coe_mul _ _
  rw [val_main_v178_apply, val_main_v173_apply, val_main_v177_apply, val_main_v176_apply, val_main_v175_apply, val_main_v174_apply,
    show idx_main_v173 (ix4 b q h d) = ix4 b h d q from ext4 rfl rfl rfl rfl,
    show idx_main_v176 (idx_main_v177 (ix4 b q h d)) = ix2 b h from ext2 rfl rfl, h172, v49_at A.r1 b h A.f1]
  show ((_ : ℝ) : EReal) * (((_ : ℝ) : EReal) * Ideal.ofBits .f32 0x3DB504F3#32) = _
  rw [bits_sm, coe_mul, coe_mul]
  congr 1
  show _ = (∑ k ∈ range 2048, (p).K k d.val * (p).DS k q.val) * ((sc4 x1 b h * sm) * ((sc5 x3 b h * sc4 x2 b h) * (1 / 256)))
  rw [Finset.sum_mul, Finset.sum_mul]
  exact Finset.sum_congr rfl fun k _ => by ring

/-- The key gradient, summed over the queries in order. -/
theorem v186_at (k : Fin 2048) (d : Fin 128) : val_main_v186 (F := Ideal) x0 x1 x2 x3 (ix4 b k h d)
    = (((∑ q ∈ range 2048, (p).DS k.val q * (p).Q q d.val) * (p).s2 : ℝ) : EReal) := by
  have h180 : val_main_v180 (F := Ideal) x0 x1 x2 x3 (ix4 b h d k)
      = ((∑ q ∈ range 2048, (p).Q q d.val * ((p).DS k.val q * ((sc5 x3 b h * sc4 x2 b h) * (1 / 256))) : ℝ) : EReal) := by
    rw [val_main_v180_apply]
    refine sum_at _ fun q => ?_
    rw [show lidx_main_v180 (ix4 b h d k) q = ix4 b q h d from ext4 rfl rfl rfl rfl,
      show ridx_main_v180 (ix4 b h d k) q = ix4 b h q k from ext4 rfl rfl rfl rfl,
      v27_at A.r0 b h A.f0, val_main_v179_apply, val_main_v170_apply, v169_at A]
    exact coe_mul _ _
  rw [val_main_v186_apply, val_main_v181_apply, val_main_v185_apply, val_main_v184_apply, val_main_v183_apply, val_main_v182_apply,
    show idx_main_v181 (ix4 b k h d) = ix4 b h d k from ext4 rfl rfl rfl rfl,
    show idx_main_v184 (idx_main_v185 (ix4 b k h d)) = ix2 b h from ext2 rfl rfl, h180, v21_at A.r0 b h A.f0]
  show ((_ : ℝ) : EReal) * (((_ : ℝ) : EReal) * Ideal.ofBits .f32 0x3DB504F3#32) = _
  rw [bits_sm, coe_mul, coe_mul]
  congr 1
  show _ = (∑ q ∈ range 2048, (p).DS k.val q * (p).Q q d.val) * ((sc4 x0 b h * sm) * ((sc5 x3 b h * sc4 x2 b h) * (1 / 256)))
  rw [Finset.sum_mul, Finset.sum_mul]
  exact Finset.sum_congr rfl fun q _ => by ring

/-- The value gradient, summed over the queries in order. -/
theorem v193_at (k : Fin 2048) (d : Fin 128) : val_main_v193 (F := Ideal) x0 x1 x3 (ix4 b k h d)
    = (((∑ q ∈ range 2048, (p).P8 k.val q * (p).D q d.val) * (p).s3 : ℝ) : EReal) := by
  have h187 : val_main_v187 (F := Ideal) x0 x1 x3 (ix4 b h d k)
      = ((∑ q ∈ range 2048, (p).P8 k.val q * (p).D q d.val : ℝ) : EReal) := by
    rw [val_main_v187_apply]
    refine sum_at _ fun q => ?_
    rw [show lidx_main_v187 (ix4 b h d k) q = ix4 b q h d from ext4 rfl rfl rfl rfl,
      show ridx_main_v187 (ix4 b h d k) q = ix4 b h q k from ext4 rfl rfl rfl rfl,
      v111_at A.r3 b h A.f3, v148_at A, coe_mul, mul_comm]
    rfl
  rw [val_main_v193_apply, val_main_v188_apply, val_main_v192_apply, val_main_v191_apply, val_main_v190_apply, val_main_v189_apply,
    show idx_main_v188 (ix4 b k h d) = ix4 b h d k from ext4 rfl rfl rfl rfl,
    show idx_main_v191 (idx_main_v192 (ix4 b k h d)) = ix2 b h from ext2 rfl rfl, h187, v105_at A.r3 b h A.f3]
  show ((_ : ℝ) : EReal) * (Ideal.ofBits .f32 0x3B800000#32 * ((_ : ℝ) : EReal)) = _
  rw [bits_inv256, coe_mul, coe_mul, mul_comm (1 / 256 : ℝ)]
  rfl

end Cert.ReferenceIdeal.Quant

end
-- ==== Proof.Precond.lean ====
/-
  What the precondition says of the four arguments: every entry is a real number of magnitude at most the greatest
  finite bf16.
-/
module

public import proofs.«01_k».proof.Proof.RefValue
public import proofs.«01_k».proof.Defs

@[expose] public section

noncomputable section

namespace Cert.ReferenceIdeal.Quant

open Idealize.ShloMosaic Cert.KernelIdeal.Attn

/-- The shape facts of the precondition. -/
theorem preFacts : Cert.Pre_finite.Facts := ⟨by decide, by decide⟩

theorem one_and {a b : BitVec 1} (h : a &&& b = 1#1) : a = 1#1 ∧ b = 1#1 := by
  revert a b; decide

/-- The bound the precondition names, a real number under `2 ^ 128`. -/
theorem top16 : ∃ z : ℝ, Ideal.ofBits .f32 0x7F7F0000#32 = ((z : ℝ) : EReal) ∧ z ≤ (2 : ℝ) ^ (128 : ℤ) := by
  refine ⟨16711680 * (2 : ℝ) ^ (104 : ℤ), ?_, by norm_num⟩
  simp [Ideal.ofBits, Ideal.ieee]

/-- An entry whose magnitude is bounded is a real number of that magnitude at most. -/
theorem real_of_le {y : EReal} (h : max y (-y) ≤ Ideal.ofBits .f32 0x7F7F0000#32) :
    y = ((EReal.toReal y : ℝ) : EReal) ∧ |EReal.toReal y| ≤ (2 : ℝ) ^ (128 : ℤ) := by
  obtain ⟨z, hz, hb⟩ := top16
  rw [hz] at h
  have h1 : y ≤ (z : EReal) := (le_max_left _ _).trans h
  have h2 : -y ≤ (z : EReal) := (le_max_right _ _).trans h
  induction y with
  | bot => simp at h2
  | top => simp at h1
  | coe r =>
    refine ⟨by simp, ?_⟩
    rw [← EReal.coe_neg] at h2
    have h1' := EReal.coe_le_coe_iff.1 h1
    have h2' := EReal.coe_le_coe_iff.1 h2
    rw [EReal.toReal_coe]
    exact (abs_le.2 ⟨by linarith, h1'⟩).trans hb

/-- An argument every entry of which is a real number of bounded magnitude. -/
def Fin1 (x : Arg) : Prop := ∀ i, (x i : EReal) = ((EReal.toReal (x i) : ℝ) : EReal) ∧ |EReal.toReal (x i)| ≤ (2 : ℝ) ^ (128 : ℤ)

theorem Fin1.fin16 {x : Arg} (H : Fin1 x) (b : Fin 9) (h : Fin 8) : Fin16 (blk x b h) := fun q d => by
  unfold blk
  split_ifs with hh
  · exact (H _).2
  · rw [abs_zero]; positivity

/-- The precondition of one argument at an index. -/
theorem fin_at {y : EReal} (h : BitVec.ofBool (decide (max y (-y) ≤ Ideal.ofBits .f32 0x7F7F0000#32)) = 1#1) :
    y = ((EReal.toReal y : ℝ) : EReal) ∧ |EReal.toReal y| ≤ (2 : ℝ) ^ (128 : ℤ) := by
  by_cases hh : max y (-y) ≤ Ideal.ofBits .f32 0x7F7F0000#32
  · exact real_of_le hh
  · rw [decide_eq_false hh] at h; exact absurd h (by decide)

theorem fin_of_pre [Cert.Pre_finite.Facts] {x0 x1 x2 x3 : Arg} (h : Cert.Pre_finite.fn (F := Ideal) x0 x1 x2 x3 = fun _ => 1#1) :
    Fin1 x0 ∧ Fin1 x1 ∧ Fin1 x2 ∧ Fin1 x3 := by
  have H : ∀ i, (((BitVec.ofBool (decide (max (x0 i : EReal) (-(x0 i : EReal)) ≤ Ideal.ofBits .f32 0x7F7F0000#32))
      &&& BitVec.ofBool (decide (max (x1 i : EReal) (-(x1 i : EReal)) ≤ Ideal.ofBits .f32 0x7F7F0000#32)))
      &&& BitVec.ofBool (decide (max (x2 i : EReal) (-(x2 i : EReal)) ≤ Ideal.ofBits .f32 0x7F7F0000#32)))
      &&& BitVec.ofBool (decide (max (x3 i : EReal) (-(x3 i : EReal)) ≤ Ideal.ofBits .f32 0x7F7F0000#32))) = 1#1 := fun i => by
    have e := congrFun h i
    exact e
  refine ⟨fun i => fin_at (one_and (one_and (one_and (H i)).1).1).1, fun i => fin_at (one_and (one_and (one_and (H i)).1).1).2,
    fun i => fin_at (one_and (one_and (H i)).1).2, fun i => fin_at (one_and (H i)).2⟩

theorem ok_of_fin {x0 x1 x2 x3 : Arg} (H : Fin1 x0 ∧ Fin1 x1 ∧ Fin1 x2 ∧ Fin1 x3) (b : Fin 9) (h : Fin 8) : Ok x0 x1 x2 x3 b h :=
  ⟨fun i => (H.1 i).1, fun i => (H.2.1 i).1, fun i => (H.2.2.1 i).1, fun i => (H.2.2.2 i).1,
    H.1.fin16 b h, H.2.1.fin16 b h, H.2.2.1.fin16 b h, H.2.2.2.fin16 b h⟩

end Cert.ReferenceIdeal.Quant

end
-- ==== Proof.AccSum.lean ====
/-
  The accumulators' tiles hold every visible (key, query) pair once: what the thirty tiles leave is the sum over all
  queries.
-/
module

public import proofs.«01_k».proof.Proof.Ops

@[expose] public section

noncomputable section

namespace Cert.KernelIdeal.Attn

open scoped BigOperators
open Finset (range)

theorem sum2048 (g : ℕ → ℝ) : ∑ q ∈ range 2048, g q =
    (∑ b ∈ range 256, g (0 + b)) + (∑ b ∈ range 256, g (256 + b)) + (∑ b ∈ range 256, g (512 + b)) + (∑ b ∈ range 256, g (768 + b))
    + (∑ b ∈ range 256, g (1024 + b)) + (∑ b ∈ range 256, g (1280 + b)) + (∑ b ∈ range 256, g (1536 + b)) + (∑ b ∈ range 256, g (1792 + b)) := by
  rw [show (2048 : ℕ) = 1792 + 256 from rfl, Finset.sum_range_add, show (1792 : ℕ) = 1536 + 256 from rfl, Finset.sum_range_add,
    show (1536 : ℕ) = 1280 + 256 from rfl, Finset.sum_range_add, show (1280 : ℕ) = 1024 + 256 from rfl, Finset.sum_range_add,
    show (1024 : ℕ) = 768 + 256 from rfl, Finset.sum_range_add, show (768 : ℕ) = 512 + 256 from rfl, Finset.sum_range_add,
    show (512 : ℕ) = 256 + 256 from rfl, Finset.sum_range_add]
  simp only [zero_add]

/-! One query tile's key tiles hold a key once, or none of its visible queries. -/

theorem tile1 (lo : ℕ) {k : ℕ} {y : ℝ} (h : ¬(lo ≤ k ∧ k < lo + 256) → y = 0) :
    (if lo + 0 ≤ k ∧ k < lo + 0 + 256 then y else 0) = y := by
  by_cases hk : lo ≤ k ∧ k < lo + 256
  · split_ifs <;> first | (exfalso; omega) | simp
  · simp [h hk]

theorem tile2 (lo : ℕ) {k : ℕ} {y : ℝ} (h : ¬(lo ≤ k ∧ k < lo + 512) → y = 0) :
    (if lo + 0 ≤ k ∧ k < lo + 0 + 256 then y else 0) + (if lo + 256 ≤ k ∧ k < lo + 256 + 256 then y else 0) = y := by
  by_cases hk : lo ≤ k ∧ k < lo + 512
  · split_ifs <;> first | (exfalso; omega) | simp
  · simp [h hk]

theorem tile3 (lo : ℕ) {k : ℕ} {y : ℝ} (h : ¬(lo ≤ k ∧ k < lo + 768) → y = 0) :
    (if lo + 0 ≤ k ∧ k < lo + 0 + 256 then y else 0) + (if lo + 256 ≤ k ∧ k < lo + 256 + 256 then y else 0) + (if lo + 512 ≤ k ∧ k < lo + 512 + 256 then y else 0) = y := by
  by_cases hk : lo ≤ k ∧ k < lo + 768
  · split_ifs <;> first | (exfalso; omega) | simp
  · simp [h hk]

theorem tile4 (lo : ℕ) {k : ℕ} {y : ℝ} (h : ¬(lo ≤ k ∧ k < lo + 1024) → y = 0) :
    (if lo + 0 ≤ k ∧ k < lo + 0 + 256 then y else 0) + (if lo + 256 ≤ k ∧ k < lo + 256 + 256 then y else 0) + (if lo + 512 ≤ k ∧ k < lo + 512 + 256 then y else 0) + (if lo + 768 ≤ k ∧ k < lo + 768 + 256 then y else 0) = y := by
  by_cases hk : lo ≤ k ∧ k < lo + 1024
  · split_ifs <;> first | (exfalso; omega) | simp
  · simp [h hk]

theorem tile5 (lo : ℕ) {k : ℕ} {y : ℝ} (h : ¬(lo ≤ k ∧ k < lo + 1280) → y = 0) :
    (if lo + 0 ≤ k ∧ k < lo + 0 + 256 then y else 0) + (if lo + 256 ≤ k ∧ k < lo + 256 + 256 then y else 0) + (if lo + 512 ≤ k ∧ k < lo + 512 + 256 then y else 0) + (if lo + 768 ≤ k ∧ k < lo + 768 + 256 then y else 0) + (if lo + 1024 ≤ k ∧ k < lo + 1024 + 256 then y else 0) = y := by
  by_cases hk : lo ≤ k ∧ k < lo + 1280
  · split_ifs <;> first | (exfalso; omega) | simp
  · simp [h hk]

/-- What the tiles leave is the sum over all queries, for terms that vanish outside the window. -/
theorem acc_sum (f : ℕ → ℕ → ℕ → ℝ) (k d : ℕ) (hf : ∀ q, ¬ vis k q → f k q d = 0) :
    Pr.acc (fun q0 k d => ∑ b ∈ range 256, f k (q0 + b) d) 30 k d = ∑ q ∈ range 2048, f k q d := by
  have off : ∀ q0 lo hi : ℕ, lo ≤ q0 - 999 → q0 + 256 ≤ hi → ¬(lo ≤ k ∧ k < hi) → ∑ b ∈ range 256, f k (q0 + b) d = 0 := by
    intro q0 lo hi h1 h2 hn
    refine Finset.sum_eq_zero fun b hb => hf _ fun hv => hn ?_
    have := Finset.mem_range.1 hb
    obtain ⟨a, c⟩ := hv
    omega
  rw [sum2048]
  simp only [Pr.acc, Pr.tk, Pr.tq, Pr.tiles, List.getD_cons_zero, List.getD_cons_succ, zero_add]
  have o0 := off 0 0 256 (by omega) (by omega)
  have o1 := off 256 0 512 (by omega) (by omega)
  have o2 := off 512 0 768 (by omega) (by omega)
  have o3 := off 768 0 1024 (by omega) (by omega)
  have o4 := off 1024 25 1305 (by omega) (by omega)
  have o5 := off 1280 281 1561 (by omega) (by omega)
  have o6 := off 1536 537 1817 (by omega) (by omega)
  have o7 := off 1792 793 2073 (by omega) (by omega)
  simp only [zero_add] at o0
  generalize ∑ b ∈ range 256, f k b d = y0 at *
  generalize ∑ b ∈ range 256, f k (256 + b) d = y1 at *
  generalize ∑ b ∈ range 256, f k (512 + b) d = y2 at *
  generalize ∑ b ∈ range 256, f k (768 + b) d = y3 at *
  generalize ∑ b ∈ range 256, f k (1024 + b) d = y4 at *
  generalize ∑ b ∈ range 256, f k (1280 + b) d = y5 at *
  generalize ∑ b ∈ range 256, f k (1536 + b) d = y6 at *
  generalize ∑ b ∈ range 256, f k (1792 + b) d = y7 at *
  have t0 := tile1 0 o0
  have t1 := tile2 0 o1
  have t2 := tile3 0 o2
  have t3 := tile4 0 o3
  have t4 := tile5 25 o4
  have t5 := tile5 281 o5
  have t6 := tile5 537 o6
  have t7 := tile5 793 o7
  norm_num only [zero_add] at t0 t1 t2 t3 t4 t5 t6 t7 ⊢
  linarith

end Cert.KernelIdeal.Attn

end
-- ==== Proof.Base.lean ====
/-
  What the quantising part leaves for the products (`Good`), and the remaining laws the body's walk uses.
-/
module

public import proofs.«01_k».proof.Proof.Reads
public import proofs.«01_k».proof.Proof.Own.IdealRunA

@[expose] public section

noncomputable section

namespace Cert.KernelIdeal.Attn

open Idealize.ShloMosaic Cert.KernelIdeal Cert.KernelIdeal.Gen Cert.KernelIdeal.Own.kernelRun0_A
open scoped BigOperators
open Finset (range)

/-! ## The keys of each query block -/

theorem rw0 : Pr.Rows 256 [0] 0 := rows_of (a := 0) (n := 1) rfl (by norm_num) (by norm_num) (by norm_num)
theorem rw256 : Pr.Rows 256 [0, 256] 256 := rows_of (a := 0) (n := 2) rfl (by norm_num) (by norm_num) (by norm_num)
theorem rw512 : Pr.Rows 256 [0, 256, 512] 512 := rows_of (a := 0) (n := 3) rfl (by norm_num) (by norm_num) (by norm_num)
theorem rw768 : Pr.Rows 256 [0, 256, 512, 768] 768 := rows_of (a := 0) (n := 4) rfl (by norm_num) (by norm_num) (by norm_num)
theorem rw1024 : Pr.Rows 256 [25, 281, 537, 793, 1049] 1024 := rows_of (a := 25) (n := 5) rfl (by norm_num) (by norm_num) (by norm_num)
theorem rw1280 : Pr.Rows 256 [281, 537, 793, 1049, 1305] 1280 := rows_of (a := 281) (n := 5) rfl (by norm_num) (by norm_num) (by norm_num)
theorem rw1536 : Pr.Rows 256 [537, 793, 1049, 1305, 1561] 1536 := rows_of (a := 537) (n := 5) rfl (by norm_num) (by norm_num) (by norm_num)
theorem rw1792 : Pr.Rows 256 [793, 1049, 1305, 1561, 1817] 1792 := rows_of (a := 793) (n := 5) rfl (by norm_num) (by norm_num) (by norm_num)
theorem rh0 : Pr.Rows 128 [0, 128] 0 := rows_of (a := 0) (n := 2) rfl (by norm_num) (by norm_num) (by norm_num)
theorem rh256 : Pr.Rows 128 [0, 128, 256, 384] 256 := rows_of (a := 0) (n := 4) rfl (by norm_num) (by norm_num) (by norm_num)
theorem rh512 : Pr.Rows 128 [0, 128, 256, 384, 512, 640] 512 := rows_of (a := 0) (n := 6) rfl (by norm_num) (by norm_num) (by norm_num)
theorem rh768 : Pr.Rows 128 [0, 128, 256, 384, 512, 640, 768, 896] 768 := rows_of (a := 0) (n := 8) rfl (by norm_num) (by norm_num) (by norm_num)
theorem rh1024 : Pr.Rows 128 [25, 153, 281, 409, 537, 665, 793, 921, 1049, 1177] 1024 :=
  rows_of (a := 25) (n := 10) rfl (by norm_num) (by norm_num) (by norm_num)
theorem rh1280 : Pr.Rows 128 [281, 409, 537, 665, 793, 921, 1049, 1177, 1305, 1433] 1280 :=
  rows_of (a := 281) (n := 10) rfl (by norm_num) (by norm_num) (by norm_num)
theorem rh1536 : Pr.Rows 128 [537, 665, 793, 921, 1049, 1177, 1305, 1433, 1561, 1689] 1536 :=
  rows_of (a := 537) (n := 10) rfl (by norm_num) (by norm_num) (by norm_num)
theorem rh1792 : Pr.Rows 128 [793, 921, 1049, 1177, 1305, 1433, 1561, 1689, 1817, 1945] 1792 :=
  rows_of (a := 793) (n := 10) rfl (by norm_num) (by norm_num) (by norm_num)

/-! ## Constants -/

theorem cst11 : (sl.cst_11 : Ideal .f32) = Scalar.ofBits .f32 0x43E00000#32 := rfl
theorem cst549 : (sl.cst_549 : Ideal .f32) = Scalar.ofBits .f32 0x3B800000#32 := rfl
theorem cst578 : (sl.cst_578 : FVec Ideal S128x256 .f32) = constant (F := Ideal) S128x256 .f32 0x00000000#32 := rfl
theorem cst662 : (sl.cst_662 : FVec Ideal S256x256 .f32) = constant (F := Ideal) S256x256 .f32 0x00000000#32 := rfl

/-! ## More windows -/

section
variable (p : Pr) {q0 t k0 : ℕ} {F : ℕ → ℕ → EReal}

/-- A tile of 256 rows as 32 groups of 8. -/
def R8 (t q0 : ℕ) (F : ℕ → ℕ → EReal) : S32x8x256.Idx → EReal := fun i => F (t + (8 * (i 0).val + (i 1).val)) (q0 + (i 2).val)

theorem cast28 (h) : shapeCast (s := S256x256) S32x8x256 (W2 256 256 t q0 F) h = R8 t q0 F := by
  funext i
  have e : i = ix3 (i 0) (i 1) (i 2) := by funext a; match a with | ⟨0, _⟩ => rfl | ⟨1, _⟩ => rfl | ⟨2, _⟩ => rfl
  exact (congrArg _ e).trans (cast8 h (i 0) (i 1) (i 2))
theorem max8r {ds : List (Fin S32x8x256.rank)} (hd : ds = [0]) (hr h1 h2) :
    multiReduction (F := Ideal) (φ := .f32) .maximumf ds S8x256 (R8 t q0 p.uMS) 0xFF800000#32 hr h1 h2 = W2 8 256 0 q0 (p.uM8 [t]) := by
  subst hd
  rw [← cast28 shapeCasts_S256x256_S32x8x256]; exact max8 p _ hr h1 h2
theorem add8r (ls : List ℕ) {ds : List (Fin S32x8x256.rank)} (hd : ds = [0]) (hr h1 h2) :
    multiReduction (F := Ideal) (φ := .f32) .add ds S8x256 (R8 t q0 (up (p.E ls))) 0x00000000#32 hr h1 h2
    = W2 8 256 0 q0 (up (p.L8 ls [t])) := by
  subst hd
  rw [← cast28 shapeCasts_S256x256_S32x8x256]; exact add8 p ls _ hr h1 h2
theorem red8r (ls : List ℕ) {ds : List (Fin S8x256.rank)} (hd : ds = [0]) (hr h1 h2) :
    multiReduction (F := Ideal) (φ := .f32) (s := S8x256) .maximumf ds S256 (W2 8 256 0 q0 (p.uM8 ls)) 0xFF800000#32 hr h1 h2
    = W1 256 q0 (p.uMr ls) := by
  subst hd; exact red8 p ls hr h1 h2
theorem sum_l8r (ls l : List ℕ) {ds : List (Fin S8x256.rank)} (hd : ds = [0]) (hr h1 h2) :
    multiReduction (F := Ideal) (φ := .f32) (s := S8x256) .add ds S256 (W2 8 256 0 q0 (up (p.L8 ls l))) 0x00000000#32 hr h1 h2
    = W1 256 q0 (up1 (p.L ls l)) := by
  subst hd; exact sum_l8 p ls l hr h1 h2
theorem sum128r {f : ℕ → ℕ → ℝ} {ds : List (Fin S128x256.rank)} (hd : ds = [0]) (hr h1 h2) :
    multiReduction (F := Ideal) (φ := .f32) (s := S128x256) .add ds S256 (W2 128 256 0 q0 (up f)) 0x00000000#32 hr h1 h2
    = W1 256 q0 (up1 fun q => ∑ d ∈ range 128, f d q) := by
  subst hd; exact sum128 hr h1 h2
theorem clip_0 : maximumf (F := Ideal) (φ := .f32) (kc S256x256 ((0 : ℝ) : EReal)) (W2 256 256 k0 q0 (up p.P))
    = W2 256 256 k0 q0 (up fun k q => max 0 (p.P k q)) := by
  funext i
  show max ((0 : ℝ) : EReal) ((p.P _ _ : ℝ) : EReal) = ((max 0 (p.P _ _) : ℝ) : EReal)
  rw [EReal.coe_strictMono.monotone.map_max]
theorem clip_448 : minimumf (F := Ideal) (φ := .f32) (kc S256x256 ((448 : ℝ) : EReal)) (W2 256 256 k0 q0 (up fun k q => max 0 (p.P k q)))
    = W2 256 256 k0 q0 (up p.P8) := by
  rw [← clip_0]; exact clip_p p
theorem tr_up {m n r c : ℕ} {f : ℕ → ℕ → ℝ} (h) : transpose (s := ⟨2, ![m, n]⟩) (⟨2, ![n, m]⟩ : Shape) [1, 0] (W2 m n r c (up f)) h
    = W2 n m c r (up fun a b => f b a) := tr2 m n r c (up f) h
end

/-! ## Whole stores -/

theorem zero_acc4 (X : ℕ → ℕ → ℕ → ℝ) : k0_pay48 (F := Ideal) = W2 2080 128 0 0 (up (Pr.acc X 0)) := by
  simp only [k0_pay48, kc_zero, cast_kc]; rfl
theorem zero_acc5 (X : ℕ → ℕ → ℕ → ℝ) : k0_pay49 (F := Ideal) = W2 2080 128 0 0 (up (Pr.acc X 0)) := by
  simp only [k0_pay49, kc_zero, cast_kc]; rfl

theorem stage {f : ℕ → ℕ → ℝ} (L : List (View.Piece (Elt Ideal) S2080x128 .f32)) (inb x) (hx : x = W2 2048 128 0 0 (up f))
    (hL : ∀ y : S2080x128.Idx, 2048 ≤ (y 0).val → View.canon L y = ((f (y 0).val (y 1).val : ℝ) : EReal)) :
    View.canon ((⟨Rect.unit (s := S2080x128) ![0, 0] S2048x128.size inb, x⟩ : View.Piece (Elt Ideal) S2080x128 .f32) :: L)
      = W2 2080 128 0 0 (up f) := by
  funext y
  by_cases hy : (y 0).val < 2048
  · have e : y = (Rect.unit (s := S2080x128) ![0, 0] S2048x128.size inb).emb (ix2 ⟨(y 0).val, hy⟩ (y 1)) := by
      funext a
      apply Fin.ext
      match a with
      | ⟨0, _⟩ => show (y 0).val = 0 + 1 * (y 0).val; omega
      | ⟨1, _⟩ => show (y 1).val = 0 + 1 * (y 1).val; omega
    conv_lhs => rw [e]
    rw [View.canon_cons_emb, hx]
    rfl
  · rw [View.canon_cons_of_not_mem, hL y (by omega)]
    · show _ = ((f (0 + (y 0).val) (0 + (y 1).val) : ℝ) : EReal)
      rw [Nat.zero_add, Nat.zero_add]
    · rw [Rect.mem_set_unit]
      intro hm
      have h0 : 0 ≤ (y 0).val ∧ (y 0).val < 0 + 2048 := hm 0
      omega

theorem tail0 {f : ℕ → ℕ → ℝ} (hf : ∀ k, 2048 ≤ k → ∀ d, f k d = 0) (y : S2080x128.Idx) (hy : 2048 ≤ (y 0).val) :
    View.canon ([⟨Rect.unit ![2048, 0] S32x128.size inb_S2080x128_S32x128_2048_0, k0_pay15 (F := Ideal)⟩] : List (View.Piece (Elt Ideal) S2080x128 .f32)) y
      = ((f (y 0).val (y 1).val : ℝ) : EReal) := by
  have hlt : (y 0).val < 2080 := (y 0).isLt
  have e : y = (Rect.unit (s := S2080x128) ![2048, 0] S32x128.size inb_S2080x128_S32x128_2048_0).emb (ix2 ⟨(y 0).val - 2048, by omega⟩ (y 1)) := by
    funext a
    apply Fin.ext
    match a with
    | ⟨0, _⟩ => show (y 0).val = 2048 + 1 * ((y 0).val - 2048); omega
    | ⟨1, _⟩ => show (y 1).val = 0 + 1 * (y 1).val; omega
  conv_lhs => rw [e]
  rw [View.canon_cons_emb, hf _ hy]
  simp only [k0_pay15, kc_zero, cast_kc]; rfl

theorem tail1 {f g : ℕ → ℕ → ℝ} (hf : ∀ k, 2048 ≤ k → ∀ d, f k d = 0) (hg : ∀ k, 2048 ≤ k → ∀ d, g k d = 0)
    {L : List (View.Piece (Elt Ideal) S2080x128 .f32)} (hL : View.canon L = W2 2080 128 0 0 (up f)) (y : S2080x128.Idx) (hy : 2048 ≤ (y 0).val) :
    View.canon L y = ((g (y 0).val (y 1).val : ℝ) : EReal) := by
  rw [hL, hg _ hy]
  show ((f (0 + (y 0).val) _ : ℝ) : EReal) = _
  rw [hf _ (by omega)]

/-! ## What the quantising part leaves -/

/-- The codes stored by the quantising part of the body are those of `p`, and its scalars are the factors of `p`. -/
structure Good (c : Dev nD) (arg2 : Memref sig .tc .vmem S1x2048x128 .bf16) (harg2 : arg2.IsWhole)
    (arg3 : Memref sig .tc .vmem S1x2048x128 .bf16) (harg3 : arg3.IsWhole)
    (arg4 : Memref sig .tc .vmem S1x2048x128 .bf16) (harg4 : arg4.IsWhole)
    (arg5 : Memref sig .tc .vmem S1x2048x128 .bf16) (harg5 : arg5.IsWhole)
    (x0 x1 x2 x3 : Vec Ideal S1x2048x128 .bf16) (p : Pr) : Prop where
  /-- query codes -/
  q : k0_pay5 (sl.r_1 c arg2 harg2 x0) sl.cst_10 sl.cst_11 = W3 2048 128 0 0 (up p.Q)
  /-- output-gradient codes -/
  d : k0_pay13 (sl.r_2 c arg5 harg5 x3) (sl.r_3 c arg5 harg5 x3) (sl.r_4 c arg5 harg5 x3) k0_pay10 = W3 2048 128 0 0 (up p.D)
  /-- key codes -/
  k : k0_pay22 (sl.r_9 c arg3 harg3 x1) = W3 2048 128 0 0 (up p.K)
  /-- value codes -/
  v : k0_pay33 (sl.r_10 c arg4 harg4 x2) (sl.r_11 c arg4 harg4 x2) k0_pay29 = W3 2048 128 0 0 (up p.V)
  /-- key codes, staged -/
  kf : k0_pay24 (sl.r_8 c arg3 harg3 x1) = W2 2048 128 0 0 (up p.K)
  /-- value codes, staged -/
  vf : k0_pay36 (sl.r_13 c arg4 harg4 x2) = W2 2048 128 0 0 (up p.V)
  /-- factor of the scores -/
  r20 : sl.r_20 c arg2 harg2 arg3 harg3 x0 x1 = kc S1x1 ((p.c : ℝ) : EReal)
  /-- factor of dq -/
  r21 : sl.r_21 c arg3 harg3 arg4 harg4 arg5 harg5 x1 x2 x3 = kc S1x1 ((p.s1 : ℝ) : EReal)
  /-- factor of dk -/
  r22 : sl.r_22 c arg2 harg2 arg4 harg4 arg5 harg5 x0 x2 x3 = kc S1x1 ((p.s2 : ℝ) : EReal)
  /-- factor of dv -/
  r23 : sl.r_23 c arg5 harg5 x3 = kc S1x1 ((p.s3 : ℝ) : EReal)
  c_pos : 0 < p.c
  k_zero : ∀ k, 2048 ≤ k → ∀ d, p.K k d = 0
  v_zero : ∀ k, 2048 ≤ k → ∀ d, p.V k d = 0

end Cert.KernelIdeal.Attn
-- ==== Proof.Quant.lean ====
/-
  The quantising part of the body: codes and scales of the four blocks, and with them all that the
  products rest on (`good`).
-/
module

public import proofs.«01_k».proof.Proof.Scale
public import proofs.«01_k».proof.Proof.Base
public import Idealize.ShloMosaic.Lib.WholeRead

@[expose] public section

noncomputable section

namespace Cert.KernelIdeal.Attn

open Idealize.ShloMosaic Cert.KernelIdeal Cert.KernelIdeal.Gen Cert.KernelIdeal.Own.kernelRun0_A
open scoped BigOperators
open Finset (range)

section
variable {f : ℕ → ℕ → ℝ} {y : ℝ}

theorem abs_up : absf (F := Ideal) (φ := .f32) (W2 2048 128 0 0 (up f)) = W2 2048 128 0 0 (up fun a b => |f a b|) := by
  funext i
  show max ((f _ _ : ℝ) : EReal) (-((f _ _ : ℝ) : EReal)) = ((|f _ _| : ℝ) : EReal)
  rw [← EReal.coe_neg, ← EReal.coe_strictMono.monotone.map_max]
  rfl

/-- The greatest entry of each column. -/
theorem red2048 (F : ℕ → ℕ → EReal) (hr h1 h2) : multiReduction (F := Ideal) (φ := .f32) .maximumf [0] S128
    (W2 2048 128 0 0 F) 0xFF800000#32 hr h1 h2
    = W1 128 0 fun b => (Finset.univ : Finset (Fin 2048)).fold max ⊥ fun a => F a.val b := by
  funext i
  rw [multiReduction_maximumf_eq_fold]
  pointwise [W2, W1]
  rw [show (4286578688#32) = (0xFF800000#32 : BitVec 32) from rfl, bits_bot]

theorem red128 (G : ℕ → EReal) (hr h1 h2) : multiReduction (F := Ideal) (φ := .f32) .maximumf [1] S1
    (WR 1 128 0 G) 0xFF800000#32 hr h1 h2
    = kc S1 ((Finset.univ : Finset (Fin 128)).fold max ⊥ fun b => G b.val) := by
  funext i
  rw [multiReduction_maximumf_eq_fold]
  pointwise [WR, kc]
  rw [show (4286578688#32) = (0xFF800000#32 : BitVec 32) from rfl, bits_bot]

theorem amax_fold : ((Finset.univ : Finset (Fin 128)).fold max ⊥ fun b =>
    (Finset.univ : Finset (Fin 2048)).fold max ⊥ fun a => up (fun a b => |f a b|) a.val b.val) = ((amx f : ℝ) : EReal) := by
  refine eq_amx fun x => ?_
  rw [Finset.fold_max_le]
  constructor
  · intro h a b ha hb
    have := h.2 ⟨b, hb⟩ (Finset.mem_univ _)
    rw [Finset.fold_max_le] at this
    exact this.2 ⟨a, ha⟩ (Finset.mem_univ _)
  · intro h
    refine ⟨bot_le, fun b _ => ?_⟩
    rw [Finset.fold_max_le]
    exact ⟨bot_le, fun a _ => h _ _ a.isLt b.isLt⟩

theorem amaxv (h1 h2 h3 h4 h5 h6 h7 h8) : shapeCast S1x1 (multiReduction (F := Ideal) (φ := .f32) .maximumf [1] S1
    (shapeCast S1x128 (multiReduction (F := Ideal) (φ := .f32) .maximumf [0] S128
      (W2 2048 128 0 0 (up fun a b => |f a b|)) 0xFF800000#32 h1 h2 h3) h4) 0xFF800000#32 h5 h6 h7) h8
    = kc S1x1 ((amx f : ℝ) : EReal) := by
  rw [red2048]
  erw [cast12]
  rw [red128, amax_fold]
  exact cast_kc _ _

theorem ones_fold (h : Fin 256 → ℕ) (s : Finset (Fin 256)) :
    s.fold (IntOp.addi (w := 32)) 0#32 (fun x => BitVec.ofNat 32 (h x)) = BitVec.ofNat 32 (∑ x ∈ s, h x) := by
  classical
  induction s using Finset.induction_on with
  | empty => rfl
  | insert x s hx ih => rw [Finset.fold_insert hx, ih, Finset.sum_insert hx, BitVec.ofNat_add]; rfl

theorem ones_sum (n : ℕ) (hn : n < 256) :
    (Finset.univ : Finset (Fin 256)).fold (IntOp.addi (w := 32)) 0#32 (fun x => if 1 ≤ x.val ∧ x.val ≤ n then 1#32 else 0#32)
      = BitVec.ofNat 32 n := by
  have e : (fun x : Fin 256 => if 1 ≤ x.val ∧ x.val ≤ n then 1#32 else 0#32)
      = fun x => BitVec.ofNat 32 (if 1 ≤ x.val ∧ x.val ≤ n then 1 else 0) := by
    funext x; split_ifs <;> rfl
  rw [e, ones_fold, ← Finset.sum_range (fun x => if 1 ≤ x ∧ x ≤ n then 1 else 0), Finset.sum_boole]
  have : (Finset.filter (fun x => 1 ≤ x ∧ x ≤ n) (range 256)) = Finset.Icc 1 n := by
    ext x; simp; omega
  rw [this]
  simp

theorem count_src (hy : y < pw 247) : extui 32 (andi (cmpi .sgt (iota .tc S1x256 32 [1] iota_S1x256_d1_w32) (broadcast S1x256 0#32))
      (cmpf (F := Ideal) (φ := .f32) .oge (kc S1x256 ((y : ℝ) : EReal))
        (bitcastToFloat .f32 (shli (iota .tc S1x256 32 [1] iota_S1x256_d1_w32) (broadcast S1x256 23#32))))) natLt_1_32
    = fun i => if 1 ≤ (i 1).val ∧ (i 1).val ≤ cnt y then 1#32 else 0#32 := by
  funext i
  have hi : (i 1).val < 256 := (i 1).isLt
  have hc := cnt_le hy
  show BitVec.setWidth 32 (IntOp.cmpi .sgt (iota .tc S1x256 32 [1] iota_S1x256_d1_w32 i) 0#32 &&&
    BitVec.ofBool (decide (Ideal.ofBits .f32 (iota .tc S1x256 32 [1] iota_S1x256_d1_w32 i <<< 23) ≤ ((y : ℝ) : EReal)))) = _
  rw [iota_single_apply]
  generalize (i 1).val = j at hi
  have e1 : IntOp.cmpi .sgt (BitVec.ofNat 32 j) 0#32 = BitVec.ofBool (decide (1 ≤ j)) := by
    show BitVec.ofBool (BitVec.slt _ _) = _
    rw [BitVec.slt_eq_decide]
    congr 1
    rw [show (BitVec.ofNat 32 j).toInt = (j : ℤ) by
      rw [BitVec.toInt_ofNat', Int.bmod_eq_of_le (n := (j : ℤ)) (by omega) (by omega)]]
    simp
    omega
  rw [e1]
  by_cases h1 : 1 ≤ j
  · by_cases h2 : j ≤ 254
    · simp only [bits_field h1 h2, EReal.coe_le_coe_iff, cnt_iff h1 h2, h1]
      by_cases h3 : j ≤ cnt y <;> simp [h3]
    · have : j = 255 := by omega
      subst this
      have : ¬ 255 ≤ cnt y := by omega
      simp only [bits_field_top]
      simp [this]
  · simp [h1]

theorem countv (hy : y < pw 247) (h1 h2 h3) : shapeCast S1x1 (multiReductionI .add [1] S1
      (extui 32 (andi (cmpi .sgt (iota .tc S1x256 32 [1] iota_S1x256_d1_w32) (broadcast S1x256 0#32))
      (cmpf (F := Ideal) (φ := .f32) .oge (kc S1x256 ((y : ℝ) : EReal))
        (bitcastToFloat .f32 (shli (iota .tc S1x256 32 [1] iota_S1x256_d1_w32) (broadcast S1x256 23#32))))) natLt_1_32) 0#32 h1 h2) h3
    = broadcast S1x1 (BitVec.ofNat 32 (cnt y)) := by
  have hc := cnt_le hy
  have e : multiReductionI .add [1] S1 (fun i : S1x256.Idx => if 1 ≤ (i 1).val ∧ (i 1).val ≤ cnt y then 1#32 else 0#32) 0#32 h1 h2
      = broadcast S1 (BitVec.ofNat 32 (cnt y)) := by
    funext j
    rw [multiReductionI_eq_fold]
    refine (h1.fold_filter_drop_single _ _ _ j).trans ?_
    rw [broadcast, ← ones_sum (cnt y) (by omega)]
    congr 1
  rw [count_src hy, e]
  funext i; unfold shapeCast; rfl

/-- The exponent. -/
theorem expv : select (cmpf (F := Ideal) (φ := .f32) .oeq (kc S1x1 ((y : ℝ) : EReal)) (kc S1x1 ((0 : ℝ) : EReal))) (broadcast S1x1 0#32)
    (subi (broadcast S1x1 (BitVec.ofNat 32 (cnt y))) (broadcast S1x1 126#32)) = broadcast S1x1 (ew y) := by
  funext i
  show Scalar.select (BitVec.ofBool (decide (((y : ℝ) : EReal) = ((0 : ℝ) : EReal)))) 0#32 (BitVec.ofNat 32 (cnt y) - 126#32) = ew y
  unfold ew
  by_cases h : y = 0 <;> simp [h, Scalar.select]

theorem sclv (hy : y < pw 247) : bitcastToFloat (F := Ideal) .f32 (shli (addi (broadcast S1x1 (ew y)) (broadcast S1x1 127#32)) (broadcast S1x1 23#32))
    = kc S1x1 ((scl y : ℝ) : EReal) := funext fun _ => ew_scale hy
theorem invv (hy : y < pw 247) : bitcastToFloat (F := Ideal) .f32 (shli (subi (broadcast S1x1 127#32) (broadcast S1x1 (ew y))) (broadcast S1x1 23#32))
    = kc S1x1 (((scl y)⁻¹ : ℝ) : EReal) := funext fun _ => ew_inv hy

theorem kc_κ4 (s : Shape) : broadcast s (Scalar.ofBits (F := Ideal) .f32 0x3B124925#32) = kc s ((κ4 : ℝ) : EReal) := funext fun _ => bits_κ4
theorem kc_κ5 (s : Shape) : broadcast s (Scalar.ofBits (F := Ideal) .f32 0x37924925#32) = kc s ((κ5 : ℝ) : EReal) := funext fun _ => bits_κ5
theorem kc_sm (s : Shape) : broadcast s (Scalar.ofBits (F := Ideal) .f32 0x3DB504F3#32) = kc s ((sm : ℝ) : EReal) := funext fun _ => bits_sm
theorem kc_n448 (s : Shape) : broadcast s (Scalar.ofBits (F := Ideal) .f32 0xC3E00000#32) = kc s ((-448 : ℝ) : EReal) := funext fun _ => bits_n448
theorem kc_57344 (s : Shape) : broadcast s (Scalar.ofBits (F := Ideal) .f32 0x47600000#32) = kc s ((57344 : ℝ) : EReal) := funext fun _ => bits_57344
theorem kc_n57344 (s : Shape) : broadcast s (Scalar.ofBits (F := Ideal) .f32 0xC7600000#32) = kc s ((-57344 : ℝ) : EReal) := funext fun _ => bits_n57344

theorem mul_kc {s : Shape} (x z : ℝ) : mulf (F := Ideal) (φ := .f32) (kc s ((x : ℝ) : EReal)) (kc s ((z : ℝ) : EReal)) = kc s ((x * z : ℝ) : EReal) :=
  funext fun _ => coe_mul x z

theorem codev {φ : FTy} (M : ℝ) : minimumf (F := Ideal) (φ := φ) (kc S2048x128 ((M : ℝ) : EReal))
    (maximumf (F := Ideal) (φ := φ) (kc S2048x128 ((-M : ℝ) : EReal))
      (mulf (F := Ideal) (φ := φ) (W2 2048 128 0 0 (up f)) (kc S2048x128 (((scl y)⁻¹ : ℝ) : EReal)))) = W2 2048 128 0 0 (up (code M y f)) := by
  funext i
  show min ((M : ℝ) : EReal) (max ((-M : ℝ) : EReal) (((f _ _ : ℝ) : EReal) * (((scl y)⁻¹ : ℝ) : EReal))) = ((code M y f _ _ : ℝ) : EReal)
  rw [coe_mul, code, EReal.coe_strictMono.monotone.map_min, EReal.coe_strictMono.monotone.map_max]

end

theorem readx (arg : Memref sig .tc .vmem S1x2048x128 .bf16) (h : arg.IsWhole) (x : Vec Ideal S1x2048x128 .bf16) :
    View.readAt (Elt Ideal) arg.view (Rect.unit (s := S1x2048x128) ![0, 0, 0] S1x2048x128.size inb_S1x2048x128_S1x2048x128_0_0_0).toLoadRect (h.unread x) = x := by
  funext i
  rw [Memref.IsWhole.readAt_unread]
  congr 1
  funext a
  match a with
  | ⟨0, _⟩ => exact Fin.ext (by show 0 + 1 * (i 0).val = (i 0).val; omega)
  | ⟨1, _⟩ => exact Fin.ext (by show 0 + 1 * (i 1).val = (i 1).val; omega)
  | ⟨2, _⟩ => exact Fin.ext (by show 0 + 1 * (i 2).val = (i 2).val; omega)

/-! ## The payloads -/

/-- A block of inputs. -/
abbrev X (f : ℕ → ℕ → ℝ) : Vec Ideal S1x2048x128 .bf16 := W3 2048 128 0 0 (up f)

section
variable {f : ℕ → ℕ → ℝ}

theorem v27 : k0_pay27 (F := Ideal) (X f) = W2 2048 128 0 0 (up f) := by
  unfold k0_pay27
  dsimp only
  rw [ext_id]
  exact cast32 2048 128 0 0 (up f) shapeCasts_S1x2048x128_S2048x128
theorem d7 : k0_pay7 (F := Ideal) (X f) = W2 2048 128 0 0 (up f) := by
  unfold k0_pay7
  dsimp only
  rw [ext_id]
  exact cast32 2048 128 0 0 (up f) shapeCasts_S1x2048x128_S2048x128
/-- A block put behind a unit axis, through a change of format. -/
theorem cast_trunc {φ ψ : FTy} {x : FVec Ideal S2048x128 φ} {F : ℕ → ℕ → EReal} (h) (h' : S2048x128.ShapeCasts S1x2048x128)
    (e : x = W2 2048 128 0 0 F) : shapeCast S1x2048x128 (truncf (F := Ideal) ψ x h) h' = W3 2048 128 0 0 F := by
  subst e
  exact cast23 2048 128 0 0 F h'

theorem v28 : k0_pay28 (F := Ideal) (X f) = kc S1x1 ((amx f : ℝ) : EReal) := by
  have e : absf (F := Ideal) (k0_pay27 (F := Ideal) (X f)) = W2 2048 128 0 0 (up fun a b => |f a b|) := by
    rw [v27]; exact abs_up
  show shapeCast S1x1 (multiReduction (F := Ideal) .maximumf [1] S1 (shapeCast S1x128 (multiReduction (F := Ideal) .maximumf [0] S128
    (absf (F := Ideal) (k0_pay27 (F := Ideal) (X f))) 0xFF800000#32 reduces_S2048x128_S128 (.inl rfl) rfl) shapeCasts_S128_S1x128) 0xFF800000#32
    reduces_S1x128_S1 (.inl rfl) rfl) shapeCasts_S1_S1x1 = _
  rw [e]
  exact amaxv _ _ _ _ _ _ _ _

/-- The exponent of a block from its greatest magnitude and factor. -/
theorem exp30 {a k : ℝ} (hy : a * k < pw 247) : k0_pay30 (F := Ideal) (kc S1x1 ((a : ℝ) : EReal)) (kc S1x1 ((k : ℝ) : EReal))
    = broadcast S1x1 (ew (a * k)) := by
  unfold k0_pay30
  dsimp only
  rw [mul_kc, bcast_kc, kc_zero]
  exact (congrArg (fun z => select _ _ (subi z _)) (countv hy _ _ _)).trans expv

/-- The scale of a block from its exponent's word. -/
theorem scl31 {a k : ℝ} (hy : a * k < pw 247) : k0_pay31 (F := Ideal) (kc S1x1 ((a : ℝ) : EReal)) (kc S1x1 ((k : ℝ) : EReal))
    = kc S1x1 ((scl (a * k) : ℝ) : EReal) := by
  unfold k0_pay31
  dsimp only
  rw [exp30 hy]
  exact sclv hy

variable (hf : Fin16 f)
include hf

theorem v31 : k0_pay31 (F := Ideal) (k0_pay28 (F := Ideal) (X f)) k0_pay29 = kc S1x1 ((scl (amx f * κ4) : ℝ) : EReal) := by
  rw [v28, show k0_pay29 (F := Ideal) = kc S1x1 ((κ4 : ℝ) : EReal) from kc_κ4 _]
  exact scl31 (lt247_4 hf)
theorem v32 : k0_pay32 (F := Ideal) (k0_pay27 (F := Ideal) (X f)) (k0_pay28 (F := Ideal) (X f)) k0_pay29
    = W2 2048 128 0 0 (up (code 448 (amx f * κ4) f)) := by
  rw [v27, v28, show k0_pay29 (F := Ideal) = kc S1x1 ((κ4 : ℝ) : EReal) from kc_κ4 _]
  unfold k0_pay32
  dsimp only
  rw [exp30 (lt247_4 hf), invv (lt247_4 hf), bcast_kc, kc_448, kc_n448]
  exact codev 448
theorem q3 : k0_pay3 (F := Ideal) (X f) = kc S1x1 ((scl (amx f * κ4) : ℝ) : EReal) := by
  have h := v31 hf
  unfold k0_pay31 k0_pay30 k0_pay28 k0_pay27 k0_pay29 at h
  unfold k0_pay3 k0_pay2 k0_pay1
  dsimp only at h ⊢
  exact h
theorem q5 : k0_pay5 (F := Ideal) (k0_pay4 (F := Ideal) (X f)) (Scalar.ofBits (F := Ideal) .f32 0xC3E00000#32) (Scalar.ofBits (F := Ideal) .f32 0x43E00000#32)
    = W3 2048 128 0 0 (up (code 448 (amx f * κ4) f)) := by
  have h := v32 hf
  unfold k0_pay32 k0_pay30 k0_pay28 k0_pay27 k0_pay29 at h
  unfold k0_pay5 k0_pay4 k0_pay2 k0_pay1
  dsimp only at h ⊢
  exact cast_trunc _ _ h
theorem k19 : k0_pay19 (F := Ideal) (k0_pay16 (F := Ideal) (X f)) = kc S1x1 ((scl (amx f * κ4) : ℝ) : EReal) := by
  have h := v31 hf
  unfold k0_pay31 k0_pay30 k0_pay28 k0_pay27 k0_pay29 at h
  unfold k0_pay19 k0_pay18 k0_pay17 k0_pay16
  dsimp only at h ⊢
  exact h
theorem k20 : k0_pay20 (F := Ideal) (k0_pay16 (F := Ideal) (X f)) = W2 2048 128 0 0 (up (code 448 (amx f * κ4) f)) := by
  have h := v32 hf
  unfold k0_pay32 k0_pay30 k0_pay28 k0_pay27 k0_pay29 at h
  unfold k0_pay20 k0_pay18 k0_pay17 k0_pay16
  dsimp only at h ⊢
  exact h

theorem e5 : k0_pay30 (F := Ideal) (k0_pay28 (F := Ideal) (X f)) (broadcast S1x1 (Scalar.ofBits (F := Ideal) .f32 0x37924925#32))
    = broadcast S1x1 (ew (amx f * κ5)) := by
  rw [v28, kc_κ5]
  exact exp30 (lt247_5 hf)
theorem d11 : k0_pay11 (F := Ideal) (k0_pay8 (F := Ideal) (X f)) (k0_pay9 (F := Ideal) (X f)) k0_pay10 = broadcast S1x1 (ew (amx f * κ5)) := by
  have h := e5 hf
  unfold k0_pay30 k0_pay28 k0_pay27 at h
  unfold k0_pay11 k0_pay10 k0_pay9 k0_pay8 k0_pay7
  dsimp only at h ⊢
  exact h
theorem d12 : k0_pay12 (F := Ideal) (k0_pay8 (F := Ideal) (X f)) (k0_pay9 (F := Ideal) (X f)) k0_pay10 = kc S1x1 ((scl (amx f * κ5) : ℝ) : EReal) := by
  unfold k0_pay12
  dsimp only
  rw [d11 hf]
  exact sclv (lt247_5 hf)
theorem d13 : k0_pay13 (F := Ideal) (k0_pay7 (F := Ideal) (X f)) (k0_pay8 (F := Ideal) (X f)) (k0_pay9 (F := Ideal) (X f)) k0_pay10
    = W3 2048 128 0 0 (up (code 57344 (amx f * κ5) f)) := by
  unfold k0_pay13
  dsimp only
  rw [d7, d11 hf, invv (lt247_5 hf), bcast_kc, kc_57344, kc_n57344]
  exact cast_trunc _ _ (codev 57344)

section
variable (c : Dev nD) (arg : Memref sig .tc .vmem S1x2048x128 .bf16) (h : arg.IsWhole)

theorem r_q : sl.r c arg h (X f) = kc S1x1 ((scl (amx f * κ4) : ℝ) : EReal) := by
  unfold sl.r; rw [readx]; exact q3 hf
theorem r_d : sl.r_5 c arg h (X f) = kc S1x1 ((scl (amx f * κ5) : ℝ) : EReal) := by
  unfold sl.r_5 sl.r_3 sl.r_4; rw [readx]; exact d12 hf
theorem r_k : sl.r_7 c arg h (X f) = kc S1x1 ((scl (amx f * κ4) : ℝ) : EReal) := by
  unfold sl.r_7 sl.r_6; rw [readx]; exact k19 hf
theorem r_v : sl.r_12 c arg h (X f) = kc S1x1 ((scl (amx f * κ4) : ℝ) : EReal) := by
  unfold sl.r_12 sl.r_11; rw [readx]; exact v31 hf
theorem c_k : sl.r_8 c arg h (X f) = W2 2048 128 0 0 (up (code 448 (amx f * κ4) f)) := by
  unfold sl.r_8 sl.r_6; rw [readx]; exact k20 hf
theorem c_v : sl.r_13 c arg h (X f) = W2 2048 128 0 0 (up (code 448 (amx f * κ4) f)) := by
  unfold sl.r_13 sl.r_10 sl.r_11; rw [readx]; exact v32 hf

end

end

/-- The quantising part leaves the codes and factors of `prOf`. -/
theorem good (c : Dev nD) (arg2 : Memref sig .tc .vmem S1x2048x128 .bf16) (harg2 : arg2.IsWhole)
    (arg3 : Memref sig .tc .vmem S1x2048x128 .bf16) (harg3 : arg3.IsWhole)
    (arg4 : Memref sig .tc .vmem S1x2048x128 .bf16) (harg4 : arg4.IsWhole)
    (arg5 : Memref sig .tc .vmem S1x2048x128 .bf16) (harg5 : arg5.IsWhole)
    {fq fk fv fd : ℕ → ℕ → ℝ} (hq : Fin16 fq) (hk : Fin16 fk) (hv : Fin16 fv) (hd : Fin16 fd)
    (zk : ∀ k, 2048 ≤ k → ∀ d, fk k d = 0) (zv : ∀ k, 2048 ≤ k → ∀ d, fv k d = 0) :
    Good c arg2 harg2 arg3 harg3 arg4 harg4 arg5 harg5 (X fq) (X fk) (X fv) (X fd) (prOf fq fk fv fd) where
  q := by
    unfold sl.r_1; rw [readx]; exact q5 hq
  d := by
    unfold sl.r_2 sl.r_3 sl.r_4; rw [readx]; exact d13 hd
  k := by
    show shapeCast S1x2048x128 (sl.r_8 c arg3 harg3 (X fk)) shapeCasts_S2048x128_S1x2048x128 = _
    rw [c_k hk]; exact cast23 2048 128 0 0 _ _
  v := by
    show shapeCast S1x2048x128 (sl.r_13 c arg4 harg4 (X fv)) shapeCasts_S2048x128_S1x2048x128 = _
    rw [c_v hv]; exact cast23 2048 128 0 0 _ _
  kf := by
    rw [c_k hk]; exact cast22 2048 128 0 0 _ _
  vf := by
    rw [c_v hv]; exact cast22 2048 128 0 0 _ _
  r20 := by
    unfold sl.r_20 sl.r_19
    rw [r_k hk, r_q hq]
    unfold k0_pay44 k0_pay43
    dsimp only
    rw [kc_sm, mul_kc, mul_kc]
    rfl
  r21 := by
    unfold sl.r_21
    rw [r_d hd, r_k hk, r_v hv]
    unfold k0_pay45
    dsimp only
    rw [kc_sm, kc_inv256, mul_kc, mul_kc, mul_kc, mul_kc]
    rfl
  r22 := by
    unfold sl.r_22
    rw [r_d hd, r_q hq, r_v hv]
    unfold k0_pay46
    dsimp only
    rw [kc_sm, kc_inv256, mul_kc, mul_kc, mul_kc, mul_kc]
    rfl
  r23 := by
    unfold sl.r_23
    rw [r_d hd]
    unfold k0_pay47
    dsimp only
    rw [kc_inv256, mul_kc]
    rfl
  c_pos := mul_pos (mul_pos (scl_pos _) sm_pos) (scl_pos _)
  k_zero := fun k h d => code_zero (by norm_num) (zk k h d)
  v_zero := fun k h d => code_zero (by norm_num) (zv k h d)

end Cert.KernelIdeal.Attn

end
-- ==== Proof.ChainA.lean ====
/-
  What the body's loads, stored tiles and accumulators hold, one after the other, in the order of the body's text.
-/
module

public import proofs.«01_k».proof.Proof.Base

@[expose] public section

set_option backward.isDefEq.respectTransparency.types false
set_option maxRecDepth 16384

noncomputable section

namespace Cert.KernelIdeal.Attn

open Idealize.ShloMosaic Cert.KernelIdeal Cert.KernelIdeal.Gen Cert.KernelIdeal.Own.kernelRun0_A
open scoped BigOperators
open Finset (range)

variable {c : Dev nD} {arg2 arg3 arg4 arg5 : Memref sig .tc .vmem S1x2048x128 .bf16}
  {harg2 : arg2.IsWhole} {harg3 : arg3.IsWhole} {harg4 : arg4.IsWhole} {harg5 : arg5.IsWhole}
  {arg9 arg10 arg11 : Memref sig .tc .vmem S1x2048x128 .fp8e4m3} {arg12 : Memref sig .tc .vmem S1x2048x128 .fp8e5m2}
  {arg17 : Memref sig .tc .vmem S2048x128 .bf16} {arg18 : Memref sig .tc .vmem S128x1024 .bf16}
  {arg19 : Memref sig .tc .vmem S128x1024 .fp8e4m3} {arg20 : Memref sig .tc .vmem S128x2048 .bf16}
  {arg21 arg22 : Memref sig .tc .vmem S2080x128 .f32} {arg23 : Memref sig .tc .vmem S2x5x256x256 .f32}
  {arg24 : Memref sig .tc .vmem S2x5x256x256 .fp8e4m3} {arg25 : Memref sig .tc .vmem S2080x128 .f32}
  {arg26 arg27 : Memref sig .tc .vmem S2048x128 .fp8e4m3} {arg28 : Memref sig .tc .vmem S128x2048 .bf16}
  {arg29 : Memref sig .tc .vmem S128x2048 .fp8e4m3} {x0 x1 x2 x3 : Vec Ideal S1x2048x128 .bf16} {p : Pr}
  (H : Good c arg2 harg2 arg3 harg3 arg4 harg4 arg5 harg5 x0 x1 x2 x3 p)

include H

theorem H10_1 : View.canon (sl.H10_1 c arg5 harg5 x3) = W3 2048 128 0 0 (up p.D) := by
  rw [sl.H10_1]; exact (View.canon_cons_unit_lit _ _ _ (by decide)).trans H.d

theorem H7_1 : View.canon (sl.H7_1 c arg2 harg2 x0) = W3 2048 128 0 0 (up p.Q) := by
  rw [sl.H7_1]; exact (View.canon_cons_unit_lit _ _ _ (by decide)).trans H.q

theorem H8_1 : View.canon (sl.H8_1 c arg3 harg3 x1) = W3 2048 128 0 0 (up p.K) := by
  rw [sl.H8_1]; exact (View.canon_cons_unit_lit _ _ _ (by decide)).trans H.k

theorem H9_1 : View.canon (sl.H9_1 c arg4 harg4 x2) = W3 2048 128 0 0 (up p.V) := by
  rw [sl.H9_1]; exact (View.canon_cons_unit_lit _ _ _ (by decide)).trans H.v

theorem v48 : sl.v48 c arg2 harg2 arg9 x0 = W3 2048 128 0 0 (up p.Q) := by
  rw [sl.v48]; exact read3 _ _ (H7_1 H) _ rfl rfl

theorem HS0_1 : View.canon (sl.HS0_1 c arg2 harg2 arg9 x0) = W2 2048 128 0 0 (up p.Q) := by
  rw [sl.HS0_1]
  exact (View.canon_cons_unit_lit _ _ _ (by decide)).trans (by simp only [(v48 H), k0_pay6, cast32, ext_id, cast22])

theorem HS8_2 : View.canon (sl.HS8_2 c arg3 harg3 x1) = W2 2080 128 0 0 (up p.K) := by
  rw [sl.HS8_2]
  exact stage _ _ _ H.kf (tail0 H.k_zero)

theorem HS8_3 : View.canon (sl.HS8_3 c arg3 harg3 arg4 harg4 x1 x2) = W2 2080 128 0 0 (up p.V) := by
  rw [sl.HS8_3]
  exact stage _ _ _ H.vf (tail1 H.k_zero H.v_zero (HS8_2 H))

theorem v241 : sl.v241 c arg3 harg3 arg4 harg4 arg25 x1 x2 = W2 2048 128 25 0 (up p.V) := by
  rw [sl.v241]; exact read2 _ _ (HS8_3 H) _ rfl rfl

theorem HS10_1 : View.canon (sl.HS10_1 c arg3 harg3 arg4 harg4 arg25 x1 x2) = W2 2048 128 25 0 (up p.V) := by
  rw [sl.HS10_1]
  exact (View.canon_cons_unit_lit _ _ _ (by decide)).trans (by simp only [(v241 H), k0_pay37, trunc_id, cast22])

theorem v171 : sl.v171 c arg3 harg3 arg25 x1 = W2 2048 128 25 0 (up p.K) := by
  rw [sl.v171]; exact read2 _ _ (HS8_2 H) _ rfl rfl

theorem HS9_1 : View.canon (sl.HS9_1 c arg3 harg3 arg25 x1) = W2 2048 128 25 0 (up p.K) := by
  rw [sl.HS9_1]
  exact (View.canon_cons_unit_lit _ _ _ (by decide)).trans (by simp only [(v171 H), k0_pay25, trunc_id, cast22])

theorem v176 : sl.v176 c arg3 harg3 arg25 arg26 x1 = W2 2048 128 25 0 (up p.K) := by
  rw [sl.v176]; exact read2 _ _ (HS9_1 H) _ rfl rfl

theorem HS11_1 : View.canon (sl.HS11_1 c arg3 harg3 arg25 arg26 x1) = W2 128 2048 0 25 (up fun d k => p.K k d) := by
  rw [sl.HS11_1]
  exact (View.canon_cons_unit_lit _ _ _ (by decide)).trans (by simp only [(v176 H), k0_pay26, ext_id, tr_up, cast22]; any_goals (try erw [tr_up]); any_goals simp only [ext_id, tr_up, cast22])

theorem v246 : sl.v246 c arg3 harg3 arg4 harg4 arg25 arg27 x1 x2 = W2 2048 128 25 0 (up p.V) := by
  rw [sl.v246]; exact read2 _ _ (HS10_1 H) _ rfl rfl

theorem HS12_1 : View.canon (sl.HS12_1 c arg3 harg3 arg4 harg4 arg25 arg27 x1 x2) = W2 128 2048 0 25 (up fun d k => p.V k d) := by
  rw [sl.HS12_1]
  exact (View.canon_cons_unit_lit _ _ _ (by decide)).trans (by simp only [(v246 H), k0_pay38, ext_id, tr_up, trunc_id, cast22]; any_goals (try erw [tr_up]); any_goals simp only [ext_id, tr_up, trunc_id, cast22])

theorem v161 : sl.v161 c arg3 harg3 arg10 x1 = W3 1024 128 0 0 (up p.K) := by
  rw [sl.v161]; exact read3 _ _ (H8_1 H) _ rfl rfl

theorem HS1_1 : View.canon (sl.HS1_1 c arg3 harg3 arg10 x1) = W2 128 1024 0 0 (up fun d k => p.K k d) := by
  rw [sl.HS1_1]
  exact (View.canon_cons_unit_lit _ _ _ (by decide)).trans (by simp only [(v161 H), k0_pay23, cast32, ext_id, tr_up, cast22]; any_goals (try erw [tr_up]); any_goals simp only [cast32, ext_id, tr_up, cast22])

theorem v230 : sl.v230 c arg4 harg4 arg11 x2 = W3 1024 128 0 0 (up p.V) := by
  rw [sl.v230]; exact read3 _ _ (H9_1 H) _ rfl rfl

theorem r_14 : sl.r_14 c arg4 harg4 arg11 x2 = W2 1024 128 0 0 (up p.V) := by
  simp only [sl.r_14, (v230 H), k0_pay34, cast32]

theorem HS2_1 : View.canon (sl.HS2_1 c arg4 harg4 arg11 x2) = W2 128 1024 0 0 (up fun d k => p.V k d) := by
  rw [sl.HS2_1]
  exact (View.canon_cons_unit_lit _ _ _ (by decide)).trans (by simp only [(r_14 H), k0_pay35, ext_id, tr_up, trunc_id, cast22]; any_goals (try erw [tr_up]); any_goals simp only [ext_id, tr_up, trunc_id, cast22])

theorem v102 : sl.v102 c arg5 harg5 arg12 x3 = W3 2048 128 0 0 (up p.D) := by
  rw [sl.v102]; exact read3 _ _ (H10_1 H) _ rfl rfl

theorem HS3_1 : View.canon (sl.HS3_1 c arg5 harg5 arg12 x3) = W2 128 2048 0 0 (up fun d q => p.D q d) := by
  rw [sl.HS3_1]
  exact (View.canon_cons_unit_lit _ _ _ (by decide)).trans (by simp only [(v102 H), k0_pay14, cast32, ext_id, tr_up, cast22]; any_goals (try erw [tr_up]); any_goals simp only [cast32, ext_id, tr_up, cast22])

theorem HS4_1 : View.canon (sl.HS4_1 (F := Ideal)) = W2 2080 128 0 0 (up (Pr.acc p.KT 0)) := by
  rw [sl.HS4_1]; exact (View.canon_cons_unit_lit _ _ _ (by decide)).trans (zero_acc4 p.KT)

theorem v857 : sl.v857 c arg5 harg5 arg12 x3 = W3 256 128 768 0 (up p.D) := by
  rw [sl.v857]; exact read3 _ _ (H10_1 H) _ rfl rfl

theorem r_63 : sl.r_63 c arg5 harg5 arg12 x3 = W2 256 128 768 0 (up p.D) := by
  simp only [sl.r_63, (v857 H), k0_pay149, cast32]

theorem v354 : sl.v354 c arg4 harg4 arg11 arg19 x2 = W2 128 128 0 0 (up fun d k => p.V k d) := by
  rw [sl.v354]; exact read2 _ _ (HS2_1 H) _ rfl rfl

theorem v855 : sl.v855 c arg2 harg2 arg9 x0 = W3 256 128 768 0 (up p.Q) := by
  rw [sl.v855]; exact read3 _ _ (H7_1 H) _ rfl rfl

theorem r_62 : sl.r_62 c arg2 harg2 arg9 x0 = W2 256 128 768 0 (up p.Q) := by
  simp only [sl.r_62, (v855 H), k0_pay148, cast32]

theorem v303 (h) : LoadRect.valAlong (lr := (Rect.unit (s := S2048x128) ![0, 0] S256x128.size inb_S2048x128_S256x128_0_0).toLoadRect) h (sl.v303 c arg3 harg3 arg10 x1) = W2 256 128 0 0 (up p.K) := by
  rw [sl.v303]; exact along _ _ (H8_1 H) _ _ _ _ _ h rfl

theorem r_64 : sl.r_64 c arg2 harg2 arg3 harg3 arg9 arg10 x0 x1 = W2 8 256 0 768 (p.uM8 [0]) := by
  simp only [sl.r_64, (v855 H), (v303 H _), k0_pay152, k0_pay150, cast22, k0_pay148, cast32, dot_s, kc_bot, (mask_gt p (k0 := 0) (q0 := 768) 4294967064#32 (by decide) (by norm_num)), cast28, max8r]
  any_goals (try erw [(v303 H)])
  any_goals simp only [cast22, cast32, dot_s, kc_bot, (mask_gt p (k0 := 0) (q0 := 768) 4294967064#32 (by decide) (by norm_num)), cast28, max8r]

theorem v421 (h) : LoadRect.valAlong (lr := (Rect.unit (s := S2048x128) ![256, 0] S256x128.size inb_S2048x128_S256x128_256_0).toLoadRect) h (sl.v421 c arg3 harg3 arg10 x1) = W2 256 128 256 0 (up p.K) := by
  rw [sl.v421]; exact along _ _ (H8_1 H) _ _ _ _ _ h rfl

theorem r_65 : sl.r_65 c arg3 harg3 arg10 x1 = W2 256 128 256 0 (up p.K) := by
  simp only [sl.r_65, (v421 H _), k0_pay153, cast22]
  any_goals (try erw [(v421 H)])
  any_goals simp only [cast22]

theorem v618 (h) : LoadRect.valAlong (lr := (Rect.unit (s := S2048x128) ![512, 0] S256x128.size inb_S2048x128_S256x128_512_0).toLoadRect) h (sl.v618 c arg3 harg3 arg10 x1) = W2 256 128 512 0 (up p.K) := by
  rw [sl.v618]; exact along _ _ (H8_1 H) _ _ _ _ _ h rfl

theorem r_66 : sl.r_66 c arg2 harg2 arg3 harg3 arg9 arg10 x0 x1 = W2 8 256 0 768 (p.uM8 [0, 256, 512]) := by
  simp only [sl.r_66, (r_62 H), (r_64 H), (r_65 H), cst662, (v618 H _), k0_pay158, k0_pay154, dot_s, (full p (k0 := 256) (q0 := 768) (by norm_num) (by norm_num)), cast28, max8r, max_app, List.cons_append, List.nil_append, k0_pay156, cast22, (full p (k0 := 512) (q0 := 768) (by norm_num) (by norm_num))]
  any_goals (try erw [(v618 H)])
  any_goals simp only [cst662, dot_s, (full p (k0 := 256) (q0 := 768) (by norm_num) (by norm_num)), cast28, max8r, max_app, List.cons_append, List.nil_append, cast22, (full p (k0 := 512) (q0 := 768) (by norm_num) (by norm_num))]

theorem v897 (h) : LoadRect.valAlong (lr := (Rect.unit (s := S2048x128) ![768, 0] S256x128.size inb_S2048x128_S256x128_768_0).toLoadRect) h (sl.v897 c arg3 harg3 arg10 x1) = W2 256 128 768 0 (up p.K) := by
  rw [sl.v897]; exact along _ _ (H8_1 H) _ _ _ _ _ h rfl

theorem r_67 : sl.r_67 c arg2 harg2 arg3 harg3 arg9 arg10 x0 x1 = W2 256 256 768 768 p.uMS := by
  simp only [sl.r_67, (r_62 H), (v897 H _), k0_pay159, cast22, dot_s, kc_bot, (mask_le p (k0 := 768) (q0 := 768) 0#32 (by decide) (by norm_num))]
  any_goals (try erw [(v897 H)])
  any_goals simp only [cast22, dot_s, kc_bot, (mask_le p (k0 := 768) (q0 := 768) 0#32 (by decide) (by norm_num))]

theorem r_69 : sl.r_69 c arg2 harg2 arg3 harg3 arg9 arg10 x0 x1 = WR 1 256 768 (up1 (p.mu [0, 256, 512, 768])) := by
  simp only [sl.r_69, H.r20, (r_66 H), (r_67 H), k0_pay161, cast28, max8r, max_app, List.cons_append, List.nil_append, red8r, cast12, bcast_kc, (mul_m p rw768 (by norm_num))]

theorem r_68 : sl.r_68 c arg2 harg2 arg3 harg3 arg9 arg10 x0 x1 = W4 256 256 768 768 p.uMS := by
  simp only [sl.r_68, (r_62 H), (v897 H _), k0_pay160, k0_pay159, cast22, dot_s, kc_bot, (mask_le p (k0 := 768) (q0 := 768) 0#32 (by decide) (by norm_num)), cast24]
  any_goals (try erw [(v897 H)])
  any_goals simp only [cast22, dot_s, kc_bot, (mask_le p (k0 := 768) (q0 := 768) 0#32 (by decide) (by norm_num)), cast24]

theorem v591 : sl.v591 c arg2 harg2 arg9 x0 = W3 256 128 512 0 (up p.Q) := by
  rw [sl.v591]; exact read3 _ _ (H7_1 H) _ rfl rfl

theorem r_44 : sl.r_44 c arg2 harg2 arg9 x0 = W2 256 128 512 0 (up p.Q) := by
  simp only [sl.r_44, (v591 H), k0_pay102, cast32]

theorem r_46 : sl.r_46 c arg2 harg2 arg3 harg3 arg9 arg10 x0 x1 = W2 8 256 0 512 (p.uM8 [0]) := by
  simp only [sl.r_46, (v591 H), (v303 H _), k0_pay106, k0_pay104, cast22, k0_pay102, cast32, dot_s, (full p (k0 := 0) (q0 := 512) (by norm_num) (by norm_num)), cast28, max8r]
  any_goals (try erw [(v303 H)])
  any_goals simp only [cast22, cast32, dot_s, (full p (k0 := 0) (q0 := 512) (by norm_num) (by norm_num)), cast28, max8r]

theorem r_47 : sl.r_47 c arg3 harg3 arg10 x1 = W2 256 128 256 0 (up p.K) := by
  rw [sl.r_47]; exact v421 H _

theorem r_48 : sl.r_48 c arg2 harg2 arg3 harg3 arg9 arg10 x0 x1 = WR 1 256 512 (up1 (p.mu [0, 256, 512])) := by
  simp only [sl.r_48, H.r20, (r_44 H), (r_46 H), (r_47 H), (v618 H _), k0_pay111, k0_pay107, cast22, dot_s, (full p (k0 := 256) (q0 := 512) (by norm_num) (by norm_num)), cast28, max8r, max_app, List.cons_append, List.nil_append, k0_pay109, kc_bot, (mask_le p (k0 := 512) (q0 := 512) 0#32 (by decide) (by norm_num)), red8r, cast12, bcast_kc, (mul_m p rw512 (by norm_num))]
  any_goals (try erw [(v618 H)])
  any_goals simp only [H.r20, cast22, dot_s, (full p (k0 := 256) (q0 := 512) (by norm_num) (by norm_num)), cast28, max8r, max_app, List.cons_append, List.nil_append, kc_bot, (mask_le p (k0 := 512) (q0 := 512) 0#32 (by decide) (by norm_num)), red8r, cast12, bcast_kc, (mul_m p rw512 (by norm_num))]

theorem v405 : sl.v405 c arg2 harg2 arg9 x0 = W3 256 128 256 0 (up p.Q) := by
  rw [sl.v405]; exact read3 _ _ (H7_1 H) _ rfl rfl

theorem r_31 : sl.r_31 c arg2 harg2 arg3 harg3 arg9 arg10 x0 x1 = W2 8 256 0 256 (p.uM8 [0]) := by
  simp only [sl.r_31, (v405 H), (v303 H _), k0_pay73, k0_pay71, cast22, k0_pay69, cast32, dot_s, (full p (k0 := 0) (q0 := 256) (by norm_num) (by norm_num)), cast28, max8r]
  any_goals (try erw [(v303 H)])
  any_goals simp only [cast22, cast32, dot_s, (full p (k0 := 0) (q0 := 256) (by norm_num) (by norm_num)), cast28, max8r]

theorem r_32 : sl.r_32 c arg2 harg2 arg3 harg3 arg9 arg10 x0 x1 = W2 256 256 256 256 p.uMS := by
  simp only [sl.r_32, (v405 H), (v421 H _), k0_pay74, cast22, k0_pay69, cast32, dot_s, kc_bot, (mask_le p (k0 := 256) (q0 := 256) 0#32 (by decide) (by norm_num))]
  any_goals (try erw [(v421 H)])
  any_goals simp only [cast22, cast32, dot_s, kc_bot, (mask_le p (k0 := 256) (q0 := 256) 0#32 (by decide) (by norm_num))]

theorem r_33 : sl.r_33 c arg2 harg2 arg3 harg3 arg9 arg10 x0 x1 = WR 1 256 256 (up1 (p.mu [0, 256])) := by
  simp only [sl.r_33, H.r20, (r_31 H), (r_32 H), k0_pay76, cast28, max8r, max_app, List.cons_append, List.nil_append, red8r, cast12, bcast_kc, (mul_m p rw256 (by norm_num))]

theorem v297 : sl.v297 c arg2 harg2 arg9 x0 = W3 256 128 0 0 (up p.Q) := by
  rw [sl.v297]; exact read3 _ _ (H7_1 H) _ rfl rfl

theorem r_25 : sl.r_25 c arg2 harg2 arg3 harg3 arg9 arg10 x0 x1 = W2 256 256 0 0 (up p.S) := by
  simp only [sl.r_25, (v297 H), (v303 H _), k0_pay52, cast32, cast22, dot_s]
  any_goals (try erw [(v303 H)])
  any_goals simp only [cast32, cast22, dot_s]

theorem v319 : sl.v319 c arg2 harg2 arg3 harg3 arg9 arg10 arg23 x0 x1 = W4 256 256 0 0 p.uMS := by
  rw [sl.v319, sl.HS6_1]
  exact (View.readCov_cons_toLoadRect _ _ _ _).trans (by simp only [(r_25 H), k0_pay54, k0_pay53, kc_bot, (mask_le p (k0 := 0) (q0 := 0) 0#32 (by decide) (by norm_num)), cast24])

theorem r_26 : sl.r_26 c arg2 harg2 arg3 harg3 arg9 arg10 arg23 x0 x1 = WR 1 256 0 (up1 (p.Fc [0])) := by
  simp only [sl.r_26, H.r20, (r_25 H), (v319 H), k0_pay58, k0_pay56, cast43, bcast_kc, (mul_ms p H.c_pos), k0_pay55, k0_pay53, kc_bot, (mask_le p (k0 := 0) (q0 := 0) 0#32 (by decide) (by norm_num)), cast28, max8r, red8r, cast12, (mul_m p rw0 (by norm_num)), bcast_row, sub_t, exp_e, add8r, sum_l8r, kc_256, (fac p rw0 (by norm_num))]

theorem v339 : sl.v339 c arg2 harg2 arg3 harg3 arg9 arg10 arg23 x0 x1 = W4 256 256 0 0 (up (p.E [0])) := by
  rw [sl.v339, sl.HS6_2]
  exact (View.readCov_cons_toLoadRect _ _ _ _).trans (by simp only [H.r20, (r_25 H), (v319 H), k0_pay57, k0_pay56, cast43, bcast_kc, (mul_ms p H.c_pos), k0_pay55, k0_pay53, kc_bot, (mask_le p (k0 := 0) (q0 := 0) 0#32 (by decide) (by norm_num)), cast28, max8r, red8r, cast12, (mul_m p rw0 (by norm_num)), bcast_row, sub_t, exp_e, cast24])

theorem r_27 : sl.r_27 c arg2 harg2 arg3 harg3 arg9 arg10 arg23 x0 x1 = W2 256 256 0 0 (up (p.E [0])) := by
  simp only [sl.r_27, (v339 H), k0_pay59, cast43]

theorem v438 : sl.v438 c arg2 harg2 arg3 harg3 arg9 arg10 arg23 x0 x1 = W4 256 256 0 256 p.uMS := by
  rw [sl.v438, sl.HS6_5, skip4 _ _ _ _ _ (by decide)]
  exact (View.readCov_cons_toLoadRect _ _ _ _).trans (by simp only [(v405 H), (v303 H _), k0_pay72, k0_pay71, cast22, k0_pay69, cast32, dot_s, cast24, (full p (k0 := 0) (q0 := 256) (by norm_num) (by norm_num))]; any_goals (try erw [(v303 H)]); any_goals simp only [cast22, cast32, dot_s, cast24, (full p (k0 := 0) (q0 := 256) (by norm_num) (by norm_num))])

theorem v450 : sl.v450 c arg2 harg2 arg3 harg3 arg9 arg10 arg23 x0 x1 = W4 256 256 256 256 p.uMS := by
  rw [sl.v450, sl.HS6_6, skip4 _ _ _ _ _ (by decide), sl.HS6_5]
  exact (View.readCov_cons_toLoadRect _ _ _ _).trans (by simp only [(r_32 H), k0_pay75, cast24])

theorem r_34 : sl.r_34 c arg2 harg2 arg3 harg3 arg9 arg10 arg23 x0 x1 = W2 8 256 0 256 (up (p.L8 [0, 256] [0, 256])) := by
  simp only [sl.r_34, H.r20, (r_31 H), (r_32 H), (v438 H), (v450 H), k0_pay81, k0_pay77, cast43, bcast_kc, (mul_ms p H.c_pos), k0_pay76, cast28, max8r, max_app, List.cons_append, List.nil_append, red8r, cast12, (mul_m p rw256 (by norm_num)), bcast_row, sub_t, exp_e, add8r, k0_pay79, add_l8]

theorem r_35 : sl.r_35 c arg2 harg2 arg3 harg3 arg9 arg10 arg23 x0 x1 = WR 1 256 256 (up1 (p.Fc [0, 256])) := by
  simp only [sl.r_35, (r_33 H), (r_34 H), k0_pay82, sum_l8r, cast12, kc_256, (fac p rw256 (by norm_num))]

theorem v471 : sl.v471 c arg2 harg2 arg3 harg3 arg9 arg10 arg23 x0 x1 = W4 256 256 0 256 (up (p.E [0, 256])) := by
  rw [sl.v471, sl.HS6_7, skip4 _ _ _ _ _ (by decide), sl.HS6_6]
  exact (View.readCov_cons_toLoadRect _ _ _ _).trans (by simp only [H.r20, (r_31 H), (r_32 H), (v438 H), k0_pay78, k0_pay77, cast43, bcast_kc, (mul_ms p H.c_pos), k0_pay76, cast28, max8r, max_app, List.cons_append, List.nil_append, red8r, cast12, (mul_m p rw256 (by norm_num)), bcast_row, sub_t, exp_e, cast24])

theorem v495 : sl.v495 c arg2 harg2 arg3 harg3 arg9 arg10 arg23 x0 x1 = W4 256 256 256 256 (up (p.E [0, 256])) := by
  rw [sl.v495, sl.HS6_8, skip4 _ _ _ _ _ (by decide), sl.HS6_7]
  exact (View.readCov_cons_toLoadRect _ _ _ _).trans (by simp only [H.r20, (r_31 H), (r_32 H), (v450 H), k0_pay80, k0_pay79, cast43, bcast_kc, (mul_ms p H.c_pos), k0_pay76, cast28, max8r, max_app, List.cons_append, List.nil_append, red8r, cast12, (mul_m p rw256 (by norm_num)), bcast_row, sub_t, exp_e, cast24])

theorem v635 : sl.v635 c arg2 harg2 arg3 harg3 arg9 arg10 arg23 x0 x1 = W4 256 256 0 512 p.uMS := by
  rw [sl.v635, sl.HS6_12, skip4 _ _ _ _ _ (by decide), skip4 _ _ _ _ _ (by decide)]
  exact (View.readCov_cons_toLoadRect _ _ _ _).trans (by simp only [(v591 H), (v303 H _), k0_pay105, k0_pay104, cast22, k0_pay102, cast32, dot_s, cast24, (full p (k0 := 0) (q0 := 512) (by norm_num) (by norm_num))]; any_goals (try erw [(v303 H)]); any_goals simp only [cast22, cast32, dot_s, cast24, (full p (k0 := 0) (q0 := 512) (by norm_num) (by norm_num))])

theorem r_49 : sl.r_49 c arg2 harg2 arg3 harg3 arg9 arg10 arg23 x0 x1 = W2 256 256 0 512 (up (p.E [0, 256, 512])) := by
  simp only [sl.r_49, H.r20, (r_44 H), (r_46 H), (r_47 H), (v618 H _), (v635 H), k0_pay112, cast43, bcast_kc, (mul_ms p H.c_pos), k0_pay111, k0_pay107, cast22, dot_s, (full p (k0 := 256) (q0 := 512) (by norm_num) (by norm_num)), cast28, max8r, max_app, List.cons_append, List.nil_append, k0_pay109, kc_bot, (mask_le p (k0 := 512) (q0 := 512) 0#32 (by decide) (by norm_num)), red8r, cast12, (mul_m p rw512 (by norm_num)), bcast_row, sub_t, exp_e]
  any_goals (try erw [(v618 H)])
  any_goals simp only [H.r20, cast43, bcast_kc, (mul_ms p H.c_pos), cast22, dot_s, (full p (k0 := 256) (q0 := 512) (by norm_num) (by norm_num)), cast28, max8r, max_app, List.cons_append, List.nil_append, kc_bot, (mask_le p (k0 := 512) (q0 := 512) 0#32 (by decide) (by norm_num)), red8r, cast12, (mul_m p rw512 (by norm_num)), bcast_row, sub_t, exp_e]

theorem v647 : sl.v647 c arg2 harg2 arg3 harg3 arg9 arg10 arg23 x0 x1 = W4 256 256 256 512 p.uMS := by
  rw [sl.v647, sl.HS6_13, skip4 _ _ _ _ _ (by decide), sl.HS6_12, skip4 _ _ _ _ _ (by decide)]
  exact (View.readCov_cons_toLoadRect _ _ _ _).trans (by simp only [(r_44 H), (r_47 H), k0_pay108, k0_pay107, cast22, dot_s, cast24, (full p (k0 := 256) (q0 := 512) (by norm_num) (by norm_num))])

theorem v660 : sl.v660 c arg2 harg2 arg3 harg3 arg9 arg10 arg23 x0 x1 = W4 256 256 512 512 p.uMS := by
  rw [sl.v660, sl.HS6_14, skip4 _ _ _ _ _ (by decide), sl.HS6_13, skip4 _ _ _ _ _ (by decide), sl.HS6_12]
  exact (View.readCov_cons_toLoadRect _ _ _ _).trans (by simp only [(r_44 H), (v618 H _), k0_pay110, k0_pay109, cast22, dot_s, kc_bot, (mask_le p (k0 := 512) (q0 := 512) 0#32 (by decide) (by norm_num)), cast24]; any_goals (try erw [(v618 H)]); any_goals simp only [cast22, dot_s, kc_bot, (mask_le p (k0 := 512) (q0 := 512) 0#32 (by decide) (by norm_num)), cast24])

theorem r_50 : sl.r_50 c arg2 harg2 arg3 harg3 arg9 arg10 arg23 x0 x1 = WR 1 256 512 (up1 (p.L [0, 256, 512] [0, 256, 512])) := by
  simp only [sl.r_50, H.r20, (r_48 H), (r_49 H), (v647 H), (v660 H), k0_pay118, cast28, add8r, k0_pay114, cast43, bcast_kc, (mul_ms p H.c_pos), bcast_row, sub_t, exp_e, add_l8, List.cons_append, List.nil_append, k0_pay116, sum_l8r, cast12]

theorem r_51 : sl.r_51 c arg2 harg2 arg3 harg3 arg9 arg10 arg23 x0 x1 = WR 1 256 512 (up1 (p.Fc [0, 256, 512])) := by
  simp only [sl.r_51, (r_48 H), (r_50 H), k0_pay119, kc_256, (fac p rw512 (by norm_num))]

theorem v681 : sl.v681 c arg2 harg2 arg3 harg3 arg9 arg10 arg23 x0 x1 = W4 256 256 0 512 (up (p.E [0, 256, 512])) := by
  rw [sl.v681, sl.HS6_15, skip4 _ _ _ _ _ (by decide), sl.HS6_14, skip4 _ _ _ _ _ (by decide), sl.HS6_13]
  exact (View.readCov_cons_toLoadRect _ _ _ _).trans (by simp only [(r_49 H), k0_pay113, cast24])

theorem v705 : sl.v705 c arg2 harg2 arg3 harg3 arg9 arg10 arg23 x0 x1 = W4 256 256 256 512 (up (p.E [0, 256, 512])) := by
  rw [sl.v705, sl.HS6_16, skip4 _ _ _ _ _ (by decide), sl.HS6_15, skip4 _ _ _ _ _ (by decide), sl.HS6_14]
  exact (View.readCov_cons_toLoadRect _ _ _ _).trans (by simp only [H.r20, (r_48 H), (v647 H), k0_pay115, k0_pay114, cast43, bcast_kc, (mul_ms p H.c_pos), bcast_row, sub_t, exp_e, cast24])

theorem v730 : sl.v730 c arg2 harg2 arg3 harg3 arg9 arg10 arg23 x0 x1 = W4 256 256 512 512 (up (p.E [0, 256, 512])) := by
  rw [sl.v730, sl.HS6_17, skip4 _ _ _ _ _ (by decide), sl.HS6_16, skip4 _ _ _ _ _ (by decide), sl.HS6_15]
  exact (View.readCov_cons_toLoadRect _ _ _ _).trans (by simp only [H.r20, (r_48 H), (v660 H), k0_pay117, k0_pay116, cast43, bcast_kc, (mul_ms p H.c_pos), bcast_row, sub_t, exp_e, cast24])

theorem v914 : sl.v914 c arg2 harg2 arg3 harg3 arg9 arg10 arg23 x0 x1 = W4 256 256 0 768 p.uMS := by
  rw [sl.v914, sl.HS6_22, skip4 _ _ _ _ _ (by decide), skip4 _ _ _ _ _ (by decide), skip4 _ _ _ _ _ (by decide)]
  exact (View.readCov_cons_toLoadRect _ _ _ _).trans (by simp only [(v855 H), (v303 H _), k0_pay151, k0_pay150, cast22, k0_pay148, cast32, dot_s, kc_bot, (mask_gt p (k0 := 0) (q0 := 768) 4294967064#32 (by decide) (by norm_num)), cast24]; any_goals (try erw [(v303 H)]); any_goals simp only [cast22, cast32, dot_s, kc_bot, (mask_gt p (k0 := 0) (q0 := 768) 4294967064#32 (by decide) (by norm_num)), cast24])

theorem v926 : sl.v926 c arg2 harg2 arg3 harg3 arg9 arg10 arg23 x0 x1 = W4 256 256 256 768 p.uMS := by
  rw [sl.v926, sl.HS6_23, skip4 _ _ _ _ _ (by decide), sl.HS6_22, skip4 _ _ _ _ _ (by decide), skip4 _ _ _ _ _ (by decide)]
  exact (View.readCov_cons_toLoadRect _ _ _ _).trans (by simp only [(r_62 H), (r_65 H), cst662, k0_pay155, k0_pay154, dot_s, cast24, (full p (k0 := 256) (q0 := 768) (by norm_num) (by norm_num))])

theorem r_70 : sl.r_70 c arg2 harg2 arg3 harg3 arg9 arg10 arg23 x0 x1 = W2 8 256 0 768 (up (p.L8 [0, 256, 512, 768] [0, 256])) := by
  simp only [sl.r_70, H.r20, (r_66 H), (r_67 H), (v914 H), (v926 H), k0_pay166, k0_pay162, cast43, bcast_kc, (mul_ms p H.c_pos), k0_pay161, cast28, max8r, max_app, List.cons_append, List.nil_append, red8r, cast12, (mul_m p rw768 (by norm_num)), bcast_row, sub_t, exp_e, add8r, k0_pay164, add_l8]

theorem v939 : sl.v939 c arg2 harg2 arg3 harg3 arg9 arg10 arg23 x0 x1 = W4 256 256 512 768 p.uMS := by
  rw [sl.v939, sl.HS6_24, skip4 _ _ _ _ _ (by decide), sl.HS6_23, skip4 _ _ _ _ _ (by decide), sl.HS6_22, skip4 _ _ _ _ _ (by decide)]
  exact (View.readCov_cons_toLoadRect _ _ _ _).trans (by simp only [(r_62 H), (v618 H _), k0_pay157, k0_pay156, cast22, dot_s, cast24, (full p (k0 := 512) (q0 := 768) (by norm_num) (by norm_num))]; any_goals (try erw [(v618 H)]); any_goals simp only [cast22, dot_s, cast24, (full p (k0 := 512) (q0 := 768) (by norm_num) (by norm_num))])

theorem v952 : sl.v952 c arg2 harg2 arg3 harg3 arg9 arg10 arg23 x0 x1 = W4 256 256 768 768 p.uMS := by
  rw [sl.v952, sl.HS6_25, skip4 _ _ _ _ _ (by decide), sl.HS6_24, skip4 _ _ _ _ _ (by decide), sl.HS6_23, skip4 _ _ _ _ _ (by decide), sl.HS6_22]
  exact (View.readCov_cons_toLoadRect _ _ _ _).trans (by simp only [(r_68 H)])

theorem v973 : sl.v973 c arg2 harg2 arg3 harg3 arg9 arg10 arg23 x0 x1 = W4 256 256 0 768 (up (p.E [0, 256, 512, 768])) := by
  rw [sl.v973, sl.HS6_26, skip4 _ _ _ _ _ (by decide), sl.HS6_25, skip4 _ _ _ _ _ (by decide), sl.HS6_24, skip4 _ _ _ _ _ (by decide), sl.HS6_23]
  exact (View.readCov_cons_toLoadRect _ _ _ _).trans (by simp only [H.r20, (r_66 H), (r_67 H), (v914 H), k0_pay163, k0_pay162, cast43, bcast_kc, (mul_ms p H.c_pos), k0_pay161, cast28, max8r, max_app, List.cons_append, List.nil_append, red8r, cast12, (mul_m p rw768 (by norm_num)), bcast_row, sub_t, exp_e, cast24])

theorem r_72 : sl.r_72 c arg2 harg2 arg3 harg3 arg9 arg10 arg23 x0 x1 = W2 256 256 0 768 (up p.P) := by
  simp only [sl.r_72, H.r20, (r_69 H), (r_70 H), (v939 H), (v952 H), (v973 H), k0_pay172, cast43, k0_pay171, k0_pay167, bcast_kc, (mul_ms p H.c_pos), bcast_row, sub_t, exp_e, cast28, add8r, add_l8, List.cons_append, List.nil_append, k0_pay169, sum_l8r, cast12, kc_256, (fac p rw768 (by norm_num)), (mul_p p (q0 := 768) (by norm_num))]

theorem p7_7 : k0_pay174 (sl.r_72 c arg2 harg2 arg3 harg3 arg9 arg10 arg23 x0 x1) = W4 256 256 0 768 (up p.P8) := by
  simp only [(r_72 H), k0_pay174, kc_zero, clip_0, kc_448, clip_448, trunc_id, cast24]

theorem v989 : sl.v989 c arg2 harg2 arg3 harg3 arg9 arg10 arg23 arg24 x0 x1 = W4 128 256 0 768 (up p.P8) := by
  rw [sl.v989, sl.HS7_7]
  exact half4 _ _ _ _ _ (p7_7 H) rfl (by norm_num)

theorem v358 : sl.v358 c arg4 harg4 arg11 arg19 x2 = W2 128 128 0 128 (up fun d k => p.V k d) := by
  rw [sl.v358]; exact read2 _ _ (HS2_1 H) _ rfl rfl

theorem v993 : sl.v993 c arg2 harg2 arg3 harg3 arg9 arg10 arg23 arg24 x0 x1 = W4 128 256 128 768 (up p.P8) := by
  rw [sl.v993, sl.HS7_7]
  exact half4 _ _ _ _ _ (p7_7 H) rfl (by norm_num)

theorem r_73 : sl.r_73 c arg2 harg2 arg3 harg3 arg4 harg4 arg9 arg10 arg11 arg19 arg23 arg24 x0 x1 x2 = W2 128 256 0 768 (up (p.O [0, 128])) := by
  simp only [sl.r_73, (v354 H), (v989 H), (v358 H), (v993 H), k0_pay175, cast43, dot_ot, add_o, List.cons_append, List.nil_append]

theorem v510 : sl.v510 c arg4 harg4 arg11 arg19 x2 = W2 128 128 0 256 (up fun d k => p.V k d) := by
  rw [sl.v510]; exact read2 _ _ (HS2_1 H) _ rfl rfl

theorem r_71 : sl.r_71 c arg2 harg2 arg3 harg3 arg9 arg10 arg23 x0 x1 = WR 1 256 768 (up1 (p.Fc [0, 256, 512, 768])) := by
  simp only [sl.r_71, H.r20, (r_69 H), (r_70 H), (v939 H), (v952 H), k0_pay171, k0_pay167, cast43, bcast_kc, (mul_ms p H.c_pos), bcast_row, sub_t, exp_e, cast28, add8r, add_l8, List.cons_append, List.nil_append, k0_pay169, sum_l8r, cast12, kc_256, (fac p rw768 (by norm_num))]

theorem v997 : sl.v997 c arg2 harg2 arg3 harg3 arg9 arg10 arg23 x0 x1 = W4 256 256 256 768 (up (p.E [0, 256, 512, 768])) := by
  rw [sl.v997, sl.HS6_27, skip4 _ _ _ _ _ (by decide), sl.HS6_26, skip4 _ _ _ _ _ (by decide), sl.HS6_25, skip4 _ _ _ _ _ (by decide), sl.HS6_24]
  exact (View.readCov_cons_toLoadRect _ _ _ _).trans (by simp only [H.r20, (r_66 H), (r_67 H), (v926 H), k0_pay165, k0_pay164, cast43, bcast_kc, (mul_ms p H.c_pos), k0_pay161, cast28, max8r, max_app, List.cons_append, List.nil_append, red8r, cast12, (mul_m p rw768 (by norm_num)), bcast_row, sub_t, exp_e, cast24])

theorem r_74 : sl.r_74 c arg2 harg2 arg3 harg3 arg9 arg10 arg23 x0 x1 = W2 256 256 256 768 (up p.P) := by
  simp only [sl.r_74, (r_71 H), (v997 H), k0_pay176, cast43, bcast_row, (mul_p p (q0 := 768) (by norm_num))]

theorem p7_8 : k0_pay178 (sl.r_74 c arg2 harg2 arg3 harg3 arg9 arg10 arg23 x0 x1) = W4 256 256 256 768 (up p.P8) := by
  simp only [(r_74 H), k0_pay178, kc_zero, clip_0, kc_448, clip_448, trunc_id, cast24]

theorem v1013 : sl.v1013 c arg2 harg2 arg3 harg3 arg9 arg10 arg23 arg24 x0 x1 = W4 128 256 256 768 (up p.P8) := by
  rw [sl.v1013, sl.HS7_8]
  exact half4 _ _ _ _ _ (p7_8 H) rfl (by norm_num)

theorem v515 : sl.v515 c arg4 harg4 arg11 arg19 x2 = W2 128 128 0 384 (up fun d k => p.V k d) := by
  rw [sl.v515]; exact read2 _ _ (HS2_1 H) _ rfl rfl

theorem v1018 : sl.v1018 c arg2 harg2 arg3 harg3 arg9 arg10 arg23 arg24 x0 x1 = W4 128 256 384 768 (up p.P8) := by
  rw [sl.v1018, sl.HS7_8]
  exact half4 _ _ _ _ _ (p7_8 H) rfl (by norm_num)

theorem r_76 : sl.r_76 c arg2 harg2 arg3 harg3 arg4 harg4 arg9 arg10 arg11 arg19 arg23 arg24 x0 x1 x2 = W2 128 256 0 768 (up (p.O [0, 128, 256, 384])) := by
  simp only [sl.r_76, (r_73 H), (v510 H), (v1013 H), (v515 H), (v1018 H), k0_pay179, cast43, dot_ot, add_o, List.cons_append, List.nil_append]

theorem v745 : sl.v745 c arg4 harg4 arg11 arg19 x2 = W2 128 128 0 512 (up fun d k => p.V k d) := by
  rw [sl.v745]; exact read2 _ _ (HS2_1 H) _ rfl rfl

theorem r_75 : sl.r_75 c arg2 harg2 arg3 harg3 arg9 arg10 arg23 x0 x1 = W4 256 256 256 768 (up p.P) := by
  simp only [sl.r_75, (r_71 H), (v997 H), k0_pay177, k0_pay176, cast43, bcast_row, (mul_p p (q0 := 768) (by norm_num)), cast24]

theorem v1022 : sl.v1022 c arg2 harg2 arg3 harg3 arg9 arg10 arg23 x0 x1 = W4 256 256 512 768 (up (p.E [0, 256, 512, 768])) := by
  rw [sl.v1022, sl.HS6_28, skip4 _ _ _ _ _ (by decide), sl.HS6_27, skip4 _ _ _ _ _ (by decide), sl.HS6_26, skip4 _ _ _ _ _ (by decide), sl.HS6_25]
  exact (View.readCov_cons_toLoadRect _ _ _ _).trans (by simp only [H.r20, (r_69 H), (v939 H), k0_pay168, k0_pay167, cast43, bcast_kc, (mul_ms p H.c_pos), bcast_row, sub_t, exp_e, cast24])

theorem r_77 : sl.r_77 c arg2 harg2 arg3 harg3 arg9 arg10 arg23 x0 x1 = W2 256 256 512 768 (up fun k q => max 0 (p.P k q)) := by
  simp only [sl.r_77, (r_71 H), (v1022 H), k0_pay182, kc_zero, k0_pay180, cast43, bcast_row, (mul_p p (q0 := 768) (by norm_num)), clip_0]

theorem p7_9 : k0_pay183 sl.cst_11 (sl.r_77 c arg2 harg2 arg3 harg3 arg9 arg10 arg23 x0 x1) = W4 256 256 512 768 (up p.P8) := by
  simp only [cst11, (r_77 H), k0_pay183, kc_448, clip_448, trunc_id, cast24]

theorem v1038 : sl.v1038 c arg2 harg2 arg3 harg3 arg9 arg10 arg23 arg24 x0 x1 = W4 128 256 512 768 (up p.P8) := by
  rw [sl.v1038, sl.HS7_9]
  exact half4 _ _ _ _ _ (p7_9 H) rfl (by norm_num)

theorem v750 : sl.v750 c arg4 harg4 arg11 arg19 x2 = W2 128 128 0 640 (up fun d k => p.V k d) := by
  rw [sl.v750]; exact read2 _ _ (HS2_1 H) _ rfl rfl

theorem v1043 : sl.v1043 c arg2 harg2 arg3 harg3 arg9 arg10 arg23 arg24 x0 x1 = W4 128 256 640 768 (up p.P8) := by
  rw [sl.v1043, sl.HS7_9]
  exact half4 _ _ _ _ _ (p7_9 H) rfl (by norm_num)

theorem r_78 : sl.r_78 c arg2 harg2 arg3 harg3 arg4 harg4 arg9 arg10 arg11 arg19 arg23 arg24 x0 x1 x2 = W2 128 256 0 768 (up (p.O [0, 128, 256, 384, 512, 640])) := by
  simp only [sl.r_78, (r_76 H), (v745 H), (v1038 H), (v750 H), (v1043 H), k0_pay184, cast43, dot_ot, add_o, List.cons_append, List.nil_append]

theorem v1062 : sl.v1062 c arg4 harg4 arg11 arg19 x2 = W2 128 128 0 768 (up fun d k => p.V k d) := by
  rw [sl.v1062]; exact read2 _ _ (HS2_1 H) _ rfl rfl

theorem v1047 : sl.v1047 c arg2 harg2 arg3 harg3 arg9 arg10 arg23 x0 x1 = W4 256 256 768 768 (up (p.E [0, 256, 512, 768])) := by
  rw [sl.v1047, sl.HS6_29, skip4 _ _ _ _ _ (by decide), sl.HS6_28, skip4 _ _ _ _ _ (by decide), sl.HS6_27, skip4 _ _ _ _ _ (by decide), sl.HS6_26]
  exact (View.readCov_cons_toLoadRect _ _ _ _).trans (by simp only [H.r20, (r_69 H), (v952 H), k0_pay170, k0_pay169, cast43, bcast_kc, (mul_ms p H.c_pos), bcast_row, sub_t, exp_e, cast24])

theorem r_79 : sl.r_79 c arg2 harg2 arg3 harg3 arg9 arg10 arg23 x0 x1 = W2 256 256 768 768 (up p.P8) := by
  simp only [sl.r_79, (r_71 H), (v1047 H), k0_pay187, kc_zero, k0_pay185, cast43, bcast_row, (mul_p p (q0 := 768) (by norm_num)), clip_0, kc_448, clip_448, trunc_id]

theorem p7_10 : k0_pay188 (sl.r_79 c arg2 harg2 arg3 harg3 arg9 arg10 arg23 x0 x1) = W4 256 256 768 768 (up p.P8) := by
  simp only [(r_79 H), k0_pay188, cast24]

theorem v1063 : sl.v1063 c arg2 harg2 arg3 harg3 arg9 arg10 arg23 arg24 x0 x1 = W4 128 256 768 768 (up p.P8) := by
  rw [sl.v1063, sl.HS7_10]
  exact half4 _ _ _ _ _ (p7_10 H) rfl (by norm_num)

theorem v1067 : sl.v1067 c arg4 harg4 arg11 arg19 x2 = W2 128 128 0 896 (up fun d k => p.V k d) := by
  rw [sl.v1067]; exact read2 _ _ (HS2_1 H) _ rfl rfl

theorem v1068 : sl.v1068 c arg2 harg2 arg3 harg3 arg9 arg10 arg23 arg24 x0 x1 = W4 128 256 896 768 (up p.P8) := by
  rw [sl.v1068, sl.HS7_10]
  exact half4 _ _ _ _ _ (p7_10 H) rfl (by norm_num)

theorem v1072 : sl.v1072 c arg5 harg5 arg12 arg20 x3 = W2 128 256 0 768 (up fun d q => p.D q d) := by
  rw [sl.v1072]; exact read2 _ _ (HS3_1 H) _ rfl rfl

theorem r_80 : sl.r_80 c arg2 harg2 arg3 harg3 arg4 harg4 arg5 harg5 arg9 arg10 arg11 arg12 arg19 arg20 arg23 arg24 x0 x1 x2 x3 = WR 1 256 768 (up1 p.Df) := by
  simp only [sl.r_80, (r_78 H), (v1062 H), (v1063 H), (v1067 H), (v1068 H), (v1072 H), k0_pay189, cast43, dot_ot, add_o, List.cons_append, List.nil_append, ext_id, mul_do, sum128r, cast12, kc_inv256, (mul_delta p rh768)]

theorem v821 (h) : LoadRect.valAlong (lr := (Rect.unit (s := S2048x128) ![512, 0] S256x128.size inb_S2048x128_S256x128_512_0).toLoadRect) h (sl.v821 c arg4 harg4 arg11 x2) = W2 256 128 512 0 (up p.V) := by
  rw [sl.v821]; exact along _ _ (H9_1 H) _ _ _ _ _ h rfl

theorem v1141 : sl.v1141 c arg2 harg2 arg3 harg3 arg9 arg10 arg23 x0 x1 = W4 256 256 512 768 (up p.P) := by
  rw [sl.v1141, sl.HS6_30, skip4 _ _ _ _ _ (by decide), sl.HS6_29]
  exact (View.readCov_cons_toLoadRect _ _ _ _).trans (by simp only [(r_71 H), (v1022 H), k0_pay181, k0_pay180, cast43, bcast_row, (mul_p p (q0 := 768) (by norm_num)), cast24])

theorem r_86 : sl.r_86 c arg2 harg2 arg3 harg3 arg4 harg4 arg5 harg5 arg9 arg10 arg11 arg12 arg19 arg20 arg23 arg24 x0 x1 x2 x3 = W2 256 256 512 768 (up p.DS) := by
  simp only [sl.r_86, (r_63 H), (r_80 H), (v821 H _), (v1141 H), k0_pay201, cast22, dot_dp, cast43, bcast_row, sub_dp, mul_ds]
  any_goals (try erw [(v821 H)])
  any_goals simp only [cast22, dot_dp, cast43, bcast_row, sub_dp, mul_ds]

theorem v557 (h) : LoadRect.valAlong (lr := (Rect.unit (s := S2048x128) ![256, 0] S256x128.size inb_S2048x128_S256x128_256_0).toLoadRect) h (sl.v557 c arg4 harg4 arg11 x2) = W2 256 128 256 0 (up p.V) := by
  rw [sl.v557]; exact along _ _ (H9_1 H) _ _ _ _ _ h rfl

theorem v1112 : sl.v1112 c arg2 harg2 arg3 harg3 arg9 arg10 arg23 x0 x1 = W4 256 256 256 768 (up p.P) := by
  rw [sl.v1112, sl.HS6_30, skip4 _ _ _ _ _ (by decide), sl.HS6_29, skip4 _ _ _ _ _ (by decide), sl.HS6_28]
  exact (View.readCov_cons_toLoadRect _ _ _ _).trans (by simp only [(r_75 H)])

theorem r_84 : sl.r_84 c arg2 harg2 arg3 harg3 arg4 harg4 arg5 harg5 arg9 arg10 arg11 arg12 arg19 arg20 arg23 arg24 x0 x1 x2 x3 = W2 256 256 256 768 (up p.DS) := by
  simp only [sl.r_84, (r_63 H), (r_80 H), (v557 H _), (v1112 H), k0_pay196, cast22, dot_dp, cast43, bcast_row, sub_dp, mul_ds]
  any_goals (try erw [(v557 H)])
  any_goals simp only [cast22, dot_dp, cast43, bcast_row, sub_dp, mul_ds]

theorem v1084 : sl.v1084 c arg2 harg2 arg3 harg3 arg9 arg10 arg23 x0 x1 = W4 256 256 0 768 (up p.P) := by
  rw [sl.v1084, sl.HS6_30, skip4 _ _ _ _ _ (by decide), sl.HS6_29, skip4 _ _ _ _ _ (by decide), sl.HS6_28, skip4 _ _ _ _ _ (by decide), sl.HS6_27]
  exact (View.readCov_cons_toLoadRect _ _ _ _).trans (by simp only [(r_72 H), k0_pay173, cast24])

theorem r_81 : sl.r_81 c arg2 harg2 arg3 harg3 arg9 arg10 arg23 x0 x1 = W2 256 256 0 768 (up p.P) := by
  simp only [sl.r_81, (v1084 H), k0_pay190, cast43]

theorem v372 (h) : LoadRect.valAlong (lr := (Rect.unit (s := S2048x128) ![0, 0] S256x128.size inb_S2048x128_S256x128_0_0).toLoadRect) h (sl.v372 c arg4 harg4 arg11 x2) = W2 256 128 0 0 (up p.V) := by
  rw [sl.v372]; exact along _ _ (H9_1 H) _ _ _ _ _ h rfl

theorem r_82 : sl.r_82 c arg2 harg2 arg3 harg3 arg4 harg4 arg5 harg5 arg9 arg10 arg11 arg12 arg19 arg20 arg23 arg24 x0 x1 x2 x3 = W2 256 256 0 768 (up fun k q => p.DP k q - p.Df q) := by
  simp only [sl.r_82, (r_63 H), (r_78 H), (v1062 H), (v1063 H), (v1067 H), (v1068 H), (v1072 H), (v372 H _), k0_pay191, cast22, dot_dp, k0_pay189, cast43, dot_ot, add_o, List.cons_append, List.nil_append, ext_id, mul_do, sum128r, cast12, kc_inv256, (mul_delta p rh768), bcast_row, sub_dp]
  any_goals (try erw [(v372 H)])
  any_goals simp only [cast22, dot_dp, cast43, dot_ot, add_o, List.cons_append, List.nil_append, ext_id, mul_do, sum128r, cast12, kc_inv256, (mul_delta p rh768), bcast_row, sub_dp]

theorem v593 : sl.v593 c arg5 harg5 arg12 x3 = W3 256 128 512 0 (up p.D) := by
  rw [sl.v593]; exact read3 _ _ (H10_1 H) _ rfl rfl

theorem r_45 : sl.r_45 c arg5 harg5 arg12 x3 = W2 256 128 512 0 (up p.D) := by
  simp only [sl.r_45, (v593 H), k0_pay103, cast32]

theorem p7_4 : k0_pay122 (sl.r_48 c arg2 harg2 arg3 harg3 arg9 arg10 x0 x1) (sl.r_50 c arg2 harg2 arg3 harg3 arg9 arg10 arg23 x0 x1) (sl.v681 c arg2 harg2 arg3 harg3 arg9 arg10 arg23 x0 x1) = W4 256 256 0 512 (up p.P8) := by
  simp only [(r_48 H), (r_50 H), (v681 H), k0_pay122, kc_zero, k0_pay120, cast43, k0_pay119, kc_256, (fac p rw512 (by norm_num)), bcast_row, (mul_p p (q0 := 512) (by norm_num)), clip_0, kc_448, clip_448, trunc_id, cast24]

theorem v697 : sl.v697 c arg2 harg2 arg3 harg3 arg9 arg10 arg23 arg24 x0 x1 = W4 128 256 0 512 (up p.P8) := by
  rw [sl.v697, sl.HS7_4]
  exact half4 _ _ _ _ _ (p7_4 H) rfl (by norm_num)

theorem r_52 : sl.r_52 c arg2 harg2 arg3 harg3 arg4 harg4 arg9 arg10 arg11 arg19 arg23 arg24 x0 x1 x2 = W2 128 256 0 512 (up (p.O [0])) := by
  simp only [sl.r_52, (v354 H), (v697 H), k0_pay123, cast43, dot_ot]

theorem v701 : sl.v701 c arg2 harg2 arg3 harg3 arg9 arg10 arg23 arg24 x0 x1 = W4 128 256 128 512 (up p.P8) := by
  rw [sl.v701, sl.HS7_4]
  exact half4 _ _ _ _ _ (p7_4 H) rfl (by norm_num)

theorem r_53 : sl.r_53 c arg2 harg2 arg3 harg3 arg4 harg4 arg9 arg10 arg11 arg19 arg23 arg24 x0 x1 x2 = W2 128 256 0 512 (up (p.O [128])) := by
  simp only [sl.r_53, (v358 H), (v701 H), k0_pay124, cast43, dot_ot]

theorem p7_5 : k0_pay127 (sl.r_51 c arg2 harg2 arg3 harg3 arg9 arg10 arg23 x0 x1) (sl.v705 c arg2 harg2 arg3 harg3 arg9 arg10 arg23 x0 x1) = W4 256 256 256 512 (up p.P8) := by
  simp only [(r_51 H), (v705 H), k0_pay127, kc_zero, k0_pay125, cast43, bcast_row, (mul_p p (q0 := 512) (by norm_num)), clip_0, kc_448, clip_448, trunc_id, cast24]

theorem v721 : sl.v721 c arg2 harg2 arg3 harg3 arg9 arg10 arg23 arg24 x0 x1 = W4 128 256 256 512 (up p.P8) := by
  rw [sl.v721, sl.HS7_5]
  exact half4 _ _ _ _ _ (p7_5 H) rfl (by norm_num)

theorem v726 : sl.v726 c arg2 harg2 arg3 harg3 arg9 arg10 arg23 arg24 x0 x1 = W4 128 256 384 512 (up p.P8) := by
  rw [sl.v726, sl.HS7_5]
  exact half4 _ _ _ _ _ (p7_5 H) rfl (by norm_num)

theorem r_54 : sl.r_54 c arg2 harg2 arg3 harg3 arg4 harg4 arg9 arg10 arg11 arg19 arg23 arg24 x0 x1 x2 = W2 128 256 0 512 (up (p.O [0, 128, 256, 384])) := by
  simp only [sl.r_54, (r_52 H), (r_53 H), (v510 H), (v721 H), (v515 H), (v726 H), k0_pay128, add_o, List.cons_append, List.nil_append, cast43, dot_ot]

theorem p7_6 : k0_pay131 (sl.r_51 c arg2 harg2 arg3 harg3 arg9 arg10 arg23 x0 x1) (sl.v730 c arg2 harg2 arg3 harg3 arg9 arg10 arg23 x0 x1) = W4 256 256 512 512 (up p.P8) := by
  simp only [(r_51 H), (v730 H), k0_pay131, kc_zero, k0_pay129, cast43, bcast_row, (mul_p p (q0 := 512) (by norm_num)), clip_0, kc_448, clip_448, trunc_id, cast24]

theorem v746 : sl.v746 c arg2 harg2 arg3 harg3 arg9 arg10 arg23 arg24 x0 x1 = W4 128 256 512 512 (up p.P8) := by
  rw [sl.v746, sl.HS7_6]
  exact half4 _ _ _ _ _ (p7_6 H) rfl (by norm_num)

theorem v751 : sl.v751 c arg2 harg2 arg3 harg3 arg9 arg10 arg23 arg24 x0 x1 = W4 128 256 640 512 (up p.P8) := by
  rw [sl.v751, sl.HS7_6]
  exact half4 _ _ _ _ _ (p7_6 H) rfl (by norm_num)

theorem v755 : sl.v755 c arg5 harg5 arg12 arg20 x3 = W2 128 256 0 512 (up fun d q => p.D q d) := by
  rw [sl.v755]; exact read2 _ _ (HS3_1 H) _ rfl rfl

theorem r_55 : sl.r_55 c arg2 harg2 arg3 harg3 arg4 harg4 arg5 harg5 arg9 arg10 arg11 arg12 arg19 arg20 arg23 arg24 x0 x1 x2 x3 = WR 1 256 512 (up1 fun q => ∑ d ∈ range 128, p.D q d * p.O [0, 128, 256, 384, 512, 640] d q) := by
  simp only [sl.r_55, (r_54 H), (v745 H), (v746 H), (v750 H), (v751 H), (v755 H), k0_pay132, cast43, dot_ot, add_o, List.cons_append, List.nil_append, ext_id, mul_do, sum128r, cast12]

theorem r_56 : sl.r_56 c arg2 harg2 arg3 harg3 arg4 harg4 arg5 harg5 arg9 arg10 arg11 arg12 arg19 arg20 arg23 arg24 x0 x1 x2 x3 = WR 1 256 512 (up1 p.Df) := by
  simp only [sl.r_56, (r_55 H), cst549, k0_pay133, kc_inv256, (mul_delta p rh512)]

theorem v824 : sl.v824 c arg2 harg2 arg3 harg3 arg9 arg10 arg23 x0 x1 = W4 256 256 512 512 (up p.P) := by
  rw [sl.v824, sl.HS6_18]
  exact (View.readCov_cons_toLoadRect _ _ _ _).trans (by simp only [(r_51 H), (v730 H), k0_pay130, k0_pay129, cast43, bcast_row, (mul_p p (q0 := 512) (by norm_num)), cast24])

theorem v795 : sl.v795 c arg2 harg2 arg3 harg3 arg9 arg10 arg23 x0 x1 = W4 256 256 256 512 (up p.P) := by
  rw [sl.v795, sl.HS6_18, skip4 _ _ _ _ _ (by decide), sl.HS6_17]
  exact (View.readCov_cons_toLoadRect _ _ _ _).trans (by simp only [(r_51 H), (v705 H), k0_pay126, k0_pay125, cast43, bcast_row, (mul_p p (q0 := 512) (by norm_num)), cast24])

theorem v767 : sl.v767 c arg2 harg2 arg3 harg3 arg9 arg10 arg23 x0 x1 = W4 256 256 0 512 (up p.P) := by
  rw [sl.v767, sl.HS6_18, skip4 _ _ _ _ _ (by decide), sl.HS6_17, skip4 _ _ _ _ _ (by decide), sl.HS6_16]
  exact (View.readCov_cons_toLoadRect _ _ _ _).trans (by simp only [(r_48 H), (r_50 H), (v681 H), k0_pay121, k0_pay120, cast43, k0_pay119, kc_256, (fac p rw512 (by norm_num)), bcast_row, (mul_p p (q0 := 512) (by norm_num)), cast24])

theorem v407 : sl.v407 c arg5 harg5 arg12 x3 = W3 256 128 256 0 (up p.D) := by
  rw [sl.v407]; exact read3 _ _ (H10_1 H) _ rfl rfl

theorem r_30 : sl.r_30 c arg5 harg5 arg12 x3 = W2 256 128 256 0 (up p.D) := by
  simp only [sl.r_30, (v407 H), k0_pay70, cast32]

theorem p7_2 : k0_pay85 (sl.r_33 c arg2 harg2 arg3 harg3 arg9 arg10 x0 x1) (sl.r_34 c arg2 harg2 arg3 harg3 arg9 arg10 arg23 x0 x1) (sl.v471 c arg2 harg2 arg3 harg3 arg9 arg10 arg23 x0 x1) = W4 256 256 0 256 (up p.P8) := by
  simp only [(r_33 H), (r_34 H), (v471 H), k0_pay85, kc_zero, k0_pay83, cast43, k0_pay82, sum_l8r, cast12, kc_256, (fac p rw256 (by norm_num)), bcast_row, (mul_p p (q0 := 256) (by norm_num)), clip_0, kc_448, clip_448, trunc_id, cast24]

theorem v487 : sl.v487 c arg2 harg2 arg3 harg3 arg9 arg10 arg23 arg24 x0 x1 = W4 128 256 0 256 (up p.P8) := by
  rw [sl.v487, sl.HS7_2]
  exact half4 _ _ _ _ _ (p7_2 H) rfl (by norm_num)

theorem r_36 : sl.r_36 c arg2 harg2 arg3 harg3 arg4 harg4 arg9 arg10 arg11 arg19 arg23 arg24 x0 x1 x2 = W2 128 256 0 256 (up (p.O [0])) := by
  simp only [sl.r_36, (v354 H), (v487 H), k0_pay86, cast43, dot_ot]

theorem v491 : sl.v491 c arg2 harg2 arg3 harg3 arg9 arg10 arg23 arg24 x0 x1 = W4 128 256 128 256 (up p.P8) := by
  rw [sl.v491, sl.HS7_2]
  exact half4 _ _ _ _ _ (p7_2 H) rfl (by norm_num)

theorem p7_3 : k0_pay89 (sl.r_35 c arg2 harg2 arg3 harg3 arg9 arg10 arg23 x0 x1) (sl.v495 c arg2 harg2 arg3 harg3 arg9 arg10 arg23 x0 x1) = W4 256 256 256 256 (up p.P8) := by
  simp only [(r_35 H), (v495 H), k0_pay89, kc_zero, k0_pay87, cast43, bcast_row, (mul_p p (q0 := 256) (by norm_num)), clip_0, kc_448, clip_448, trunc_id, cast24]

theorem v511 : sl.v511 c arg2 harg2 arg3 harg3 arg9 arg10 arg23 arg24 x0 x1 = W4 128 256 256 256 (up p.P8) := by
  rw [sl.v511, sl.HS7_3]
  exact half4 _ _ _ _ _ (p7_3 H) rfl (by norm_num)

theorem v516 : sl.v516 c arg2 harg2 arg3 harg3 arg9 arg10 arg23 arg24 x0 x1 = W4 128 256 384 256 (up p.P8) := by
  rw [sl.v516, sl.HS7_3]
  exact half4 _ _ _ _ _ (p7_3 H) rfl (by norm_num)

theorem r_37 : sl.r_37 c arg2 harg2 arg3 harg3 arg4 harg4 arg9 arg10 arg11 arg19 arg23 arg24 x0 x1 x2 = W2 128 256 0 256 (up (p.O [0, 128, 256, 384])) := by
  simp only [sl.r_37, (r_36 H), (v358 H), (v491 H), (v510 H), (v511 H), (v515 H), (v516 H), k0_pay90, cast43, dot_ot, add_o, List.cons_append, List.nil_append]

theorem v520 : sl.v520 c arg5 harg5 arg12 arg20 x3 = W2 128 256 0 256 (up fun d q => p.D q d) := by
  rw [sl.v520]; exact read2 _ _ (HS3_1 H) _ rfl rfl

theorem r_38 : sl.r_38 c arg2 harg2 arg3 harg3 arg4 harg4 arg5 harg5 arg9 arg10 arg11 arg12 arg19 arg20 arg23 arg24 x0 x1 x2 x3 = WR 1 256 256 (up1 p.Df) := by
  simp only [sl.r_38, (r_37 H), (v520 H), k0_pay91, ext_id, mul_do, sum128r, cast12, kc_inv256, (mul_delta p rh256)]

theorem v560 : sl.v560 c arg2 harg2 arg3 harg3 arg9 arg10 arg23 x0 x1 = W4 256 256 256 256 (up p.P) := by
  rw [sl.v560, sl.HS6_9]
  exact (View.readCov_cons_toLoadRect _ _ _ _).trans (by simp only [(r_35 H), (v495 H), k0_pay88, k0_pay87, cast43, bcast_row, (mul_p p (q0 := 256) (by norm_num)), cast24])

theorem v532 : sl.v532 c arg2 harg2 arg3 harg3 arg9 arg10 arg23 x0 x1 = W4 256 256 0 256 (up p.P) := by
  rw [sl.v532, sl.HS6_9, skip4 _ _ _ _ _ (by decide), sl.HS6_8]
  exact (View.readCov_cons_toLoadRect _ _ _ _).trans (by simp only [(r_33 H), (r_34 H), (v471 H), k0_pay84, k0_pay83, cast43, k0_pay82, sum_l8r, cast12, kc_256, (fac p rw256 (by norm_num)), bcast_row, (mul_p p (q0 := 256) (by norm_num)), cast24])

theorem v299 : sl.v299 c arg5 harg5 arg12 x3 = W3 256 128 0 0 (up p.D) := by
  rw [sl.v299]; exact read3 _ _ (H10_1 H) _ rfl rfl

theorem r_24 : sl.r_24 c arg5 harg5 arg12 x3 = W2 256 128 0 0 (up p.D) := by
  simp only [sl.r_24, (v299 H), k0_pay51, cast32]

theorem p7_1 : k0_pay62 (sl.r_26 c arg2 harg2 arg3 harg3 arg9 arg10 arg23 x0 x1) (sl.r_27 c arg2 harg2 arg3 harg3 arg9 arg10 arg23 x0 x1) = W4 256 256 0 0 (up p.P8) := by
  simp only [(r_26 H), (r_27 H), k0_pay62, kc_zero, k0_pay60, bcast_row, (mul_p p (q0 := 0) (by norm_num)), clip_0, kc_448, clip_448, trunc_id, cast24]

theorem v355 : sl.v355 c arg2 harg2 arg3 harg3 arg9 arg10 arg23 arg24 x0 x1 = W4 128 256 0 0 (up p.P8) := by
  rw [sl.v355, sl.HS7_1]
  exact half4 _ _ _ _ _ (p7_1 H) rfl (by norm_num)

theorem v359 : sl.v359 c arg2 harg2 arg3 harg3 arg9 arg10 arg23 arg24 x0 x1 = W4 128 256 128 0 (up p.P8) := by
  rw [sl.v359, sl.HS7_1]
  exact half4 _ _ _ _ _ (p7_1 H) rfl (by norm_num)

theorem v363 : sl.v363 c arg5 harg5 arg12 arg20 x3 = W2 128 256 0 0 (up fun d q => p.D q d) := by
  rw [sl.v363]; exact read2 _ _ (HS3_1 H) _ rfl rfl

theorem r_28 : sl.r_28 c arg2 harg2 arg3 harg3 arg4 harg4 arg5 harg5 arg9 arg10 arg11 arg12 arg19 arg20 arg23 arg24 x0 x1 x2 x3 = WR 1 256 0 (up1 p.Df) := by
  simp only [sl.r_28, (v354 H), (v355 H), (v358 H), (v359 H), (v363 H), k0_pay63, cast43, dot_ot, add_o, List.cons_append, List.nil_append, ext_id, mul_do, sum128r, cast12, kc_inv256, (mul_delta p rh0)]

theorem v375 : sl.v375 c arg2 harg2 arg3 harg3 arg9 arg10 arg23 x0 x1 = W4 256 256 0 0 (up p.P) := by
  rw [sl.v375, sl.HS6_3]
  exact (View.readCov_cons_toLoadRect _ _ _ _).trans (by simp only [(r_26 H), (r_27 H), k0_pay61, k0_pay60, bcast_row, (mul_p p (q0 := 0) (by norm_num)), cast24])

theorem v389 : sl.v389 (F := Ideal) c arg21 = W2 256 128 0 0 (up (Pr.acc p.KT 0)) := by
  rw [sl.v389]; exact read2 _ _ (HS4_1 H) _ rfl rfl

theorem v390 : sl.v390 c arg2 harg2 arg9 arg17 x0 = W2 256 128 0 0 (up p.Q) := by
  rw [sl.v390]; exact read2 _ _ (HS0_1 H) _ rfl rfl

theorem HS4_2 : View.canon (sl.HS4_2 c arg2 harg2 arg3 harg3 arg4 harg4 arg5 harg5 arg9 arg10 arg11 arg12 arg17 arg19 arg20 arg21 arg23 arg24 x0 x1 x2 x3) = W2 2080 128 0 0 (up (Pr.acc p.KT 1)) := by
  rw [sl.HS4_2]
  exact put2 p.KT _ (HS4_1 H) _ _ (by simp only [(r_24 H), (r_28 H), (v372 H _), (v375 H), (v389 H), (v390 H), k0_pay66, k0_pay64, cast22, dot_dp, cast43, bcast_row, sub_dp, mul_ds, trunc_id, dot_kt, (acc_step p.KT 0 (k0 := 0) (q0 := 0) rfl rfl), Nat.reduceAdd]; any_goals (try erw [(v372 H)]); any_goals simp only [cast22, dot_dp, cast43, bcast_row, sub_dp, mul_ds, trunc_id, dot_kt, (acc_step p.KT 0 (k0 := 0) (q0 := 0) rfl rfl), Nat.reduceAdd]) rfl

theorem v546 : sl.v546 c arg2 harg2 arg3 harg3 arg4 harg4 arg5 harg5 arg9 arg10 arg11 arg12 arg17 arg19 arg20 arg21 arg23 arg24 x0 x1 x2 x3 = W2 256 128 0 0 (up (Pr.acc p.KT 1)) := by
  rw [sl.v546]; exact read2 _ _ (HS4_2 H) _ rfl rfl

theorem v547 : sl.v547 c arg2 harg2 arg9 arg17 x0 = W2 256 128 256 0 (up p.Q) := by
  rw [sl.v547]; exact read2 _ _ (HS0_1 H) _ rfl rfl

theorem r_40 : sl.r_40 c arg2 harg2 arg3 harg3 arg4 harg4 arg5 harg5 arg9 arg10 arg11 arg12 arg17 arg19 arg20 arg21 arg23 arg24 x0 x1 x2 x3 = W2 256 128 0 0 (up (Pr.acc p.KT 2)) := by
  simp only [sl.r_40, (r_30 H), (r_37 H), (v520 H), (v372 H _), (v532 H), (v546 H), (v547 H), k0_pay94, k0_pay92, cast22, dot_dp, cast43, k0_pay91, ext_id, mul_do, sum128r, cast12, kc_inv256, (mul_delta p rh256), bcast_row, sub_dp, mul_ds, trunc_id, dot_kt, (acc_step p.KT 1 (k0 := 0) (q0 := 256) rfl rfl), Nat.reduceAdd]
  any_goals (try erw [(v372 H)])
  any_goals simp only [cast22, dot_dp, cast43, ext_id, mul_do, sum128r, cast12, kc_inv256, (mul_delta p rh256), bcast_row, sub_dp, mul_ds, trunc_id, dot_kt, (acc_step p.KT 1 (k0 := 0) (q0 := 256) rfl rfl), Nat.reduceAdd]

theorem HS4_3 : View.canon (sl.HS4_3 c arg2 harg2 arg3 harg3 arg4 harg4 arg5 harg5 arg9 arg10 arg11 arg12 arg17 arg19 arg20 arg21 arg23 arg24 x0 x1 x2 x3) = W2 2080 128 0 0 (up (Pr.acc p.KT 2)) := by
  rw [sl.HS4_3]
  exact put2 p.KT _ (HS4_2 H) _ _ (by simp only [(r_40 H), k0_pay95, cast22]) rfl

theorem v574 : sl.v574 c arg2 harg2 arg3 harg3 arg4 harg4 arg5 harg5 arg9 arg10 arg11 arg12 arg17 arg19 arg20 arg21 arg23 arg24 x0 x1 x2 x3 = W2 256 128 256 0 (up (Pr.acc p.KT 2)) := by
  rw [sl.v574]; exact read2 _ _ (HS4_3 H) _ rfl rfl

theorem r_43 : sl.r_43 c arg2 harg2 arg3 harg3 arg4 harg4 arg5 harg5 arg9 arg10 arg11 arg12 arg17 arg19 arg20 arg21 arg23 arg24 x0 x1 x2 x3 = W2 256 128 256 0 (up (Pr.acc p.KT 3)) := by
  simp only [sl.r_43, (r_30 H), (r_38 H), (v557 H _), (v560 H), (v574 H), (v547 H), k0_pay99, k0_pay97, cast22, dot_dp, cast43, bcast_row, sub_dp, mul_ds, trunc_id, dot_kt, (acc_step p.KT 2 (k0 := 256) (q0 := 256) rfl rfl), Nat.reduceAdd]
  any_goals (try erw [(v557 H)])
  any_goals simp only [cast22, dot_dp, cast43, bcast_row, sub_dp, mul_ds, trunc_id, dot_kt, (acc_step p.KT 2 (k0 := 256) (q0 := 256) rfl rfl), Nat.reduceAdd]

theorem HS4_4 : View.canon (sl.HS4_4 c arg2 harg2 arg3 harg3 arg4 harg4 arg5 harg5 arg9 arg10 arg11 arg12 arg17 arg19 arg20 arg21 arg23 arg24 x0 x1 x2 x3) = W2 2080 128 0 0 (up (Pr.acc p.KT 3)) := by
  rw [sl.HS4_4]
  exact put2 p.KT _ (HS4_3 H) _ _ (by simp only [(r_43 H), k0_pay100, cast22]) rfl

theorem v781 : sl.v781 c arg2 harg2 arg3 harg3 arg4 harg4 arg5 harg5 arg9 arg10 arg11 arg12 arg17 arg19 arg20 arg21 arg23 arg24 x0 x1 x2 x3 = W2 256 128 0 0 (up (Pr.acc p.KT 3)) := by
  rw [sl.v781]; exact read2 _ _ (HS4_4 H) _ rfl rfl

theorem v782 : sl.v782 c arg2 harg2 arg9 arg17 x0 = W2 256 128 512 0 (up p.Q) := by
  rw [sl.v782]; exact read2 _ _ (HS0_1 H) _ rfl rfl

theorem HS4_5 : View.canon (sl.HS4_5 c arg2 harg2 arg3 harg3 arg4 harg4 arg5 harg5 arg9 arg10 arg11 arg12 arg17 arg19 arg20 arg21 arg23 arg24 x0 x1 x2 x3) = W2 2080 128 0 0 (up (Pr.acc p.KT 4)) := by
  rw [sl.HS4_5]
  exact put2 p.KT _ (HS4_4 H) _ _ (by simp only [(r_45 H), (r_55 H), cst549, (v372 H _), (v767 H), (v781 H), (v782 H), k0_pay136, k0_pay134, cast22, dot_dp, cast43, k0_pay133, kc_inv256, (mul_delta p rh512), bcast_row, sub_dp, mul_ds, trunc_id, dot_kt, (acc_step p.KT 3 (k0 := 0) (q0 := 512) rfl rfl), Nat.reduceAdd]; any_goals (try erw [(v372 H)]); any_goals simp only [cst549, cast22, dot_dp, cast43, kc_inv256, (mul_delta p rh512), bcast_row, sub_dp, mul_ds, trunc_id, dot_kt, (acc_step p.KT 3 (k0 := 0) (q0 := 512) rfl rfl), Nat.reduceAdd]) rfl

theorem v809 : sl.v809 c arg2 harg2 arg3 harg3 arg4 harg4 arg5 harg5 arg9 arg10 arg11 arg12 arg17 arg19 arg20 arg21 arg23 arg24 x0 x1 x2 x3 = W2 256 128 256 0 (up (Pr.acc p.KT 4)) := by
  rw [sl.v809]; exact read2 _ _ (HS4_5 H) _ rfl rfl

theorem HS4_6 : View.canon (sl.HS4_6 c arg2 harg2 arg3 harg3 arg4 harg4 arg5 harg5 arg9 arg10 arg11 arg12 arg17 arg19 arg20 arg21 arg23 arg24 x0 x1 x2 x3) = W2 2080 128 0 0 (up (Pr.acc p.KT 5)) := by
  rw [sl.HS4_6]
  exact put2 p.KT _ (HS4_5 H) _ _ (by simp only [(r_45 H), (r_56 H), (v557 H _), (v795 H), (v809 H), (v782 H), k0_pay140, k0_pay138, cast22, dot_dp, cast43, bcast_row, sub_dp, mul_ds, trunc_id, dot_kt, (acc_step p.KT 4 (k0 := 256) (q0 := 512) rfl rfl), Nat.reduceAdd]; any_goals (try erw [(v557 H)]); any_goals simp only [cast22, dot_dp, cast43, bcast_row, sub_dp, mul_ds, trunc_id, dot_kt, (acc_step p.KT 4 (k0 := 256) (q0 := 512) rfl rfl), Nat.reduceAdd]) rfl

theorem v838 : sl.v838 c arg2 harg2 arg3 harg3 arg4 harg4 arg5 harg5 arg9 arg10 arg11 arg12 arg17 arg19 arg20 arg21 arg23 arg24 x0 x1 x2 x3 = W2 256 128 512 0 (up (Pr.acc p.KT 5)) := by
  rw [sl.v838]; exact read2 _ _ (HS4_6 H) _ rfl rfl

theorem HS4_7 : View.canon (sl.HS4_7 c arg2 harg2 arg3 harg3 arg4 harg4 arg5 harg5 arg9 arg10 arg11 arg12 arg17 arg19 arg20 arg21 arg23 arg24 x0 x1 x2 x3) = W2 2080 128 0 0 (up (Pr.acc p.KT 6)) := by
  rw [sl.HS4_7]
  exact put2 p.KT _ (HS4_6 H) _ _ (by simp only [(r_45 H), (r_56 H), (v821 H _), (v824 H), (v838 H), (v782 H), k0_pay145, k0_pay143, cast22, dot_dp, cast43, bcast_row, sub_dp, mul_ds, trunc_id, dot_kt, (acc_step p.KT 5 (k0 := 512) (q0 := 512) rfl rfl), Nat.reduceAdd]; any_goals (try erw [(v821 H)]); any_goals simp only [cast22, dot_dp, cast43, bcast_row, sub_dp, mul_ds, trunc_id, dot_kt, (acc_step p.KT 5 (k0 := 512) (q0 := 512) rfl rfl), Nat.reduceAdd]) rfl

theorem v1098 : sl.v1098 c arg2 harg2 arg3 harg3 arg4 harg4 arg5 harg5 arg9 arg10 arg11 arg12 arg17 arg19 arg20 arg21 arg23 arg24 x0 x1 x2 x3 = W2 256 128 0 0 (up (Pr.acc p.KT 6)) := by
  rw [sl.v1098]; exact read2 _ _ (HS4_7 H) _ rfl rfl

theorem v1099 : sl.v1099 c arg2 harg2 arg9 arg17 x0 = W2 256 128 768 0 (up p.Q) := by
  rw [sl.v1099]; exact read2 _ _ (HS0_1 H) _ rfl rfl

theorem HS4_8 : View.canon (sl.HS4_8 c arg2 harg2 arg3 harg3 arg4 harg4 arg5 harg5 arg9 arg10 arg11 arg12 arg17 arg19 arg20 arg21 arg23 arg24 x0 x1 x2 x3) = W2 2080 128 0 0 (up (Pr.acc p.KT 7)) := by
  rw [sl.HS4_8]
  exact put2 p.KT _ (HS4_7 H) _ _ (by simp only [(r_81 H), (r_82 H), (v1098 H), (v1099 H), k0_pay194, k0_pay192, mul_ds, trunc_id, dot_kt, (acc_step p.KT 6 (k0 := 0) (q0 := 768) rfl rfl), Nat.reduceAdd, cast22]) rfl

theorem v1126 : sl.v1126 c arg2 harg2 arg3 harg3 arg4 harg4 arg5 harg5 arg9 arg10 arg11 arg12 arg17 arg19 arg20 arg21 arg23 arg24 x0 x1 x2 x3 = W2 256 128 256 0 (up (Pr.acc p.KT 7)) := by
  rw [sl.v1126]; exact read2 _ _ (HS4_8 H) _ rfl rfl

theorem HS4_9 : View.canon (sl.HS4_9 c arg2 harg2 arg3 harg3 arg4 harg4 arg5 harg5 arg9 arg10 arg11 arg12 arg17 arg19 arg20 arg21 arg23 arg24 x0 x1 x2 x3) = W2 2080 128 0 0 (up (Pr.acc p.KT 8)) := by
  rw [sl.HS4_9]
  exact put2 p.KT _ (HS4_8 H) _ _ (by simp only [(r_84 H), (v1126 H), (v1099 H), k0_pay199, k0_pay197, trunc_id, dot_kt, (acc_step p.KT 7 (k0 := 256) (q0 := 768) rfl rfl), Nat.reduceAdd, cast22]) rfl

theorem v1155 : sl.v1155 c arg2 harg2 arg3 harg3 arg4 harg4 arg5 harg5 arg9 arg10 arg11 arg12 arg17 arg19 arg20 arg21 arg23 arg24 x0 x1 x2 x3 = W2 256 128 512 0 (up (Pr.acc p.KT 8)) := by
  rw [sl.v1155]; exact read2 _ _ (HS4_9 H) _ rfl rfl

theorem HS4_10 : View.canon (sl.HS4_10 c arg2 harg2 arg3 harg3 arg4 harg4 arg5 harg5 arg9 arg10 arg11 arg12 arg17 arg19 arg20 arg21 arg23 arg24 x0 x1 x2 x3) = W2 2080 128 0 0 (up (Pr.acc p.KT 9)) := by
  rw [sl.HS4_10]
  exact put2 p.KT _ (HS4_9 H) _ _ (by simp only [(r_86 H), (v1155 H), (v1099 H), k0_pay204, k0_pay202, trunc_id, dot_kt, (acc_step p.KT 8 (k0 := 512) (q0 := 768) rfl rfl), Nat.reduceAdd, cast22]) rfl

theorem v1167 (h) : LoadRect.valAlong (lr := (Rect.unit (s := S2048x128) ![768, 0] S256x128.size inb_S2048x128_S256x128_768_0).toLoadRect) h (sl.v1167 c arg4 harg4 arg11 x2) = W2 256 128 768 0 (up p.V) := by
  rw [sl.v1167]; exact along _ _ (H9_1 H) _ _ _ _ _ h rfl

theorem v1170 : sl.v1170 c arg2 harg2 arg3 harg3 arg9 arg10 arg23 x0 x1 = W4 256 256 768 768 (up p.P) := by
  rw [sl.v1170, sl.HS6_30]
  exact (View.readCov_cons_toLoadRect _ _ _ _).trans (by simp only [(r_71 H), (v1047 H), k0_pay186, k0_pay185, cast43, bcast_row, (mul_p p (q0 := 768) (by norm_num)), cast24])

theorem r_88 : sl.r_88 c arg2 harg2 arg3 harg3 arg4 harg4 arg5 harg5 arg9 arg10 arg11 arg12 arg19 arg20 arg23 arg24 x0 x1 x2 x3 = W2 256 256 768 768 (up p.DS) := by
  simp only [sl.r_88, (r_63 H), (r_80 H), (v1167 H _), (v1170 H), k0_pay206, cast22, dot_dp, cast43, bcast_row, sub_dp, mul_ds]
  any_goals (try erw [(v1167 H)])
  any_goals simp only [cast22, dot_dp, cast43, bcast_row, sub_dp, mul_ds]

theorem v1184 : sl.v1184 c arg2 harg2 arg3 harg3 arg4 harg4 arg5 harg5 arg9 arg10 arg11 arg12 arg17 arg19 arg20 arg21 arg23 arg24 x0 x1 x2 x3 = W2 256 128 768 0 (up (Pr.acc p.KT 9)) := by
  rw [sl.v1184]; exact read2 _ _ (HS4_10 H) _ rfl rfl

theorem HS4_11 : View.canon (sl.HS4_11 c arg2 harg2 arg3 harg3 arg4 harg4 arg5 harg5 arg9 arg10 arg11 arg12 arg17 arg19 arg20 arg21 arg23 arg24 x0 x1 x2 x3) = W2 2080 128 0 0 (up (Pr.acc p.KT 10)) := by
  rw [sl.HS4_11]
  exact put2 p.KT _ (HS4_10 H) _ _ (by simp only [(r_88 H), (v1184 H), (v1099 H), k0_pay209, k0_pay207, trunc_id, dot_kt, (acc_step p.KT 9 (k0 := 768) (q0 := 768) rfl rfl), Nat.reduceAdd, cast22]) rfl

theorem v1203 : sl.v1203 c arg5 harg5 arg12 x3 = W3 256 128 1024 0 (up p.D) := by
  rw [sl.v1203]; exact read3 _ _ (H10_1 H) _ rfl rfl

theorem r_90 : sl.r_90 c arg5 harg5 arg12 x3 = W2 256 128 1024 0 (up p.D) := by
  simp only [sl.r_90, (v1203 H), k0_pay212, cast32]

theorem v1347 : sl.v1347 c arg3 harg3 arg4 harg4 arg25 arg27 arg29 x1 x2 = W2 128 128 0 25 (up fun d k => p.V k d) := by
  rw [sl.v1347]; exact read2 _ _ (HS12_1 H) _ rfl rfl

theorem v1201 : sl.v1201 c arg2 harg2 arg9 x0 = W3 256 128 1024 0 (up p.Q) := by
  rw [sl.v1201]; exact read3 _ _ (H7_1 H) _ rfl rfl

theorem r_89 : sl.r_89 c arg2 harg2 arg9 x0 = W2 256 128 1024 0 (up p.Q) := by
  simp only [sl.r_89, (v1201 H), k0_pay211, cast32]

theorem v1205 : sl.v1205 c arg3 harg3 arg25 arg26 x1 = W2 256 128 25 0 (up p.K) := by
  rw [sl.v1205]; exact read2 _ _ (HS9_1 H) _ rfl rfl

theorem v1216 : sl.v1216 c arg3 harg3 arg25 arg26 x1 = W2 256 128 281 0 (up p.K) := by
  rw [sl.v1216]; exact read2 _ _ (HS9_1 H) _ rfl rfl

theorem v1224 : sl.v1224 c arg3 harg3 arg25 arg26 x1 = W2 256 128 537 0 (up p.K) := by
  rw [sl.v1224]; exact read2 _ _ (HS9_1 H) _ rfl rfl

theorem r_91 : sl.r_91 c arg2 harg2 arg3 harg3 arg9 arg25 arg26 x0 x1 = W2 8 256 0 1024 (p.uM8 [25, 281, 537]) := by
  simp only [sl.r_91, (r_89 H), (v1205 H), (v1216 H), (v1224 H), k0_pay219, k0_pay213, dot_s, kc_bot, (mask_gt p (k0 := 25) (q0 := 1024) 4294967295#32 (by decide) (by norm_num)), cast28, max8r, k0_pay215, (full p (k0 := 281) (q0 := 1024) (by norm_num) (by norm_num)), max_app, List.cons_append, List.nil_append, k0_pay217, (full p (k0 := 537) (q0 := 1024) (by norm_num) (by norm_num))]

theorem v1232 : sl.v1232 c arg3 harg3 arg25 arg26 x1 = W2 256 128 793 0 (up p.K) := by
  rw [sl.v1232]; exact read2 _ _ (HS9_1 H) _ rfl rfl

theorem v1244 : sl.v1244 c arg3 harg3 arg25 arg26 x1 = W2 256 128 1049 0 (up p.K) := by
  rw [sl.v1244]; exact read2 _ _ (HS9_1 H) _ rfl rfl

theorem r_92 : sl.r_92 c arg2 harg2 arg3 harg3 arg9 arg25 arg26 x0 x1 = WR 1 256 1024 (up1 (p.mu [25, 281, 537, 793, 1049])) := by
  simp only [sl.r_92, H.r20, (r_89 H), (r_91 H), (v1232 H), (v1244 H), k0_pay224, k0_pay220, dot_s, kc_bot, (mask_le p (k0 := 793) (q0 := 1024) 231#32 (by decide) (by norm_num)), cast28, max8r, max_app, List.cons_append, List.nil_append, k0_pay222, (mask_le p (k0 := 1049) (q0 := 1024) 4294967271#32 (by decide) (by norm_num)), red8r, cast12, bcast_kc, (mul_m p rw1024 (by norm_num))]

theorem v1260 : sl.v1260 c arg2 harg2 arg3 harg3 arg9 arg10 arg23 arg25 arg26 x0 x1 = W4 256 256 25 1024 p.uMS := by
  rw [sl.v1260, sl.HS6_35, skip4 _ _ _ _ _ (by decide), skip4 _ _ _ _ _ (by decide), skip4 _ _ _ _ _ (by decide), skip4 _ _ _ _ _ (by decide)]
  exact (View.readCov_cons_toLoadRect _ _ _ _).trans (by simp only [(r_89 H), (v1205 H), k0_pay214, k0_pay213, dot_s, kc_bot, (mask_gt p (k0 := 25) (q0 := 1024) 4294967295#32 (by decide) (by norm_num)), cast24])

theorem r_93 : sl.r_93 c arg2 harg2 arg3 harg3 arg9 arg10 arg23 arg25 arg26 x0 x1 = W2 256 256 25 1024 (up (p.E [25, 281, 537, 793, 1049])) := by
  simp only [sl.r_93, H.r20, (r_89 H), (r_91 H), (v1232 H), (v1244 H), (v1260 H), k0_pay225, cast43, bcast_kc, (mul_ms p H.c_pos), k0_pay224, k0_pay220, dot_s, kc_bot, (mask_le p (k0 := 793) (q0 := 1024) 231#32 (by decide) (by norm_num)), cast28, max8r, max_app, List.cons_append, List.nil_append, k0_pay222, (mask_le p (k0 := 1049) (q0 := 1024) 4294967271#32 (by decide) (by norm_num)), red8r, cast12, (mul_m p rw1024 (by norm_num)), bcast_row, sub_t, exp_e]

theorem v1272 : sl.v1272 c arg2 harg2 arg3 harg3 arg9 arg10 arg23 arg25 arg26 x0 x1 = W4 256 256 281 1024 p.uMS := by
  rw [sl.v1272, sl.HS6_36, skip4 _ _ _ _ _ (by decide), sl.HS6_35, skip4 _ _ _ _ _ (by decide), skip4 _ _ _ _ _ (by decide), skip4 _ _ _ _ _ (by decide)]
  exact (View.readCov_cons_toLoadRect _ _ _ _).trans (by simp only [(r_89 H), (v1216 H), k0_pay216, k0_pay215, dot_s, cast24, (full p (k0 := 281) (q0 := 1024) (by norm_num) (by norm_num))])

theorem v1285 : sl.v1285 c arg2 harg2 arg3 harg3 arg9 arg10 arg23 arg25 arg26 x0 x1 = W4 256 256 537 1024 p.uMS := by
  rw [sl.v1285, sl.HS6_37, skip4 _ _ _ _ _ (by decide), sl.HS6_36, skip4 _ _ _ _ _ (by decide), sl.HS6_35, skip4 _ _ _ _ _ (by decide), skip4 _ _ _ _ _ (by decide)]
  exact (View.readCov_cons_toLoadRect _ _ _ _).trans (by simp only [(r_89 H), (v1224 H), k0_pay218, k0_pay217, dot_s, cast24, (full p (k0 := 537) (q0 := 1024) (by norm_num) (by norm_num))])

theorem r_94 : sl.r_94 c arg2 harg2 arg3 harg3 arg9 arg10 arg23 arg25 arg26 x0 x1 = W2 8 256 0 1024 (up (p.L8 [25, 281, 537, 793, 1049] [25, 281, 537])) := by
  simp only [sl.r_94, H.r20, (r_92 H), (r_93 H), (v1272 H), (v1285 H), k0_pay231, cast28, add8r, k0_pay227, cast43, bcast_kc, (mul_ms p H.c_pos), bcast_row, sub_t, exp_e, add_l8, List.cons_append, List.nil_append, k0_pay229]

theorem v1298 : sl.v1298 c arg2 harg2 arg3 harg3 arg9 arg10 arg23 arg25 arg26 x0 x1 = W4 256 256 793 1024 p.uMS := by
  rw [sl.v1298, sl.HS6_38, skip4 _ _ _ _ _ (by decide), sl.HS6_37, skip4 _ _ _ _ _ (by decide), sl.HS6_36, skip4 _ _ _ _ _ (by decide), sl.HS6_35, skip4 _ _ _ _ _ (by decide)]
  exact (View.readCov_cons_toLoadRect _ _ _ _).trans (by simp only [(r_89 H), (v1232 H), k0_pay221, k0_pay220, dot_s, kc_bot, (mask_le p (k0 := 793) (q0 := 1024) 231#32 (by decide) (by norm_num)), cast24])

theorem v1311 : sl.v1311 c arg2 harg2 arg3 harg3 arg9 arg10 arg23 arg25 arg26 x0 x1 = W4 256 256 1049 1024 p.uMS := by
  rw [sl.v1311, sl.HS6_39, skip4 _ _ _ _ _ (by decide), sl.HS6_38, skip4 _ _ _ _ _ (by decide), sl.HS6_37, skip4 _ _ _ _ _ (by decide), sl.HS6_36, skip4 _ _ _ _ _ (by decide), sl.HS6_35]
  exact (View.readCov_cons_toLoadRect _ _ _ _).trans (by simp only [(r_89 H), (v1244 H), k0_pay223, k0_pay222, dot_s, kc_bot, (mask_le p (k0 := 1049) (q0 := 1024) 4294967271#32 (by decide) (by norm_num)), cast24])

theorem v1332 : sl.v1332 c arg2 harg2 arg3 harg3 arg9 arg10 arg23 arg25 arg26 x0 x1 = W4 256 256 25 1024 (up (p.E [25, 281, 537, 793, 1049])) := by
  rw [sl.v1332, sl.HS6_40, skip4 _ _ _ _ _ (by decide), sl.HS6_39, skip4 _ _ _ _ _ (by decide), sl.HS6_38, skip4 _ _ _ _ _ (by decide), sl.HS6_37, skip4 _ _ _ _ _ (by decide), sl.HS6_36]
  exact (View.readCov_cons_toLoadRect _ _ _ _).trans (by simp only [(r_93 H), k0_pay226, cast24])

end Cert.KernelIdeal.Attn
-- ==== Proof.ChainB.lean ====
/-
  What the body's loads, stored tiles and accumulators hold, one after the other, in the order of the body's text.
-/
module

public import proofs.«01_k».proof.Proof.ChainA

@[expose] public section

set_option backward.isDefEq.respectTransparency.types false
set_option maxRecDepth 16384

noncomputable section

namespace Cert.KernelIdeal.Attn

open Idealize.ShloMosaic Cert.KernelIdeal Cert.KernelIdeal.Gen Cert.KernelIdeal.Own.kernelRun0_A
open scoped BigOperators
open Finset (range)

variable {c : Dev nD} {arg2 arg3 arg4 arg5 : Memref sig .tc .vmem S1x2048x128 .bf16}
  {harg2 : arg2.IsWhole} {harg3 : arg3.IsWhole} {harg4 : arg4.IsWhole} {harg5 : arg5.IsWhole}
  {arg9 arg10 arg11 : Memref sig .tc .vmem S1x2048x128 .fp8e4m3} {arg12 : Memref sig .tc .vmem S1x2048x128 .fp8e5m2}
  {arg17 : Memref sig .tc .vmem S2048x128 .bf16} {arg18 : Memref sig .tc .vmem S128x1024 .bf16}
  {arg19 : Memref sig .tc .vmem S128x1024 .fp8e4m3} {arg20 : Memref sig .tc .vmem S128x2048 .bf16}
  {arg21 arg22 : Memref sig .tc .vmem S2080x128 .f32} {arg23 : Memref sig .tc .vmem S2x5x256x256 .f32}
  {arg24 : Memref sig .tc .vmem S2x5x256x256 .fp8e4m3} {arg25 : Memref sig .tc .vmem S2080x128 .f32}
  {arg26 arg27 : Memref sig .tc .vmem S2048x128 .fp8e4m3} {arg28 : Memref sig .tc .vmem S128x2048 .bf16}
  {arg29 : Memref sig .tc .vmem S128x2048 .fp8e4m3} {x0 x1 x2 x3 : Vec Ideal S1x2048x128 .bf16} {p : Pr}
  (H : Good c arg2 harg2 arg3 harg3 arg4 harg4 arg5 harg5 x0 x1 x2 x3 p)

include H

theorem r_96 : sl.r_96 c arg2 harg2 arg3 harg3 arg9 arg10 arg23 arg25 arg26 x0 x1 = W2 256 256 25 1024 (up p.P) := by
  simp only [sl.r_96, H.r20, (r_92 H), (r_94 H), (v1298 H), (v1311 H), (v1332 H), k0_pay237, cast43, k0_pay236, k0_pay232, bcast_kc, (mul_ms p H.c_pos), bcast_row, sub_t, exp_e, cast28, add8r, add_l8, List.cons_append, List.nil_append, k0_pay234, sum_l8r, cast12, kc_256, (fac p rw1024 (by norm_num)), (mul_p p (q0 := 1024) (by norm_num))]

theorem p7_11 : k0_pay239 (sl.r_96 c arg2 harg2 arg3 harg3 arg9 arg10 arg23 arg25 arg26 x0 x1) = W4 256 256 25 1024 (up p.P8) := by
  simp only [(r_96 H), k0_pay239, kc_zero, clip_0, kc_448, clip_448, trunc_id, cast24]

theorem v1348 : sl.v1348 c arg2 harg2 arg3 harg3 arg9 arg10 arg23 arg24 arg25 arg26 x0 x1 = W4 128 256 25 1024 (up p.P8) := by
  rw [sl.v1348, sl.HS7_11]
  exact half4 _ _ _ _ _ (p7_11 H) rfl (by norm_num)

theorem v1351 : sl.v1351 c arg3 harg3 arg4 harg4 arg25 arg27 arg29 x1 x2 = W2 128 128 0 153 (up fun d k => p.V k d) := by
  rw [sl.v1351]; exact read2 _ _ (HS12_1 H) _ rfl rfl

theorem v1352 : sl.v1352 c arg2 harg2 arg3 harg3 arg9 arg10 arg23 arg24 arg25 arg26 x0 x1 = W4 128 256 153 1024 (up p.P8) := by
  rw [sl.v1352, sl.HS7_11]
  exact half4 _ _ _ _ _ (p7_11 H) rfl (by norm_num)

theorem r_97 : sl.r_97 c arg2 harg2 arg3 harg3 arg4 harg4 arg9 arg10 arg23 arg24 arg25 arg26 arg27 arg29 x0 x1 x2 = W2 128 256 0 1024 (up (p.O [25, 153])) := by
  simp only [sl.r_97, (v1347 H), (v1348 H), (v1351 H), (v1352 H), k0_pay240, cast43, dot_ot, add_o, List.cons_append, List.nil_append]

theorem v1371 : sl.v1371 c arg3 harg3 arg4 harg4 arg25 arg27 arg29 x1 x2 = W2 128 128 0 281 (up fun d k => p.V k d) := by
  rw [sl.v1371]; exact read2 _ _ (HS12_1 H) _ rfl rfl

theorem r_95 : sl.r_95 c arg2 harg2 arg3 harg3 arg9 arg10 arg23 arg25 arg26 x0 x1 = WR 1 256 1024 (up1 (p.Fc [25, 281, 537, 793, 1049])) := by
  simp only [sl.r_95, H.r20, (r_92 H), (r_94 H), (v1298 H), (v1311 H), k0_pay236, k0_pay232, cast43, bcast_kc, (mul_ms p H.c_pos), bcast_row, sub_t, exp_e, cast28, add8r, add_l8, List.cons_append, List.nil_append, k0_pay234, sum_l8r, cast12, kc_256, (fac p rw1024 (by norm_num))]

theorem v1356 : sl.v1356 c arg2 harg2 arg3 harg3 arg9 arg10 arg23 arg25 arg26 x0 x1 = W4 256 256 281 1024 (up (p.E [25, 281, 537, 793, 1049])) := by
  rw [sl.v1356, sl.HS6_41, skip4 _ _ _ _ _ (by decide), sl.HS6_40, skip4 _ _ _ _ _ (by decide), sl.HS6_39, skip4 _ _ _ _ _ (by decide), sl.HS6_38, skip4 _ _ _ _ _ (by decide), sl.HS6_37]
  exact (View.readCov_cons_toLoadRect _ _ _ _).trans (by simp only [H.r20, (r_92 H), (v1272 H), k0_pay228, k0_pay227, cast43, bcast_kc, (mul_ms p H.c_pos), bcast_row, sub_t, exp_e, cast24])

theorem r_98 : sl.r_98 c arg2 harg2 arg3 harg3 arg9 arg10 arg23 arg25 arg26 x0 x1 = W2 256 256 281 1024 (up p.P) := by
  simp only [sl.r_98, (r_95 H), (v1356 H), k0_pay241, cast43, bcast_row, (mul_p p (q0 := 1024) (by norm_num))]

theorem p7_12 : k0_pay243 (sl.r_98 c arg2 harg2 arg3 harg3 arg9 arg10 arg23 arg25 arg26 x0 x1) = W4 256 256 281 1024 (up p.P8) := by
  simp only [(r_98 H), k0_pay243, kc_zero, clip_0, kc_448, clip_448, trunc_id, cast24]

theorem v1372 : sl.v1372 c arg2 harg2 arg3 harg3 arg9 arg10 arg23 arg24 arg25 arg26 x0 x1 = W4 128 256 281 1024 (up p.P8) := by
  rw [sl.v1372, sl.HS7_12]
  exact half4 _ _ _ _ _ (p7_12 H) rfl (by norm_num)

theorem v1376 : sl.v1376 c arg3 harg3 arg4 harg4 arg25 arg27 arg29 x1 x2 = W2 128 128 0 409 (up fun d k => p.V k d) := by
  rw [sl.v1376]; exact read2 _ _ (HS12_1 H) _ rfl rfl

theorem v1377 : sl.v1377 c arg2 harg2 arg3 harg3 arg9 arg10 arg23 arg24 arg25 arg26 x0 x1 = W4 128 256 409 1024 (up p.P8) := by
  rw [sl.v1377, sl.HS7_12]
  exact half4 _ _ _ _ _ (p7_12 H) rfl (by norm_num)

theorem r_99 : sl.r_99 c arg2 harg2 arg3 harg3 arg4 harg4 arg9 arg10 arg23 arg24 arg25 arg26 arg27 arg29 x0 x1 x2 = W2 128 256 0 1024 (up (p.O [25, 153, 281, 409])) := by
  simp only [sl.r_99, (r_97 H), (v1371 H), (v1372 H), (v1376 H), (v1377 H), k0_pay244, cast43, dot_ot, add_o, List.cons_append, List.nil_append]

theorem v1396 : sl.v1396 c arg3 harg3 arg4 harg4 arg25 arg27 arg29 x1 x2 = W2 128 128 0 537 (up fun d k => p.V k d) := by
  rw [sl.v1396]; exact read2 _ _ (HS12_1 H) _ rfl rfl

theorem v1381 : sl.v1381 c arg2 harg2 arg3 harg3 arg9 arg10 arg23 arg25 arg26 x0 x1 = W4 256 256 537 1024 (up (p.E [25, 281, 537, 793, 1049])) := by
  rw [sl.v1381, sl.HS6_42, skip4 _ _ _ _ _ (by decide), sl.HS6_41, skip4 _ _ _ _ _ (by decide), sl.HS6_40, skip4 _ _ _ _ _ (by decide), sl.HS6_39, skip4 _ _ _ _ _ (by decide), sl.HS6_38]
  exact (View.readCov_cons_toLoadRect _ _ _ _).trans (by simp only [H.r20, (r_92 H), (v1285 H), k0_pay230, k0_pay229, cast43, bcast_kc, (mul_ms p H.c_pos), bcast_row, sub_t, exp_e, cast24])

theorem r_100 : sl.r_100 c arg2 harg2 arg3 harg3 arg9 arg10 arg23 arg25 arg26 x0 x1 = W2 256 256 537 1024 (up p.P) := by
  simp only [sl.r_100, (r_95 H), (v1381 H), k0_pay245, cast43, bcast_row, (mul_p p (q0 := 1024) (by norm_num))]

theorem p7_13 : k0_pay248 (sl.r_100 c arg2 harg2 arg3 harg3 arg9 arg10 arg23 arg25 arg26 x0 x1) sl.cst_11 k0_pay247 = W4 256 256 537 1024 (up p.P8) := by
  simp only [(r_100 H), cst11, k0_pay247, kc_zero, k0_pay248, clip_0, kc_448, clip_448, trunc_id, cast24]

theorem v1397 : sl.v1397 c arg2 harg2 arg3 harg3 arg9 arg10 arg23 arg24 arg25 arg26 x0 x1 = W4 128 256 537 1024 (up p.P8) := by
  rw [sl.v1397, sl.HS7_13]
  exact half4 _ _ _ _ _ (p7_13 H) rfl (by norm_num)

theorem v1401 : sl.v1401 c arg3 harg3 arg4 harg4 arg25 arg27 arg29 x1 x2 = W2 128 128 0 665 (up fun d k => p.V k d) := by
  rw [sl.v1401]; exact read2 _ _ (HS12_1 H) _ rfl rfl

theorem v1402 : sl.v1402 c arg2 harg2 arg3 harg3 arg9 arg10 arg23 arg24 arg25 arg26 x0 x1 = W4 128 256 665 1024 (up p.P8) := by
  rw [sl.v1402, sl.HS7_13]
  exact half4 _ _ _ _ _ (p7_13 H) rfl (by norm_num)

theorem r_101 : sl.r_101 c arg2 harg2 arg3 harg3 arg4 harg4 arg9 arg10 arg23 arg24 arg25 arg26 arg27 arg29 x0 x1 x2 = W2 128 256 0 1024 (up (p.O [25, 153, 281, 409, 537, 665])) := by
  simp only [sl.r_101, (r_99 H), (v1396 H), (v1397 H), (v1401 H), (v1402 H), k0_pay249, cast43, dot_ot, add_o, List.cons_append, List.nil_append]

theorem v1421 : sl.v1421 c arg3 harg3 arg4 harg4 arg25 arg27 arg29 x1 x2 = W2 128 128 0 793 (up fun d k => p.V k d) := by
  rw [sl.v1421]; exact read2 _ _ (HS12_1 H) _ rfl rfl

theorem v1406 : sl.v1406 c arg2 harg2 arg3 harg3 arg9 arg10 arg23 arg25 arg26 x0 x1 = W4 256 256 793 1024 (up (p.E [25, 281, 537, 793, 1049])) := by
  rw [sl.v1406, sl.HS6_43, skip4 _ _ _ _ _ (by decide), sl.HS6_42, skip4 _ _ _ _ _ (by decide), sl.HS6_41, skip4 _ _ _ _ _ (by decide), sl.HS6_40, skip4 _ _ _ _ _ (by decide), sl.HS6_39]
  exact (View.readCov_cons_toLoadRect _ _ _ _).trans (by simp only [H.r20, (r_92 H), (v1298 H), k0_pay233, k0_pay232, cast43, bcast_kc, (mul_ms p H.c_pos), bcast_row, sub_t, exp_e, cast24])

theorem r_102 : sl.r_102 c arg2 harg2 arg3 harg3 arg9 arg10 arg23 arg25 arg26 x0 x1 = W2 256 256 793 1024 (up p.P8) := by
  simp only [sl.r_102, (r_95 H), (v1406 H), k0_pay252, kc_zero, k0_pay250, cast43, bcast_row, (mul_p p (q0 := 1024) (by norm_num)), clip_0, kc_448, clip_448, trunc_id]

theorem p7_14 : k0_pay253 (sl.r_102 c arg2 harg2 arg3 harg3 arg9 arg10 arg23 arg25 arg26 x0 x1) = W4 256 256 793 1024 (up p.P8) := by
  simp only [(r_102 H), k0_pay253, cast24]

theorem v1422 : sl.v1422 c arg2 harg2 arg3 harg3 arg9 arg10 arg23 arg24 arg25 arg26 x0 x1 = W4 128 256 793 1024 (up p.P8) := by
  rw [sl.v1422, sl.HS7_14]
  exact half4 _ _ _ _ _ (p7_14 H) rfl (by norm_num)

theorem v1426 : sl.v1426 c arg3 harg3 arg4 harg4 arg25 arg27 arg29 x1 x2 = W2 128 128 0 921 (up fun d k => p.V k d) := by
  rw [sl.v1426]; exact read2 _ _ (HS12_1 H) _ rfl rfl

theorem v1427 : sl.v1427 c arg2 harg2 arg3 harg3 arg9 arg10 arg23 arg24 arg25 arg26 x0 x1 = W4 128 256 921 1024 (up p.P8) := by
  rw [sl.v1427, sl.HS7_14]
  exact half4 _ _ _ _ _ (p7_14 H) rfl (by norm_num)

theorem r_103 : sl.r_103 c arg2 harg2 arg3 harg3 arg4 harg4 arg9 arg10 arg23 arg24 arg25 arg26 arg27 arg29 x0 x1 x2 = W2 128 256 0 1024 (up (p.O [25, 153, 281, 409, 537, 665, 793, 921])) := by
  simp only [sl.r_103, (r_101 H), (v1421 H), (v1422 H), (v1426 H), (v1427 H), k0_pay254, cast43, dot_ot, add_o, List.cons_append, List.nil_append]

theorem v1446 : sl.v1446 c arg3 harg3 arg4 harg4 arg25 arg27 arg29 x1 x2 = W2 128 128 0 1049 (up fun d k => p.V k d) := by
  rw [sl.v1446]; exact read2 _ _ (HS12_1 H) _ rfl rfl

theorem v1431 : sl.v1431 c arg2 harg2 arg3 harg3 arg9 arg10 arg23 arg25 arg26 x0 x1 = W4 256 256 1049 1024 (up (p.E [25, 281, 537, 793, 1049])) := by
  rw [sl.v1431, sl.HS6_44, skip4 _ _ _ _ _ (by decide), sl.HS6_43, skip4 _ _ _ _ _ (by decide), sl.HS6_42, skip4 _ _ _ _ _ (by decide), sl.HS6_41, skip4 _ _ _ _ _ (by decide), sl.HS6_40]
  exact (View.readCov_cons_toLoadRect _ _ _ _).trans (by simp only [H.r20, (r_92 H), (v1311 H), k0_pay235, k0_pay234, cast43, bcast_kc, (mul_ms p H.c_pos), bcast_row, sub_t, exp_e, cast24])

theorem r_104 : sl.r_104 c arg2 harg2 arg3 harg3 arg9 arg10 arg23 arg25 arg26 x0 x1 = W2 256 256 1049 1024 (up p.P8) := by
  simp only [sl.r_104, (r_95 H), (v1431 H), k0_pay257, kc_zero, k0_pay255, cast43, bcast_row, (mul_p p (q0 := 1024) (by norm_num)), clip_0, kc_448, clip_448, trunc_id]

theorem p7_15 : k0_pay258 (sl.r_104 c arg2 harg2 arg3 harg3 arg9 arg10 arg23 arg25 arg26 x0 x1) = W4 256 256 1049 1024 (up p.P8) := by
  simp only [(r_104 H), k0_pay258, cast24]

theorem v1447 : sl.v1447 c arg2 harg2 arg3 harg3 arg9 arg10 arg23 arg24 arg25 arg26 x0 x1 = W4 128 256 1049 1024 (up p.P8) := by
  rw [sl.v1447, sl.HS7_15]
  exact half4 _ _ _ _ _ (p7_15 H) rfl (by norm_num)

theorem v1451 : sl.v1451 c arg3 harg3 arg4 harg4 arg25 arg27 arg29 x1 x2 = W2 128 128 0 1177 (up fun d k => p.V k d) := by
  rw [sl.v1451]; exact read2 _ _ (HS12_1 H) _ rfl rfl

theorem v1452 : sl.v1452 c arg2 harg2 arg3 harg3 arg9 arg10 arg23 arg24 arg25 arg26 x0 x1 = W4 128 256 1177 1024 (up p.P8) := by
  rw [sl.v1452, sl.HS7_15]
  exact half4 _ _ _ _ _ (p7_15 H) rfl (by norm_num)

theorem v1456 : sl.v1456 c arg5 harg5 arg12 arg20 x3 = W2 128 256 0 1024 (up fun d q => p.D q d) := by
  rw [sl.v1456]; exact read2 _ _ (HS3_1 H) _ rfl rfl

theorem v1463 : sl.v1463 c arg3 harg3 arg4 harg4 arg25 arg27 x1 x2 = W2 256 128 25 0 (up p.V) := by
  rw [sl.v1463]; exact read2 _ _ (HS10_1 H) _ rfl rfl

theorem v1465 : sl.v1465 c arg2 harg2 arg3 harg3 arg9 arg10 arg23 arg25 arg26 x0 x1 = W4 256 256 25 1024 (up p.P) := by
  rw [sl.v1465, sl.HS6_45, skip4 _ _ _ _ _ (by decide), sl.HS6_44, skip4 _ _ _ _ _ (by decide), sl.HS6_43, skip4 _ _ _ _ _ (by decide), sl.HS6_42, skip4 _ _ _ _ _ (by decide), sl.HS6_41]
  exact (View.readCov_cons_toLoadRect _ _ _ _).trans (by simp only [(r_96 H), k0_pay238, cast24])

theorem r_106 : sl.r_106 c arg2 harg2 arg3 harg3 arg4 harg4 arg5 harg5 arg9 arg10 arg12 arg20 arg23 arg24 arg25 arg26 arg27 arg29 x0 x1 x2 x3 = W2 256 256 25 1024 (up p.DS) := by
  simp only [sl.r_106, (r_90 H), (r_103 H), (v1446 H), (v1447 H), (v1451 H), (v1452 H), (v1456 H), (v1463 H), (v1465 H), k0_pay260, dot_dp, cast43, k0_pay259, dot_ot, add_o, List.cons_append, List.nil_append, ext_id, mul_do, sum128r, cast12, kc_inv256, (mul_delta p rh1024), bcast_row, sub_dp, mul_ds, trunc_id]

theorem v1479 : sl.v1479 c arg2 harg2 arg3 harg3 arg4 harg4 arg5 harg5 arg9 arg10 arg11 arg12 arg17 arg19 arg20 arg21 arg23 arg24 x0 x1 x2 x3 = W2 256 128 25 0 (up (Pr.acc p.KT 10)) := by
  rw [sl.v1479]; exact read2 _ _ (HS4_11 H) _ rfl rfl

theorem v1480 : sl.v1480 c arg2 harg2 arg9 arg17 x0 = W2 256 128 1024 0 (up p.Q) := by
  rw [sl.v1480]; exact read2 _ _ (HS0_1 H) _ rfl rfl

theorem HS4_12 : View.canon (sl.HS4_12 c arg2 harg2 arg3 harg3 arg4 harg4 arg5 harg5 arg9 arg10 arg11 arg12 arg17 arg19 arg20 arg21 arg23 arg24 arg25 arg26 arg27 arg29 x0 x1 x2 x3) = W2 2080 128 0 0 (up (Pr.acc p.KT 11)) := by
  rw [sl.HS4_12]
  exact put2 p.KT _ (HS4_11 H) _ _ (by simp only [(r_106 H), (v1479 H), (v1480 H), k0_pay262, dot_kt, (acc_step p.KT 10 (k0 := 25) (q0 := 1024) rfl rfl), Nat.reduceAdd, cast22]) rfl

theorem r_105 : sl.r_105 c arg2 harg2 arg3 harg3 arg4 harg4 arg5 harg5 arg9 arg10 arg12 arg20 arg23 arg24 arg25 arg26 arg27 arg29 x0 x1 x2 x3 = WR 1 256 1024 (up1 p.Df) := by
  simp only [sl.r_105, (r_103 H), (v1446 H), (v1447 H), (v1451 H), (v1452 H), (v1456 H), k0_pay259, cast43, dot_ot, add_o, List.cons_append, List.nil_append, ext_id, mul_do, sum128r, cast12, kc_inv256, (mul_delta p rh1024)]

theorem v1488 : sl.v1488 c arg3 harg3 arg4 harg4 arg25 arg27 x1 x2 = W2 256 128 281 0 (up p.V) := by
  rw [sl.v1488]; exact read2 _ _ (HS10_1 H) _ rfl rfl

theorem v1490 : sl.v1490 c arg2 harg2 arg3 harg3 arg9 arg10 arg23 arg25 arg26 x0 x1 = W4 256 256 281 1024 (up p.P) := by
  rw [sl.v1490, sl.HS6_45, skip4 _ _ _ _ _ (by decide), sl.HS6_44, skip4 _ _ _ _ _ (by decide), sl.HS6_43, skip4 _ _ _ _ _ (by decide), sl.HS6_42]
  exact (View.readCov_cons_toLoadRect _ _ _ _).trans (by simp only [(r_98 H), k0_pay242, cast24])

theorem r_108 : sl.r_108 c arg2 harg2 arg3 harg3 arg4 harg4 arg5 harg5 arg9 arg10 arg12 arg20 arg23 arg24 arg25 arg26 arg27 arg29 x0 x1 x2 x3 = W2 256 256 281 1024 (up p.DS) := by
  simp only [sl.r_108, (r_90 H), (r_105 H), (v1488 H), (v1490 H), k0_pay264, dot_dp, cast43, bcast_row, sub_dp, mul_ds, trunc_id]

theorem v1504 : sl.v1504 c arg2 harg2 arg3 harg3 arg4 harg4 arg5 harg5 arg9 arg10 arg11 arg12 arg17 arg19 arg20 arg21 arg23 arg24 arg25 arg26 arg27 arg29 x0 x1 x2 x3 = W2 256 128 281 0 (up (Pr.acc p.KT 11)) := by
  rw [sl.v1504]; exact read2 _ _ (HS4_12 H) _ rfl rfl

theorem HS4_13 : View.canon (sl.HS4_13 c arg2 harg2 arg3 harg3 arg4 harg4 arg5 harg5 arg9 arg10 arg11 arg12 arg17 arg19 arg20 arg21 arg23 arg24 arg25 arg26 arg27 arg29 x0 x1 x2 x3) = W2 2080 128 0 0 (up (Pr.acc p.KT 12)) := by
  rw [sl.HS4_13]
  exact put2 p.KT _ (HS4_12 H) _ _ (by simp only [(r_108 H), (v1504 H), (v1480 H), k0_pay267, dot_kt, (acc_step p.KT 11 (k0 := 281) (q0 := 1024) rfl rfl), Nat.reduceAdd, cast22]) rfl

theorem v1514 : sl.v1514 c arg3 harg3 arg4 harg4 arg25 arg27 x1 x2 = W2 256 128 537 0 (up p.V) := by
  rw [sl.v1514]; exact read2 _ _ (HS10_1 H) _ rfl rfl

theorem v1516 : sl.v1516 c arg2 harg2 arg3 harg3 arg9 arg10 arg23 arg25 arg26 x0 x1 = W4 256 256 537 1024 (up p.P) := by
  rw [sl.v1516, sl.HS6_45, skip4 _ _ _ _ _ (by decide), sl.HS6_44, skip4 _ _ _ _ _ (by decide), sl.HS6_43]
  exact (View.readCov_cons_toLoadRect _ _ _ _).trans (by simp only [(r_95 H), (v1381 H), k0_pay246, k0_pay245, cast43, bcast_row, (mul_p p (q0 := 1024) (by norm_num)), cast24])

theorem r_111 : sl.r_111 c arg2 harg2 arg3 harg3 arg4 harg4 arg5 harg5 arg9 arg10 arg12 arg20 arg23 arg24 arg25 arg26 arg27 arg29 x0 x1 x2 x3 = W2 256 256 537 1024 (up p.DS) := by
  simp only [sl.r_111, (r_90 H), (r_105 H), (v1514 H), (v1516 H), k0_pay269, dot_dp, cast43, bcast_row, sub_dp, mul_ds, trunc_id]

theorem v1530 : sl.v1530 c arg2 harg2 arg3 harg3 arg4 harg4 arg5 harg5 arg9 arg10 arg11 arg12 arg17 arg19 arg20 arg21 arg23 arg24 arg25 arg26 arg27 arg29 x0 x1 x2 x3 = W2 256 128 537 0 (up (Pr.acc p.KT 12)) := by
  rw [sl.v1530]; exact read2 _ _ (HS4_13 H) _ rfl rfl

theorem HS4_14 : View.canon (sl.HS4_14 c arg2 harg2 arg3 harg3 arg4 harg4 arg5 harg5 arg9 arg10 arg11 arg12 arg17 arg19 arg20 arg21 arg23 arg24 arg25 arg26 arg27 arg29 x0 x1 x2 x3) = W2 2080 128 0 0 (up (Pr.acc p.KT 13)) := by
  rw [sl.HS4_14]
  exact put2 p.KT _ (HS4_13 H) _ _ (by simp only [(r_111 H), (v1530 H), (v1480 H), k0_pay271, dot_kt, (acc_step p.KT 12 (k0 := 537) (q0 := 1024) rfl rfl), Nat.reduceAdd, cast22]) rfl

theorem v1540 : sl.v1540 c arg3 harg3 arg4 harg4 arg25 arg27 x1 x2 = W2 256 128 793 0 (up p.V) := by
  rw [sl.v1540]; exact read2 _ _ (HS10_1 H) _ rfl rfl

theorem v1542 : sl.v1542 c arg2 harg2 arg3 harg3 arg9 arg10 arg23 arg25 arg26 x0 x1 = W4 256 256 793 1024 (up p.P) := by
  rw [sl.v1542, sl.HS6_45, skip4 _ _ _ _ _ (by decide), sl.HS6_44]
  exact (View.readCov_cons_toLoadRect _ _ _ _).trans (by simp only [(r_95 H), (v1406 H), k0_pay251, k0_pay250, cast43, bcast_row, (mul_p p (q0 := 1024) (by norm_num)), cast24])

theorem v1556 : sl.v1556 c arg2 harg2 arg3 harg3 arg4 harg4 arg5 harg5 arg9 arg10 arg11 arg12 arg17 arg19 arg20 arg21 arg23 arg24 arg25 arg26 arg27 arg29 x0 x1 x2 x3 = W2 256 128 793 0 (up (Pr.acc p.KT 13)) := by
  rw [sl.v1556]; exact read2 _ _ (HS4_14 H) _ rfl rfl

theorem r_114 : sl.r_114 c arg2 harg2 arg3 harg3 arg4 harg4 arg5 harg5 arg9 arg10 arg11 arg12 arg17 arg19 arg20 arg21 arg23 arg24 arg25 arg26 arg27 arg29 x0 x1 x2 x3 = W2 256 128 793 0 (up (Pr.acc p.KT 14)) := by
  simp only [sl.r_114, (r_90 H), (r_105 H), (v1540 H), (v1542 H), (v1556 H), (v1480 H), k0_pay275, k0_pay273, dot_dp, cast43, bcast_row, sub_dp, mul_ds, trunc_id, dot_kt, (acc_step p.KT 13 (k0 := 793) (q0 := 1024) rfl rfl), Nat.reduceAdd]

theorem HS4_15 : View.canon (sl.HS4_15 c arg2 harg2 arg3 harg3 arg4 harg4 arg5 harg5 arg9 arg10 arg11 arg12 arg17 arg19 arg20 arg21 arg23 arg24 arg25 arg26 arg27 arg29 x0 x1 x2 x3) = W2 2080 128 0 0 (up (Pr.acc p.KT 14)) := by
  rw [sl.HS4_15]
  exact put2 p.KT _ (HS4_14 H) _ _ (by simp only [(r_114 H), k0_pay276, cast22]) rfl

theorem v1566 : sl.v1566 c arg3 harg3 arg4 harg4 arg25 arg27 x1 x2 = W2 256 128 1049 0 (up p.V) := by
  rw [sl.v1566]; exact read2 _ _ (HS10_1 H) _ rfl rfl

theorem v1568 : sl.v1568 c arg2 harg2 arg3 harg3 arg9 arg10 arg23 arg25 arg26 x0 x1 = W4 256 256 1049 1024 (up p.P) := by
  rw [sl.v1568, sl.HS6_45]
  exact (View.readCov_cons_toLoadRect _ _ _ _).trans (by simp only [(r_95 H), (v1431 H), k0_pay256, k0_pay255, cast43, bcast_row, (mul_p p (q0 := 1024) (by norm_num)), cast24])

theorem v1582 : sl.v1582 c arg2 harg2 arg3 harg3 arg4 harg4 arg5 harg5 arg9 arg10 arg11 arg12 arg17 arg19 arg20 arg21 arg23 arg24 arg25 arg26 arg27 arg29 x0 x1 x2 x3 = W2 256 128 1049 0 (up (Pr.acc p.KT 14)) := by
  rw [sl.v1582]; exact read2 _ _ (HS4_15 H) _ rfl rfl

theorem HS4_16 : View.canon (sl.HS4_16 c arg2 harg2 arg3 harg3 arg4 harg4 arg5 harg5 arg9 arg10 arg11 arg12 arg17 arg19 arg20 arg21 arg23 arg24 arg25 arg26 arg27 arg29 x0 x1 x2 x3) = W2 2080 128 0 0 (up (Pr.acc p.KT 15)) := by
  rw [sl.HS4_16]
  exact put2 p.KT _ (HS4_15 H) _ _ (by simp only [(r_90 H), (r_105 H), (v1566 H), (v1568 H), (v1582 H), (v1480 H), k0_pay280, k0_pay278, dot_dp, cast43, bcast_row, sub_dp, mul_ds, trunc_id, dot_kt, (acc_step p.KT 14 (k0 := 1049) (q0 := 1024) rfl rfl), Nat.reduceAdd, cast22]) rfl

theorem v1601 : sl.v1601 c arg5 harg5 arg12 x3 = W3 256 128 1280 0 (up p.D) := by
  rw [sl.v1601]; exact read3 _ _ (H10_1 H) _ rfl rfl

theorem r_118 : sl.r_118 c arg5 harg5 arg12 x3 = W2 256 128 1280 0 (up p.D) := by
  simp only [sl.r_118, (v1601 H), k0_pay283, cast32]

theorem v1599 : sl.v1599 c arg2 harg2 arg9 x0 = W3 256 128 1280 0 (up p.Q) := by
  rw [sl.v1599]; exact read3 _ _ (H7_1 H) _ rfl rfl

theorem r_117 : sl.r_117 c arg2 harg2 arg9 x0 = W2 256 128 1280 0 (up p.Q) := by
  simp only [sl.r_117, (v1599 H), k0_pay282, cast32]

theorem r_119 : sl.r_119 c arg2 harg2 arg3 harg3 arg9 arg25 arg26 x0 x1 = W2 8 256 0 1280 (p.uM8 [281]) := by
  simp only [sl.r_119, (v1599 H), (v1216 H), k0_pay286, k0_pay284, k0_pay282, cast32, dot_s, kc_bot, (mask_gt p (k0 := 281) (q0 := 1280) 4294967295#32 (by decide) (by norm_num)), cast28, max8r]

theorem r_120 : sl.r_120 c arg2 harg2 arg3 harg3 arg9 arg25 arg26 x0 x1 = W2 256 256 537 1280 p.uMS := by
  simp only [sl.r_120, (v1599 H), (v1224 H), k0_pay287, k0_pay282, cast32, dot_s, (full p (k0 := 537) (q0 := 1280) (by norm_num) (by norm_num))]

theorem r_121 : sl.r_121 c arg2 harg2 arg3 harg3 arg9 arg25 arg26 x0 x1 = W2 8 256 0 1280 (p.uM8 [281, 537, 793, 1049]) := by
  simp only [sl.r_121, (r_117 H), (r_119 H), (r_120 H), (v1232 H), (v1244 H), k0_pay293, cast28, max8r, max_app, List.cons_append, List.nil_append, k0_pay289, dot_s, (full p (k0 := 793) (q0 := 1280) (by norm_num) (by norm_num)), k0_pay291, kc_bot, (mask_le p (k0 := 1049) (q0 := 1280) 231#32 (by decide) (by norm_num))]

theorem v1642 : sl.v1642 c arg3 harg3 arg25 arg26 x1 = W2 256 128 1305 0 (up p.K) := by
  rw [sl.v1642]; exact read2 _ _ (HS9_1 H) _ rfl rfl

theorem r_122 : sl.r_122 c arg2 harg2 arg3 harg3 arg9 arg25 arg26 x0 x1 = W2 256 256 1305 1280 p.uMS := by
  simp only [sl.r_122, (r_117 H), (v1642 H), k0_pay294, dot_s, kc_bot, (mask_le p (k0 := 1305) (q0 := 1280) 4294967271#32 (by decide) (by norm_num))]

theorem r_123 : sl.r_123 c arg2 harg2 arg3 harg3 arg9 arg25 arg26 x0 x1 = WR 1 256 1280 (up1 (p.mu [281, 537, 793, 1049, 1305])) := by
  simp only [sl.r_123, H.r20, (r_121 H), (r_122 H), k0_pay296, cast28, max8r, max_app, List.cons_append, List.nil_append, red8r, cast12, bcast_kc, (mul_m p rw1280 (by norm_num))]

theorem v1658 : sl.v1658 c arg2 harg2 arg3 harg3 arg9 arg10 arg23 arg25 arg26 x0 x1 = W4 256 256 281 1280 p.uMS := by
  rw [sl.v1658, sl.HS6_50, skip4 _ _ _ _ _ (by decide), skip4 _ _ _ _ _ (by decide), skip4 _ _ _ _ _ (by decide), skip4 _ _ _ _ _ (by decide)]
  exact (View.readCov_cons_toLoadRect _ _ _ _).trans (by simp only [(v1599 H), (v1216 H), k0_pay285, k0_pay284, k0_pay282, cast32, dot_s, kc_bot, (mask_gt p (k0 := 281) (q0 := 1280) 4294967295#32 (by decide) (by norm_num)), cast24])

theorem v1670 : sl.v1670 c arg2 harg2 arg3 harg3 arg9 arg10 arg23 arg25 arg26 x0 x1 = W4 256 256 537 1280 p.uMS := by
  rw [sl.v1670, sl.HS6_51, skip4 _ _ _ _ _ (by decide), sl.HS6_50, skip4 _ _ _ _ _ (by decide), skip4 _ _ _ _ _ (by decide), skip4 _ _ _ _ _ (by decide)]
  exact (View.readCov_cons_toLoadRect _ _ _ _).trans (by simp only [(r_120 H), k0_pay288, cast24])

theorem r_124 : sl.r_124 c arg2 harg2 arg3 harg3 arg9 arg10 arg23 arg25 arg26 x0 x1 = W2 8 256 0 1280 (up (p.L8 [281, 537, 793, 1049, 1305] [281, 537])) := by
  simp only [sl.r_124, H.r20, (r_121 H), (r_122 H), (v1658 H), (v1670 H), k0_pay301, k0_pay297, cast43, bcast_kc, (mul_ms p H.c_pos), k0_pay296, cast28, max8r, max_app, List.cons_append, List.nil_append, red8r, cast12, (mul_m p rw1280 (by norm_num)), bcast_row, sub_t, exp_e, add8r, k0_pay299, add_l8]

theorem v1683 : sl.v1683 c arg2 harg2 arg3 harg3 arg9 arg10 arg23 arg25 arg26 x0 x1 = W4 256 256 793 1280 p.uMS := by
  rw [sl.v1683, sl.HS6_52, skip4 _ _ _ _ _ (by decide), sl.HS6_51, skip4 _ _ _ _ _ (by decide), sl.HS6_50, skip4 _ _ _ _ _ (by decide), skip4 _ _ _ _ _ (by decide)]
  exact (View.readCov_cons_toLoadRect _ _ _ _).trans (by simp only [(r_117 H), (v1232 H), k0_pay290, k0_pay289, dot_s, cast24, (full p (k0 := 793) (q0 := 1280) (by norm_num) (by norm_num))])

theorem v1696 : sl.v1696 c arg2 harg2 arg3 harg3 arg9 arg10 arg23 arg25 arg26 x0 x1 = W4 256 256 1049 1280 p.uMS := by
  rw [sl.v1696, sl.HS6_53, skip4 _ _ _ _ _ (by decide), sl.HS6_52, skip4 _ _ _ _ _ (by decide), sl.HS6_51, skip4 _ _ _ _ _ (by decide), sl.HS6_50, skip4 _ _ _ _ _ (by decide)]
  exact (View.readCov_cons_toLoadRect _ _ _ _).trans (by simp only [(r_117 H), (v1244 H), k0_pay292, k0_pay291, dot_s, kc_bot, (mask_le p (k0 := 1049) (q0 := 1280) 231#32 (by decide) (by norm_num)), cast24])

theorem r_125 : sl.r_125 c arg2 harg2 arg3 harg3 arg9 arg10 arg23 arg25 arg26 x0 x1 = W2 8 256 0 1280 (up (p.L8 [281, 537, 793, 1049, 1305] [281, 537, 793, 1049])) := by
  simp only [sl.r_125, H.r20, (r_123 H), (r_124 H), (v1683 H), (v1696 H), k0_pay306, k0_pay302, cast43, bcast_kc, (mul_ms p H.c_pos), bcast_row, sub_t, exp_e, cast28, add8r, add_l8, List.cons_append, List.nil_append, k0_pay304]

theorem v1709 : sl.v1709 c arg2 harg2 arg3 harg3 arg9 arg10 arg23 arg25 arg26 x0 x1 = W4 256 256 1305 1280 p.uMS := by
  rw [sl.v1709, sl.HS6_54, skip4 _ _ _ _ _ (by decide), sl.HS6_53, skip4 _ _ _ _ _ (by decide), sl.HS6_52, skip4 _ _ _ _ _ (by decide), sl.HS6_51, skip4 _ _ _ _ _ (by decide), sl.HS6_50]
  exact (View.readCov_cons_toLoadRect _ _ _ _).trans (by simp only [(r_122 H), k0_pay295, cast24])

theorem r_126 : sl.r_126 c arg2 harg2 arg3 harg3 arg9 arg10 arg23 arg25 arg26 x0 x1 = W2 256 256 1305 1280 (up (p.E [281, 537, 793, 1049, 1305])) := by
  simp only [sl.r_126, H.r20, (r_123 H), (v1709 H), k0_pay307, cast43, bcast_kc, (mul_ms p H.c_pos), bcast_row, sub_t, exp_e]

theorem v1730 : sl.v1730 c arg2 harg2 arg3 harg3 arg9 arg10 arg23 arg25 arg26 x0 x1 = W4 256 256 281 1280 (up (p.E [281, 537, 793, 1049, 1305])) := by
  rw [sl.v1730, sl.HS6_55, skip4 _ _ _ _ _ (by decide), sl.HS6_54, skip4 _ _ _ _ _ (by decide), sl.HS6_53, skip4 _ _ _ _ _ (by decide), sl.HS6_52, skip4 _ _ _ _ _ (by decide), sl.HS6_51]
  exact (View.readCov_cons_toLoadRect _ _ _ _).trans (by simp only [H.r20, (r_121 H), (r_122 H), (v1658 H), k0_pay298, k0_pay297, cast43, bcast_kc, (mul_ms p H.c_pos), k0_pay296, cast28, max8r, max_app, List.cons_append, List.nil_append, red8r, cast12, (mul_m p rw1280 (by norm_num)), bcast_row, sub_t, exp_e, cast24])

theorem p7_16 : k0_pay312 (sl.r_123 c arg2 harg2 arg3 harg3 arg9 arg25 arg26 x0 x1) (sl.r_125 c arg2 harg2 arg3 harg3 arg9 arg10 arg23 arg25 arg26 x0 x1) (sl.r_126 c arg2 harg2 arg3 harg3 arg9 arg10 arg23 arg25 arg26 x0 x1) (sl.v1730 c arg2 harg2 arg3 harg3 arg9 arg10 arg23 arg25 arg26 x0 x1) = W4 256 256 281 1280 (up p.P8) := by
  simp only [(r_123 H), (r_125 H), (r_126 H), (v1730 H), k0_pay312, kc_zero, k0_pay310, cast43, k0_pay309, cast28, add8r, add_l8, List.cons_append, List.nil_append, sum_l8r, cast12, kc_256, (fac p rw1280 (by norm_num)), bcast_row, (mul_p p (q0 := 1280) (by norm_num)), clip_0, kc_448, clip_448, trunc_id, cast24]

theorem v1746 : sl.v1746 c arg2 harg2 arg3 harg3 arg9 arg10 arg23 arg24 arg25 arg26 x0 x1 = W4 128 256 281 1280 (up p.P8) := by
  rw [sl.v1746, sl.HS7_16]
  exact half4 _ _ _ _ _ (p7_16 H) rfl (by norm_num)

theorem r_128 : sl.r_128 c arg2 harg2 arg3 harg3 arg4 harg4 arg9 arg10 arg23 arg24 arg25 arg26 arg27 arg29 x0 x1 x2 = W2 128 256 0 1280 (up (p.O [281])) := by
  simp only [sl.r_128, (v1371 H), (v1746 H), k0_pay313, cast43, dot_ot]

theorem v1750 : sl.v1750 c arg2 harg2 arg3 harg3 arg9 arg10 arg23 arg24 arg25 arg26 x0 x1 = W4 128 256 409 1280 (up p.P8) := by
  rw [sl.v1750, sl.HS7_16]
  exact half4 _ _ _ _ _ (p7_16 H) rfl (by norm_num)

theorem r_127 : sl.r_127 c arg2 harg2 arg3 harg3 arg9 arg10 arg23 arg25 arg26 x0 x1 = WR 1 256 1280 (up1 (p.Fc [281, 537, 793, 1049, 1305])) := by
  simp only [sl.r_127, (r_123 H), (r_125 H), (r_126 H), k0_pay309, cast28, add8r, add_l8, List.cons_append, List.nil_append, sum_l8r, cast12, kc_256, (fac p rw1280 (by norm_num))]

theorem v1754 : sl.v1754 c arg2 harg2 arg3 harg3 arg9 arg10 arg23 arg25 arg26 x0 x1 = W4 256 256 537 1280 (up (p.E [281, 537, 793, 1049, 1305])) := by
  rw [sl.v1754, sl.HS6_56, skip4 _ _ _ _ _ (by decide), sl.HS6_55, skip4 _ _ _ _ _ (by decide), sl.HS6_54, skip4 _ _ _ _ _ (by decide), sl.HS6_53, skip4 _ _ _ _ _ (by decide), sl.HS6_52]
  exact (View.readCov_cons_toLoadRect _ _ _ _).trans (by simp only [H.r20, (r_121 H), (r_122 H), (v1670 H), k0_pay300, k0_pay299, cast43, bcast_kc, (mul_ms p H.c_pos), k0_pay296, cast28, max8r, max_app, List.cons_append, List.nil_append, red8r, cast12, (mul_m p rw1280 (by norm_num)), bcast_row, sub_t, exp_e, cast24])

theorem p7_17 : k0_pay316 (sl.r_127 c arg2 harg2 arg3 harg3 arg9 arg10 arg23 arg25 arg26 x0 x1) (sl.v1754 c arg2 harg2 arg3 harg3 arg9 arg10 arg23 arg25 arg26 x0 x1) = W4 256 256 537 1280 (up p.P8) := by
  simp only [(r_127 H), (v1754 H), k0_pay316, kc_zero, k0_pay314, cast43, bcast_row, (mul_p p (q0 := 1280) (by norm_num)), clip_0, kc_448, clip_448, trunc_id, cast24]

theorem v1770 : sl.v1770 c arg2 harg2 arg3 harg3 arg9 arg10 arg23 arg24 arg25 arg26 x0 x1 = W4 128 256 537 1280 (up p.P8) := by
  rw [sl.v1770, sl.HS7_17]
  exact half4 _ _ _ _ _ (p7_17 H) rfl (by norm_num)

theorem r_129 : sl.r_129 c arg2 harg2 arg3 harg3 arg4 harg4 arg9 arg10 arg23 arg24 arg25 arg26 arg27 arg29 x0 x1 x2 = W2 128 256 0 1280 (up (p.O [281, 409, 537])) := by
  simp only [sl.r_129, (r_128 H), (v1376 H), (v1750 H), (v1396 H), (v1770 H), k0_pay317, cast43, dot_ot, add_o, List.cons_append, List.nil_append]

theorem v1775 : sl.v1775 c arg2 harg2 arg3 harg3 arg9 arg10 arg23 arg24 arg25 arg26 x0 x1 = W4 128 256 665 1280 (up p.P8) := by
  rw [sl.v1775, sl.HS7_17]
  exact half4 _ _ _ _ _ (p7_17 H) rfl (by norm_num)

theorem v1779 : sl.v1779 c arg2 harg2 arg3 harg3 arg9 arg10 arg23 arg25 arg26 x0 x1 = W4 256 256 793 1280 (up (p.E [281, 537, 793, 1049, 1305])) := by
  rw [sl.v1779, sl.HS6_57, skip4 _ _ _ _ _ (by decide), sl.HS6_56, skip4 _ _ _ _ _ (by decide), sl.HS6_55, skip4 _ _ _ _ _ (by decide), sl.HS6_54, skip4 _ _ _ _ _ (by decide), sl.HS6_53]
  exact (View.readCov_cons_toLoadRect _ _ _ _).trans (by simp only [H.r20, (r_123 H), (v1683 H), k0_pay303, k0_pay302, cast43, bcast_kc, (mul_ms p H.c_pos), bcast_row, sub_t, exp_e, cast24])

theorem p7_18 : k0_pay320 (sl.r_127 c arg2 harg2 arg3 harg3 arg9 arg10 arg23 arg25 arg26 x0 x1) (sl.v1779 c arg2 harg2 arg3 harg3 arg9 arg10 arg23 arg25 arg26 x0 x1) = W4 256 256 793 1280 (up p.P8) := by
  simp only [(r_127 H), (v1779 H), k0_pay320, kc_zero, k0_pay318, cast43, bcast_row, (mul_p p (q0 := 1280) (by norm_num)), clip_0, kc_448, clip_448, trunc_id, cast24]

theorem v1795 : sl.v1795 c arg2 harg2 arg3 harg3 arg9 arg10 arg23 arg24 arg25 arg26 x0 x1 = W4 128 256 793 1280 (up p.P8) := by
  rw [sl.v1795, sl.HS7_18]
  exact half4 _ _ _ _ _ (p7_18 H) rfl (by norm_num)

theorem r_130 : sl.r_130 c arg2 harg2 arg3 harg3 arg4 harg4 arg9 arg10 arg23 arg24 arg25 arg26 arg27 arg29 x0 x1 x2 = W2 128 256 0 1280 (up (p.O [281, 409, 537, 665, 793])) := by
  simp only [sl.r_130, (r_129 H), (v1401 H), (v1775 H), (v1421 H), (v1795 H), k0_pay321, cast43, dot_ot, add_o, List.cons_append, List.nil_append]

theorem v1800 : sl.v1800 c arg2 harg2 arg3 harg3 arg9 arg10 arg23 arg24 arg25 arg26 x0 x1 = W4 128 256 921 1280 (up p.P8) := by
  rw [sl.v1800, sl.HS7_18]
  exact half4 _ _ _ _ _ (p7_18 H) rfl (by norm_num)

theorem r_131 : sl.r_131 c arg2 harg2 arg3 harg3 arg9 arg10 arg23 arg24 arg25 arg26 x0 x1 = W2 128 256 921 1280 (up p.P8) := by
  simp only [sl.r_131, (v1800 H), k0_pay322, cast43]

theorem v1804 : sl.v1804 c arg2 harg2 arg3 harg3 arg9 arg10 arg23 arg25 arg26 x0 x1 = W4 256 256 1049 1280 (up (p.E [281, 537, 793, 1049, 1305])) := by
  rw [sl.v1804, sl.HS6_58, skip4 _ _ _ _ _ (by decide), sl.HS6_57, skip4 _ _ _ _ _ (by decide), sl.HS6_56, skip4 _ _ _ _ _ (by decide), sl.HS6_55, skip4 _ _ _ _ _ (by decide), sl.HS6_54]
  exact (View.readCov_cons_toLoadRect _ _ _ _).trans (by simp only [H.r20, (r_123 H), (v1696 H), k0_pay305, k0_pay304, cast43, bcast_kc, (mul_ms p H.c_pos), bcast_row, sub_t, exp_e, cast24])

theorem p7_19 : k0_pay325 (sl.r_127 c arg2 harg2 arg3 harg3 arg9 arg10 arg23 arg25 arg26 x0 x1) (sl.v1804 c arg2 harg2 arg3 harg3 arg9 arg10 arg23 arg25 arg26 x0 x1) = W4 256 256 1049 1280 (up p.P8) := by
  simp only [(r_127 H), (v1804 H), k0_pay325, kc_zero, k0_pay323, cast43, bcast_row, (mul_p p (q0 := 1280) (by norm_num)), clip_0, kc_448, clip_448, trunc_id, cast24]

theorem v1820 : sl.v1820 c arg2 harg2 arg3 harg3 arg9 arg10 arg23 arg24 arg25 arg26 x0 x1 = W4 128 256 1049 1280 (up p.P8) := by
  rw [sl.v1820, sl.HS7_19]
  exact half4 _ _ _ _ _ (p7_19 H) rfl (by norm_num)

theorem v1825 : sl.v1825 c arg2 harg2 arg3 harg3 arg9 arg10 arg23 arg24 arg25 arg26 x0 x1 = W4 128 256 1177 1280 (up p.P8) := by
  rw [sl.v1825, sl.HS7_19]
  exact half4 _ _ _ _ _ (p7_19 H) rfl (by norm_num)

theorem r_132 : sl.r_132 c arg2 harg2 arg3 harg3 arg4 harg4 arg9 arg10 arg23 arg24 arg25 arg26 arg27 arg29 x0 x1 x2 = W2 128 256 0 1280 (up (p.O [281, 409, 537, 665, 793, 921, 1049, 1177])) := by
  simp only [sl.r_132, (r_130 H), (v1426 H), (r_131 H), cst578, (v1446 H), (v1820 H), (v1451 H), (v1825 H), k0_pay326, dot_ot, add_o, List.cons_append, List.nil_append, cast43]

theorem v1844 : sl.v1844 c arg3 harg3 arg4 harg4 arg25 arg27 arg29 x1 x2 = W2 128 128 0 1305 (up fun d k => p.V k d) := by
  rw [sl.v1844]; exact read2 _ _ (HS12_1 H) _ rfl rfl

theorem v1829 : sl.v1829 c arg2 harg2 arg3 harg3 arg9 arg10 arg23 arg25 arg26 x0 x1 = W4 256 256 1305 1280 (up (p.E [281, 537, 793, 1049, 1305])) := by
  rw [sl.v1829, sl.HS6_59, skip4 _ _ _ _ _ (by decide), sl.HS6_58, skip4 _ _ _ _ _ (by decide), sl.HS6_57, skip4 _ _ _ _ _ (by decide), sl.HS6_56, skip4 _ _ _ _ _ (by decide), sl.HS6_55]
  exact (View.readCov_cons_toLoadRect _ _ _ _).trans (by simp only [(r_126 H), k0_pay308, cast24])

theorem p7_20 : k0_pay329 (sl.r_127 c arg2 harg2 arg3 harg3 arg9 arg10 arg23 arg25 arg26 x0 x1) (sl.v1829 c arg2 harg2 arg3 harg3 arg9 arg10 arg23 arg25 arg26 x0 x1) = W4 256 256 1305 1280 (up p.P8) := by
  simp only [(r_127 H), (v1829 H), k0_pay329, kc_zero, k0_pay327, cast43, bcast_row, (mul_p p (q0 := 1280) (by norm_num)), clip_0, kc_448, clip_448, trunc_id, cast24]

theorem v1845 : sl.v1845 c arg2 harg2 arg3 harg3 arg9 arg10 arg23 arg24 arg25 arg26 x0 x1 = W4 128 256 1305 1280 (up p.P8) := by
  rw [sl.v1845, sl.HS7_20]
  exact half4 _ _ _ _ _ (p7_20 H) rfl (by norm_num)

theorem v1849 : sl.v1849 c arg3 harg3 arg4 harg4 arg25 arg27 arg29 x1 x2 = W2 128 128 0 1433 (up fun d k => p.V k d) := by
  rw [sl.v1849]; exact read2 _ _ (HS12_1 H) _ rfl rfl

theorem v1850 : sl.v1850 c arg2 harg2 arg3 harg3 arg9 arg10 arg23 arg24 arg25 arg26 x0 x1 = W4 128 256 1433 1280 (up p.P8) := by
  rw [sl.v1850, sl.HS7_20]
  exact half4 _ _ _ _ _ (p7_20 H) rfl (by norm_num)

theorem v1854 : sl.v1854 c arg5 harg5 arg12 arg20 x3 = W2 128 256 0 1280 (up fun d q => p.D q d) := by
  rw [sl.v1854]; exact read2 _ _ (HS3_1 H) _ rfl rfl

theorem r_133 : sl.r_133 c arg2 harg2 arg3 harg3 arg4 harg4 arg5 harg5 arg9 arg10 arg12 arg20 arg23 arg24 arg25 arg26 arg27 arg29 x0 x1 x2 x3 = WR 1 256 1280 (up1 fun q => ∑ d ∈ range 128, p.D q d * p.O [281, 409, 537, 665, 793, 921, 1049, 1177, 1305, 1433] d q) := by
  simp only [sl.r_133, (r_132 H), (v1844 H), (v1845 H), (v1849 H), (v1850 H), (v1854 H), k0_pay330, cast43, dot_ot, add_o, List.cons_append, List.nil_append, ext_id, mul_do, sum128r, cast12]

theorem v1863 : sl.v1863 c arg2 harg2 arg3 harg3 arg9 arg10 arg23 arg25 arg26 x0 x1 = W4 256 256 281 1280 (up p.P) := by
  rw [sl.v1863, sl.HS6_60, skip4 _ _ _ _ _ (by decide), sl.HS6_59, skip4 _ _ _ _ _ (by decide), sl.HS6_58, skip4 _ _ _ _ _ (by decide), sl.HS6_57, skip4 _ _ _ _ _ (by decide), sl.HS6_56]
  exact (View.readCov_cons_toLoadRect _ _ _ _).trans (by simp only [(r_123 H), (r_125 H), (r_126 H), (v1730 H), k0_pay311, k0_pay310, cast43, k0_pay309, cast28, add8r, add_l8, List.cons_append, List.nil_append, sum_l8r, cast12, kc_256, (fac p rw1280 (by norm_num)), bcast_row, (mul_p p (q0 := 1280) (by norm_num)), cast24])

theorem v1877 : sl.v1877 c arg2 harg2 arg3 harg3 arg4 harg4 arg5 harg5 arg9 arg10 arg11 arg12 arg17 arg19 arg20 arg21 arg23 arg24 arg25 arg26 arg27 arg29 x0 x1 x2 x3 = W2 256 128 281 0 (up (Pr.acc p.KT 15)) := by
  rw [sl.v1877]; exact read2 _ _ (HS4_16 H) _ rfl rfl

theorem v1878 : sl.v1878 c arg2 harg2 arg9 arg17 x0 = W2 256 128 1280 0 (up p.Q) := by
  rw [sl.v1878]; exact read2 _ _ (HS0_1 H) _ rfl rfl

theorem HS4_17 : View.canon (sl.HS4_17 c arg2 harg2 arg3 harg3 arg4 harg4 arg5 harg5 arg9 arg10 arg11 arg12 arg17 arg19 arg20 arg21 arg23 arg24 arg25 arg26 arg27 arg29 x0 x1 x2 x3) = W2 2080 128 0 0 (up (Pr.acc p.KT 16)) := by
  rw [sl.HS4_17]
  exact put2 p.KT _ (HS4_16 H) _ _ (by simp only [(r_118 H), (r_133 H), (v1488 H), (v1863 H), (v1877 H), (v1878 H), k0_pay334, k0_pay332, dot_dp, cast43, k0_pay331, kc_inv256, (mul_delta p rh1280), bcast_row, sub_dp, mul_ds, trunc_id, dot_kt, (acc_step p.KT 15 (k0 := 281) (q0 := 1280) rfl rfl), Nat.reduceAdd, cast22]) rfl

theorem r_134 : sl.r_134 c arg2 harg2 arg3 harg3 arg4 harg4 arg5 harg5 arg9 arg10 arg12 arg20 arg23 arg24 arg25 arg26 arg27 arg29 x0 x1 x2 x3 = WR 1 256 1280 (up1 p.Df) := by
  simp only [sl.r_134, (r_133 H), k0_pay331, kc_inv256, (mul_delta p rh1280)]

theorem v1888 : sl.v1888 c arg2 harg2 arg3 harg3 arg9 arg10 arg23 arg25 arg26 x0 x1 = W4 256 256 537 1280 (up p.P) := by
  rw [sl.v1888, sl.HS6_60, skip4 _ _ _ _ _ (by decide), sl.HS6_59, skip4 _ _ _ _ _ (by decide), sl.HS6_58, skip4 _ _ _ _ _ (by decide), sl.HS6_57]
  exact (View.readCov_cons_toLoadRect _ _ _ _).trans (by simp only [(r_127 H), (v1754 H), k0_pay315, k0_pay314, cast43, bcast_row, (mul_p p (q0 := 1280) (by norm_num)), cast24])

theorem v1902 : sl.v1902 c arg2 harg2 arg3 harg3 arg4 harg4 arg5 harg5 arg9 arg10 arg11 arg12 arg17 arg19 arg20 arg21 arg23 arg24 arg25 arg26 arg27 arg29 x0 x1 x2 x3 = W2 256 128 537 0 (up (Pr.acc p.KT 16)) := by
  rw [sl.v1902]; exact read2 _ _ (HS4_17 H) _ rfl rfl

theorem HS4_18 : View.canon (sl.HS4_18 c arg2 harg2 arg3 harg3 arg4 harg4 arg5 harg5 arg9 arg10 arg11 arg12 arg17 arg19 arg20 arg21 arg23 arg24 arg25 arg26 arg27 arg29 x0 x1 x2 x3) = W2 2080 128 0 0 (up (Pr.acc p.KT 17)) := by
  rw [sl.HS4_18]
  exact put2 p.KT _ (HS4_17 H) _ _ (by simp only [(r_118 H), (r_134 H), (v1514 H), cst662, (v1888 H), (v1902 H), (v1878 H), k0_pay338, k0_pay336, dot_dp, cast43, bcast_row, sub_dp, mul_ds, trunc_id, dot_kt, (acc_step p.KT 16 (k0 := 537) (q0 := 1280) rfl rfl), Nat.reduceAdd, cast22]) rfl

theorem r_137 : sl.r_137 c arg3 harg3 arg4 harg4 arg5 harg5 arg12 arg25 arg27 x1 x2 x3 = W2 256 256 793 1280 (up p.DP) := by
  simp only [sl.r_137, (r_118 H), (v1540 H), k0_pay340, dot_dp]

theorem v1914 : sl.v1914 c arg2 harg2 arg3 harg3 arg9 arg10 arg23 arg25 arg26 x0 x1 = W4 256 256 793 1280 (up p.P) := by
  rw [sl.v1914, sl.HS6_60, skip4 _ _ _ _ _ (by decide), sl.HS6_59, skip4 _ _ _ _ _ (by decide), sl.HS6_58]
  exact (View.readCov_cons_toLoadRect _ _ _ _).trans (by simp only [(r_127 H), (v1779 H), k0_pay319, k0_pay318, cast43, bcast_row, (mul_p p (q0 := 1280) (by norm_num)), cast24])

theorem v1928 : sl.v1928 c arg2 harg2 arg3 harg3 arg4 harg4 arg5 harg5 arg9 arg10 arg11 arg12 arg17 arg19 arg20 arg21 arg23 arg24 arg25 arg26 arg27 arg29 x0 x1 x2 x3 = W2 256 128 793 0 (up (Pr.acc p.KT 17)) := by
  rw [sl.v1928]; exact read2 _ _ (HS4_18 H) _ rfl rfl

theorem HS4_19 : View.canon (sl.HS4_19 c arg2 harg2 arg3 harg3 arg4 harg4 arg5 harg5 arg9 arg10 arg11 arg12 arg17 arg19 arg20 arg21 arg23 arg24 arg25 arg26 arg27 arg29 x0 x1 x2 x3) = W2 2080 128 0 0 (up (Pr.acc p.KT 18)) := by
  rw [sl.HS4_19]
  exact put2 p.KT _ (HS4_18 H) _ _ (by simp only [(r_134 H), (r_137 H), (v1914 H), (v1928 H), (v1878 H), k0_pay343, k0_pay341, cast43, bcast_row, sub_dp, mul_ds, trunc_id, dot_kt, (acc_step p.KT 17 (k0 := 793) (q0 := 1280) rfl rfl), Nat.reduceAdd, cast22]) rfl

theorem v1940 : sl.v1940 c arg2 harg2 arg3 harg3 arg9 arg10 arg23 arg25 arg26 x0 x1 = W4 256 256 1049 1280 (up p.P) := by
  rw [sl.v1940, sl.HS6_60, skip4 _ _ _ _ _ (by decide), sl.HS6_59]
  exact (View.readCov_cons_toLoadRect _ _ _ _).trans (by simp only [(r_127 H), (v1804 H), k0_pay324, k0_pay323, cast43, bcast_row, (mul_p p (q0 := 1280) (by norm_num)), cast24])

theorem r_139 : sl.r_139 c arg2 harg2 arg3 harg3 arg4 harg4 arg5 harg5 arg9 arg10 arg12 arg20 arg23 arg24 arg25 arg26 arg27 arg29 x0 x1 x2 x3 = W2 256 256 1049 1280 (up p.DS) := by
  simp only [sl.r_139, (r_118 H), (r_134 H), (v1566 H), (v1940 H), k0_pay345, dot_dp, cast43, bcast_row, sub_dp, mul_ds, trunc_id]

theorem v1954 : sl.v1954 c arg2 harg2 arg3 harg3 arg4 harg4 arg5 harg5 arg9 arg10 arg11 arg12 arg17 arg19 arg20 arg21 arg23 arg24 arg25 arg26 arg27 arg29 x0 x1 x2 x3 = W2 256 128 1049 0 (up (Pr.acc p.KT 18)) := by
  rw [sl.v1954]; exact read2 _ _ (HS4_19 H) _ rfl rfl

theorem HS4_20 : View.canon (sl.HS4_20 c arg2 harg2 arg3 harg3 arg4 harg4 arg5 harg5 arg9 arg10 arg11 arg12 arg17 arg19 arg20 arg21 arg23 arg24 arg25 arg26 arg27 arg29 x0 x1 x2 x3) = W2 2080 128 0 0 (up (Pr.acc p.KT 19)) := by
  rw [sl.HS4_20]
  exact put2 p.KT _ (HS4_19 H) _ _ (by simp only [(r_139 H), (v1954 H), (v1878 H), k0_pay347, dot_kt, (acc_step p.KT 18 (k0 := 1049) (q0 := 1280) rfl rfl), Nat.reduceAdd, cast22]) rfl

theorem v1964 : sl.v1964 c arg3 harg3 arg4 harg4 arg25 arg27 x1 x2 = W2 256 128 1305 0 (up p.V) := by
  rw [sl.v1964]; exact read2 _ _ (HS10_1 H) _ rfl rfl

theorem v1966 : sl.v1966 c arg2 harg2 arg3 harg3 arg9 arg10 arg23 arg25 arg26 x0 x1 = W4 256 256 1305 1280 (up p.P) := by
  rw [sl.v1966, sl.HS6_60]
  exact (View.readCov_cons_toLoadRect _ _ _ _).trans (by simp only [(r_127 H), (v1829 H), k0_pay328, k0_pay327, cast43, bcast_row, (mul_p p (q0 := 1280) (by norm_num)), cast24])

theorem r_141 : sl.r_141 c arg2 harg2 arg3 harg3 arg4 harg4 arg5 harg5 arg9 arg10 arg12 arg20 arg23 arg24 arg25 arg26 arg27 arg29 x0 x1 x2 x3 = W2 256 256 1305 1280 (up p.DS) := by
  simp only [sl.r_141, (r_118 H), (r_134 H), (v1964 H), (v1966 H), k0_pay349, dot_dp, cast43, bcast_row, sub_dp, mul_ds, trunc_id]

theorem v1980 : sl.v1980 c arg2 harg2 arg3 harg3 arg4 harg4 arg5 harg5 arg9 arg10 arg11 arg12 arg17 arg19 arg20 arg21 arg23 arg24 arg25 arg26 arg27 arg29 x0 x1 x2 x3 = W2 256 128 1305 0 (up (Pr.acc p.KT 19)) := by
  rw [sl.v1980]; exact read2 _ _ (HS4_20 H) _ rfl rfl

theorem HS4_21 : View.canon (sl.HS4_21 c arg2 harg2 arg3 harg3 arg4 harg4 arg5 harg5 arg9 arg10 arg11 arg12 arg17 arg19 arg20 arg21 arg23 arg24 arg25 arg26 arg27 arg29 x0 x1 x2 x3) = W2 2080 128 0 0 (up (Pr.acc p.KT 20)) := by
  rw [sl.HS4_21]
  exact put2 p.KT _ (HS4_20 H) _ _ (by simp only [(r_141 H), (v1980 H), (v1878 H), k0_pay351, dot_kt, (acc_step p.KT 19 (k0 := 1305) (q0 := 1280) rfl rfl), Nat.reduceAdd, cast22]) rfl

theorem v1999 : sl.v1999 c arg5 harg5 arg12 x3 = W3 256 128 1536 0 (up p.D) := by
  rw [sl.v1999]; exact read3 _ _ (H10_1 H) _ rfl rfl

theorem r_143 : sl.r_143 c arg5 harg5 arg12 x3 = W2 256 128 1536 0 (up p.D) := by
  simp only [sl.r_143, (v1999 H), k0_pay354, cast32]

theorem v1997 : sl.v1997 c arg2 harg2 arg9 x0 = W3 256 128 1536 0 (up p.Q) := by
  rw [sl.v1997]; exact read3 _ _ (H7_1 H) _ rfl rfl

theorem r_142 : sl.r_142 c arg2 harg2 arg9 x0 = W2 256 128 1536 0 (up p.Q) := by
  simp only [sl.r_142, (v1997 H), k0_pay353, cast32]

theorem r_144 : sl.r_144 c arg2 harg2 arg3 harg3 arg9 arg25 arg26 x0 x1 = W2 256 256 537 1536 (up p.S) := by
  simp only [sl.r_144, (v1997 H), (v1224 H), k0_pay355, k0_pay353, cast32, dot_s]

theorem r_145 : sl.r_145 c arg2 harg2 arg3 harg3 arg9 arg25 arg26 x0 x1 = W2 8 256 0 1536 (p.uM8 [537, 793, 1049]) := by
  simp only [sl.r_145, (r_142 H), (r_144 H), k0_pay356, (v1232 H), (v1244 H), k0_pay363, k0_pay357, kc_bot, (mask_gt p (k0 := 537) (q0 := 1536) 4294967295#32 (by decide) (by norm_num)), cast28, max8r, k0_pay359, dot_s, (full p (k0 := 793) (q0 := 1536) (by norm_num) (by norm_num)), max_app, List.cons_append, List.nil_append, k0_pay361, (full p (k0 := 1049) (q0 := 1536) (by norm_num) (by norm_num))]

theorem r_146 : sl.r_146 c arg2 harg2 arg3 harg3 arg9 arg25 arg26 x0 x1 = W2 256 256 1305 1536 p.uMS := by
  simp only [sl.r_146, (r_142 H), (v1642 H), k0_pay364, dot_s, kc_bot, (mask_le p (k0 := 1305) (q0 := 1536) 231#32 (by decide) (by norm_num))]

theorem v2040 : sl.v2040 c arg3 harg3 arg25 arg26 x1 = W2 256 128 1561 0 (up p.K) := by
  rw [sl.v2040]; exact read2 _ _ (HS9_1 H) _ rfl rfl

theorem r_147 : sl.r_147 c arg2 harg2 arg3 harg3 arg9 arg25 arg26 x0 x1 = WR 1 256 1536 (up1 (p.mu [537, 793, 1049, 1305, 1561])) := by
  simp only [sl.r_147, H.r20, (r_142 H), (r_145 H), (r_146 H), (v2040 H), k0_pay368, cast28, max8r, max_app, List.cons_append, List.nil_append, k0_pay366, dot_s, kc_bot, (mask_le p (k0 := 1561) (q0 := 1536) 4294967271#32 (by decide) (by norm_num)), red8r, cast12, bcast_kc, (mul_m p rw1536 (by norm_num))]

theorem v2056 : sl.v2056 c arg2 harg2 arg3 harg3 arg9 arg10 arg23 arg25 arg26 x0 x1 = W4 256 256 537 1536 p.uMS := by
  rw [sl.v2056, sl.HS6_65, skip4 _ _ _ _ _ (by decide), skip4 _ _ _ _ _ (by decide), skip4 _ _ _ _ _ (by decide), skip4 _ _ _ _ _ (by decide)]
  exact (View.readCov_cons_toLoadRect _ _ _ _).trans (by simp only [(r_144 H), k0_pay356, k0_pay358, k0_pay357, kc_bot, (mask_gt p (k0 := 537) (q0 := 1536) 4294967295#32 (by decide) (by norm_num)), cast24])

theorem r_148 : sl.r_148 c arg2 harg2 arg3 harg3 arg9 arg10 arg23 arg25 arg26 x0 x1 = R8 537 1536 (up (p.E [537, 793, 1049, 1305, 1561])) := by
  simp only [sl.r_148, H.r20, (r_142 H), (r_145 H), (r_146 H), (v2040 H), (v2056 H), k0_pay371, k0_pay369, cast43, bcast_kc, (mul_ms p H.c_pos), k0_pay368, cast28, max8r, max_app, List.cons_append, List.nil_append, k0_pay366, dot_s, kc_bot, (mask_le p (k0 := 1561) (q0 := 1536) 4294967271#32 (by decide) (by norm_num)), red8r, cast12, (mul_m p rw1536 (by norm_num)), bcast_row, sub_t, exp_e]

theorem v2068 : sl.v2068 c arg2 harg2 arg3 harg3 arg9 arg10 arg23 arg25 arg26 x0 x1 = W4 256 256 793 1536 p.uMS := by
  rw [sl.v2068, sl.HS6_66, skip4 _ _ _ _ _ (by decide), sl.HS6_65, skip4 _ _ _ _ _ (by decide), skip4 _ _ _ _ _ (by decide), skip4 _ _ _ _ _ (by decide)]
  exact (View.readCov_cons_toLoadRect _ _ _ _).trans (by simp only [(r_142 H), (v1232 H), k0_pay360, k0_pay359, dot_s, cast24, (full p (k0 := 793) (q0 := 1536) (by norm_num) (by norm_num))])

theorem v2081 : sl.v2081 c arg2 harg2 arg3 harg3 arg9 arg10 arg23 arg25 arg26 x0 x1 = W4 256 256 1049 1536 p.uMS := by
  rw [sl.v2081, sl.HS6_67, skip4 _ _ _ _ _ (by decide), sl.HS6_66, skip4 _ _ _ _ _ (by decide), sl.HS6_65, skip4 _ _ _ _ _ (by decide), skip4 _ _ _ _ _ (by decide)]
  exact (View.readCov_cons_toLoadRect _ _ _ _).trans (by simp only [(r_142 H), (v1244 H), k0_pay362, k0_pay361, dot_s, cast24, (full p (k0 := 1049) (q0 := 1536) (by norm_num) (by norm_num))])

theorem r_149 : sl.r_149 c arg2 harg2 arg3 harg3 arg9 arg10 arg23 arg25 arg26 x0 x1 = W2 8 256 0 1536 (up (p.L8 [537, 793, 1049, 1305, 1561] [537, 793, 1049])) := by
  simp only [sl.r_149, H.r20, (r_147 H), (r_148 H), (v2068 H), (v2081 H), k0_pay376, add8r, k0_pay372, cast43, bcast_kc, (mul_ms p H.c_pos), bcast_row, sub_t, exp_e, cast28, add_l8, List.cons_append, List.nil_append, k0_pay374]

theorem v2094 : sl.v2094 c arg2 harg2 arg3 harg3 arg9 arg10 arg23 arg25 arg26 x0 x1 = W4 256 256 1305 1536 p.uMS := by
  rw [sl.v2094, sl.HS6_68, skip4 _ _ _ _ _ (by decide), sl.HS6_67, skip4 _ _ _ _ _ (by decide), sl.HS6_66, skip4 _ _ _ _ _ (by decide), sl.HS6_65, skip4 _ _ _ _ _ (by decide)]
  exact (View.readCov_cons_toLoadRect _ _ _ _).trans (by simp only [(r_146 H), k0_pay365, cast24])

theorem r_150 : sl.r_150 c arg2 harg2 arg3 harg3 arg9 arg10 arg23 arg25 arg26 x0 x1 = W2 256 256 1305 1536 (up (p.E [537, 793, 1049, 1305, 1561])) := by
  simp only [sl.r_150, H.r20, (r_147 H), (v2094 H), k0_pay377, cast43, bcast_kc, (mul_ms p H.c_pos), bcast_row, sub_t, exp_e]

theorem v2107 : sl.v2107 c arg2 harg2 arg3 harg3 arg9 arg10 arg23 arg25 arg26 x0 x1 = W4 256 256 1561 1536 p.uMS := by
  rw [sl.v2107, sl.HS6_69, skip4 _ _ _ _ _ (by decide), sl.HS6_68, skip4 _ _ _ _ _ (by decide), sl.HS6_67, skip4 _ _ _ _ _ (by decide), sl.HS6_66, skip4 _ _ _ _ _ (by decide), sl.HS6_65]
  exact (View.readCov_cons_toLoadRect _ _ _ _).trans (by simp only [(r_142 H), (v2040 H), k0_pay367, k0_pay366, dot_s, kc_bot, (mask_le p (k0 := 1561) (q0 := 1536) 4294967271#32 (by decide) (by norm_num)), cast24])

theorem v2128 : sl.v2128 c arg2 harg2 arg3 harg3 arg9 arg10 arg23 arg25 arg26 x0 x1 = W4 256 256 537 1536 (up (p.E [537, 793, 1049, 1305, 1561])) := by
  rw [sl.v2128, sl.HS6_70, skip4 _ _ _ _ _ (by decide), sl.HS6_69, skip4 _ _ _ _ _ (by decide), sl.HS6_68, skip4 _ _ _ _ _ (by decide), sl.HS6_67, skip4 _ _ _ _ _ (by decide), sl.HS6_66]
  exact (View.readCov_cons_toLoadRect _ _ _ _).trans (by simp only [H.r20, (r_142 H), (r_145 H), (r_146 H), (v2040 H), (v2056 H), k0_pay370, k0_pay369, cast43, bcast_kc, (mul_ms p H.c_pos), k0_pay368, cast28, max8r, max_app, List.cons_append, List.nil_append, k0_pay366, dot_s, kc_bot, (mask_le p (k0 := 1561) (q0 := 1536) 4294967271#32 (by decide) (by norm_num)), red8r, cast12, (mul_m p rw1536 (by norm_num)), bcast_row, sub_t, exp_e, cast24])

theorem r_152 : sl.r_152 c arg2 harg2 arg3 harg3 arg9 arg10 arg23 arg25 arg26 x0 x1 = W2 256 256 537 1536 (up p.P) := by
  simp only [sl.r_152, H.r20, (r_147 H), (r_149 H), (r_150 H), (v2107 H), (v2128 H), k0_pay382, cast43, k0_pay381, cast28, add8r, add_l8, List.cons_append, List.nil_append, k0_pay379, bcast_kc, (mul_ms p H.c_pos), bcast_row, sub_t, exp_e, sum_l8r, cast12, kc_256, (fac p rw1536 (by norm_num)), (mul_p p (q0 := 1536) (by norm_num))]

theorem p7_21 : k0_pay384 (sl.r_152 c arg2 harg2 arg3 harg3 arg9 arg10 arg23 arg25 arg26 x0 x1) = W4 256 256 537 1536 (up p.P8) := by
  simp only [(r_152 H), k0_pay384, kc_zero, clip_0, kc_448, clip_448, trunc_id, cast24]

theorem v2144 : sl.v2144 c arg2 harg2 arg3 harg3 arg9 arg10 arg23 arg24 arg25 arg26 x0 x1 = W4 128 256 537 1536 (up p.P8) := by
  rw [sl.v2144, sl.HS7_21]
  exact half4 _ _ _ _ _ (p7_21 H) rfl (by norm_num)

theorem v2148 : sl.v2148 c arg2 harg2 arg3 harg3 arg9 arg10 arg23 arg24 arg25 arg26 x0 x1 = W4 128 256 665 1536 (up p.P8) := by
  rw [sl.v2148, sl.HS7_21]
  exact half4 _ _ _ _ _ (p7_21 H) rfl (by norm_num)

theorem r_153 : sl.r_153 c arg2 harg2 arg3 harg3 arg4 harg4 arg9 arg10 arg23 arg24 arg25 arg26 arg27 arg29 x0 x1 x2 = W2 128 256 0 1536 (up (p.O [537, 665])) := by
  simp only [sl.r_153, (v1396 H), (v2144 H), (v1401 H), (v2148 H), k0_pay385, cast43, dot_ot, add_o, List.cons_append, List.nil_append]

theorem r_151 : sl.r_151 c arg2 harg2 arg3 harg3 arg9 arg10 arg23 arg25 arg26 x0 x1 = WR 1 256 1536 (up1 (p.Fc [537, 793, 1049, 1305, 1561])) := by
  simp only [sl.r_151, H.r20, (r_147 H), (r_149 H), (r_150 H), (v2107 H), k0_pay381, cast28, add8r, add_l8, List.cons_append, List.nil_append, k0_pay379, cast43, bcast_kc, (mul_ms p H.c_pos), bcast_row, sub_t, exp_e, sum_l8r, cast12, kc_256, (fac p rw1536 (by norm_num))]

theorem v2152 : sl.v2152 c arg2 harg2 arg3 harg3 arg9 arg10 arg23 arg25 arg26 x0 x1 = W4 256 256 793 1536 (up (p.E [537, 793, 1049, 1305, 1561])) := by
  rw [sl.v2152, sl.HS6_71, skip4 _ _ _ _ _ (by decide), sl.HS6_70, skip4 _ _ _ _ _ (by decide), sl.HS6_69, skip4 _ _ _ _ _ (by decide), sl.HS6_68, skip4 _ _ _ _ _ (by decide), sl.HS6_67]
  exact (View.readCov_cons_toLoadRect _ _ _ _).trans (by simp only [H.r20, (r_147 H), (v2068 H), k0_pay373, k0_pay372, cast43, bcast_kc, (mul_ms p H.c_pos), bcast_row, sub_t, exp_e, cast24])

theorem r_154 : sl.r_154 c arg2 harg2 arg3 harg3 arg9 arg10 arg23 arg25 arg26 x0 x1 = W2 256 256 793 1536 (up p.P8) := by
  simp only [sl.r_154, (r_151 H), (v2152 H), k0_pay388, kc_zero, k0_pay386, cast43, bcast_row, (mul_p p (q0 := 1536) (by norm_num)), clip_0, kc_448, clip_448]

theorem p7_22 : k0_pay389 (sl.r_154 c arg2 harg2 arg3 harg3 arg9 arg10 arg23 arg25 arg26 x0 x1) = W4 256 256 793 1536 (up p.P8) := by
  simp only [(r_154 H), k0_pay389, trunc_id, cast24]

theorem v2168 : sl.v2168 c arg2 harg2 arg3 harg3 arg9 arg10 arg23 arg24 arg25 arg26 x0 x1 = W4 128 256 793 1536 (up p.P8) := by
  rw [sl.v2168, sl.HS7_22]
  exact half4 _ _ _ _ _ (p7_22 H) rfl (by norm_num)

theorem v2173 : sl.v2173 c arg2 harg2 arg3 harg3 arg9 arg10 arg23 arg24 arg25 arg26 x0 x1 = W4 128 256 921 1536 (up p.P8) := by
  rw [sl.v2173, sl.HS7_22]
  exact half4 _ _ _ _ _ (p7_22 H) rfl (by norm_num)

theorem r_155 : sl.r_155 c arg2 harg2 arg3 harg3 arg4 harg4 arg9 arg10 arg23 arg24 arg25 arg26 arg27 arg29 x0 x1 x2 = W2 128 256 0 1536 (up (p.O [537, 665, 793, 921])) := by
  simp only [sl.r_155, (r_153 H), (v1421 H), (v2168 H), (v1426 H), (v2173 H), k0_pay390, cast43, dot_ot, add_o, List.cons_append, List.nil_append]

theorem v2177 : sl.v2177 c arg2 harg2 arg3 harg3 arg9 arg10 arg23 arg25 arg26 x0 x1 = W4 256 256 1049 1536 (up (p.E [537, 793, 1049, 1305, 1561])) := by
  rw [sl.v2177, sl.HS6_72, skip4 _ _ _ _ _ (by decide), sl.HS6_71, skip4 _ _ _ _ _ (by decide), sl.HS6_70, skip4 _ _ _ _ _ (by decide), sl.HS6_69, skip4 _ _ _ _ _ (by decide), sl.HS6_68]
  exact (View.readCov_cons_toLoadRect _ _ _ _).trans (by simp only [H.r20, (r_147 H), (v2081 H), k0_pay375, k0_pay374, cast43, bcast_kc, (mul_ms p H.c_pos), bcast_row, sub_t, exp_e, cast24])

theorem r_156 : sl.r_156 c arg2 harg2 arg3 harg3 arg9 arg10 arg23 arg25 arg26 x0 x1 = W2 256 256 1049 1536 (up p.P8) := by
  simp only [sl.r_156, (r_151 H), (v2177 H), k0_pay393, kc_zero, k0_pay391, cast43, bcast_row, (mul_p p (q0 := 1536) (by norm_num)), clip_0, kc_448, clip_448, trunc_id]

theorem p7_23 : k0_pay394 (sl.r_156 c arg2 harg2 arg3 harg3 arg9 arg10 arg23 arg25 arg26 x0 x1) = W4 256 256 1049 1536 (up p.P8) := by
  simp only [(r_156 H), k0_pay394, cast24]

theorem v2193 : sl.v2193 c arg2 harg2 arg3 harg3 arg9 arg10 arg23 arg24 arg25 arg26 x0 x1 = W4 128 256 1049 1536 (up p.P8) := by
  rw [sl.v2193, sl.HS7_23]
  exact half4 _ _ _ _ _ (p7_23 H) rfl (by norm_num)

theorem v2198 : sl.v2198 c arg2 harg2 arg3 harg3 arg9 arg10 arg23 arg24 arg25 arg26 x0 x1 = W4 128 256 1177 1536 (up p.P8) := by
  rw [sl.v2198, sl.HS7_23]
  exact half4 _ _ _ _ _ (p7_23 H) rfl (by norm_num)

theorem r_157 : sl.r_157 c arg2 harg2 arg3 harg3 arg4 harg4 arg9 arg10 arg23 arg24 arg25 arg26 arg27 arg29 x0 x1 x2 = W2 128 256 0 1536 (up (p.O [537, 665, 793, 921, 1049, 1177])) := by
  simp only [sl.r_157, (r_155 H), (v1446 H), (v2193 H), (v1451 H), (v2198 H), k0_pay395, cast43, dot_ot, add_o, List.cons_append, List.nil_append]

theorem v2202 : sl.v2202 c arg2 harg2 arg3 harg3 arg9 arg10 arg23 arg25 arg26 x0 x1 = W4 256 256 1305 1536 (up (p.E [537, 793, 1049, 1305, 1561])) := by
  rw [sl.v2202, sl.HS6_73, skip4 _ _ _ _ _ (by decide), sl.HS6_72, skip4 _ _ _ _ _ (by decide), sl.HS6_71, skip4 _ _ _ _ _ (by decide), sl.HS6_70, skip4 _ _ _ _ _ (by decide), sl.HS6_69]
  exact (View.readCov_cons_toLoadRect _ _ _ _).trans (by simp only [(r_150 H), k0_pay378, cast24])

theorem p7_24 : k0_pay398 (sl.r_151 c arg2 harg2 arg3 harg3 arg9 arg10 arg23 arg25 arg26 x0 x1) (sl.v2202 c arg2 harg2 arg3 harg3 arg9 arg10 arg23 arg25 arg26 x0 x1) = W4 256 256 1305 1536 (up p.P8) := by
  simp only [(r_151 H), (v2202 H), k0_pay398, kc_zero, k0_pay396, cast43, bcast_row, (mul_p p (q0 := 1536) (by norm_num)), clip_0, kc_448, clip_448, trunc_id, cast24]

theorem v2218 : sl.v2218 c arg2 harg2 arg3 harg3 arg9 arg10 arg23 arg24 arg25 arg26 x0 x1 = W4 128 256 1305 1536 (up p.P8) := by
  rw [sl.v2218, sl.HS7_24]
  exact half4 _ _ _ _ _ (p7_24 H) rfl (by norm_num)

theorem v2223 : sl.v2223 c arg2 harg2 arg3 harg3 arg9 arg10 arg23 arg24 arg25 arg26 x0 x1 = W4 128 256 1433 1536 (up p.P8) := by
  rw [sl.v2223, sl.HS7_24]
  exact half4 _ _ _ _ _ (p7_24 H) rfl (by norm_num)

theorem r_158 : sl.r_158 c arg2 harg2 arg3 harg3 arg4 harg4 arg9 arg10 arg23 arg24 arg25 arg26 arg27 arg29 x0 x1 x2 = W2 128 256 0 1536 (up (p.O [537, 665, 793, 921, 1049, 1177, 1305, 1433])) := by
  simp only [sl.r_158, (r_157 H), (v1844 H), (v2218 H), (v1849 H), (v2223 H), k0_pay399, cast43, dot_ot, add_o, List.cons_append, List.nil_append]

theorem v2242 : sl.v2242 c arg3 harg3 arg4 harg4 arg25 arg27 arg29 x1 x2 = W2 128 128 0 1561 (up fun d k => p.V k d) := by
  rw [sl.v2242]; exact read2 _ _ (HS12_1 H) _ rfl rfl

theorem v2227 : sl.v2227 c arg2 harg2 arg3 harg3 arg9 arg10 arg23 arg25 arg26 x0 x1 = W4 256 256 1561 1536 (up (p.E [537, 793, 1049, 1305, 1561])) := by
  rw [sl.v2227, sl.HS6_74, skip4 _ _ _ _ _ (by decide), sl.HS6_73, skip4 _ _ _ _ _ (by decide), sl.HS6_72, skip4 _ _ _ _ _ (by decide), sl.HS6_71, skip4 _ _ _ _ _ (by decide), sl.HS6_70]
  exact (View.readCov_cons_toLoadRect _ _ _ _).trans (by simp only [H.r20, (r_147 H), (v2107 H), k0_pay380, k0_pay379, cast43, bcast_kc, (mul_ms p H.c_pos), bcast_row, sub_t, exp_e, cast24])

theorem p7_25 : k0_pay402 (sl.r_151 c arg2 harg2 arg3 harg3 arg9 arg10 arg23 arg25 arg26 x0 x1) (sl.v2227 c arg2 harg2 arg3 harg3 arg9 arg10 arg23 arg25 arg26 x0 x1) = W4 256 256 1561 1536 (up p.P8) := by
  simp only [(r_151 H), (v2227 H), k0_pay402, kc_zero, k0_pay400, cast43, bcast_row, (mul_p p (q0 := 1536) (by norm_num)), clip_0, kc_448, clip_448, trunc_id, cast24]

theorem v2243 : sl.v2243 c arg2 harg2 arg3 harg3 arg9 arg10 arg23 arg24 arg25 arg26 x0 x1 = W4 128 256 1561 1536 (up p.P8) := by
  rw [sl.v2243, sl.HS7_25]
  exact half4 _ _ _ _ _ (p7_25 H) rfl (by norm_num)

theorem v2247 : sl.v2247 c arg3 harg3 arg4 harg4 arg25 arg27 arg29 x1 x2 = W2 128 128 0 1689 (up fun d k => p.V k d) := by
  rw [sl.v2247]; exact read2 _ _ (HS12_1 H) _ rfl rfl

theorem v2248 : sl.v2248 c arg2 harg2 arg3 harg3 arg9 arg10 arg23 arg24 arg25 arg26 x0 x1 = W4 128 256 1689 1536 (up p.P8) := by
  rw [sl.v2248, sl.HS7_25]
  exact half4 _ _ _ _ _ (p7_25 H) rfl (by norm_num)

theorem v2252 : sl.v2252 c arg5 harg5 arg12 arg20 x3 = W2 128 256 0 1536 (up fun d q => p.D q d) := by
  rw [sl.v2252]; exact read2 _ _ (HS3_1 H) _ rfl rfl

theorem v2261 : sl.v2261 c arg2 harg2 arg3 harg3 arg9 arg10 arg23 arg25 arg26 x0 x1 = W4 256 256 537 1536 (up p.P) := by
  rw [sl.v2261, sl.HS6_75, skip4 _ _ _ _ _ (by decide), sl.HS6_74, skip4 _ _ _ _ _ (by decide), sl.HS6_73, skip4 _ _ _ _ _ (by decide), sl.HS6_72, skip4 _ _ _ _ _ (by decide), sl.HS6_71]
  exact (View.readCov_cons_toLoadRect _ _ _ _).trans (by simp only [H.r20, (r_147 H), (r_149 H), (r_150 H), (v2107 H), (v2128 H), k0_pay383, k0_pay382, cast43, k0_pay381, cast28, add8r, add_l8, List.cons_append, List.nil_append, k0_pay379, bcast_kc, (mul_ms p H.c_pos), bcast_row, sub_t, exp_e, sum_l8r, cast12, kc_256, (fac p rw1536 (by norm_num)), (mul_p p (q0 := 1536) (by norm_num)), cast24])

theorem r_160 : sl.r_160 c arg2 harg2 arg3 harg3 arg4 harg4 arg5 harg5 arg9 arg10 arg12 arg20 arg23 arg24 arg25 arg26 arg27 arg29 x0 x1 x2 x3 = W2 256 256 537 1536 (up p.DS) := by
  simp only [sl.r_160, (r_143 H), (r_158 H), (v2242 H), (v2243 H), (v2247 H), (v2248 H), (v2252 H), (v1514 H), (v2261 H), k0_pay404, dot_dp, cast43, k0_pay403, dot_ot, add_o, List.cons_append, List.nil_append, ext_id, mul_do, sum128r, cast12, kc_inv256, (mul_delta p rh1536), bcast_row, sub_dp, mul_ds, trunc_id]

theorem v2275 : sl.v2275 c arg2 harg2 arg3 harg3 arg4 harg4 arg5 harg5 arg9 arg10 arg11 arg12 arg17 arg19 arg20 arg21 arg23 arg24 arg25 arg26 arg27 arg29 x0 x1 x2 x3 = W2 256 128 537 0 (up (Pr.acc p.KT 20)) := by
  rw [sl.v2275]; exact read2 _ _ (HS4_21 H) _ rfl rfl

theorem v2276 : sl.v2276 c arg2 harg2 arg9 arg17 x0 = W2 256 128 1536 0 (up p.Q) := by
  rw [sl.v2276]; exact read2 _ _ (HS0_1 H) _ rfl rfl

theorem HS4_22 : View.canon (sl.HS4_22 c arg2 harg2 arg3 harg3 arg4 harg4 arg5 harg5 arg9 arg10 arg11 arg12 arg17 arg19 arg20 arg21 arg23 arg24 arg25 arg26 arg27 arg29 x0 x1 x2 x3) = W2 2080 128 0 0 (up (Pr.acc p.KT 21)) := by
  rw [sl.HS4_22]
  exact put2 p.KT _ (HS4_21 H) _ _ (by simp only [(r_160 H), (v2275 H), (v2276 H), k0_pay407, dot_kt, (acc_step p.KT 20 (k0 := 537) (q0 := 1536) rfl rfl), Nat.reduceAdd, cast22]) rfl

theorem r_159 : sl.r_159 c arg2 harg2 arg3 harg3 arg4 harg4 arg5 harg5 arg9 arg10 arg12 arg20 arg23 arg24 arg25 arg26 arg27 arg29 x0 x1 x2 x3 = WR 1 256 1536 (up1 p.Df) := by
  simp only [sl.r_159, (r_158 H), (v2242 H), (v2243 H), (v2247 H), (v2248 H), (v2252 H), k0_pay403, cast43, dot_ot, add_o, List.cons_append, List.nil_append, ext_id, mul_do, sum128r, cast12, kc_inv256, (mul_delta p rh1536)]

theorem v2286 : sl.v2286 c arg2 harg2 arg3 harg3 arg9 arg10 arg23 arg25 arg26 x0 x1 = W4 256 256 793 1536 (up p.P) := by
  rw [sl.v2286, sl.HS6_75, skip4 _ _ _ _ _ (by decide), sl.HS6_74, skip4 _ _ _ _ _ (by decide), sl.HS6_73, skip4 _ _ _ _ _ (by decide), sl.HS6_72]
  exact (View.readCov_cons_toLoadRect _ _ _ _).trans (by simp only [(r_151 H), (v2152 H), k0_pay387, k0_pay386, cast43, bcast_row, (mul_p p (q0 := 1536) (by norm_num)), cast24])

theorem r_163 : sl.r_163 c arg2 harg2 arg3 harg3 arg4 harg4 arg5 harg5 arg9 arg10 arg12 arg20 arg23 arg24 arg25 arg26 arg27 arg29 x0 x1 x2 x3 = W2 256 256 793 1536 (up p.DS) := by
  simp only [sl.r_163, (r_143 H), (r_159 H), (v1540 H), (v2286 H), k0_pay409, dot_dp, cast43, bcast_row, sub_dp, mul_ds, trunc_id]

theorem v2300 : sl.v2300 c arg2 harg2 arg3 harg3 arg4 harg4 arg5 harg5 arg9 arg10 arg11 arg12 arg17 arg19 arg20 arg21 arg23 arg24 arg25 arg26 arg27 arg29 x0 x1 x2 x3 = W2 256 128 793 0 (up (Pr.acc p.KT 21)) := by
  rw [sl.v2300]; exact read2 _ _ (HS4_22 H) _ rfl rfl

theorem HS4_23 : View.canon (sl.HS4_23 c arg2 harg2 arg3 harg3 arg4 harg4 arg5 harg5 arg9 arg10 arg11 arg12 arg17 arg19 arg20 arg21 arg23 arg24 arg25 arg26 arg27 arg29 x0 x1 x2 x3) = W2 2080 128 0 0 (up (Pr.acc p.KT 22)) := by
  rw [sl.HS4_23]
  exact put2 p.KT _ (HS4_22 H) _ _ (by simp only [(r_163 H), (v2300 H), (v2276 H), k0_pay411, dot_kt, (acc_step p.KT 21 (k0 := 793) (q0 := 1536) rfl rfl), Nat.reduceAdd, cast22]) rfl

theorem v2312 : sl.v2312 c arg2 harg2 arg3 harg3 arg9 arg10 arg23 arg25 arg26 x0 x1 = W4 256 256 1049 1536 (up p.P) := by
  rw [sl.v2312, sl.HS6_75, skip4 _ _ _ _ _ (by decide), sl.HS6_74, skip4 _ _ _ _ _ (by decide), sl.HS6_73]
  exact (View.readCov_cons_toLoadRect _ _ _ _).trans (by simp only [(r_151 H), (v2177 H), k0_pay392, k0_pay391, cast43, bcast_row, (mul_p p (q0 := 1536) (by norm_num)), cast24])

theorem v2326 : sl.v2326 c arg2 harg2 arg3 harg3 arg4 harg4 arg5 harg5 arg9 arg10 arg11 arg12 arg17 arg19 arg20 arg21 arg23 arg24 arg25 arg26 arg27 arg29 x0 x1 x2 x3 = W2 256 128 1049 0 (up (Pr.acc p.KT 22)) := by
  rw [sl.v2326]; exact read2 _ _ (HS4_23 H) _ rfl rfl

theorem r_166 : sl.r_166 c arg2 harg2 arg3 harg3 arg4 harg4 arg5 harg5 arg9 arg10 arg11 arg12 arg17 arg19 arg20 arg21 arg23 arg24 arg25 arg26 arg27 arg29 x0 x1 x2 x3 = W2 256 128 1049 0 (up (Pr.acc p.KT 23)) := by
  simp only [sl.r_166, (r_143 H), (r_159 H), (v1566 H), (v2312 H), (v2326 H), (v2276 H), k0_pay415, k0_pay413, dot_dp, cast43, bcast_row, sub_dp, mul_ds, trunc_id, dot_kt, (acc_step p.KT 22 (k0 := 1049) (q0 := 1536) rfl rfl), Nat.reduceAdd]

theorem HS4_24 : View.canon (sl.HS4_24 c arg2 harg2 arg3 harg3 arg4 harg4 arg5 harg5 arg9 arg10 arg11 arg12 arg17 arg19 arg20 arg21 arg23 arg24 arg25 arg26 arg27 arg29 x0 x1 x2 x3) = W2 2080 128 0 0 (up (Pr.acc p.KT 23)) := by
  rw [sl.HS4_24]
  exact put2 p.KT _ (HS4_23 H) _ _ (by simp only [(r_166 H), k0_pay416, cast22]) rfl

theorem v2338 : sl.v2338 c arg2 harg2 arg3 harg3 arg9 arg10 arg23 arg25 arg26 x0 x1 = W4 256 256 1305 1536 (up p.P) := by
  rw [sl.v2338, sl.HS6_75, skip4 _ _ _ _ _ (by decide), sl.HS6_74]
  exact (View.readCov_cons_toLoadRect _ _ _ _).trans (by simp only [(r_151 H), (v2202 H), k0_pay397, k0_pay396, cast43, bcast_row, (mul_p p (q0 := 1536) (by norm_num)), cast24])

end Cert.KernelIdeal.Attn
-- ==== Proof.ChainC.lean ====
/-
  What the body's loads, stored tiles and accumulators hold, one after the other, in the order of the body's text.
-/
module

public import proofs.«01_k».proof.Proof.ChainB

@[expose] public section

set_option backward.isDefEq.respectTransparency.types false
set_option maxRecDepth 16384

noncomputable section

namespace Cert.KernelIdeal.Attn

open Idealize.ShloMosaic Cert.KernelIdeal Cert.KernelIdeal.Gen Cert.KernelIdeal.Own.kernelRun0_A
open scoped BigOperators
open Finset (range)

variable {c : Dev nD} {arg2 arg3 arg4 arg5 : Memref sig .tc .vmem S1x2048x128 .bf16}
  {harg2 : arg2.IsWhole} {harg3 : arg3.IsWhole} {harg4 : arg4.IsWhole} {harg5 : arg5.IsWhole}
  {arg9 arg10 arg11 : Memref sig .tc .vmem S1x2048x128 .fp8e4m3} {arg12 : Memref sig .tc .vmem S1x2048x128 .fp8e5m2}
  {arg17 : Memref sig .tc .vmem S2048x128 .bf16} {arg18 : Memref sig .tc .vmem S128x1024 .bf16}
  {arg19 : Memref sig .tc .vmem S128x1024 .fp8e4m3} {arg20 : Memref sig .tc .vmem S128x2048 .bf16}
  {arg21 arg22 : Memref sig .tc .vmem S2080x128 .f32} {arg23 : Memref sig .tc .vmem S2x5x256x256 .f32}
  {arg24 : Memref sig .tc .vmem S2x5x256x256 .fp8e4m3} {arg25 : Memref sig .tc .vmem S2080x128 .f32}
  {arg26 arg27 : Memref sig .tc .vmem S2048x128 .fp8e4m3} {arg28 : Memref sig .tc .vmem S128x2048 .bf16}
  {arg29 : Memref sig .tc .vmem S128x2048 .fp8e4m3} {x0 x1 x2 x3 : Vec Ideal S1x2048x128 .bf16} {p : Pr}
  (H : Good c arg2 harg2 arg3 harg3 arg4 harg4 arg5 harg5 x0 x1 x2 x3 p)

include H

theorem v2352 : sl.v2352 c arg2 harg2 arg3 harg3 arg4 harg4 arg5 harg5 arg9 arg10 arg11 arg12 arg17 arg19 arg20 arg21 arg23 arg24 arg25 arg26 arg27 arg29 x0 x1 x2 x3 = W2 256 128 1305 0 (up (Pr.acc p.KT 23)) := by
  rw [sl.v2352]; exact read2 _ _ (HS4_24 H) _ rfl rfl

theorem HS4_25 : View.canon (sl.HS4_25 c arg2 harg2 arg3 harg3 arg4 harg4 arg5 harg5 arg9 arg10 arg11 arg12 arg17 arg19 arg20 arg21 arg23 arg24 arg25 arg26 arg27 arg29 x0 x1 x2 x3) = W2 2080 128 0 0 (up (Pr.acc p.KT 24)) := by
  rw [sl.HS4_25]
  exact put2 p.KT _ (HS4_24 H) _ _ (by simp only [(r_143 H), (r_159 H), (v1964 H), (v2338 H), (v2352 H), (v2276 H), k0_pay420, k0_pay418, dot_dp, cast43, bcast_row, sub_dp, mul_ds, trunc_id, dot_kt, (acc_step p.KT 23 (k0 := 1305) (q0 := 1536) rfl rfl), Nat.reduceAdd, cast22]) rfl

theorem v2362 : sl.v2362 c arg3 harg3 arg4 harg4 arg25 arg27 x1 x2 = W2 256 128 1561 0 (up p.V) := by
  rw [sl.v2362]; exact read2 _ _ (HS10_1 H) _ rfl rfl

theorem v2364 : sl.v2364 c arg2 harg2 arg3 harg3 arg9 arg10 arg23 arg25 arg26 x0 x1 = W4 256 256 1561 1536 (up p.P) := by
  rw [sl.v2364, sl.HS6_75]
  exact (View.readCov_cons_toLoadRect _ _ _ _).trans (by simp only [(r_151 H), (v2227 H), k0_pay401, k0_pay400, cast43, bcast_row, (mul_p p (q0 := 1536) (by norm_num)), cast24])

theorem v2378 : sl.v2378 c arg2 harg2 arg3 harg3 arg4 harg4 arg5 harg5 arg9 arg10 arg11 arg12 arg17 arg19 arg20 arg21 arg23 arg24 arg25 arg26 arg27 arg29 x0 x1 x2 x3 = W2 256 128 1561 0 (up (Pr.acc p.KT 24)) := by
  rw [sl.v2378]; exact read2 _ _ (HS4_25 H) _ rfl rfl

theorem HS4_26 : View.canon (sl.HS4_26 c arg2 harg2 arg3 harg3 arg4 harg4 arg5 harg5 arg9 arg10 arg11 arg12 arg17 arg19 arg20 arg21 arg23 arg24 arg25 arg26 arg27 arg29 x0 x1 x2 x3) = W2 2080 128 0 0 (up (Pr.acc p.KT 25)) := by
  rw [sl.HS4_26]
  exact put2 p.KT _ (HS4_25 H) _ _ (by simp only [(r_143 H), (r_159 H), (v2362 H), (v2364 H), (v2378 H), (v2276 H), k0_pay423, k0_pay421, dot_dp, cast43, bcast_row, sub_dp, mul_ds, trunc_id, dot_kt, (acc_step p.KT 24 (k0 := 1561) (q0 := 1536) rfl rfl), Nat.reduceAdd, cast22]) rfl

theorem v2395 : sl.v2395 c arg2 harg2 arg9 x0 = W3 256 128 1792 0 (up p.Q) := by
  rw [sl.v2395]; exact read3 _ _ (H7_1 H) _ rfl rfl

theorem r_170 : sl.r_170 c arg2 harg2 arg9 x0 = W2 256 128 1792 0 (up p.Q) := by
  simp only [sl.r_170, (v2395 H), k0_pay426, cast32]

theorem r_172 : sl.r_172 c arg2 harg2 arg3 harg3 arg9 arg25 arg26 x0 x1 = W2 8 256 0 1792 (p.uM8 [793, 1049]) := by
  simp only [sl.r_172, (v2395 H), (v1232 H), (v1244 H), k0_pay432, k0_pay428, k0_pay426, cast32, dot_s, kc_bot, (mask_gt p (k0 := 793) (q0 := 1792) 4294967295#32 (by decide) (by norm_num)), cast28, max8r, k0_pay430, (full p (k0 := 1049) (q0 := 1792) (by norm_num) (by norm_num)), max_app, List.cons_append, List.nil_append]

theorem r_173 : sl.r_173 c arg2 harg2 arg3 harg3 arg9 arg25 arg26 x0 x1 = W2 8 256 0 1792 (p.uM8 [793, 1049, 1305, 1561]) := by
  simp only [sl.r_173, (r_170 H), (r_172 H), (v1642 H), (v2040 H), k0_pay437, k0_pay433, dot_s, (full p (k0 := 1305) (q0 := 1792) (by norm_num) (by norm_num)), cast28, max8r, max_app, List.cons_append, List.nil_append, k0_pay435, kc_bot, (mask_le p (k0 := 1561) (q0 := 1792) 231#32 (by decide) (by norm_num))]

theorem v2438 : sl.v2438 c arg3 harg3 arg25 arg26 x1 = W2 256 128 1817 0 (up p.K) := by
  rw [sl.v2438]; exact read2 _ _ (HS9_1 H) _ rfl rfl

theorem r_174 : sl.r_174 c arg2 harg2 arg3 harg3 arg9 arg25 arg26 x0 x1 = W2 8 256 0 1792 (p.uM8 [1817]) := by
  simp only [sl.r_174, (r_170 H), (v2438 H), k0_pay440, k0_pay438, dot_s, kc_bot, (mask_le p (k0 := 1817) (q0 := 1792) 4294967271#32 (by decide) (by norm_num)), cast28, max8r]

theorem r_175 : sl.r_175 c arg2 harg2 arg3 harg3 arg9 arg25 arg26 x0 x1 = WR 1 256 1792 (up1 (p.mu [793, 1049, 1305, 1561, 1817])) := by
  simp only [sl.r_175, H.r20, (r_173 H), (r_174 H), k0_pay441, max_app, List.cons_append, List.nil_append, red8r, cast12, bcast_kc, (mul_m p rw1792 (by norm_num))]

theorem v2454 : sl.v2454 c arg2 harg2 arg3 harg3 arg9 arg10 arg23 arg25 arg26 x0 x1 = W4 256 256 793 1792 p.uMS := by
  rw [sl.v2454, sl.HS6_80, skip4 _ _ _ _ _ (by decide), skip4 _ _ _ _ _ (by decide), skip4 _ _ _ _ _ (by decide), skip4 _ _ _ _ _ (by decide)]
  exact (View.readCov_cons_toLoadRect _ _ _ _).trans (by simp only [(v2395 H), (v1232 H), k0_pay429, k0_pay428, k0_pay426, cast32, dot_s, kc_bot, (mask_gt p (k0 := 793) (q0 := 1792) 4294967295#32 (by decide) (by norm_num)), cast24])

theorem v2466 : sl.v2466 c arg2 harg2 arg3 harg3 arg9 arg10 arg23 arg25 arg26 x0 x1 = W4 256 256 1049 1792 p.uMS := by
  rw [sl.v2466, sl.HS6_81, skip4 _ _ _ _ _ (by decide), sl.HS6_80, skip4 _ _ _ _ _ (by decide), skip4 _ _ _ _ _ (by decide), skip4 _ _ _ _ _ (by decide)]
  exact (View.readCov_cons_toLoadRect _ _ _ _).trans (by simp only [(v2395 H), (v1244 H), k0_pay431, k0_pay430, k0_pay426, cast32, dot_s, cast24, (full p (k0 := 1049) (q0 := 1792) (by norm_num) (by norm_num))])

theorem r_176 : sl.r_176 c arg2 harg2 arg3 harg3 arg9 arg10 arg23 arg25 arg26 x0 x1 = W2 8 256 0 1792 (up (p.L8 [793, 1049, 1305, 1561, 1817] [793, 1049])) := by
  simp only [sl.r_176, H.r20, (r_173 H), (r_174 H), (v2454 H), (v2466 H), k0_pay446, k0_pay442, cast43, bcast_kc, (mul_ms p H.c_pos), k0_pay441, max_app, List.cons_append, List.nil_append, red8r, cast12, (mul_m p rw1792 (by norm_num)), bcast_row, sub_t, exp_e, cast28, add8r, k0_pay444, add_l8]

theorem v2479 : sl.v2479 c arg2 harg2 arg3 harg3 arg9 arg10 arg23 arg25 arg26 x0 x1 = W4 256 256 1305 1792 p.uMS := by
  rw [sl.v2479, sl.HS6_82, skip4 _ _ _ _ _ (by decide), sl.HS6_81, skip4 _ _ _ _ _ (by decide), sl.HS6_80, skip4 _ _ _ _ _ (by decide), skip4 _ _ _ _ _ (by decide)]
  exact (View.readCov_cons_toLoadRect _ _ _ _).trans (by simp only [(r_170 H), (v1642 H), k0_pay434, k0_pay433, dot_s, cast24, (full p (k0 := 1305) (q0 := 1792) (by norm_num) (by norm_num))])

theorem r_177 : sl.r_177 c arg2 harg2 arg3 harg3 arg9 arg10 arg23 arg25 arg26 x0 x1 = W2 256 256 1305 1792 p.uMc := by
  simp only [sl.r_177, H.r20, (v2479 H), k0_pay447, cast43, bcast_kc, (mul_ms p H.c_pos)]

theorem r_178 : sl.r_178 c arg2 harg2 arg3 harg3 arg9 arg25 arg26 x0 x1 = WR 256 256 1792 (up1 (p.mu [793, 1049, 1305, 1561, 1817])) := by
  simp only [sl.r_178, H.r20, (r_173 H), (r_174 H), k0_pay448, k0_pay441, max_app, List.cons_append, List.nil_append, red8r, cast12, bcast_kc, (mul_m p rw1792 (by norm_num)), bcast_row]

theorem v2492 : sl.v2492 c arg2 harg2 arg3 harg3 arg9 arg10 arg23 arg25 arg26 x0 x1 = W4 256 256 1561 1792 p.uMS := by
  rw [sl.v2492, sl.HS6_83, skip4 _ _ _ _ _ (by decide), sl.HS6_82, skip4 _ _ _ _ _ (by decide), sl.HS6_81, skip4 _ _ _ _ _ (by decide), sl.HS6_80, skip4 _ _ _ _ _ (by decide)]
  exact (View.readCov_cons_toLoadRect _ _ _ _).trans (by simp only [(r_170 H), (v2040 H), k0_pay436, k0_pay435, dot_s, kc_bot, (mask_le p (k0 := 1561) (q0 := 1792) 231#32 (by decide) (by norm_num)), cast24])

theorem v2505 : sl.v2505 c arg2 harg2 arg3 harg3 arg9 arg10 arg23 arg25 arg26 x0 x1 = W4 256 256 1817 1792 p.uMS := by
  rw [sl.v2505, sl.HS6_84, skip4 _ _ _ _ _ (by decide), sl.HS6_83, skip4 _ _ _ _ _ (by decide), sl.HS6_82, skip4 _ _ _ _ _ (by decide), sl.HS6_81, skip4 _ _ _ _ _ (by decide), sl.HS6_80]
  exact (View.readCov_cons_toLoadRect _ _ _ _).trans (by simp only [(r_170 H), (v2438 H), k0_pay439, k0_pay438, dot_s, kc_bot, (mask_le p (k0 := 1817) (q0 := 1792) 4294967271#32 (by decide) (by norm_num)), cast24])

theorem r_179 : sl.r_179 c arg2 harg2 arg3 harg3 arg9 arg10 arg23 arg25 arg26 x0 x1 = W2 8 256 0 1792 (up (p.L8 [793, 1049, 1305, 1561, 1817] [793, 1049, 1305, 1561, 1817])) := by
  simp only [sl.r_179, H.r20, (r_175 H), (r_176 H), (r_177 H), (r_178 H), (v2492 H), (v2505 H), k0_pay455, k0_pay449, sub_t, exp_e, cast28, add8r, add_l8, List.cons_append, List.nil_append, k0_pay451, cast43, bcast_kc, (mul_ms p H.c_pos), bcast_row, k0_pay453]

theorem v2526 : sl.v2526 c arg2 harg2 arg3 harg3 arg9 arg10 arg23 arg25 arg26 x0 x1 = W4 256 256 793 1792 (up (p.E [793, 1049, 1305, 1561, 1817])) := by
  rw [sl.v2526, sl.HS6_85, skip4 _ _ _ _ _ (by decide), sl.HS6_84, skip4 _ _ _ _ _ (by decide), sl.HS6_83, skip4 _ _ _ _ _ (by decide), sl.HS6_82, skip4 _ _ _ _ _ (by decide), sl.HS6_81]
  exact (View.readCov_cons_toLoadRect _ _ _ _).trans (by simp only [H.r20, (r_173 H), (r_174 H), (v2454 H), k0_pay443, k0_pay442, cast43, bcast_kc, (mul_ms p H.c_pos), k0_pay441, max_app, List.cons_append, List.nil_append, red8r, cast12, (mul_m p rw1792 (by norm_num)), bcast_row, sub_t, exp_e, cast24])

theorem p7_26 : k0_pay459 (sl.r_175 c arg2 harg2 arg3 harg3 arg9 arg25 arg26 x0 x1) (sl.r_179 c arg2 harg2 arg3 harg3 arg9 arg10 arg23 arg25 arg26 x0 x1) (sl.v2526 c arg2 harg2 arg3 harg3 arg9 arg10 arg23 arg25 arg26 x0 x1) = W4 256 256 793 1792 (up p.P8) := by
  simp only [(r_175 H), (r_179 H), (v2526 H), k0_pay459, kc_zero, k0_pay457, cast43, k0_pay456, sum_l8r, cast12, kc_256, (fac p rw1792 (by norm_num)), bcast_row, (mul_p p (q0 := 1792) (by norm_num)), clip_0, kc_448, clip_448, trunc_id, cast24]

theorem v2542 : sl.v2542 c arg2 harg2 arg3 harg3 arg9 arg10 arg23 arg24 arg25 arg26 x0 x1 = W4 128 256 793 1792 (up p.P8) := by
  rw [sl.v2542, sl.HS7_26]
  exact half4 _ _ _ _ _ (p7_26 H) rfl (by norm_num)

theorem r_181 : sl.r_181 c arg2 harg2 arg3 harg3 arg4 harg4 arg9 arg10 arg23 arg24 arg25 arg26 arg27 arg29 x0 x1 x2 = W2 128 256 0 1792 (up (p.O [793])) := by
  simp only [sl.r_181, (v1421 H), (v2542 H), k0_pay460, cast43, dot_ot]

theorem v2546 : sl.v2546 c arg2 harg2 arg3 harg3 arg9 arg10 arg23 arg24 arg25 arg26 x0 x1 = W4 128 256 921 1792 (up p.P8) := by
  rw [sl.v2546, sl.HS7_26]
  exact half4 _ _ _ _ _ (p7_26 H) rfl (by norm_num)

theorem r_180 : sl.r_180 c arg2 harg2 arg3 harg3 arg9 arg10 arg23 arg25 arg26 x0 x1 = WR 1 256 1792 (up1 (p.Fc [793, 1049, 1305, 1561, 1817])) := by
  simp only [sl.r_180, (r_175 H), (r_179 H), k0_pay456, sum_l8r, cast12, kc_256, (fac p rw1792 (by norm_num))]

theorem v2550 : sl.v2550 c arg2 harg2 arg3 harg3 arg9 arg10 arg23 arg25 arg26 x0 x1 = W4 256 256 1049 1792 (up (p.E [793, 1049, 1305, 1561, 1817])) := by
  rw [sl.v2550, sl.HS6_86, skip4 _ _ _ _ _ (by decide), sl.HS6_85, skip4 _ _ _ _ _ (by decide), sl.HS6_84, skip4 _ _ _ _ _ (by decide), sl.HS6_83, skip4 _ _ _ _ _ (by decide), sl.HS6_82]
  exact (View.readCov_cons_toLoadRect _ _ _ _).trans (by simp only [H.r20, (r_173 H), (r_174 H), (v2466 H), k0_pay445, k0_pay444, cast43, bcast_kc, (mul_ms p H.c_pos), k0_pay441, max_app, List.cons_append, List.nil_append, red8r, cast12, (mul_m p rw1792 (by norm_num)), bcast_row, sub_t, exp_e, cast24])

theorem p7_27 : k0_pay463 (sl.r_180 c arg2 harg2 arg3 harg3 arg9 arg10 arg23 arg25 arg26 x0 x1) (sl.v2550 c arg2 harg2 arg3 harg3 arg9 arg10 arg23 arg25 arg26 x0 x1) = W4 256 256 1049 1792 (up p.P8) := by
  simp only [(r_180 H), (v2550 H), k0_pay463, kc_zero, k0_pay461, cast43, bcast_row, (mul_p p (q0 := 1792) (by norm_num)), clip_0, kc_448, clip_448, trunc_id, cast24]

theorem v2566 : sl.v2566 c arg2 harg2 arg3 harg3 arg9 arg10 arg23 arg24 arg25 arg26 x0 x1 = W4 128 256 1049 1792 (up p.P8) := by
  rw [sl.v2566, sl.HS7_27]
  exact half4 _ _ _ _ _ (p7_27 H) rfl (by norm_num)

theorem v2571 : sl.v2571 c arg2 harg2 arg3 harg3 arg9 arg10 arg23 arg24 arg25 arg26 x0 x1 = W4 128 256 1177 1792 (up p.P8) := by
  rw [sl.v2571, sl.HS7_27]
  exact half4 _ _ _ _ _ (p7_27 H) rfl (by norm_num)

theorem r_182 : sl.r_182 c arg2 harg2 arg3 harg3 arg4 harg4 arg9 arg10 arg23 arg24 arg25 arg26 arg27 arg29 x0 x1 x2 = W2 128 256 0 1792 (up (p.O [793, 921, 1049, 1177])) := by
  simp only [sl.r_182, (r_181 H), (v1426 H), (v2546 H), (v1446 H), (v2566 H), (v1451 H), (v2571 H), k0_pay464, cast43, dot_ot, add_o, List.cons_append, List.nil_append]

theorem v2575 : sl.v2575 c arg2 harg2 arg3 harg3 arg9 arg10 arg23 arg25 arg26 x0 x1 = W4 256 256 1305 1792 (up (p.E [793, 1049, 1305, 1561, 1817])) := by
  rw [sl.v2575, sl.HS6_87, skip4 _ _ _ _ _ (by decide), sl.HS6_86, skip4 _ _ _ _ _ (by decide), sl.HS6_85, skip4 _ _ _ _ _ (by decide), sl.HS6_84, skip4 _ _ _ _ _ (by decide), sl.HS6_83]
  exact (View.readCov_cons_toLoadRect _ _ _ _).trans (by simp only [(r_177 H), (r_178 H), k0_pay450, k0_pay449, sub_t, exp_e, cast24])

theorem p7_28 : k0_pay467 (sl.r_180 c arg2 harg2 arg3 harg3 arg9 arg10 arg23 arg25 arg26 x0 x1) (sl.v2575 c arg2 harg2 arg3 harg3 arg9 arg10 arg23 arg25 arg26 x0 x1) = W4 256 256 1305 1792 (up p.P8) := by
  simp only [(r_180 H), (v2575 H), k0_pay467, kc_zero, k0_pay465, cast43, bcast_row, (mul_p p (q0 := 1792) (by norm_num)), clip_0, kc_448, clip_448, trunc_id, cast24]

theorem v2591 : sl.v2591 c arg2 harg2 arg3 harg3 arg9 arg10 arg23 arg24 arg25 arg26 x0 x1 = W4 128 256 1305 1792 (up p.P8) := by
  rw [sl.v2591, sl.HS7_28]
  exact half4 _ _ _ _ _ (p7_28 H) rfl (by norm_num)

theorem v2596 : sl.v2596 c arg2 harg2 arg3 harg3 arg9 arg10 arg23 arg24 arg25 arg26 x0 x1 = W4 128 256 1433 1792 (up p.P8) := by
  rw [sl.v2596, sl.HS7_28]
  exact half4 _ _ _ _ _ (p7_28 H) rfl (by norm_num)

theorem r_183 : sl.r_183 c arg2 harg2 arg3 harg3 arg4 harg4 arg9 arg10 arg23 arg24 arg25 arg26 arg27 arg29 x0 x1 x2 = W2 128 256 0 1792 (up (p.O [793, 921, 1049, 1177, 1305, 1433])) := by
  simp only [sl.r_183, (r_182 H), (v1844 H), (v2591 H), (v1849 H), (v2596 H), k0_pay468, cast43, dot_ot, add_o, List.cons_append, List.nil_append]

theorem v2600 : sl.v2600 c arg2 harg2 arg3 harg3 arg9 arg10 arg23 arg25 arg26 x0 x1 = W4 256 256 1561 1792 (up (p.E [793, 1049, 1305, 1561, 1817])) := by
  rw [sl.v2600, sl.HS6_88, skip4 _ _ _ _ _ (by decide), sl.HS6_87, skip4 _ _ _ _ _ (by decide), sl.HS6_86, skip4 _ _ _ _ _ (by decide), sl.HS6_85, skip4 _ _ _ _ _ (by decide), sl.HS6_84]
  exact (View.readCov_cons_toLoadRect _ _ _ _).trans (by simp only [H.r20, (r_175 H), (v2492 H), k0_pay452, k0_pay451, cast43, bcast_kc, (mul_ms p H.c_pos), bcast_row, sub_t, exp_e, cast24])

theorem r_184 : sl.r_184 c arg2 harg2 arg3 harg3 arg9 arg10 arg23 arg25 arg26 x0 x1 = W2 256 256 1561 1792 (up (p.E [793, 1049, 1305, 1561, 1817])) := by
  simp only [sl.r_184, (v2600 H), k0_pay469, cast43]

theorem p7_29 : k0_pay472 (sl.r_180 c arg2 harg2 arg3 harg3 arg9 arg10 arg23 arg25 arg26 x0 x1) (sl.r_184 c arg2 harg2 arg3 harg3 arg9 arg10 arg23 arg25 arg26 x0 x1) = W4 256 256 1561 1792 (up p.P8) := by
  simp only [(r_180 H), (r_184 H), k0_pay472, kc_zero, k0_pay470, bcast_row, (mul_p p (q0 := 1792) (by norm_num)), clip_0, kc_448, clip_448, trunc_id, cast24]

theorem v2616 : sl.v2616 c arg2 harg2 arg3 harg3 arg9 arg10 arg23 arg24 arg25 arg26 x0 x1 = W4 128 256 1561 1792 (up p.P8) := by
  rw [sl.v2616, sl.HS7_29]
  exact half4 _ _ _ _ _ (p7_29 H) rfl (by norm_num)

theorem v2621 : sl.v2621 c arg2 harg2 arg3 harg3 arg9 arg10 arg23 arg24 arg25 arg26 x0 x1 = W4 128 256 1689 1792 (up p.P8) := by
  rw [sl.v2621, sl.HS7_29]
  exact half4 _ _ _ _ _ (p7_29 H) rfl (by norm_num)

theorem r_185 : sl.r_185 c arg2 harg2 arg3 harg3 arg4 harg4 arg9 arg10 arg23 arg24 arg25 arg26 arg27 arg29 x0 x1 x2 = W2 128 256 0 1792 (up (p.O [793, 921, 1049, 1177, 1305, 1433, 1561, 1689])) := by
  simp only [sl.r_185, (r_183 H), (v2242 H), (v2616 H), (v2247 H), (v2621 H), k0_pay473, cast43, dot_ot, add_o, List.cons_append, List.nil_append]

theorem v2640 : sl.v2640 c arg3 harg3 arg4 harg4 arg25 arg27 arg29 x1 x2 = W2 128 128 0 1817 (up fun d k => p.V k d) := by
  rw [sl.v2640]; exact read2 _ _ (HS12_1 H) _ rfl rfl

theorem v2625 : sl.v2625 c arg2 harg2 arg3 harg3 arg9 arg10 arg23 arg25 arg26 x0 x1 = W4 256 256 1817 1792 (up (p.E [793, 1049, 1305, 1561, 1817])) := by
  rw [sl.v2625, sl.HS6_89, skip4 _ _ _ _ _ (by decide), sl.HS6_88, skip4 _ _ _ _ _ (by decide), sl.HS6_87, skip4 _ _ _ _ _ (by decide), sl.HS6_86, skip4 _ _ _ _ _ (by decide), sl.HS6_85]
  exact (View.readCov_cons_toLoadRect _ _ _ _).trans (by simp only [H.r20, (r_175 H), (v2505 H), k0_pay454, k0_pay453, cast43, bcast_kc, (mul_ms p H.c_pos), bcast_row, sub_t, exp_e, cast24])

theorem r_186 : sl.r_186 c arg2 harg2 arg3 harg3 arg9 arg10 arg23 arg25 arg26 x0 x1 = W2 256 256 1817 1792 (up p.P) := by
  simp only [sl.r_186, (r_180 H), (v2625 H), k0_pay474, cast43, bcast_row, (mul_p p (q0 := 1792) (by norm_num))]

theorem p7_30 : k0_pay476 (sl.r_186 c arg2 harg2 arg3 harg3 arg9 arg10 arg23 arg25 arg26 x0 x1) = W4 256 256 1817 1792 (up p.P8) := by
  simp only [(r_186 H), k0_pay476, kc_zero, clip_0, kc_448, clip_448, trunc_id, cast24]

theorem v2641 : sl.v2641 c arg2 harg2 arg3 harg3 arg9 arg10 arg23 arg24 arg25 arg26 x0 x1 = W4 128 256 1817 1792 (up p.P8) := by
  rw [sl.v2641, sl.HS7_30]
  exact half4 _ _ _ _ _ (p7_30 H) rfl (by norm_num)

theorem v2645 : sl.v2645 c arg3 harg3 arg4 harg4 arg25 arg27 arg29 x1 x2 = W2 128 128 0 1945 (up fun d k => p.V k d) := by
  rw [sl.v2645]; exact read2 _ _ (HS12_1 H) _ rfl rfl

theorem v2646 : sl.v2646 c arg2 harg2 arg3 harg3 arg9 arg10 arg23 arg24 arg25 arg26 x0 x1 = W4 128 256 1945 1792 (up p.P8) := by
  rw [sl.v2646, sl.HS7_30]
  exact half4 _ _ _ _ _ (p7_30 H) rfl (by norm_num)

theorem v2650 : sl.v2650 c arg5 harg5 arg12 arg20 x3 = W2 128 256 0 1792 (up fun d q => p.D q d) := by
  rw [sl.v2650]; exact read2 _ _ (HS3_1 H) _ rfl rfl

theorem r_187 : sl.r_187 c arg2 harg2 arg3 harg3 arg4 harg4 arg5 harg5 arg9 arg10 arg12 arg20 arg23 arg24 arg25 arg26 arg27 arg29 x0 x1 x2 x3 = WR 1 256 1792 (up1 p.Df) := by
  simp only [sl.r_187, (r_185 H), (v2640 H), (v2641 H), (v2645 H), (v2646 H), (v2650 H), k0_pay477, cast43, dot_ot, add_o, List.cons_append, List.nil_append, ext_id, mul_do, sum128r, cast12, kc_inv256, (mul_delta p rh1792)]

theorem v2397 : sl.v2397 c arg5 harg5 arg12 x3 = W3 256 128 1792 0 (up p.D) := by
  rw [sl.v2397]; exact read3 _ _ (H10_1 H) _ rfl rfl

theorem r_171 : sl.r_171 c arg5 harg5 arg12 x3 = W2 256 128 1792 0 (up p.D) := by
  simp only [sl.r_171, (v2397 H), k0_pay427, cast32]

theorem r_188 : sl.r_188 c arg3 harg3 arg4 harg4 arg5 harg5 arg12 arg25 arg27 x1 x2 x3 = W2 256 256 793 1792 (up p.DP) := by
  simp only [sl.r_188, (r_171 H), (v1540 H), k0_pay478, dot_dp]

theorem v2659 : sl.v2659 c arg2 harg2 arg3 harg3 arg9 arg10 arg23 arg25 arg26 x0 x1 = W4 256 256 793 1792 (up p.P) := by
  rw [sl.v2659, sl.HS6_90, skip4 _ _ _ _ _ (by decide), sl.HS6_89, skip4 _ _ _ _ _ (by decide), sl.HS6_88, skip4 _ _ _ _ _ (by decide), sl.HS6_87, skip4 _ _ _ _ _ (by decide), sl.HS6_86]
  exact (View.readCov_cons_toLoadRect _ _ _ _).trans (by simp only [(r_175 H), (r_179 H), (v2526 H), k0_pay458, k0_pay457, cast43, k0_pay456, sum_l8r, cast12, kc_256, (fac p rw1792 (by norm_num)), bcast_row, (mul_p p (q0 := 1792) (by norm_num)), cast24])

theorem v2673 : sl.v2673 c arg2 harg2 arg3 harg3 arg4 harg4 arg5 harg5 arg9 arg10 arg11 arg12 arg17 arg19 arg20 arg21 arg23 arg24 arg25 arg26 arg27 arg29 x0 x1 x2 x3 = W2 256 128 793 0 (up (Pr.acc p.KT 25)) := by
  rw [sl.v2673]; exact read2 _ _ (HS4_26 H) _ rfl rfl

theorem v2674 : sl.v2674 c arg2 harg2 arg9 arg17 x0 = W2 256 128 1792 0 (up p.Q) := by
  rw [sl.v2674]; exact read2 _ _ (HS0_1 H) _ rfl rfl

theorem HS4_27 : View.canon (sl.HS4_27 c arg2 harg2 arg3 harg3 arg4 harg4 arg5 harg5 arg9 arg10 arg11 arg12 arg17 arg19 arg20 arg21 arg23 arg24 arg25 arg26 arg27 arg29 x0 x1 x2 x3) = W2 2080 128 0 0 (up (Pr.acc p.KT 26)) := by
  rw [sl.HS4_27]
  exact put2 p.KT _ (HS4_26 H) _ _ (by simp only [(r_187 H), (r_188 H), (v2659 H), (v2673 H), (v2674 H), k0_pay481, k0_pay479, cast43, bcast_row, sub_dp, mul_ds, trunc_id, dot_kt, (acc_step p.KT 25 (k0 := 793) (q0 := 1792) rfl rfl), Nat.reduceAdd, cast22]) rfl

theorem r_190 : sl.r_190 c arg3 harg3 arg4 harg4 arg5 harg5 arg12 arg25 arg27 x1 x2 x3 = W2 256 256 1049 1792 (up p.DP) := by
  simp only [sl.r_190, (r_171 H), (v1566 H), k0_pay483, dot_dp]

theorem v2684 : sl.v2684 c arg2 harg2 arg3 harg3 arg9 arg10 arg23 arg25 arg26 x0 x1 = W4 256 256 1049 1792 (up p.P) := by
  rw [sl.v2684, sl.HS6_90, skip4 _ _ _ _ _ (by decide), sl.HS6_89, skip4 _ _ _ _ _ (by decide), sl.HS6_88, skip4 _ _ _ _ _ (by decide), sl.HS6_87]
  exact (View.readCov_cons_toLoadRect _ _ _ _).trans (by simp only [(r_180 H), (v2550 H), k0_pay462, k0_pay461, cast43, bcast_row, (mul_p p (q0 := 1792) (by norm_num)), cast24])

theorem r_191 : sl.r_191 c arg2 harg2 arg3 harg3 arg9 arg10 arg23 arg25 arg26 x0 x1 = W2 256 256 1049 1792 (up p.P) := by
  simp only [sl.r_191, (v2684 H), k0_pay484, cast43]

theorem r_192 : sl.r_192 c arg2 harg2 arg3 harg3 arg4 harg4 arg5 harg5 arg9 arg10 arg12 arg20 arg23 arg24 arg25 arg26 arg27 arg29 x0 x1 x2 x3 = WR 256 256 1792 (up1 p.Df) := by
  simp only [sl.r_192, (r_187 H), k0_pay485, bcast_row]

theorem v2698 : sl.v2698 c arg2 harg2 arg3 harg3 arg4 harg4 arg5 harg5 arg9 arg10 arg11 arg12 arg17 arg19 arg20 arg21 arg23 arg24 arg25 arg26 arg27 arg29 x0 x1 x2 x3 = W2 256 128 1049 0 (up (Pr.acc p.KT 26)) := by
  rw [sl.v2698]; exact read2 _ _ (HS4_27 H) _ rfl rfl

theorem HS4_28 : View.canon (sl.HS4_28 c arg2 harg2 arg3 harg3 arg4 harg4 arg5 harg5 arg9 arg10 arg11 arg12 arg17 arg19 arg20 arg21 arg23 arg24 arg25 arg26 arg27 arg29 x0 x1 x2 x3) = W2 2080 128 0 0 (up (Pr.acc p.KT 27)) := by
  rw [sl.HS4_28]
  exact put2 p.KT _ (HS4_27 H) _ _ (by simp only [(r_190 H), (r_191 H), (r_192 H), (v2698 H), (v2674 H), k0_pay488, k0_pay486, sub_dp, mul_ds, trunc_id, dot_kt, (acc_step p.KT 26 (k0 := 1049) (q0 := 1792) rfl rfl), Nat.reduceAdd, cast22]) rfl

theorem v2710 : sl.v2710 c arg2 harg2 arg3 harg3 arg9 arg10 arg23 arg25 arg26 x0 x1 = W4 256 256 1305 1792 (up p.P) := by
  rw [sl.v2710, sl.HS6_90, skip4 _ _ _ _ _ (by decide), sl.HS6_89, skip4 _ _ _ _ _ (by decide), sl.HS6_88]
  exact (View.readCov_cons_toLoadRect _ _ _ _).trans (by simp only [(r_180 H), (v2575 H), k0_pay466, k0_pay465, cast43, bcast_row, (mul_p p (q0 := 1792) (by norm_num)), cast24])

theorem r_194 : sl.r_194 c arg2 harg2 arg3 harg3 arg4 harg4 arg5 harg5 arg9 arg10 arg12 arg20 arg23 arg24 arg25 arg26 arg27 arg29 x0 x1 x2 x3 = W2 256 256 1305 1792 (up p.DS) := by
  simp only [sl.r_194, (r_171 H), (r_187 H), (v1964 H), (v2710 H), k0_pay490, dot_dp, cast43, bcast_row, sub_dp, mul_ds, trunc_id]

theorem v2724 : sl.v2724 c arg2 harg2 arg3 harg3 arg4 harg4 arg5 harg5 arg9 arg10 arg11 arg12 arg17 arg19 arg20 arg21 arg23 arg24 arg25 arg26 arg27 arg29 x0 x1 x2 x3 = W2 256 128 1305 0 (up (Pr.acc p.KT 27)) := by
  rw [sl.v2724]; exact read2 _ _ (HS4_28 H) _ rfl rfl

theorem HS4_29 : View.canon (sl.HS4_29 c arg2 harg2 arg3 harg3 arg4 harg4 arg5 harg5 arg9 arg10 arg11 arg12 arg17 arg19 arg20 arg21 arg23 arg24 arg25 arg26 arg27 arg29 x0 x1 x2 x3) = W2 2080 128 0 0 (up (Pr.acc p.KT 28)) := by
  rw [sl.HS4_29]
  exact put2 p.KT _ (HS4_28 H) _ _ (by simp only [(r_194 H), (v2724 H), (v2674 H), k0_pay492, dot_kt, (acc_step p.KT 27 (k0 := 1305) (q0 := 1792) rfl rfl), Nat.reduceAdd, cast22]) rfl

theorem v2736 : sl.v2736 c arg2 harg2 arg3 harg3 arg9 arg10 arg23 arg25 arg26 x0 x1 = W4 256 256 1561 1792 (up p.P) := by
  rw [sl.v2736, sl.HS6_90, skip4 _ _ _ _ _ (by decide), sl.HS6_89]
  exact (View.readCov_cons_toLoadRect _ _ _ _).trans (by simp only [(r_180 H), (r_184 H), k0_pay471, k0_pay470, bcast_row, (mul_p p (q0 := 1792) (by norm_num)), cast24])

theorem r_196 : sl.r_196 c arg2 harg2 arg3 harg3 arg4 harg4 arg5 harg5 arg9 arg10 arg12 arg20 arg23 arg24 arg25 arg26 arg27 arg29 x0 x1 x2 x3 = W2 256 256 1561 1792 (up p.DS) := by
  simp only [sl.r_196, (r_171 H), (r_187 H), (v2362 H), (v2736 H), k0_pay494, dot_dp, cast43, bcast_row, sub_dp, mul_ds, trunc_id]

theorem v2750 : sl.v2750 c arg2 harg2 arg3 harg3 arg4 harg4 arg5 harg5 arg9 arg10 arg11 arg12 arg17 arg19 arg20 arg21 arg23 arg24 arg25 arg26 arg27 arg29 x0 x1 x2 x3 = W2 256 128 1561 0 (up (Pr.acc p.KT 28)) := by
  rw [sl.v2750]; exact read2 _ _ (HS4_29 H) _ rfl rfl

theorem HS4_30 : View.canon (sl.HS4_30 c arg2 harg2 arg3 harg3 arg4 harg4 arg5 harg5 arg9 arg10 arg11 arg12 arg17 arg19 arg20 arg21 arg23 arg24 arg25 arg26 arg27 arg29 x0 x1 x2 x3) = W2 2080 128 0 0 (up (Pr.acc p.KT 29)) := by
  rw [sl.HS4_30]
  exact put2 p.KT _ (HS4_29 H) _ _ (by simp only [(r_196 H), (v2750 H), (v2674 H), k0_pay497, dot_kt, (acc_step p.KT 28 (k0 := 1561) (q0 := 1792) rfl rfl), Nat.reduceAdd, cast22]) rfl

theorem v2760 : sl.v2760 c arg3 harg3 arg4 harg4 arg25 arg27 x1 x2 = W2 256 128 1817 0 (up p.V) := by
  rw [sl.v2760]; exact read2 _ _ (HS10_1 H) _ rfl rfl

theorem v2762 : sl.v2762 c arg2 harg2 arg3 harg3 arg9 arg10 arg23 arg25 arg26 x0 x1 = W4 256 256 1817 1792 (up p.P) := by
  rw [sl.v2762, sl.HS6_90]
  exact (View.readCov_cons_toLoadRect _ _ _ _).trans (by simp only [(r_186 H), k0_pay475, cast24])

theorem r_199 : sl.r_199 c arg2 harg2 arg3 harg3 arg4 harg4 arg5 harg5 arg9 arg10 arg12 arg20 arg23 arg24 arg25 arg26 arg27 arg29 x0 x1 x2 x3 = W2 256 256 1817 1792 (up p.DS) := by
  simp only [sl.r_199, (r_171 H), (r_187 H), (v2760 H), (v2762 H), k0_pay499, dot_dp, cast43, bcast_row, sub_dp, mul_ds, trunc_id]

theorem v2776 : sl.v2776 c arg2 harg2 arg3 harg3 arg4 harg4 arg5 harg5 arg9 arg10 arg11 arg12 arg17 arg19 arg20 arg21 arg23 arg24 arg25 arg26 arg27 arg29 x0 x1 x2 x3 = W2 256 128 1817 0 (up (Pr.acc p.KT 29)) := by
  rw [sl.v2776]; exact read2 _ _ (HS4_30 H) _ rfl rfl

theorem HS4_31 : View.canon (sl.HS4_31 c arg2 harg2 arg3 harg3 arg4 harg4 arg5 harg5 arg9 arg10 arg11 arg12 arg17 arg19 arg20 arg21 arg23 arg24 arg25 arg26 arg27 arg29 x0 x1 x2 x3) = W2 2080 128 0 0 (up (Pr.acc p.KT 30)) := by
  rw [sl.HS4_31]
  exact put2 p.KT _ (HS4_30 H) _ _ (by simp only [(r_199 H), (v2776 H), (v2674 H), k0_pay502, dot_kt, (acc_step p.KT 29 (k0 := 1817) (q0 := 1792) rfl rfl), Nat.reduceAdd, cast22]) rfl

theorem HS5_1 : View.canon (sl.HS5_1 (F := Ideal)) = W2 2080 128 0 0 (up (Pr.acc p.VT 0)) := by
  rw [sl.HS5_1]; exact (View.canon_cons_unit_lit _ _ _ (by decide)).trans (zero_acc5 p.VT)

theorem v381 : sl.v381 (F := Ideal) c arg22 = W2 256 128 0 0 (up (Pr.acc p.VT 0)) := by
  rw [sl.v381]; exact read2 _ _ (HS5_1 H) _ rfl rfl

theorem v382 : sl.v382 c arg2 harg2 arg3 harg3 arg9 arg10 arg23 arg24 x0 x1 = W4 256 256 0 0 (up p.P8) := by
  rw [sl.v382, sl.HS7_1]
  exact (View.readCov_cons_toLoadRect _ _ _ _).trans (p7_1 H)

theorem HS5_2 : View.canon (sl.HS5_2 c arg2 harg2 arg3 harg3 arg5 harg5 arg9 arg10 arg12 arg22 arg23 arg24 x0 x1 x3) = W2 2080 128 0 0 (up (Pr.acc p.VT 1)) := by
  rw [sl.HS5_2]
  exact put2 p.VT _ (HS5_1 H) _ _ (by simp only [(r_24 H), (v381 H), (v382 H), k0_pay65, cast43, dot_vt, (acc_step p.VT 0 (k0 := 0) (q0 := 0) rfl rfl), Nat.reduceAdd, cast22]) rfl

theorem v538 : sl.v538 c arg2 harg2 arg3 harg3 arg5 harg5 arg9 arg10 arg12 arg22 arg23 arg24 x0 x1 x3 = W2 256 128 0 0 (up (Pr.acc p.VT 1)) := by
  rw [sl.v538]; exact read2 _ _ (HS5_2 H) _ rfl rfl

theorem v539 : sl.v539 c arg2 harg2 arg3 harg3 arg9 arg10 arg23 arg24 x0 x1 = W4 256 256 0 256 (up p.P8) := by
  rw [sl.v539, sl.HS7_3, skip4 _ _ _ _ _ (by decide), sl.HS7_2]
  exact (View.readCov_cons_toLoadRect _ _ _ _).trans (p7_2 H)

theorem HS5_3 : View.canon (sl.HS5_3 c arg2 harg2 arg3 harg3 arg5 harg5 arg9 arg10 arg12 arg22 arg23 arg24 x0 x1 x3) = W2 2080 128 0 0 (up (Pr.acc p.VT 2)) := by
  rw [sl.HS5_3]
  exact put2 p.VT _ (HS5_2 H) _ _ (by simp only [(r_30 H), (v538 H), (v539 H), k0_pay93, cast43, dot_vt, (acc_step p.VT 1 (k0 := 0) (q0 := 256) rfl rfl), Nat.reduceAdd, cast22]) rfl

theorem v566 : sl.v566 c arg2 harg2 arg3 harg3 arg5 harg5 arg9 arg10 arg12 arg22 arg23 arg24 x0 x1 x3 = W2 256 128 256 0 (up (Pr.acc p.VT 2)) := by
  rw [sl.v566]; exact read2 _ _ (HS5_3 H) _ rfl rfl

theorem v567 : sl.v567 c arg2 harg2 arg3 harg3 arg9 arg10 arg23 arg24 x0 x1 = W4 256 256 256 256 (up p.P8) := by
  rw [sl.v567, sl.HS7_3]
  exact (View.readCov_cons_toLoadRect _ _ _ _).trans (p7_3 H)

theorem HS5_4 : View.canon (sl.HS5_4 c arg2 harg2 arg3 harg3 arg5 harg5 arg9 arg10 arg12 arg22 arg23 arg24 x0 x1 x3) = W2 2080 128 0 0 (up (Pr.acc p.VT 3)) := by
  rw [sl.HS5_4]
  exact put2 p.VT _ (HS5_3 H) _ _ (by simp only [(r_30 H), (v566 H), (v567 H), k0_pay98, cast43, dot_vt, (acc_step p.VT 2 (k0 := 256) (q0 := 256) rfl rfl), Nat.reduceAdd, cast22]) rfl

theorem v773 : sl.v773 c arg2 harg2 arg3 harg3 arg5 harg5 arg9 arg10 arg12 arg22 arg23 arg24 x0 x1 x3 = W2 256 128 0 0 (up (Pr.acc p.VT 3)) := by
  rw [sl.v773]; exact read2 _ _ (HS5_4 H) _ rfl rfl

theorem v774 : sl.v774 c arg2 harg2 arg3 harg3 arg9 arg10 arg23 arg24 x0 x1 = W4 256 256 0 512 (up p.P8) := by
  rw [sl.v774, sl.HS7_6, skip4 _ _ _ _ _ (by decide), sl.HS7_5, skip4 _ _ _ _ _ (by decide), sl.HS7_4]
  exact (View.readCov_cons_toLoadRect _ _ _ _).trans (p7_4 H)

theorem HS5_5 : View.canon (sl.HS5_5 c arg2 harg2 arg3 harg3 arg5 harg5 arg9 arg10 arg12 arg22 arg23 arg24 x0 x1 x3) = W2 2080 128 0 0 (up (Pr.acc p.VT 4)) := by
  rw [sl.HS5_5]
  exact put2 p.VT _ (HS5_4 H) _ _ (by simp only [(r_45 H), (v773 H), (v774 H), k0_pay135, cast43, dot_vt, (acc_step p.VT 3 (k0 := 0) (q0 := 512) rfl rfl), Nat.reduceAdd, cast22]) rfl

theorem v801 : sl.v801 c arg2 harg2 arg3 harg3 arg5 harg5 arg9 arg10 arg12 arg22 arg23 arg24 x0 x1 x3 = W2 256 128 256 0 (up (Pr.acc p.VT 4)) := by
  rw [sl.v801]; exact read2 _ _ (HS5_5 H) _ rfl rfl

theorem v802 : sl.v802 c arg2 harg2 arg3 harg3 arg9 arg10 arg23 arg24 x0 x1 = W4 256 256 256 512 (up p.P8) := by
  rw [sl.v802, sl.HS7_6, skip4 _ _ _ _ _ (by decide), sl.HS7_5]
  exact (View.readCov_cons_toLoadRect _ _ _ _).trans (p7_5 H)

theorem HS5_6 : View.canon (sl.HS5_6 c arg2 harg2 arg3 harg3 arg5 harg5 arg9 arg10 arg12 arg22 arg23 arg24 x0 x1 x3) = W2 2080 128 0 0 (up (Pr.acc p.VT 5)) := by
  rw [sl.HS5_6]
  exact put2 p.VT _ (HS5_5 H) _ _ (by simp only [(r_45 H), (v801 H), (v802 H), k0_pay139, cast43, dot_vt, (acc_step p.VT 4 (k0 := 256) (q0 := 512) rfl rfl), Nat.reduceAdd, cast22]) rfl

theorem v830 : sl.v830 c arg2 harg2 arg3 harg3 arg5 harg5 arg9 arg10 arg12 arg22 arg23 arg24 x0 x1 x3 = W2 256 128 512 0 (up (Pr.acc p.VT 5)) := by
  rw [sl.v830]; exact read2 _ _ (HS5_6 H) _ rfl rfl

theorem v831 : sl.v831 c arg2 harg2 arg3 harg3 arg9 arg10 arg23 arg24 x0 x1 = W4 256 256 512 512 (up p.P8) := by
  rw [sl.v831, sl.HS7_6]
  exact (View.readCov_cons_toLoadRect _ _ _ _).trans (p7_6 H)

theorem HS5_7 : View.canon (sl.HS5_7 c arg2 harg2 arg3 harg3 arg5 harg5 arg9 arg10 arg12 arg22 arg23 arg24 x0 x1 x3) = W2 2080 128 0 0 (up (Pr.acc p.VT 6)) := by
  rw [sl.HS5_7]
  exact put2 p.VT _ (HS5_6 H) _ _ (by simp only [(r_45 H), (v830 H), (v831 H), k0_pay144, cast43, dot_vt, (acc_step p.VT 5 (k0 := 512) (q0 := 512) rfl rfl), Nat.reduceAdd, cast22]) rfl

theorem v1090 : sl.v1090 c arg2 harg2 arg3 harg3 arg5 harg5 arg9 arg10 arg12 arg22 arg23 arg24 x0 x1 x3 = W2 256 128 0 0 (up (Pr.acc p.VT 6)) := by
  rw [sl.v1090]; exact read2 _ _ (HS5_7 H) _ rfl rfl

theorem v1091 : sl.v1091 c arg2 harg2 arg3 harg3 arg9 arg10 arg23 arg24 x0 x1 = W4 256 256 0 768 (up p.P8) := by
  rw [sl.v1091, sl.HS7_10, skip4 _ _ _ _ _ (by decide), sl.HS7_9, skip4 _ _ _ _ _ (by decide), sl.HS7_8, skip4 _ _ _ _ _ (by decide), sl.HS7_7]
  exact (View.readCov_cons_toLoadRect _ _ _ _).trans (p7_7 H)

theorem HS5_8 : View.canon (sl.HS5_8 c arg2 harg2 arg3 harg3 arg5 harg5 arg9 arg10 arg12 arg22 arg23 arg24 x0 x1 x3) = W2 2080 128 0 0 (up (Pr.acc p.VT 7)) := by
  rw [sl.HS5_8]
  exact put2 p.VT _ (HS5_7 H) _ _ (by simp only [(r_63 H), (v1090 H), (v1091 H), k0_pay193, cast43, dot_vt, (acc_step p.VT 6 (k0 := 0) (q0 := 768) rfl rfl), Nat.reduceAdd, cast22]) rfl

theorem v1118 : sl.v1118 c arg2 harg2 arg3 harg3 arg5 harg5 arg9 arg10 arg12 arg22 arg23 arg24 x0 x1 x3 = W2 256 128 256 0 (up (Pr.acc p.VT 7)) := by
  rw [sl.v1118]; exact read2 _ _ (HS5_8 H) _ rfl rfl

theorem v1119 : sl.v1119 c arg2 harg2 arg3 harg3 arg9 arg10 arg23 arg24 x0 x1 = W4 256 256 256 768 (up p.P8) := by
  rw [sl.v1119, sl.HS7_10, skip4 _ _ _ _ _ (by decide), sl.HS7_9, skip4 _ _ _ _ _ (by decide), sl.HS7_8]
  exact (View.readCov_cons_toLoadRect _ _ _ _).trans (p7_8 H)

theorem HS5_9 : View.canon (sl.HS5_9 c arg2 harg2 arg3 harg3 arg5 harg5 arg9 arg10 arg12 arg22 arg23 arg24 x0 x1 x3) = W2 2080 128 0 0 (up (Pr.acc p.VT 8)) := by
  rw [sl.HS5_9]
  exact put2 p.VT _ (HS5_8 H) _ _ (by simp only [(r_63 H), (v1118 H), (v1119 H), k0_pay198, cast43, dot_vt, (acc_step p.VT 7 (k0 := 256) (q0 := 768) rfl rfl), Nat.reduceAdd, cast22]) rfl

theorem v1147 : sl.v1147 c arg2 harg2 arg3 harg3 arg5 harg5 arg9 arg10 arg12 arg22 arg23 arg24 x0 x1 x3 = W2 256 128 512 0 (up (Pr.acc p.VT 8)) := by
  rw [sl.v1147]; exact read2 _ _ (HS5_9 H) _ rfl rfl

theorem v1148 : sl.v1148 c arg2 harg2 arg3 harg3 arg9 arg10 arg23 arg24 x0 x1 = W4 256 256 512 768 (up p.P8) := by
  rw [sl.v1148, sl.HS7_10, skip4 _ _ _ _ _ (by decide), sl.HS7_9]
  exact (View.readCov_cons_toLoadRect _ _ _ _).trans (p7_9 H)

theorem HS5_10 : View.canon (sl.HS5_10 c arg2 harg2 arg3 harg3 arg5 harg5 arg9 arg10 arg12 arg22 arg23 arg24 x0 x1 x3) = W2 2080 128 0 0 (up (Pr.acc p.VT 9)) := by
  rw [sl.HS5_10]
  exact put2 p.VT _ (HS5_9 H) _ _ (by simp only [(r_63 H), (v1147 H), (v1148 H), k0_pay203, cast43, dot_vt, (acc_step p.VT 8 (k0 := 512) (q0 := 768) rfl rfl), Nat.reduceAdd, cast22]) rfl

theorem v1176 : sl.v1176 c arg2 harg2 arg3 harg3 arg5 harg5 arg9 arg10 arg12 arg22 arg23 arg24 x0 x1 x3 = W2 256 128 768 0 (up (Pr.acc p.VT 9)) := by
  rw [sl.v1176]; exact read2 _ _ (HS5_10 H) _ rfl rfl

theorem v1177 : sl.v1177 c arg2 harg2 arg3 harg3 arg9 arg10 arg23 arg24 x0 x1 = W4 256 256 768 768 (up p.P8) := by
  rw [sl.v1177, sl.HS7_10]
  exact (View.readCov_cons_toLoadRect _ _ _ _).trans (p7_10 H)

theorem HS5_11 : View.canon (sl.HS5_11 c arg2 harg2 arg3 harg3 arg5 harg5 arg9 arg10 arg12 arg22 arg23 arg24 x0 x1 x3) = W2 2080 128 0 0 (up (Pr.acc p.VT 10)) := by
  rw [sl.HS5_11]
  exact put2 p.VT _ (HS5_10 H) _ _ (by simp only [(r_63 H), (v1176 H), (v1177 H), k0_pay208, cast43, dot_vt, (acc_step p.VT 9 (k0 := 768) (q0 := 768) rfl rfl), Nat.reduceAdd, cast22]) rfl

theorem v1471 : sl.v1471 c arg2 harg2 arg3 harg3 arg5 harg5 arg9 arg10 arg12 arg22 arg23 arg24 x0 x1 x3 = W2 256 128 25 0 (up (Pr.acc p.VT 10)) := by
  rw [sl.v1471]; exact read2 _ _ (HS5_11 H) _ rfl rfl

theorem v1472 : sl.v1472 c arg2 harg2 arg3 harg3 arg9 arg10 arg23 arg24 arg25 arg26 x0 x1 = W4 256 256 25 1024 (up p.P8) := by
  rw [sl.v1472, sl.HS7_15, skip4 _ _ _ _ _ (by decide), sl.HS7_14, skip4 _ _ _ _ _ (by decide), sl.HS7_13, skip4 _ _ _ _ _ (by decide), sl.HS7_12, skip4 _ _ _ _ _ (by decide), sl.HS7_11]
  exact (View.readCov_cons_toLoadRect _ _ _ _).trans (p7_11 H)

theorem HS5_12 : View.canon (sl.HS5_12 c arg2 harg2 arg3 harg3 arg5 harg5 arg9 arg10 arg12 arg22 arg23 arg24 arg25 arg26 x0 x1 x3) = W2 2080 128 0 0 (up (Pr.acc p.VT 11)) := by
  rw [sl.HS5_12]
  exact put2 p.VT _ (HS5_11 H) _ _ (by simp only [(r_90 H), (v1471 H), (v1472 H), k0_pay261, cast43, dot_vt, (acc_step p.VT 10 (k0 := 25) (q0 := 1024) rfl rfl), Nat.reduceAdd, cast22]) rfl

theorem v1496 : sl.v1496 c arg2 harg2 arg3 harg3 arg5 harg5 arg9 arg10 arg12 arg22 arg23 arg24 arg25 arg26 x0 x1 x3 = W2 256 128 281 0 (up (Pr.acc p.VT 11)) := by
  rw [sl.v1496]; exact read2 _ _ (HS5_12 H) _ rfl rfl

theorem v1497 : sl.v1497 c arg2 harg2 arg3 harg3 arg9 arg10 arg23 arg24 arg25 arg26 x0 x1 = W4 256 256 281 1024 (up p.P8) := by
  rw [sl.v1497, sl.HS7_15, skip4 _ _ _ _ _ (by decide), sl.HS7_14, skip4 _ _ _ _ _ (by decide), sl.HS7_13, skip4 _ _ _ _ _ (by decide), sl.HS7_12]
  exact (View.readCov_cons_toLoadRect _ _ _ _).trans (p7_12 H)

theorem r_109 : sl.r_109 c arg2 harg2 arg3 harg3 arg5 harg5 arg9 arg10 arg12 arg22 arg23 arg24 arg25 arg26 x0 x1 x3 = W2 256 128 281 0 (up (Pr.acc p.VT 12)) := by
  simp only [sl.r_109, (r_90 H), (v1496 H), (v1497 H), k0_pay265, cast43, dot_vt, (acc_step p.VT 11 (k0 := 281) (q0 := 1024) rfl rfl), Nat.reduceAdd]

theorem HS5_13 : View.canon (sl.HS5_13 c arg2 harg2 arg3 harg3 arg5 harg5 arg9 arg10 arg12 arg22 arg23 arg24 arg25 arg26 x0 x1 x3) = W2 2080 128 0 0 (up (Pr.acc p.VT 12)) := by
  rw [sl.HS5_13]
  exact put2 p.VT _ (HS5_12 H) _ _ (by simp only [(r_109 H), k0_pay266, cast22]) rfl

theorem v1522 : sl.v1522 c arg2 harg2 arg3 harg3 arg5 harg5 arg9 arg10 arg12 arg22 arg23 arg24 arg25 arg26 x0 x1 x3 = W2 256 128 537 0 (up (Pr.acc p.VT 12)) := by
  rw [sl.v1522]; exact read2 _ _ (HS5_13 H) _ rfl rfl

theorem v1523 : sl.v1523 c arg2 harg2 arg3 harg3 arg9 arg10 arg23 arg24 arg25 arg26 x0 x1 = W4 256 256 537 1024 (up p.P8) := by
  rw [sl.v1523, sl.HS7_15, skip4 _ _ _ _ _ (by decide), sl.HS7_14, skip4 _ _ _ _ _ (by decide), sl.HS7_13]
  exact (View.readCov_cons_toLoadRect _ _ _ _).trans (p7_13 H)

theorem HS5_14 : View.canon (sl.HS5_14 c arg2 harg2 arg3 harg3 arg5 harg5 arg9 arg10 arg12 arg22 arg23 arg24 arg25 arg26 x0 x1 x3) = W2 2080 128 0 0 (up (Pr.acc p.VT 13)) := by
  rw [sl.HS5_14]
  exact put2 p.VT _ (HS5_13 H) _ _ (by simp only [(r_90 H), (v1522 H), (v1523 H), k0_pay270, cast43, dot_vt, (acc_step p.VT 12 (k0 := 537) (q0 := 1024) rfl rfl), Nat.reduceAdd, cast22]) rfl

theorem v1548 : sl.v1548 c arg2 harg2 arg3 harg3 arg5 harg5 arg9 arg10 arg12 arg22 arg23 arg24 arg25 arg26 x0 x1 x3 = W2 256 128 793 0 (up (Pr.acc p.VT 13)) := by
  rw [sl.v1548]; exact read2 _ _ (HS5_14 H) _ rfl rfl

theorem v1549 : sl.v1549 c arg2 harg2 arg3 harg3 arg9 arg10 arg23 arg24 arg25 arg26 x0 x1 = W4 256 256 793 1024 (up p.P8) := by
  rw [sl.v1549, sl.HS7_15, skip4 _ _ _ _ _ (by decide), sl.HS7_14]
  exact (View.readCov_cons_toLoadRect _ _ _ _).trans (p7_14 H)

theorem HS5_15 : View.canon (sl.HS5_15 c arg2 harg2 arg3 harg3 arg5 harg5 arg9 arg10 arg12 arg22 arg23 arg24 arg25 arg26 x0 x1 x3) = W2 2080 128 0 0 (up (Pr.acc p.VT 14)) := by
  rw [sl.HS5_15]
  exact put2 p.VT _ (HS5_14 H) _ _ (by simp only [(r_90 H), (v1548 H), (v1549 H), k0_pay274, cast43, dot_vt, (acc_step p.VT 13 (k0 := 793) (q0 := 1024) rfl rfl), Nat.reduceAdd, cast22]) rfl

theorem v1574 : sl.v1574 c arg2 harg2 arg3 harg3 arg5 harg5 arg9 arg10 arg12 arg22 arg23 arg24 arg25 arg26 x0 x1 x3 = W2 256 128 1049 0 (up (Pr.acc p.VT 14)) := by
  rw [sl.v1574]; exact read2 _ _ (HS5_15 H) _ rfl rfl

theorem v1575 : sl.v1575 c arg2 harg2 arg3 harg3 arg9 arg10 arg23 arg24 arg25 arg26 x0 x1 = W4 256 256 1049 1024 (up p.P8) := by
  rw [sl.v1575, sl.HS7_15]
  exact (View.readCov_cons_toLoadRect _ _ _ _).trans (p7_15 H)

theorem HS5_16 : View.canon (sl.HS5_16 c arg2 harg2 arg3 harg3 arg5 harg5 arg9 arg10 arg12 arg22 arg23 arg24 arg25 arg26 x0 x1 x3) = W2 2080 128 0 0 (up (Pr.acc p.VT 15)) := by
  rw [sl.HS5_16]
  exact put2 p.VT _ (HS5_15 H) _ _ (by simp only [(r_90 H), (v1574 H), (v1575 H), k0_pay279, cast43, dot_vt, (acc_step p.VT 14 (k0 := 1049) (q0 := 1024) rfl rfl), Nat.reduceAdd, cast22]) rfl

theorem v1869 : sl.v1869 c arg2 harg2 arg3 harg3 arg5 harg5 arg9 arg10 arg12 arg22 arg23 arg24 arg25 arg26 x0 x1 x3 = W2 256 128 281 0 (up (Pr.acc p.VT 15)) := by
  rw [sl.v1869]; exact read2 _ _ (HS5_16 H) _ rfl rfl

theorem v1870 : sl.v1870 c arg2 harg2 arg3 harg3 arg9 arg10 arg23 arg24 arg25 arg26 x0 x1 = W4 256 256 281 1280 (up p.P8) := by
  rw [sl.v1870, sl.HS7_20, skip4 _ _ _ _ _ (by decide), sl.HS7_19, skip4 _ _ _ _ _ (by decide), sl.HS7_18, skip4 _ _ _ _ _ (by decide), sl.HS7_17, skip4 _ _ _ _ _ (by decide), sl.HS7_16]
  exact (View.readCov_cons_toLoadRect _ _ _ _).trans (p7_16 H)

theorem HS5_17 : View.canon (sl.HS5_17 c arg2 harg2 arg3 harg3 arg5 harg5 arg9 arg10 arg12 arg22 arg23 arg24 arg25 arg26 x0 x1 x3) = W2 2080 128 0 0 (up (Pr.acc p.VT 16)) := by
  rw [sl.HS5_17]
  exact put2 p.VT _ (HS5_16 H) _ _ (by simp only [(r_118 H), (v1869 H), (v1870 H), k0_pay333, cast43, dot_vt, (acc_step p.VT 15 (k0 := 281) (q0 := 1280) rfl rfl), Nat.reduceAdd, cast22]) rfl

theorem v1894 : sl.v1894 c arg2 harg2 arg3 harg3 arg5 harg5 arg9 arg10 arg12 arg22 arg23 arg24 arg25 arg26 x0 x1 x3 = W2 256 128 537 0 (up (Pr.acc p.VT 16)) := by
  rw [sl.v1894]; exact read2 _ _ (HS5_17 H) _ rfl rfl

theorem v1895 : sl.v1895 c arg2 harg2 arg3 harg3 arg9 arg10 arg23 arg24 arg25 arg26 x0 x1 = W4 256 256 537 1280 (up p.P8) := by
  rw [sl.v1895, sl.HS7_20, skip4 _ _ _ _ _ (by decide), sl.HS7_19, skip4 _ _ _ _ _ (by decide), sl.HS7_18, skip4 _ _ _ _ _ (by decide), sl.HS7_17]
  exact (View.readCov_cons_toLoadRect _ _ _ _).trans (p7_17 H)

theorem HS5_18 : View.canon (sl.HS5_18 c arg2 harg2 arg3 harg3 arg5 harg5 arg9 arg10 arg12 arg22 arg23 arg24 arg25 arg26 x0 x1 x3) = W2 2080 128 0 0 (up (Pr.acc p.VT 17)) := by
  rw [sl.HS5_18]
  exact put2 p.VT _ (HS5_17 H) _ _ (by simp only [(r_118 H), (v1894 H), (v1895 H), k0_pay337, cast43, dot_vt, (acc_step p.VT 16 (k0 := 537) (q0 := 1280) rfl rfl), Nat.reduceAdd, cast22]) rfl

theorem v1920 : sl.v1920 c arg2 harg2 arg3 harg3 arg5 harg5 arg9 arg10 arg12 arg22 arg23 arg24 arg25 arg26 x0 x1 x3 = W2 256 128 793 0 (up (Pr.acc p.VT 17)) := by
  rw [sl.v1920]; exact read2 _ _ (HS5_18 H) _ rfl rfl

theorem v1921 : sl.v1921 c arg2 harg2 arg3 harg3 arg9 arg10 arg23 arg24 arg25 arg26 x0 x1 = W4 256 256 793 1280 (up p.P8) := by
  rw [sl.v1921, sl.HS7_20, skip4 _ _ _ _ _ (by decide), sl.HS7_19, skip4 _ _ _ _ _ (by decide), sl.HS7_18]
  exact (View.readCov_cons_toLoadRect _ _ _ _).trans (p7_18 H)

theorem HS5_19 : View.canon (sl.HS5_19 c arg2 harg2 arg3 harg3 arg5 harg5 arg9 arg10 arg12 arg22 arg23 arg24 arg25 arg26 x0 x1 x3) = W2 2080 128 0 0 (up (Pr.acc p.VT 18)) := by
  rw [sl.HS5_19]
  exact put2 p.VT _ (HS5_18 H) _ _ (by simp only [(r_118 H), (v1920 H), (v1921 H), k0_pay342, cast43, dot_vt, (acc_step p.VT 17 (k0 := 793) (q0 := 1280) rfl rfl), Nat.reduceAdd, cast22]) rfl

theorem v1946 : sl.v1946 c arg2 harg2 arg3 harg3 arg5 harg5 arg9 arg10 arg12 arg22 arg23 arg24 arg25 arg26 x0 x1 x3 = W2 256 128 1049 0 (up (Pr.acc p.VT 18)) := by
  rw [sl.v1946]; exact read2 _ _ (HS5_19 H) _ rfl rfl

theorem v1947 : sl.v1947 c arg2 harg2 arg3 harg3 arg9 arg10 arg23 arg24 arg25 arg26 x0 x1 = W4 256 256 1049 1280 (up p.P8) := by
  rw [sl.v1947, sl.HS7_20, skip4 _ _ _ _ _ (by decide), sl.HS7_19]
  exact (View.readCov_cons_toLoadRect _ _ _ _).trans (p7_19 H)

theorem HS5_20 : View.canon (sl.HS5_20 c arg2 harg2 arg3 harg3 arg5 harg5 arg9 arg10 arg12 arg22 arg23 arg24 arg25 arg26 x0 x1 x3) = W2 2080 128 0 0 (up (Pr.acc p.VT 19)) := by
  rw [sl.HS5_20]
  exact put2 p.VT _ (HS5_19 H) _ _ (by simp only [(r_118 H), (v1946 H), (v1947 H), k0_pay346, cast43, dot_vt, (acc_step p.VT 18 (k0 := 1049) (q0 := 1280) rfl rfl), Nat.reduceAdd, cast22]) rfl

theorem v1972 : sl.v1972 c arg2 harg2 arg3 harg3 arg5 harg5 arg9 arg10 arg12 arg22 arg23 arg24 arg25 arg26 x0 x1 x3 = W2 256 128 1305 0 (up (Pr.acc p.VT 19)) := by
  rw [sl.v1972]; exact read2 _ _ (HS5_20 H) _ rfl rfl

theorem v1973 : sl.v1973 c arg2 harg2 arg3 harg3 arg9 arg10 arg23 arg24 arg25 arg26 x0 x1 = W4 256 256 1305 1280 (up p.P8) := by
  rw [sl.v1973, sl.HS7_20]
  exact (View.readCov_cons_toLoadRect _ _ _ _).trans (p7_20 H)

theorem HS5_21 : View.canon (sl.HS5_21 c arg2 harg2 arg3 harg3 arg5 harg5 arg9 arg10 arg12 arg22 arg23 arg24 arg25 arg26 x0 x1 x3) = W2 2080 128 0 0 (up (Pr.acc p.VT 20)) := by
  rw [sl.HS5_21]
  exact put2 p.VT _ (HS5_20 H) _ _ (by simp only [(r_118 H), (v1972 H), (v1973 H), k0_pay350, cast43, dot_vt, (acc_step p.VT 19 (k0 := 1305) (q0 := 1280) rfl rfl), Nat.reduceAdd, cast22]) rfl

theorem v2267 : sl.v2267 c arg2 harg2 arg3 harg3 arg5 harg5 arg9 arg10 arg12 arg22 arg23 arg24 arg25 arg26 x0 x1 x3 = W2 256 128 537 0 (up (Pr.acc p.VT 20)) := by
  rw [sl.v2267]; exact read2 _ _ (HS5_21 H) _ rfl rfl

theorem v2268 : sl.v2268 c arg2 harg2 arg3 harg3 arg9 arg10 arg23 arg24 arg25 arg26 x0 x1 = W4 256 256 537 1536 (up p.P8) := by
  rw [sl.v2268, sl.HS7_25, skip4 _ _ _ _ _ (by decide), sl.HS7_24, skip4 _ _ _ _ _ (by decide), sl.HS7_23, skip4 _ _ _ _ _ (by decide), sl.HS7_22, skip4 _ _ _ _ _ (by decide), sl.HS7_21]
  exact (View.readCov_cons_toLoadRect _ _ _ _).trans (p7_21 H)

theorem r_161 : sl.r_161 c arg2 harg2 arg3 harg3 arg5 harg5 arg9 arg10 arg12 arg22 arg23 arg24 arg25 arg26 x0 x1 x3 = W2 256 128 537 0 (up (Pr.acc p.VT 21)) := by
  simp only [sl.r_161, (r_143 H), (v2267 H), (v2268 H), k0_pay405, cast43, dot_vt, (acc_step p.VT 20 (k0 := 537) (q0 := 1536) rfl rfl), Nat.reduceAdd]

theorem HS5_22 : View.canon (sl.HS5_22 c arg2 harg2 arg3 harg3 arg5 harg5 arg9 arg10 arg12 arg22 arg23 arg24 arg25 arg26 x0 x1 x3) = W2 2080 128 0 0 (up (Pr.acc p.VT 21)) := by
  rw [sl.HS5_22]
  exact put2 p.VT _ (HS5_21 H) _ _ (by simp only [(r_161 H), k0_pay406, cast22]) rfl

theorem v2292 : sl.v2292 c arg2 harg2 arg3 harg3 arg5 harg5 arg9 arg10 arg12 arg22 arg23 arg24 arg25 arg26 x0 x1 x3 = W2 256 128 793 0 (up (Pr.acc p.VT 21)) := by
  rw [sl.v2292]; exact read2 _ _ (HS5_22 H) _ rfl rfl

theorem v2293 : sl.v2293 c arg2 harg2 arg3 harg3 arg9 arg10 arg23 arg24 arg25 arg26 x0 x1 = W4 256 256 793 1536 (up p.P8) := by
  rw [sl.v2293, sl.HS7_25, skip4 _ _ _ _ _ (by decide), sl.HS7_24, skip4 _ _ _ _ _ (by decide), sl.HS7_23, skip4 _ _ _ _ _ (by decide), sl.HS7_22]
  exact (View.readCov_cons_toLoadRect _ _ _ _).trans (p7_22 H)

theorem HS5_23 : View.canon (sl.HS5_23 c arg2 harg2 arg3 harg3 arg5 harg5 arg9 arg10 arg12 arg22 arg23 arg24 arg25 arg26 x0 x1 x3) = W2 2080 128 0 0 (up (Pr.acc p.VT 22)) := by
  rw [sl.HS5_23]
  exact put2 p.VT _ (HS5_22 H) _ _ (by simp only [(r_143 H), (v2292 H), (v2293 H), k0_pay410, cast43, dot_vt, (acc_step p.VT 21 (k0 := 793) (q0 := 1536) rfl rfl), Nat.reduceAdd, cast22]) rfl

theorem v2318 : sl.v2318 c arg2 harg2 arg3 harg3 arg5 harg5 arg9 arg10 arg12 arg22 arg23 arg24 arg25 arg26 x0 x1 x3 = W2 256 128 1049 0 (up (Pr.acc p.VT 22)) := by
  rw [sl.v2318]; exact read2 _ _ (HS5_23 H) _ rfl rfl

theorem v2319 : sl.v2319 c arg2 harg2 arg3 harg3 arg9 arg10 arg23 arg24 arg25 arg26 x0 x1 = W4 256 256 1049 1536 (up p.P8) := by
  rw [sl.v2319, sl.HS7_25, skip4 _ _ _ _ _ (by decide), sl.HS7_24, skip4 _ _ _ _ _ (by decide), sl.HS7_23]
  exact (View.readCov_cons_toLoadRect _ _ _ _).trans (p7_23 H)

theorem HS5_24 : View.canon (sl.HS5_24 c arg2 harg2 arg3 harg3 arg5 harg5 arg9 arg10 arg12 arg22 arg23 arg24 arg25 arg26 x0 x1 x3) = W2 2080 128 0 0 (up (Pr.acc p.VT 23)) := by
  rw [sl.HS5_24]
  exact put2 p.VT _ (HS5_23 H) _ _ (by simp only [(r_143 H), (v2318 H), (v2319 H), k0_pay414, cast43, dot_vt, (acc_step p.VT 22 (k0 := 1049) (q0 := 1536) rfl rfl), Nat.reduceAdd, cast22]) rfl

theorem v2344 : sl.v2344 c arg2 harg2 arg3 harg3 arg5 harg5 arg9 arg10 arg12 arg22 arg23 arg24 arg25 arg26 x0 x1 x3 = W2 256 128 1305 0 (up (Pr.acc p.VT 23)) := by
  rw [sl.v2344]; exact read2 _ _ (HS5_24 H) _ rfl rfl

theorem v2345 : sl.v2345 c arg2 harg2 arg3 harg3 arg9 arg10 arg23 arg24 arg25 arg26 x0 x1 = W4 256 256 1305 1536 (up p.P8) := by
  rw [sl.v2345, sl.HS7_25, skip4 _ _ _ _ _ (by decide), sl.HS7_24]
  exact (View.readCov_cons_toLoadRect _ _ _ _).trans (p7_24 H)

theorem HS5_25 : View.canon (sl.HS5_25 c arg2 harg2 arg3 harg3 arg5 harg5 arg9 arg10 arg12 arg22 arg23 arg24 arg25 arg26 x0 x1 x3) = W2 2080 128 0 0 (up (Pr.acc p.VT 24)) := by
  rw [sl.HS5_25]
  exact put2 p.VT _ (HS5_24 H) _ _ (by simp only [(r_143 H), (v2344 H), (v2345 H), k0_pay419, cast43, dot_vt, (acc_step p.VT 23 (k0 := 1305) (q0 := 1536) rfl rfl), Nat.reduceAdd, cast22]) rfl

theorem v2370 : sl.v2370 c arg2 harg2 arg3 harg3 arg5 harg5 arg9 arg10 arg12 arg22 arg23 arg24 arg25 arg26 x0 x1 x3 = W2 256 128 1561 0 (up (Pr.acc p.VT 24)) := by
  rw [sl.v2370]; exact read2 _ _ (HS5_25 H) _ rfl rfl

theorem v2371 : sl.v2371 c arg2 harg2 arg3 harg3 arg9 arg10 arg23 arg24 arg25 arg26 x0 x1 = W4 256 256 1561 1536 (up p.P8) := by
  rw [sl.v2371, sl.HS7_25]
  exact (View.readCov_cons_toLoadRect _ _ _ _).trans (p7_25 H)

theorem HS5_26 : View.canon (sl.HS5_26 c arg2 harg2 arg3 harg3 arg5 harg5 arg9 arg10 arg12 arg22 arg23 arg24 arg25 arg26 x0 x1 x3) = W2 2080 128 0 0 (up (Pr.acc p.VT 25)) := by
  rw [sl.HS5_26]
  exact put2 p.VT _ (HS5_25 H) _ _ (by simp only [(r_143 H), (v2370 H), (v2371 H), k0_pay422, cast43, dot_vt, (acc_step p.VT 24 (k0 := 1561) (q0 := 1536) rfl rfl), Nat.reduceAdd, cast22]) rfl

theorem v2665 : sl.v2665 c arg2 harg2 arg3 harg3 arg5 harg5 arg9 arg10 arg12 arg22 arg23 arg24 arg25 arg26 x0 x1 x3 = W2 256 128 793 0 (up (Pr.acc p.VT 25)) := by
  rw [sl.v2665]; exact read2 _ _ (HS5_26 H) _ rfl rfl

theorem v2666 : sl.v2666 c arg2 harg2 arg3 harg3 arg9 arg10 arg23 arg24 arg25 arg26 x0 x1 = W4 256 256 793 1792 (up p.P8) := by
  rw [sl.v2666, sl.HS7_30, skip4 _ _ _ _ _ (by decide), sl.HS7_29, skip4 _ _ _ _ _ (by decide), sl.HS7_28, skip4 _ _ _ _ _ (by decide), sl.HS7_27, skip4 _ _ _ _ _ (by decide), sl.HS7_26]
  exact (View.readCov_cons_toLoadRect _ _ _ _).trans (p7_26 H)

theorem HS5_27 : View.canon (sl.HS5_27 c arg2 harg2 arg3 harg3 arg5 harg5 arg9 arg10 arg12 arg22 arg23 arg24 arg25 arg26 x0 x1 x3) = W2 2080 128 0 0 (up (Pr.acc p.VT 26)) := by
  rw [sl.HS5_27]
  exact put2 p.VT _ (HS5_26 H) _ _ (by simp only [(r_171 H), (v2665 H), (v2666 H), k0_pay480, cast43, dot_vt, (acc_step p.VT 25 (k0 := 793) (q0 := 1792) rfl rfl), Nat.reduceAdd, cast22]) rfl

theorem v2690 : sl.v2690 c arg2 harg2 arg3 harg3 arg5 harg5 arg9 arg10 arg12 arg22 arg23 arg24 arg25 arg26 x0 x1 x3 = W2 256 128 1049 0 (up (Pr.acc p.VT 26)) := by
  rw [sl.v2690]; exact read2 _ _ (HS5_27 H) _ rfl rfl

theorem v2691 : sl.v2691 c arg2 harg2 arg3 harg3 arg9 arg10 arg23 arg24 arg25 arg26 x0 x1 = W4 256 256 1049 1792 (up p.P8) := by
  rw [sl.v2691, sl.HS7_30, skip4 _ _ _ _ _ (by decide), sl.HS7_29, skip4 _ _ _ _ _ (by decide), sl.HS7_28, skip4 _ _ _ _ _ (by decide), sl.HS7_27]
  exact (View.readCov_cons_toLoadRect _ _ _ _).trans (p7_27 H)

theorem HS5_28 : View.canon (sl.HS5_28 c arg2 harg2 arg3 harg3 arg5 harg5 arg9 arg10 arg12 arg22 arg23 arg24 arg25 arg26 x0 x1 x3) = W2 2080 128 0 0 (up (Pr.acc p.VT 27)) := by
  rw [sl.HS5_28]
  exact put2 p.VT _ (HS5_27 H) _ _ (by simp only [(r_171 H), (v2690 H), (v2691 H), k0_pay487, cast43, dot_vt, (acc_step p.VT 26 (k0 := 1049) (q0 := 1792) rfl rfl), Nat.reduceAdd, cast22]) rfl

theorem v2716 : sl.v2716 c arg2 harg2 arg3 harg3 arg5 harg5 arg9 arg10 arg12 arg22 arg23 arg24 arg25 arg26 x0 x1 x3 = W2 256 128 1305 0 (up (Pr.acc p.VT 27)) := by
  rw [sl.v2716]; exact read2 _ _ (HS5_28 H) _ rfl rfl

theorem v2717 : sl.v2717 c arg2 harg2 arg3 harg3 arg9 arg10 arg23 arg24 arg25 arg26 x0 x1 = W4 256 256 1305 1792 (up p.P8) := by
  rw [sl.v2717, sl.HS7_30, skip4 _ _ _ _ _ (by decide), sl.HS7_29, skip4 _ _ _ _ _ (by decide), sl.HS7_28]
  exact (View.readCov_cons_toLoadRect _ _ _ _).trans (p7_28 H)

theorem HS5_29 : View.canon (sl.HS5_29 c arg2 harg2 arg3 harg3 arg5 harg5 arg9 arg10 arg12 arg22 arg23 arg24 arg25 arg26 x0 x1 x3) = W2 2080 128 0 0 (up (Pr.acc p.VT 28)) := by
  rw [sl.HS5_29]
  exact put2 p.VT _ (HS5_28 H) _ _ (by simp only [(r_171 H), (v2716 H), (v2717 H), k0_pay491, cast43, dot_vt, (acc_step p.VT 27 (k0 := 1305) (q0 := 1792) rfl rfl), Nat.reduceAdd, cast22]) rfl

theorem v2742 : sl.v2742 c arg2 harg2 arg3 harg3 arg5 harg5 arg9 arg10 arg12 arg22 arg23 arg24 arg25 arg26 x0 x1 x3 = W2 256 128 1561 0 (up (Pr.acc p.VT 28)) := by
  rw [sl.v2742]; exact read2 _ _ (HS5_29 H) _ rfl rfl

theorem v2743 : sl.v2743 c arg2 harg2 arg3 harg3 arg9 arg10 arg23 arg24 arg25 arg26 x0 x1 = W4 256 256 1561 1792 (up p.P8) := by
  rw [sl.v2743, sl.HS7_30, skip4 _ _ _ _ _ (by decide), sl.HS7_29]
  exact (View.readCov_cons_toLoadRect _ _ _ _).trans (p7_29 H)

theorem r_197 : sl.r_197 c arg2 harg2 arg3 harg3 arg9 arg10 arg23 arg24 arg25 arg26 x0 x1 = W2 256 256 1561 1792 (up p.P8) := by
  simp only [sl.r_197, (v2743 H), k0_pay495, cast43]

theorem HS5_30 : View.canon (sl.HS5_30 c arg2 harg2 arg3 harg3 arg5 harg5 arg9 arg10 arg12 arg22 arg23 arg24 arg25 arg26 x0 x1 x3) = W2 2080 128 0 0 (up (Pr.acc p.VT 29)) := by
  rw [sl.HS5_30]
  exact put2 p.VT _ (HS5_29 H) _ _ (by simp only [(r_171 H), (v2742 H), (r_197 H), k0_pay496, dot_vt, (acc_step p.VT 28 (k0 := 1561) (q0 := 1792) rfl rfl), Nat.reduceAdd, cast22]) rfl

theorem v2768 : sl.v2768 c arg2 harg2 arg3 harg3 arg5 harg5 arg9 arg10 arg12 arg22 arg23 arg24 arg25 arg26 x0 x1 x3 = W2 256 128 1817 0 (up (Pr.acc p.VT 29)) := by
  rw [sl.v2768]; exact read2 _ _ (HS5_30 H) _ rfl rfl

theorem v2769 : sl.v2769 c arg2 harg2 arg3 harg3 arg9 arg10 arg23 arg24 arg25 arg26 x0 x1 = W4 256 256 1817 1792 (up p.P8) := by
  rw [sl.v2769, sl.HS7_30]
  exact (View.readCov_cons_toLoadRect _ _ _ _).trans (p7_30 H)

theorem r_200 : sl.r_200 c arg2 harg2 arg3 harg3 arg5 harg5 arg9 arg10 arg12 arg22 arg23 arg24 arg25 arg26 x0 x1 x3 = W2 256 128 1817 0 (up (Pr.acc p.VT 30)) := by
  simp only [sl.r_200, (r_171 H), (v2768 H), (v2769 H), k0_pay500, cast43, dot_vt, (acc_step p.VT 29 (k0 := 1817) (q0 := 1792) rfl rfl), Nat.reduceAdd]

theorem HS5_31 : View.canon (sl.HS5_31 c arg2 harg2 arg3 harg3 arg5 harg5 arg9 arg10 arg12 arg22 arg23 arg24 arg25 arg26 x0 x1 x3) = W2 2080 128 0 0 (up (Pr.acc p.VT 30)) := by
  rw [sl.HS5_31]
  exact put2 p.VT _ (HS5_30 H) _ _ (by simp only [(r_200 H), k0_pay501, cast22]) rfl

theorem v1486 : sl.v1486 c arg3 harg3 arg25 arg26 arg28 x1 = W2 128 256 0 25 (up fun d k => p.K k d) := by
  rw [sl.v1486]; exact read2 _ _ (HS11_1 H) _ rfl rfl

theorem r_107 : sl.r_107 c arg2 harg2 arg3 harg3 arg4 harg4 arg5 harg5 arg9 arg10 arg12 arg20 arg23 arg24 arg25 arg26 arg27 arg28 arg29 x0 x1 x2 x3 = W2 128 256 0 1024 (up (p.G [25])) := by
  simp only [sl.r_107, (r_106 H), (v1486 H), k0_pay263, dot_g]

theorem v1511 : sl.v1511 c arg3 harg3 arg25 arg26 arg28 x1 = W2 128 256 0 281 (up fun d k => p.K k d) := by
  rw [sl.v1511]; exact read2 _ _ (HS11_1 H) _ rfl rfl

theorem r_110 : sl.r_110 c arg2 harg2 arg3 harg3 arg4 harg4 arg5 harg5 arg9 arg10 arg12 arg20 arg23 arg24 arg25 arg26 arg27 arg28 arg29 x0 x1 x2 x3 = W2 128 256 0 1024 (up (p.G [25, 281])) := by
  simp only [sl.r_110, (r_107 H), (r_108 H), (v1511 H), k0_pay268, dot_g, add_g, List.cons_append, List.nil_append]

theorem v1537 : sl.v1537 c arg3 harg3 arg25 arg26 arg28 x1 = W2 128 256 0 537 (up fun d k => p.K k d) := by
  rw [sl.v1537]; exact read2 _ _ (HS11_1 H) _ rfl rfl

theorem r_112 : sl.r_112 c arg2 harg2 arg3 harg3 arg4 harg4 arg5 harg5 arg9 arg10 arg12 arg20 arg23 arg24 arg25 arg26 arg27 arg28 arg29 x0 x1 x2 x3 = W2 128 256 0 1024 (up (p.G [25, 281, 537])) := by
  simp only [sl.r_112, (r_110 H), (r_111 H), (v1537 H), k0_pay272, dot_g, add_g, List.cons_append, List.nil_append]

theorem r_113 : sl.r_113 c arg2 harg2 arg3 harg3 arg4 harg4 arg5 harg5 arg9 arg10 arg12 arg20 arg23 arg24 arg25 arg26 arg27 arg29 x0 x1 x2 x3 = W2 256 256 793 1024 (up p.DS) := by
  simp only [sl.r_113, (r_90 H), (r_105 H), (v1540 H), (v1542 H), k0_pay273, dot_dp, cast43, bcast_row, sub_dp, mul_ds, trunc_id]

theorem v1563 : sl.v1563 c arg3 harg3 arg25 arg26 arg28 x1 = W2 128 256 0 793 (up fun d k => p.K k d) := by
  rw [sl.v1563]; exact read2 _ _ (HS11_1 H) _ rfl rfl

theorem r_115 : sl.r_115 c arg2 harg2 arg3 harg3 arg4 harg4 arg5 harg5 arg9 arg10 arg12 arg20 arg23 arg24 arg25 arg26 arg27 arg28 arg29 x0 x1 x2 x3 = W2 128 256 0 1024 (up (p.G [25, 281, 537, 793])) := by
  simp only [sl.r_115, (r_112 H), (r_113 H), (v1563 H), k0_pay277, dot_g, add_g, List.cons_append, List.nil_append]

theorem r_116 : sl.r_116 c arg2 harg2 arg3 harg3 arg4 harg4 arg5 harg5 arg9 arg10 arg12 arg20 arg23 arg24 arg25 arg26 arg27 arg29 x0 x1 x2 x3 = W2 256 256 1049 1024 (up p.DS) := by
  simp only [sl.r_116, (r_90 H), (r_105 H), (v1566 H), (v1568 H), k0_pay278, dot_dp, cast43, bcast_row, sub_dp, mul_ds, trunc_id]

theorem r_135 : sl.r_135 c arg2 harg2 arg3 harg3 arg4 harg4 arg5 harg5 arg9 arg10 arg12 arg20 arg23 arg24 arg25 arg26 arg27 arg28 arg29 x0 x1 x2 x3 = W2 128 256 0 1280 (up (p.G [281])) := by
  simp only [sl.r_135, (r_118 H), (r_133 H), (v1488 H), (v1863 H), (v1511 H), k0_pay335, k0_pay332, dot_dp, cast43, k0_pay331, kc_inv256, (mul_delta p rh1280), bcast_row, sub_dp, mul_ds, trunc_id, dot_g]

theorem r_136 : sl.r_136 c arg2 harg2 arg3 harg3 arg4 harg4 arg5 harg5 arg9 arg10 arg12 arg20 arg23 arg24 arg25 arg26 arg27 arg28 arg29 x0 x1 x2 x3 = W2 128 256 0 1280 (up (p.G [281, 537])) := by
  simp only [sl.r_136, (r_118 H), (r_134 H), (r_135 H), (v1514 H), cst662, (v1888 H), (v1537 H), k0_pay339, k0_pay336, dot_dp, cast43, bcast_row, sub_dp, mul_ds, trunc_id, dot_g, add_g, List.cons_append, List.nil_append]

theorem r_138 : sl.r_138 c arg2 harg2 arg3 harg3 arg4 harg4 arg5 harg5 arg9 arg10 arg12 arg20 arg23 arg24 arg25 arg26 arg27 arg28 arg29 x0 x1 x2 x3 = W2 128 256 0 1280 (up (p.G [281, 537, 793])) := by
  simp only [sl.r_138, (r_134 H), (r_136 H), (r_137 H), (v1914 H), (v1563 H), k0_pay344, k0_pay341, cast43, bcast_row, sub_dp, mul_ds, trunc_id, dot_g, add_g, List.cons_append, List.nil_append]

theorem v1589 : sl.v1589 c arg3 harg3 arg25 arg26 arg28 x1 = W2 128 256 0 1049 (up fun d k => p.K k d) := by
  rw [sl.v1589]; exact read2 _ _ (HS11_1 H) _ rfl rfl

theorem r_140 : sl.r_140 c arg2 harg2 arg3 harg3 arg4 harg4 arg5 harg5 arg9 arg10 arg12 arg20 arg23 arg24 arg25 arg26 arg27 arg28 arg29 x0 x1 x2 x3 = W2 128 256 0 1280 (up (p.G [281, 537, 793, 1049])) := by
  simp only [sl.r_140, (r_138 H), (r_139 H), (v1589 H), k0_pay348, dot_g, add_g, List.cons_append, List.nil_append]

theorem r_162 : sl.r_162 c arg2 harg2 arg3 harg3 arg4 harg4 arg5 harg5 arg9 arg10 arg12 arg20 arg23 arg24 arg25 arg26 arg27 arg28 arg29 x0 x1 x2 x3 = W2 128 256 0 1536 (up (p.G [537])) := by
  simp only [sl.r_162, (r_160 H), (v1537 H), k0_pay408, dot_g]

theorem r_164 : sl.r_164 c arg2 harg2 arg3 harg3 arg4 harg4 arg5 harg5 arg9 arg10 arg12 arg20 arg23 arg24 arg25 arg26 arg27 arg28 arg29 x0 x1 x2 x3 = W2 128 256 0 1536 (up (p.G [537, 793])) := by
  simp only [sl.r_164, (r_162 H), (r_163 H), (v1563 H), k0_pay412, dot_g, add_g, List.cons_append, List.nil_append]

theorem r_165 : sl.r_165 c arg2 harg2 arg3 harg3 arg4 harg4 arg5 harg5 arg9 arg10 arg12 arg20 arg23 arg24 arg25 arg26 arg27 arg29 x0 x1 x2 x3 = W2 256 256 1049 1536 (up p.DS) := by
  simp only [sl.r_165, (r_143 H), (r_159 H), (v1566 H), (v2312 H), k0_pay413, dot_dp, cast43, bcast_row, sub_dp, mul_ds, trunc_id]

theorem r_167 : sl.r_167 c arg2 harg2 arg3 harg3 arg4 harg4 arg5 harg5 arg9 arg10 arg12 arg20 arg23 arg24 arg25 arg26 arg27 arg28 arg29 x0 x1 x2 x3 = W2 128 256 0 1536 (up (p.G [537, 793, 1049])) := by
  simp only [sl.r_167, (r_164 H), (r_165 H), (v1589 H), k0_pay417, dot_g, add_g, List.cons_append, List.nil_append]

theorem r_168 : sl.r_168 c arg2 harg2 arg3 harg3 arg4 harg4 arg5 harg5 arg9 arg10 arg12 arg20 arg23 arg24 arg25 arg26 arg27 arg29 x0 x1 x2 x3 = W2 256 256 1305 1536 (up p.DS) := by
  simp only [sl.r_168, (r_143 H), (r_159 H), (v1964 H), (v2338 H), k0_pay418, dot_dp, cast43, bcast_row, sub_dp, mul_ds, trunc_id]

theorem v1987 : sl.v1987 c arg3 harg3 arg25 arg26 arg28 x1 = W2 128 256 0 1305 (up fun d k => p.K k d) := by
  rw [sl.v1987]; exact read2 _ _ (HS11_1 H) _ rfl rfl

theorem v2385 : sl.v2385 c arg3 harg3 arg25 arg26 arg28 x1 = W2 128 256 0 1561 (up fun d k => p.K k d) := by
  rw [sl.v2385]; exact read2 _ _ (HS11_1 H) _ rfl rfl

theorem r_169 : sl.r_169 c arg2 harg2 arg3 harg3 arg4 harg4 arg5 harg5 arg9 arg10 arg12 arg20 arg23 arg24 arg25 arg26 arg27 arg28 arg29 x0 x1 x2 x3 = W2 128 256 0 1536 (up fun d q => p.DQ q d) := by
  simp only [sl.r_169, H.r21, (r_143 H), (r_159 H), (r_167 H), (r_168 H), (v1987 H), (v2362 H), (v2364 H), (v2385 H), k0_pay424, dot_g, add_g, List.cons_append, List.nil_append, k0_pay421, dot_dp, cast43, bcast_row, sub_dp, mul_ds, trunc_id, bcast_kc, (mul_dq p rw1536)]

theorem r_189 : sl.r_189 c arg2 harg2 arg3 harg3 arg4 harg4 arg5 harg5 arg9 arg10 arg12 arg20 arg23 arg24 arg25 arg26 arg27 arg28 arg29 x0 x1 x2 x3 = W2 128 256 0 1792 (up (p.G [793])) := by
  simp only [sl.r_189, (r_187 H), (r_188 H), (v2659 H), (v1563 H), k0_pay482, k0_pay479, cast43, bcast_row, sub_dp, mul_ds, trunc_id, dot_g]

theorem r_193 : sl.r_193 c arg2 harg2 arg3 harg3 arg4 harg4 arg5 harg5 arg9 arg10 arg12 arg20 arg23 arg24 arg25 arg26 arg27 arg28 arg29 x0 x1 x2 x3 = W2 128 256 0 1792 (up (p.G [793, 1049])) := by
  simp only [sl.r_193, (r_189 H), (r_190 H), (r_191 H), (r_192 H), (v1589 H), k0_pay489, k0_pay486, sub_dp, mul_ds, trunc_id, dot_g, add_g, List.cons_append, List.nil_append]

theorem r_195 : sl.r_195 c arg2 harg2 arg3 harg3 arg4 harg4 arg5 harg5 arg9 arg10 arg12 arg20 arg23 arg24 arg25 arg26 arg27 arg28 arg29 x0 x1 x2 x3 = W2 128 256 0 1792 (up (p.G [793, 1049, 1305])) := by
  simp only [sl.r_195, (r_193 H), (r_194 H), (v1987 H), k0_pay493, dot_g, add_g, List.cons_append, List.nil_append]

theorem r_198 : sl.r_198 c arg2 harg2 arg3 harg3 arg4 harg4 arg5 harg5 arg9 arg10 arg12 arg20 arg23 arg24 arg25 arg26 arg27 arg28 arg29 x0 x1 x2 x3 = W2 128 256 0 1792 (up (p.G [793, 1049, 1305, 1561])) := by
  simp only [sl.r_198, (r_195 H), (r_196 H), (v2385 H), k0_pay498, dot_g, add_g, List.cons_append, List.nil_append]

theorem v2800 : sl.v2800 c arg2 harg2 arg3 harg3 arg5 harg5 arg9 arg10 arg12 arg22 arg23 arg24 arg25 arg26 x0 x1 x3 = W2 2048 128 0 0 (up (Pr.acc p.VT 30)) := by
  rw [sl.v2800]; exact read2 _ _ (HS5_31 H) _ rfl rfl

theorem r_201 : sl.r_201 c arg2 harg2 arg3 harg3 arg5 harg5 arg9 arg10 arg12 arg22 arg23 arg24 arg25 arg26 x0 x1 x3 = W3 2048 128 0 0 (up p.DV) := by
  simp only [sl.r_201, H.r23, (v2800 H), k0_pay505, bcast_kc, mul_dv, trunc_id, cast23]

theorem v396 : sl.v396 c arg3 harg3 arg10 arg18 x1 = W2 128 256 0 0 (up fun d k => p.K k d) := by
  rw [sl.v396]; exact read2 _ _ (HS1_1 H) _ rfl rfl

theorem r_29 : sl.r_29 c arg2 harg2 arg3 harg3 arg4 harg4 arg5 harg5 arg9 arg10 arg11 arg12 arg18 arg19 arg20 arg23 arg24 x0 x1 x2 x3 = W2 128 256 0 0 (up fun d q => p.DQ q d) := by
  simp only [sl.r_29, H.r21, (r_24 H), (r_28 H), (v372 H _), (v375 H), (v396 H), k0_pay67, k0_pay64, cast22, dot_dp, cast43, bcast_row, sub_dp, mul_ds, trunc_id, dot_g, bcast_kc, (mul_dq p rw0)]
  any_goals (try erw [(v372 H)])
  any_goals simp only [H.r21, cast22, dot_dp, cast43, bcast_row, sub_dp, mul_ds, trunc_id, dot_g, bcast_kc, (mul_dq p rw0)]

theorem r_39 : sl.r_39 c arg2 harg2 arg3 harg3 arg4 harg4 arg5 harg5 arg9 arg10 arg11 arg12 arg19 arg20 arg23 arg24 x0 x1 x2 x3 = W2 256 256 0 256 (up p.DS) := by
  simp only [sl.r_39, (r_30 H), (r_37 H), (v520 H), (v372 H _), (v532 H), k0_pay92, cast22, dot_dp, cast43, k0_pay91, ext_id, mul_do, sum128r, cast12, kc_inv256, (mul_delta p rh256), bcast_row, sub_dp, mul_ds, trunc_id]
  any_goals (try erw [(v372 H)])
  any_goals simp only [cast22, dot_dp, cast43, ext_id, mul_do, sum128r, cast12, kc_inv256, (mul_delta p rh256), bcast_row, sub_dp, mul_ds, trunc_id]

end Cert.KernelIdeal.Attn
-- ==== Proof.ChainD.lean ====
/-
  What the body's loads, stored tiles and accumulators hold, one after the other, in the order of the body's text.
-/
module

public import proofs.«01_k».proof.Proof.ChainC

@[expose] public section

set_option backward.isDefEq.respectTransparency.types false
set_option maxRecDepth 16384

noncomputable section

namespace Cert.KernelIdeal.Attn

open Idealize.ShloMosaic Cert.KernelIdeal Cert.KernelIdeal.Gen Cert.KernelIdeal.Own.kernelRun0_A
open scoped BigOperators
open Finset (range)

variable {c : Dev nD} {arg2 arg3 arg4 arg5 : Memref sig .tc .vmem S1x2048x128 .bf16}
  {harg2 : arg2.IsWhole} {harg3 : arg3.IsWhole} {harg4 : arg4.IsWhole} {harg5 : arg5.IsWhole}
  {arg9 arg10 arg11 : Memref sig .tc .vmem S1x2048x128 .fp8e4m3} {arg12 : Memref sig .tc .vmem S1x2048x128 .fp8e5m2}
  {arg17 : Memref sig .tc .vmem S2048x128 .bf16} {arg18 : Memref sig .tc .vmem S128x1024 .bf16}
  {arg19 : Memref sig .tc .vmem S128x1024 .fp8e4m3} {arg20 : Memref sig .tc .vmem S128x2048 .bf16}
  {arg21 arg22 : Memref sig .tc .vmem S2080x128 .f32} {arg23 : Memref sig .tc .vmem S2x5x256x256 .f32}
  {arg24 : Memref sig .tc .vmem S2x5x256x256 .fp8e4m3} {arg25 : Memref sig .tc .vmem S2080x128 .f32}
  {arg26 arg27 : Memref sig .tc .vmem S2048x128 .fp8e4m3} {arg28 : Memref sig .tc .vmem S128x2048 .bf16}
  {arg29 : Memref sig .tc .vmem S128x2048 .fp8e4m3} {x0 x1 x2 x3 : Vec Ideal S1x2048x128 .bf16} {p : Pr}
  (H : Good c arg2 harg2 arg3 harg3 arg4 harg4 arg5 harg5 x0 x1 x2 x3 p)

include H

theorem r_41 : sl.r_41 c arg2 harg2 arg3 harg3 arg4 harg4 arg5 harg5 arg9 arg10 arg11 arg12 arg18 arg19 arg20 arg23 arg24 x0 x1 x2 x3 = W2 128 256 0 256 (up (p.G [0])) := by
  simp only [sl.r_41, (r_39 H), (v396 H), k0_pay96, dot_g]

theorem r_42 : sl.r_42 c arg2 harg2 arg3 harg3 arg4 harg4 arg5 harg5 arg9 arg10 arg11 arg12 arg19 arg20 arg23 arg24 x0 x1 x2 x3 = W2 256 256 256 256 (up p.DS) := by
  simp only [sl.r_42, (r_30 H), (r_38 H), (v557 H _), (v560 H), k0_pay97, cast22, dot_dp, cast43, bcast_row, sub_dp, mul_ds, trunc_id]
  any_goals (try erw [(v557 H)])
  any_goals simp only [cast22, dot_dp, cast43, bcast_row, sub_dp, mul_ds, trunc_id]

theorem r_57 : sl.r_57 c arg2 harg2 arg3 harg3 arg4 harg4 arg5 harg5 arg9 arg10 arg11 arg12 arg19 arg20 arg23 arg24 x0 x1 x2 x3 = W2 256 256 0 512 (up p.DS) := by
  simp only [sl.r_57, (r_45 H), (r_55 H), cst549, (v372 H _), (v767 H), k0_pay134, cast22, dot_dp, cast43, k0_pay133, kc_inv256, (mul_delta p rh512), bcast_row, sub_dp, mul_ds, trunc_id]
  any_goals (try erw [(v372 H)])
  any_goals simp only [cst549, cast22, dot_dp, cast43, kc_inv256, (mul_delta p rh512), bcast_row, sub_dp, mul_ds, trunc_id]

theorem r_58 : sl.r_58 c arg2 harg2 arg3 harg3 arg4 harg4 arg5 harg5 arg9 arg10 arg11 arg12 arg18 arg19 arg20 arg23 arg24 x0 x1 x2 x3 = W2 128 256 0 512 (up (p.G [0])) := by
  simp only [sl.r_58, (r_57 H), (v396 H), cst578, k0_pay137, dot_g]

theorem v581 : sl.v581 c arg3 harg3 arg10 arg18 x1 = W2 128 256 0 256 (up fun d k => p.K k d) := by
  rw [sl.v581]; exact read2 _ _ (HS1_1 H) _ rfl rfl

theorem r_59 : sl.r_59 c arg2 harg2 arg3 harg3 arg4 harg4 arg5 harg5 arg9 arg10 arg11 arg12 arg18 arg19 arg20 arg23 arg24 x0 x1 x2 x3 = W2 128 256 0 512 (up (p.G [256])) := by
  simp only [sl.r_59, (r_45 H), (r_56 H), (v557 H _), (v795 H), (v581 H), k0_pay141, k0_pay138, cast22, dot_dp, cast43, bcast_row, sub_dp, mul_ds, trunc_id, dot_g]
  any_goals (try erw [(v557 H)])
  any_goals simp only [cast22, dot_dp, cast43, bcast_row, sub_dp, mul_ds, trunc_id, dot_g]

theorem r_60 : sl.r_60 c arg2 harg2 arg3 harg3 arg4 harg4 arg5 harg5 arg9 arg10 arg11 arg12 arg18 arg19 arg20 arg23 arg24 x0 x1 x2 x3 = W2 128 256 0 512 (up (p.G [0, 256])) := by
  simp only [sl.r_60, (r_58 H), (r_59 H), k0_pay142, add_g, List.cons_append, List.nil_append]

theorem v845 : sl.v845 c arg3 harg3 arg10 arg18 x1 = W2 128 256 0 512 (up fun d k => p.K k d) := by
  rw [sl.v845]; exact read2 _ _ (HS1_1 H) _ rfl rfl

theorem r_61 : sl.r_61 c arg2 harg2 arg3 harg3 arg4 harg4 arg5 harg5 arg9 arg10 arg11 arg12 arg18 arg19 arg20 arg23 arg24 x0 x1 x2 x3 = W2 128 256 0 512 (up (p.G [512])) := by
  simp only [sl.r_61, (r_45 H), (r_56 H), (v821 H _), (v824 H), (v845 H), k0_pay146, k0_pay143, cast22, dot_dp, cast43, bcast_row, sub_dp, mul_ds, trunc_id, dot_g]
  any_goals (try erw [(v821 H)])
  any_goals simp only [cast22, dot_dp, cast43, bcast_row, sub_dp, mul_ds, trunc_id, dot_g]

theorem r_83 : sl.r_83 c arg2 harg2 arg3 harg3 arg4 harg4 arg5 harg5 arg9 arg10 arg11 arg12 arg18 arg19 arg20 arg23 arg24 x0 x1 x2 x3 = W2 128 256 0 768 (up (p.G [0])) := by
  simp only [sl.r_83, (r_81 H), (r_82 H), (v396 H), k0_pay195, k0_pay192, mul_ds, trunc_id, dot_g]

theorem r_85 : sl.r_85 c arg2 harg2 arg3 harg3 arg4 harg4 arg5 harg5 arg9 arg10 arg11 arg12 arg18 arg19 arg20 arg23 arg24 x0 x1 x2 x3 = W2 128 256 0 768 (up (p.G [0, 256])) := by
  simp only [sl.r_85, (r_83 H), (r_84 H), (v581 H), k0_pay200, k0_pay197, trunc_id, dot_g, add_g, List.cons_append, List.nil_append]

theorem r_87 : sl.r_87 c arg2 harg2 arg3 harg3 arg4 harg4 arg5 harg5 arg9 arg10 arg11 arg12 arg18 arg19 arg20 arg23 arg24 x0 x1 x2 x3 = W2 128 256 0 768 (up (p.G [0, 256, 512])) := by
  simp only [sl.r_87, (r_85 H), (r_86 H), (v845 H), k0_pay205, k0_pay202, trunc_id, dot_g, add_g, List.cons_append, List.nil_append]

theorem v1191 : sl.v1191 c arg3 harg3 arg10 arg18 x1 = W2 128 256 0 768 (up fun d k => p.K k d) := by
  rw [sl.v1191]; exact read2 _ _ (HS1_1 H) _ rfl rfl

theorem v2783 : sl.v2783 c arg3 harg3 arg25 arg26 arg28 x1 = W2 128 256 0 1817 (up fun d k => p.K k d) := by
  rw [sl.v2783]; exact read2 _ _ (HS11_1 H) _ rfl rfl

theorem v2793 : sl.v2793 c arg2 harg2 arg3 harg3 arg4 harg4 arg5 harg5 arg9 arg10 arg11 arg12 arg17 arg19 arg20 arg21 arg23 arg24 arg25 arg26 arg27 arg29 x0 x1 x2 x3 = W2 2048 128 0 0 (up (Pr.acc p.KT 30)) := by
  rw [sl.v2793]; exact read2 _ _ (HS4_31 H) _ rfl rfl

end Cert.KernelIdeal.Attn
-- ==== Proof.Outputs.lean ====
/-
  The three output blocks of one program: the gradients of the codes `p`.
-/
module

public import proofs.«01_k».proof.Proof.ChainD
public import proofs.«01_k».proof.Proof.Own.IdealFrame

@[expose] public section

set_option backward.isDefEq.respectTransparency.types false

noncomputable section

namespace Cert.KernelIdeal.Attn

open Idealize.ShloMosaic Cert.KernelIdeal Cert.KernelIdeal.Gen Cert.KernelIdeal.Own Cert.KernelIdeal.Own.kernelRun0_A
open scoped BigOperators

/-- The rows below `n` of what a list of stores leaves are those of `f`. -/
def Below (f : ℕ → ℕ → ℝ) (n : ℕ) (L : List (View.Piece (Elt Ideal) S1x2048x128 .bf16)) : Prop :=
  ∀ y : S1x2048x128.Idx, (y 1).val < n → View.canon L y = ((f (y 1).val (y 2).val : ℝ) : EReal)

theorem below_nil (f : ℕ → ℕ → ℝ) : Below f 0 [] := fun _ h => absurd h (Nat.not_lt_zero _)

theorem below_cons {f : ℕ → ℕ → ℝ} {n : ℕ} {L : List (View.Piece (Elt Ideal) S1x2048x128 .bf16)} (hL : Below f n L) (inb x)
    (hx : x = W3 256 128 n 0 (up f)) :
    Below f (n + 256) ((⟨Rect.unit (s := S1x2048x128) ![0, n, 0] S1x256x128.size inb, x⟩ : View.Piece (Elt Ideal) S1x2048x128 .bf16) :: L) := by
  intro y hy
  have h0 : (y 0).val < 1 := (y 0).isLt
  by_cases h : (y 1).val < n
  · rw [View.canon_cons_of_not_mem, hL y h]
    rw [Rect.mem_set_unit]
    intro hm
    have h1 : n ≤ (y 1).val ∧ (y 1).val < n + 256 := hm 1
    omega
  · have e : y = (Rect.unit (s := S1x2048x128) ![0, n, 0] S1x256x128.size inb).emb (ix3 0 ⟨(y 1).val - n, by omega⟩ (y 2)) := by
      funext a
      apply Fin.ext
      match a with
      | ⟨0, _⟩ => show (y 0).val = 0 + 1 * 0; omega
      | ⟨1, _⟩ => show (y 1).val = n + 1 * ((y 1).val - n); omega
      | ⟨2, _⟩ => show (y 2).val = 0 + 1 * (y 2).val; omega
    conv_lhs => rw [e]
    rw [View.canon_cons_emb, hx]
    show ((f (n + ((y 1).val - n)) (0 + (y 2).val) : ℝ) : EReal) = _
    rw [Nat.zero_add, Nat.add_sub_cancel' (by omega)]

theorem below_all {f : ℕ → ℕ → ℝ} {L : List (View.Piece (Elt Ideal) S1x2048x128 .bf16)} (h : Below f 2048 L) :
    View.canon L = W3 2048 128 0 0 (up f) := by
  funext y
  rw [h y (y 1).isLt]
  show _ = ((f (0 + (y 1).val) (0 + (y 2).val) : ℝ) : EReal)
  rw [Nat.zero_add, Nat.zero_add]

variable {c : Dev nD}
  {i : grid0.Coords}
  {arg2 : Memref sig .tc .vmem S1x2048x128 .bf16}
  {harg2 : arg2.IsWhole}
  {arg3 : Memref sig .tc .vmem S1x2048x128 .bf16}
  {harg3 : arg3.IsWhole}
  {arg4 : Memref sig .tc .vmem S1x2048x128 .bf16}
  {harg4 : arg4.IsWhole}
  {arg5 : Memref sig .tc .vmem S1x2048x128 .bf16}
  {harg5 : arg5.IsWhole}
  {arg6 : Memref sig .tc .vmem S1x2048x128 .bf16}
  {harg6 : arg6.IsWhole}
  {arg7 : Memref sig .tc .vmem S1x2048x128 .bf16}
  {harg7 : arg7.IsWhole}
  {arg8 : Memref sig .tc .vmem S1x2048x128 .bf16}
  {harg8 : arg8.IsWhole}
  {arg9 : Memref sig .tc .vmem S1x2048x128 .fp8e4m3}
  {harg9 : arg9.IsWhole}
  {arg10 : Memref sig .tc .vmem S1x2048x128 .fp8e4m3}
  {harg10 : arg10.IsWhole}
  {arg11 : Memref sig .tc .vmem S1x2048x128 .fp8e4m3}
  {harg11 : arg11.IsWhole}
  {arg12 : Memref sig .tc .vmem S1x2048x128 .fp8e5m2}
  {harg12 : arg12.IsWhole}
  {arg13 : Memref sig .tc .smem S9x8 .f32}
  {harg13 : arg13.IsWhole}
  {arg14 : Memref sig .tc .smem S9x8 .f32}
  {harg14 : arg14.IsWhole}
  {arg15 : Memref sig .tc .smem S9x8 .f32}
  {harg15 : arg15.IsWhole}
  {arg16 : Memref sig .tc .smem S9x8 .f32}
  {harg16 : arg16.IsWhole}
  {arg17 : Memref sig .tc .vmem S2048x128 .bf16}
  {harg17 : arg17.IsWhole}
  {arg18 : Memref sig .tc .vmem S128x1024 .bf16}
  {harg18 : arg18.IsWhole}
  {arg19 : Memref sig .tc .vmem S128x1024 .fp8e4m3}
  {harg19 : arg19.IsWhole}
  {arg20 : Memref sig .tc .vmem S128x2048 .bf16}
  {harg20 : arg20.IsWhole}
  {arg21 : Memref sig .tc .vmem S2080x128 .f32}
  {harg21 : arg21.IsWhole}
  {arg22 : Memref sig .tc .vmem S2080x128 .f32}
  {harg22 : arg22.IsWhole}
  {arg23 : Memref sig .tc .vmem S2x5x256x256 .f32}
  {harg23 : arg23.IsWhole}
  {arg24 : Memref sig .tc .vmem S2x5x256x256 .fp8e4m3}
  {harg24 : arg24.IsWhole}
  {arg25 : Memref sig .tc .vmem S2080x128 .f32}
  {harg25 : arg25.IsWhole}
  {arg26 : Memref sig .tc .vmem S2048x128 .fp8e4m3}
  {harg26 : arg26.IsWhole}
  {arg27 : Memref sig .tc .vmem S2048x128 .fp8e4m3}
  {harg27 : arg27.IsWhole}
  {arg28 : Memref sig .tc .vmem S128x2048 .bf16}
  {harg28 : arg28.IsWhole}
  {arg29 : Memref sig .tc .vmem S128x2048 .fp8e4m3}
  {harg29 : arg29.IsWhole}
    {x0 : Vec Ideal S1x2048x128 .bf16}
  {x1 : Vec Ideal S1x2048x128 .bf16}
  {x2 : Vec Ideal S1x2048x128 .bf16}
  {x3 : Vec Ideal S1x2048x128 .bf16} {p : Pr}
  (H : Good c arg2 harg2 arg3 harg3 arg4 harg4 arg5 harg5 x0 x1 x2 x3 p)

include H

theorem dq0 : k0_pay68 (sl.r_29 c arg2 harg2 arg3 harg3 arg4 harg4 arg5 harg5 arg9 arg10 arg11 arg12 arg18 arg19 arg20 arg23 arg24 x0 x1 x2 x3) = W3 256 128 0 0 (up p.DQ) := by
  simp only [(r_29 H), k0_pay68, trunc_id, ext_id, dot_g, mul_ds, add_g, List.cons_append, List.nil_append]
  any_goals (try erw [tr_up])
  any_goals simp only [trunc_id, cast23]

theorem dq256 : k0_pay101 (sl.r_21 c arg3 harg3 arg4 harg4 arg5 harg5 x1 x2 x3) (sl.r_41 c arg2 harg2 arg3 harg3 arg4 harg4 arg5 harg5 arg9 arg10 arg11 arg12 arg18 arg19 arg20 arg23 arg24 x0 x1 x2 x3) (sl.r_42 c arg2 harg2 arg3 harg3 arg4 harg4 arg5 harg5 arg9 arg10 arg11 arg12 arg19 arg20 arg23 arg24 x0 x1 x2 x3) (sl.v581 c arg3 harg3 arg10 arg18 x1) = W3 256 128 256 0 (up p.DQ) := by
  simp only [H.r21, (r_41 H), (r_42 H), (v581 H), k0_pay101, trunc_id, ext_id, dot_g, mul_ds, add_g, List.cons_append, List.nil_append, bcast_kc, (mul_dq p rw256)]
  any_goals (try erw [tr_up])
  any_goals simp only [trunc_id, cast23]

theorem dq512 : k0_pay147 (sl.r_21 c arg3 harg3 arg4 harg4 arg5 harg5 x1 x2 x3) (sl.r_60 c arg2 harg2 arg3 harg3 arg4 harg4 arg5 harg5 arg9 arg10 arg11 arg12 arg18 arg19 arg20 arg23 arg24 x0 x1 x2 x3) (sl.r_61 c arg2 harg2 arg3 harg3 arg4 harg4 arg5 harg5 arg9 arg10 arg11 arg12 arg18 arg19 arg20 arg23 arg24 x0 x1 x2 x3) = W3 256 128 512 0 (up p.DQ) := by
  simp only [H.r21, (r_60 H), (r_61 H), k0_pay147, trunc_id, ext_id, dot_g, mul_ds, add_g, List.cons_append, List.nil_append, bcast_kc, (mul_dq p rw512)]
  any_goals (try erw [tr_up])
  any_goals simp only [trunc_id, cast23]

theorem dq768 : k0_pay210 (sl.r_21 c arg3 harg3 arg4 harg4 arg5 harg5 x1 x2 x3) (sl.r_87 c arg2 harg2 arg3 harg3 arg4 harg4 arg5 harg5 arg9 arg10 arg11 arg12 arg18 arg19 arg20 arg23 arg24 x0 x1 x2 x3) (sl.r_88 c arg2 harg2 arg3 harg3 arg4 harg4 arg5 harg5 arg9 arg10 arg11 arg12 arg19 arg20 arg23 arg24 x0 x1 x2 x3) (sl.v1191 c arg3 harg3 arg10 arg18 x1) = W3 256 128 768 0 (up p.DQ) := by
  simp only [H.r21, (r_87 H), (r_88 H), (v1191 H), k0_pay210, k0_pay207, trunc_id, ext_id, dot_g, mul_ds, add_g, List.cons_append, List.nil_append, bcast_kc, (mul_dq p rw768)]
  any_goals (try erw [tr_up])
  any_goals simp only [trunc_id, cast23]

theorem dq1024 : k0_pay281 (sl.r_21 c arg3 harg3 arg4 harg4 arg5 harg5 x1 x2 x3) (sl.r_115 c arg2 harg2 arg3 harg3 arg4 harg4 arg5 harg5 arg9 arg10 arg12 arg20 arg23 arg24 arg25 arg26 arg27 arg28 arg29 x0 x1 x2 x3) (sl.r_116 c arg2 harg2 arg3 harg3 arg4 harg4 arg5 harg5 arg9 arg10 arg12 arg20 arg23 arg24 arg25 arg26 arg27 arg29 x0 x1 x2 x3) (sl.v1589 c arg3 harg3 arg25 arg26 arg28 x1) = W3 256 128 1024 0 (up p.DQ) := by
  simp only [(r_115 H), (r_116 H), H.r21, (v1589 H), k0_pay281, trunc_id, ext_id, dot_g, mul_ds, add_g, List.cons_append, List.nil_append, bcast_kc, (mul_dq p rw1024)]
  any_goals (try erw [tr_up])
  any_goals simp only [trunc_id, cast23]

theorem dq1280 : k0_pay352 (sl.r_21 c arg3 harg3 arg4 harg4 arg5 harg5 x1 x2 x3) (sl.r_140 c arg2 harg2 arg3 harg3 arg4 harg4 arg5 harg5 arg9 arg10 arg12 arg20 arg23 arg24 arg25 arg26 arg27 arg28 arg29 x0 x1 x2 x3) (sl.r_141 c arg2 harg2 arg3 harg3 arg4 harg4 arg5 harg5 arg9 arg10 arg12 arg20 arg23 arg24 arg25 arg26 arg27 arg29 x0 x1 x2 x3) (sl.v1987 c arg3 harg3 arg25 arg26 arg28 x1) = W3 256 128 1280 0 (up p.DQ) := by
  simp only [(r_140 H), (r_141 H), H.r21, (v1987 H), k0_pay352, trunc_id, ext_id, dot_g, mul_ds, add_g, List.cons_append, List.nil_append, bcast_kc, (mul_dq p rw1280)]
  any_goals (try erw [tr_up])
  any_goals simp only [trunc_id, cast23]

theorem dq1536 : k0_pay425 (sl.r_169 c arg2 harg2 arg3 harg3 arg4 harg4 arg5 harg5 arg9 arg10 arg12 arg20 arg23 arg24 arg25 arg26 arg27 arg28 arg29 x0 x1 x2 x3) = W3 256 128 1536 0 (up p.DQ) := by
  simp only [(r_169 H), k0_pay425, trunc_id, ext_id, dot_g, mul_ds, add_g, List.cons_append, List.nil_append]
  any_goals (try erw [tr_up])
  any_goals simp only [trunc_id, cast23]

theorem dq1792 : k0_pay503 (sl.r_21 c arg3 harg3 arg4 harg4 arg5 harg5 x1 x2 x3) (sl.r_198 c arg2 harg2 arg3 harg3 arg4 harg4 arg5 harg5 arg9 arg10 arg12 arg20 arg23 arg24 arg25 arg26 arg27 arg28 arg29 x0 x1 x2 x3) (sl.r_199 c arg2 harg2 arg3 harg3 arg4 harg4 arg5 harg5 arg9 arg10 arg12 arg20 arg23 arg24 arg25 arg26 arg27 arg29 x0 x1 x2 x3) (sl.v2783 c arg3 harg3 arg25 arg26 arg28 x1) = W3 256 128 1792 0 (up p.DQ) := by
  simp only [(r_198 H), (r_199 H), H.r21, (v2783 H), k0_pay503, trunc_id, ext_id, dot_g, mul_ds, add_g, List.cons_append, List.nil_append, bcast_kc, (mul_dq p rw1792)]
  any_goals (try erw [tr_up])
  any_goals simp only [trunc_id, cast23]

/-- The query gradients. -/
theorem out4 : out0_A_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 = W3 2048 128 0 0 (up p.DQ) := by
  unfold out0_A_4
  rw [View.read_writes_junk_eq_canon]
  exact (below_all (below_cons ((below_cons ((below_cons ((below_cons ((below_cons ((below_cons ((below_cons ((below_cons (below_nil _) _ _ (dq0 H))) _ _ (dq256 H))) _ _ (dq512 H))) _ _ (dq768 H))) _ _ (dq1024 H))) _ _ (dq1280 H))) _ _ (dq1536 H))) _ _ (dq1792 H)))

/-- The key gradients. -/
theorem out5 : out0_A_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 = W3 2048 128 0 0 (up p.DK) := by
  unfold out0_A_5
  rw [View.read_writes_junk_eq_canon]
  exact ((View.canon_cons_unit_lit _ _ _ (by decide)).trans (by simp only [H.r22, (v2793 H), k0_pay504, bcast_kc, mul_dk, trunc_id, cast23]))

/-- The value gradients. -/
theorem out6 : out0_A_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 = W3 2048 128 0 0 (up p.DV) := by
  unfold out0_A_6
  rw [View.read_writes_junk_eq_canon]
  exact ((View.canon_cons_unit_lit _ _ _ (by decide)).trans (r_201 H))

end Cert.KernelIdeal.Attn
-- ==== Proof.Final.lean ====
/-
  The kernel's three result arrays are the reference's: every (batch, head) block is the model's gradients.
-/
module

public import proofs.«01_k».proof.Proof.Precond
public import proofs.«01_k».proof.Proof.AccSum
public import proofs.«01_k».proof.Proof.Quant
public import proofs.«01_k».proof.Proof.Outputs
public import proofs.«01_k».proof.Proof.Reads
public import proofs.«01_k».proof.Proof.Own.IdealValue
public import Idealize.ShloMosaic.Lib.Pipeline.ValueKit

@[expose] public section

noncomputable section

namespace Cert.KernelIdeal.Attn

open Cert.KernelIdeal Cert.KernelIdeal.Gen Cert.KernelIdeal.Own Cert.KernelIdeal.Own.Value
open Idealize.ShloMosaic Idealize.ShloMosaic.TcCoe Idealize.SL.Sem
open Idealize.ShloMosaic.Pipeline (Dat)
open Cert.ReferenceIdeal.Quant (Arg blk Real1 Fin1 Ok pr ext4 ok_of_fin)
open Cert.ReferenceIdeal.Read
open scoped BigOperators
open Finset (range)

/-! ## The reference's results at a (batch, head) block -/

theorem dk_sum (p : Pr) (k d : ℕ) : p.DK k d = (∑ q ∈ range 2048, p.DS k q * p.Q q d) * p.s2 := by
  unfold Pr.DK
  exact congrArg (· * p.s2) (acc_sum (fun k q d => p.DS k q * p.Q q d) k d fun q hq => by rw [DS_off p hq, zero_mul])

theorem dv_sum (p : Pr) (k d : ℕ) : p.DV k d = (∑ q ∈ range 2048, p.P8 k q * p.D q d) * p.s3 := by
  unfold Pr.DV
  exact congrArg (· * p.s3) (acc_sum (fun k q d => p.P8 k q * p.D q d) k d fun q hq => by rw [P8_off p hq, zero_mul])

section
variable {x0 x1 x2 x3 : Arg} {b : Fin 9} {h : Fin 8} (A : Ok x0 x1 x2 x3 b h)
variable {i : Cert.ReferenceIdeal.S9x2048x1024.Idx} {q : Fin 2048} {d : Fin 128}

theorem idx195 (h0 : (i 0).val = b.val) (h1 : (i 1).val = q.val) (h2 : (i 2).val = h.val * 128 + d.val) :
    idx_main_v195 i = ix4 b q h d := by
  have := b.isLt; have := q.isLt; have := h.isLt; have := d.isLt
  refine ext4 (Fin.ext ?_) (Fin.ext ?_) (Fin.ext ?_) (Fin.ext ?_)
  · show (((i 0).val * 2048 + (i 1).val) * 1024 + (i 2).val) / 2097152 = b.val
    omega
  · show (((i 0).val * 2048 + (i 1).val) * 1024 + (i 2).val) / 1024 % 2048 = q.val
    omega
  · show (((i 0).val * 2048 + (i 1).val) * 1024 + (i 2).val) / 128 % 8 = h.val
    omega
  · show (((i 0).val * 2048 + (i 1).val) * 1024 + (i 2).val) % 128 = d.val
    omega

include A

theorem ref4 (h0 : (i 0).val = b.val) (h1 : (i 1).val = q.val) (h2 : (i 2).val = h.val * 128 + d.val) :
    val_main_v195 (F := Ideal) x0 x1 x2 x3 i = up (pr x0 x1 x2 x3 b h).DQ q.val d.val := by
  rw [val_main_v195_apply, idx195 h0 h1 h2, val_main_v194_apply]
  exact Cert.ReferenceIdeal.Quant.v178_at A q d

theorem ref5 (h0 : (i 0).val = b.val) (h1 : (i 1).val = q.val) (h2 : (i 2).val = h.val * 128 + d.val) :
    val_main_v197 (F := Ideal) x0 x1 x2 x3 i = up (pr x0 x1 x2 x3 b h).DK q.val d.val := by
  rw [val_main_v197_apply, show idx_main_v197 i = ix4 b q h d from idx195 h0 h1 h2, val_main_v196_apply]
  refine (Cert.ReferenceIdeal.Quant.v186_at A q d).trans ?_
  exact congrArg (fun z : ℝ => (z : EReal)) (dk_sum (pr x0 x1 x2 x3 b h) q.val d.val).symm

theorem ref6 (h0 : (i 0).val = b.val) (h1 : (i 1).val = q.val) (h2 : (i 2).val = h.val * 128 + d.val) :
    val_main_v199 (F := Ideal) x0 x1 x3 i = up (pr x0 x1 x2 x3 b h).DV q.val d.val := by
  rw [val_main_v199_apply, show idx_main_v199 i = ix4 b q h d from idx195 h0 h1 h2, val_main_v198_apply]
  refine (Cert.ReferenceIdeal.Quant.v193_at A q d).trans ?_
  exact congrArg (fun z : ℝ => (z : EReal)) (dv_sum (pr x0 x1 x2 x3 b h) q.val d.val).symm

end

/-! ## The blocks the kernel reads and writes -/

/-- Every window's block at a point: the batch, all rows, the head. -/
theorem idxs : ∀ t : Fin grid0.N,
    win0_0.index t = ![(grid0.coords t 0).val, 0, (grid0.coords t 1).val]
    ∧ win0_1.index t = ![(grid0.coords t 0).val, 0, (grid0.coords t 1).val]
    ∧ win0_2.index t = ![(grid0.coords t 0).val, 0, (grid0.coords t 1).val]
    ∧ win0_3.index t = ![(grid0.coords t 0).val, 0, (grid0.coords t 1).val]
    ∧ win0_4.index t = ![(grid0.coords t 0).val, 0, (grid0.coords t 1).val]
    ∧ win0_5.index t = ![(grid0.coords t 0).val, 0, (grid0.coords t 1).val]
    ∧ win0_6.index t = ![(grid0.coords t 0).val, 0, (grid0.coords t 1).val] := by decide +kernel

/-- The batch of a point. -/
def bt (t : Fin grid0.N) : Fin 9 := ⟨(grid0.coords t 0).val, (grid0.coords t 0).isLt⟩
/-- The head of a point. -/
def hd (t : Fin grid0.N) : Fin 8 := ⟨(grid0.coords t 1).val, (grid0.coords t 1).isLt⟩

variable (m : (ℓ : Loc nD τ sig) → Buf (Elt Ideal) ℓ) (c : Dev nD)

/-- The four arguments on a device. -/
abbrev a0 : Arg := m ((c.tc : Thread nD τ).loc main_arg0)
abbrev a1 : Arg := m ((c.tc : Thread nD τ).loc main_arg1)
abbrev a2 : Arg := m ((c.tc : Thread nD τ).loc main_arg2)
abbrev a3 : Arg := m ((c.tc : Thread nD τ).loc main_arg3)

/-- A block of an array of real numbers, entry by entry. -/
theorem x_at {x : Arg} (R : Real1 x) (b : Fin 9) (h : Fin 8) (y : S1x2048x128.Idx) (i : Cert.ReferenceIdeal.S9x2048x1024.Idx)
    (h0 : (i 0).val = b.val) (h1 : (i 1).val = (y 1).val) (h2 : (i 2).val = h.val * 128 + (y 2).val) :
    (x i : EReal) = X (blk x b h) y := by
  have l1 : (y 1).val < 2048 := (y 1).isLt
  have l2 : (y 2).val < 128 := (y 2).isLt
  show (x i : EReal) = ((blk x b h (0 + (y 1).val) (0 + (y 2).val) : ℝ) : EReal)
  rw [zero_add, zero_add]
  unfold blk
  rw [dif_pos ⟨l1, l2⟩, ← R]
  exact congrArg x (Cert.ReferenceIdeal.Quant.ext3 (Fin.ext h0) (Fin.ext h1) (Fin.ext h2))

theorem iblk0 (R : Real1 (a0 m c)) (t : Fin cfg0.N) : iblk m c 0 t = X (blk (a0 m c) (bt t) (hd t)) := by
  funext y
  have e := (idxs t).1
  show V m c (Pipeline.arrRef spec0 0) (((cfg0.win 0).blk t).view.emb y) = _
  rw [show V m c (Pipeline.arrRef spec0 0) = a0 m c from V_main_arg0 m c]
  refine x_at R (bt t) (hd t) y _ ?_ ?_ ?_ <;> blk_simp [e, bt, hd]

theorem iblk1 (R : Real1 (a1 m c)) (t : Fin cfg0.N) : iblk m c 1 t = X (blk (a1 m c) (bt t) (hd t)) := by
  funext y
  have e := (idxs t).2.1
  show V m c (Pipeline.arrRef spec0 1) (((cfg0.win 1).blk t).view.emb y) = _
  rw [show V m c (Pipeline.arrRef spec0 1) = a1 m c from V_main_arg1 m c]
  refine x_at R (bt t) (hd t) y _ ?_ ?_ ?_ <;> blk_simp [e, bt, hd]

theorem iblk2 (R : Real1 (a2 m c)) (t : Fin cfg0.N) : iblk m c 2 t = X (blk (a2 m c) (bt t) (hd t)) := by
  funext y
  have e := (idxs t).2.2.1
  show V m c (Pipeline.arrRef spec0 2) (((cfg0.win 2).blk t).view.emb y) = _
  rw [show V m c (Pipeline.arrRef spec0 2) = a2 m c from V_main_arg2 m c]
  refine x_at R (bt t) (hd t) y _ ?_ ?_ ?_ <;> blk_simp [e, bt, hd]

theorem iblk3 (R : Real1 (a3 m c)) (t : Fin cfg0.N) : iblk m c 3 t = X (blk (a3 m c) (bt t) (hd t)) := by
  funext y
  have e := (idxs t).2.2.2.1
  show V m c (Pipeline.arrRef spec0 3) (((cfg0.win 3).blk t).view.emb y) = _
  rw [show V m c (Pipeline.arrRef spec0 3) = a3 m c from V_main_arg3 m c]
  refine x_at R (bt t) (hd t) y _ ?_ ?_ ?_ <;> blk_simp [e, bt, hd]

/-- The codes and scales of a point's blocks are what the outputs rest on. -/
theorem good_at (H : Fin1 (a0 m c) ∧ Fin1 (a1 m c) ∧ Fin1 (a2 m c) ∧ Fin1 (a3 m c)) (t : Fin cfg0.N) :
    Good c (ms0_0 t) (hs0_0 t) (ms0_1 t) (hs0_1 t) (ms0_2 t) (hs0_2 t) (ms0_3 t) (hs0_3 t)
      (iblk m c 0 t) (iblk m c 1 t) (iblk m c 2 t) (iblk m c 3 t) (pr (a0 m c) (a1 m c) (a2 m c) (a3 m c) (bt t) (hd t)) := by
  have A := ok_of_fin H (bt t) (hd t)
  have z : ∀ x : Arg, ∀ k, 2048 ≤ k → ∀ d, blk x (bt t) (hd t) k d = 0 := fun x k hk d => by
    unfold blk
    exact dif_neg fun h => absurd h.1 (not_lt.2 hk)
  rw [iblk0 m c A.r0, iblk1 m c A.r1, iblk2 m c A.r2, iblk3 m c A.r3]
  exact good c _ _ _ _ _ _ _ _ A.f0 A.f1 A.f2 A.f3 (z _) (z _)

/-- The gradients `DQ` of the whole array. -/
theorem arr4 (H : Fin1 (a0 m c) ∧ Fin1 (a1 m c) ∧ Fin1 (a2 m c) ∧ Fin1 (a3 m c)) :
    (dats m 0 c).arrAt 4 cfg0.N = val_main_v195 (F := Ideal) (a0 m c) (a1 m c) (a2 m c) (a3 m c) := by
  refine (dats m 0 c).arrAt_eq_of_covers 4 _ (by decide +kernel) fun t hf y => ?_
  have e := (idxs t).2.2.2.2.1
  have l1 : (y 1).val < 2048 := (y 1).isLt
  have l2 : (y 2).val < 128 := (y 2).isLt
  refine Eq.trans ?_ (ref4 (ok_of_fin H (bt t) (hd t)) (q := ⟨(y 1).val, l1⟩) (d := ⟨(y 2).val, l2⟩) ?_ ?_ ?_).symm
  · show (dats m 0 c).after 4 t ((cfg0.win 4).xinj (cfg0.grid.coords t) y) = _
    rw [after0_4]
    simp only [outsAt0]
    rw [out4 (good_at m c H t)]
    show up _ (0 + (y 1).val) (0 + (y 2).val) = _
    rw [zero_add, zero_add]
  all_goals blk_simp [e, bt, hd]

/-- The gradients `DK` of the whole array. -/
theorem arr5 (H : Fin1 (a0 m c) ∧ Fin1 (a1 m c) ∧ Fin1 (a2 m c) ∧ Fin1 (a3 m c)) :
    (dats m 0 c).arrAt 5 cfg0.N = val_main_v197 (F := Ideal) (a0 m c) (a1 m c) (a2 m c) (a3 m c) := by
  refine (dats m 0 c).arrAt_eq_of_covers 5 _ (by decide +kernel) fun t hf y => ?_
  have e := (idxs t).2.2.2.2.2.1
  have l1 : (y 1).val < 2048 := (y 1).isLt
  have l2 : (y 2).val < 128 := (y 2).isLt
  refine Eq.trans ?_ (ref5 (ok_of_fin H (bt t) (hd t)) (q := ⟨(y 1).val, l1⟩) (d := ⟨(y 2).val, l2⟩) ?_ ?_ ?_).symm
  · show (dats m 0 c).after 5 t ((cfg0.win 5).xinj (cfg0.grid.coords t) y) = _
    rw [after0_5]
    simp only [outsAt0]
    rw [out5 (good_at m c H t)]
    show up _ (0 + (y 1).val) (0 + (y 2).val) = _
    rw [zero_add, zero_add]
  all_goals blk_simp [e, bt, hd]

/-- The gradients `DV` of the whole array. -/
theorem arr6 (H : Fin1 (a0 m c) ∧ Fin1 (a1 m c) ∧ Fin1 (a2 m c) ∧ Fin1 (a3 m c)) :
    (dats m 0 c).arrAt 6 cfg0.N = val_main_v199 (F := Ideal) (a0 m c) (a1 m c) (a3 m c) := by
  refine (dats m 0 c).arrAt_eq_of_covers 6 _ (by decide +kernel) fun t hf y => ?_
  have e := (idxs t).2.2.2.2.2.2
  have l1 : (y 1).val < 2048 := (y 1).isLt
  have l2 : (y 2).val < 128 := (y 2).isLt
  refine Eq.trans ?_ (ref6 (ok_of_fin H (bt t) (hd t)) (q := ⟨(y 1).val, l1⟩) (d := ⟨(y 2).val, l2⟩) ?_ ?_ ?_).symm
  · show (dats m 0 c).after 6 t ((cfg0.win 6).xinj (cfg0.grid.coords t) y) = _
    rw [after0_6]
    simp only [outsAt0]
    rw [out6 (good_at m c H t)]
    show up _ (0 + (y 1).val) (0 + (y 2).val) = _
    rw [zero_add, zero_add]
  all_goals blk_simp [e, bt, hd]

end Cert.KernelIdeal.Attn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Reads
public import proofs.«01_k».proof.Proof.Own.WordFrame
public import proofs.«01_k».proof.Proof.Own.IdealValue
public import proofs.«01_k».proof.Proof.Precond
public import proofs.«01_k».proof.Proof.Final
public import Idealize.ShloMosaic.Lib.Quiescent
public import Idealize.ShloMosaic.Adequacy
public import Idealize.ShloMosaic.Init

@[expose] public section

noncomputable section

namespace Cert.Proof

open Idealize.ShloMosaic Idealize.SL.Sem Idealize.ShloMosaic.StableHlo

/-- The reference runs, its arguments end unchanged, and it declares no semaphore. -/
theorem frame_r (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run Cert.ReferenceIdeal.defs _ _).mono (fun r h => ⟨fun c => (h c).2.2.2, sem_eq_zero_of_no_sems (by decide) r.2⟩)
    (Cert.ReferenceIdeal.Value.run (F := Ideal) m g)

/-- Both run, and from equal arguments the three gradients are equal. -/
theorem algebraic : Cert.algebraic_KernelIdeal_ReferenceIdeal_pre_finite (hKernelIdeal := Cert.KernelIdeal.Gen.facts)
    (hReferenceIdeal := Cert.ReferenceIdeal.Gen.facts) (hPre_finite := Cert.ReferenceIdeal.Quant.preFacts) := by
  intro m g m' g' hpre hargs
  refine ⟨fun c => (Cert.KernelIdeal.Own.dats m 0 c).arrAt 4 Cert.KernelIdeal.cfg0.N,
    fun c => (Cert.KernelIdeal.Own.dats m 0 c).arrAt 5 Cert.KernelIdeal.cfg0.N,
    fun c => (Cert.KernelIdeal.Own.dats m 0 c).arrAt 6 Cert.KernelIdeal.cfg0.N,
    Cert.KernelIdeal.Own.Value.run_blocks (F := Ideal) m g, ?_⟩
  refine (θ_run (Cert.ReferenceIdeal.defs (F := Ideal)) _ _).mono (fun r h c => ?_) (Cert.ReferenceIdeal.Value.run (F := Ideal) m' g')
  obtain ⟨h4, h5, h6, hk⟩ := h c
  have := Cert.ReferenceIdeal.Quant.preFacts
  have H := Cert.ReferenceIdeal.Quant.fin_of_pre (hpre c)
  obtain ⟨e0, e1, e2, e3⟩ := hargs c
  refine ⟨h4.trans ((Cert.ReferenceIdeal.Read.val_main_v195_eq _).trans ?_), h5.trans ((Cert.ReferenceIdeal.Read.val_main_v197_eq _).trans ?_),
    h6.trans ((Cert.ReferenceIdeal.Read.val_main_v199_eq _).trans ?_), hk⟩
  · refine Eq.trans ?_ (Cert.KernelIdeal.Attn.arr4 m c H).symm
    show Cert.ReferenceIdeal.Read.val_main_v195 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) = _
    rw [e0, e1, e2, e3]
  · refine Eq.trans ?_ (Cert.KernelIdeal.Attn.arr5 m c H).symm
    show Cert.ReferenceIdeal.Read.val_main_v197 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) = _
    rw [e0, e1, e2, e3]
  · refine Eq.trans ?_ (Cert.KernelIdeal.Attn.arr6 m c H).symm
    show Cert.ReferenceIdeal.Read.val_main_v199 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3)) = _
    rw [e0, e1, e3]

theorem claim : Cert.Claim :=
  ⟨Cert.Kernel.Gen.facts, Cert.KernelIdeal.Gen.facts, Cert.ReferenceIdeal.Gen.facts, Cert.ReferenceIdeal.Quant.preFacts,
    fun m g _ => Cert.Kernel.Own.frame m g, fun m g _ => Cert.KernelIdeal.Own.frame m g, fun m g _ => Cert.KernelIdeal.Own.frame m g,
    fun m g _ => frame_r m g, fun m g _ => frame_r m g, trivial, algebraic⟩

end Cert.Proof

end
